-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_q [hPre_finite_q : Cert.Pre_finite_q.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_q.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_finite_q.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_q [hPre_finite_q : Cert.Pre_finite_q.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_q.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_finite_q.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_q [hKernel5Ideal : Cert.Kernel5Ideal.Facts] [hPre_finite_q : Cert.Pre_finite_q.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_q m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_q [hReference5Ideal : Cert.Reference5Ideal.Facts] [hPre_finite_q : Cert.Pre_finite_q.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_q m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v36)) (v1 : (c : Dev Cert.Kernel2Ideal.nD) → Buf (Elt Ideal) ((c.tc : Thread Cert.Kernel2Ideal.nD Cert.Kernel2Ideal.τ).loc Cert.Kernel2Ideal.main_v37)) (v2 : (c : Dev Cert.Kernel2Ideal.nD) → Buf (Elt Ideal) ((c.tc : Thread Cert.Kernel2Ideal.nD Cert.Kernel2Ideal.τ).loc Cert.Kernel2Ideal.main_v35)) (v3 : (c : Dev Cert.Kernel2Ideal.nD) → Buf (Elt Ideal) ((c.tc : Thread Cert.Kernel2Ideal.nD Cert.Kernel2Ideal.τ).loc Cert.Kernel2Ideal.main_v38)) (v4 : (c : Dev Cert.Kernel2Ideal.nD) → Buf (Elt Ideal) ((c.tc : Thread Cert.Kernel2Ideal.nD Cert.Kernel2Ideal.τ).loc Cert.Kernel2Ideal.main_v39)) (v5 : (c : Dev Cert.Kernel2Ideal.nD) → Buf (Elt Ideal) ((c.tc : Thread Cert.Kernel2Ideal.nD Cert.Kernel2Ideal.τ).loc Cert.Kernel2Ideal.main_v40)) (v6 : (c : Dev Cert.Kernel2Ideal.nD) → Buf (Elt Ideal) ((c.tc : Thread Cert.Kernel2Ideal.nD Cert.Kernel2Ideal.τ).loc Cert.Kernel2Ideal.main_v41)) (v7 : (c : Dev Cert.Kernel2Ideal.nD) → Buf (Elt Ideal) ((c.tc : Thread Cert.Kernel2Ideal.nD Cert.Kernel2Ideal.τ).loc Cert.Kernel2Ideal.main_v42)) (v8 : (c : Dev Cert.Kernel2Ideal.nD) → Buf (Elt Ideal) ((c.tc : Thread Cert.Kernel2Ideal.nD Cert.Kernel2Ideal.τ).loc Cert.Kernel2Ideal.main_v43)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v36) = v0 c
          ∧ r.2.mem ((c.tc : Thread Cert.Kernel2Ideal.nD Cert.Kernel2Ideal.τ).loc Cert.Kernel2Ideal.main_v37) = v1 c
          ∧ r.2.mem ((c.tc : Thread Cert.Kernel2Ideal.nD Cert.Kernel2Ideal.τ).loc Cert.Kernel2Ideal.main_v35) = v2 c
          ∧ r.2.mem ((c.tc : Thread Cert.Kernel2Ideal.nD Cert.Kernel2Ideal.τ).loc Cert.Kernel2Ideal.main_v38) = v3 c
          ∧ r.2.mem ((c.tc : Thread Cert.Kernel2Ideal.nD Cert.Kernel2Ideal.τ).loc Cert.Kernel2Ideal.main_v39) = v4 c
          ∧ r.2.mem ((c.tc : Thread Cert.Kernel2Ideal.nD Cert.Kernel2Ideal.τ).loc Cert.Kernel2Ideal.main_v40) = v5 c
          ∧ r.2.mem ((c.tc : Thread Cert.Kernel2Ideal.nD Cert.Kernel2Ideal.τ).loc Cert.Kernel2Ideal.main_v41) = v6 c
          ∧ r.2.mem ((c.tc : Thread Cert.Kernel2Ideal.nD Cert.Kernel2Ideal.τ).loc Cert.Kernel2Ideal.main_v42) = v7 c
          ∧ r.2.mem ((c.tc : Thread Cert.Kernel2Ideal.nD Cert.Kernel2Ideal.τ).loc Cert.Kernel2Ideal.main_v43) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_v24) = v3 c
          ∧ r.2.mem ((c.tc : Thread Cert.Reference2Ideal.nD Cert.Reference2Ideal.τ).loc Cert.Reference2Ideal.main_v18) = v4 c
          ∧ r.2.mem ((c.tc : Thread Cert.Reference2Ideal.nD Cert.Reference2Ideal.τ).loc Cert.Reference2Ideal.main_v19) = v5 c
          ∧ r.2.mem ((c.tc : Thread Cert.Reference2Ideal.nD Cert.Reference2Ideal.τ).loc Cert.Reference2Ideal.main_v20) = v6 c
          ∧ r.2.mem ((c.tc : Thread Cert.Reference2Ideal.nD Cert.Reference2Ideal.τ).loc Cert.Reference2Ideal.main_v21) = v7 c
          ∧ r.2.mem ((c.tc : Thread Cert.Reference2Ideal.nD Cert.Reference2Ideal.τ).loc Cert.Reference2Ideal.main_v22) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  IdealRules.named_const.Statement Cert.Kernel4Ideal.κ "neg_log2e" .f32 0xBFB8AA3B#32 ((-((Real.log 2)⁻¹) : ℝ) : EReal)

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v20)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v91) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  IdealRules.named_const.Statement Cert.Kernel5Ideal.κ "inv_192" .f32 0x3BAAAAAB#32 ((192⁻¹ : ℝ) : EReal)

def algebraic_Kernel5Ideal_Reference5Ideal_pre_finite_q [hKernel5Ideal : Cert.Kernel5Ideal.Facts] [hReference5Ideal : Cert.Reference5Ideal.Facts] [hPre_finite_q : Cert.Pre_finite_q.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_q m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v74)) (v1 : (c : Dev Cert.Kernel5Ideal.nD) → Buf (Elt Ideal) ((c.tc : Thread Cert.Kernel5Ideal.nD Cert.Kernel5Ideal.τ).loc Cert.Kernel5Ideal.main_v77)) (v2 : (c : Dev Cert.Kernel5Ideal.nD) → Buf (Elt Ideal) ((c.tc : Thread Cert.Kernel5Ideal.nD Cert.Kernel5Ideal.τ).loc Cert.Kernel5Ideal.main_v81)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v74) = v0 c
          ∧ r.2.mem ((c.tc : Thread Cert.Kernel5Ideal.nD Cert.Kernel5Ideal.τ).loc Cert.Kernel5Ideal.main_v77) = v1 c
          ∧ r.2.mem ((c.tc : Thread Cert.Kernel5Ideal.nD Cert.Kernel5Ideal.τ).loc Cert.Kernel5Ideal.main_v81) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v80) = v0 c
          ∧ r.2.mem ((c.tc : Thread Cert.Reference5Ideal.nD Cert.Reference5Ideal.τ).loc Cert.Reference5Ideal.main_v78) = v1 c
          ∧ r.2.mem ((c.tc : Thread Cert.Reference5Ideal.nD Cert.Reference5Ideal.τ).loc Cert.Reference5Ideal.main_v81) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite_q : Cert.Pre_finite_q.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Kernel5Ideal_pre_finite_q (hKernel5Ideal := hKernel5Ideal) (hPre_finite_q := hPre_finite_q)
    ∧ quiescent_Reference5Ideal (hReference5Ideal := hReference5Ideal)
    ∧ quiescent_Reference5Ideal_pre_finite_q (hReference5Ideal := hReference5Ideal) (hPre_finite_q := hPre_finite_q)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal_pre_finite_q (hKernel5Ideal := hKernel5Ideal) (hReference5Ideal := hReference5Ideal) (hPre_finite_q := hPre_finite_q)
-- ==== Pre_finite.lean ====
abbrev S8x8208x512 : Shape := ⟨3, ![8, 8208, 512]⟩
abbrev S8x8208x1024 : Shape := ⟨3, ![8, 8208, 1024]⟩
abbrev S8x8208x8 : Shape := ⟨3, ![8, 8208, 8]⟩
abbrev S4x1024 : Shape := ⟨2, ![4, 1024]⟩
abbrev S1024 : Shape := ⟨1, ![1024]⟩
abbrev S8 : Shape := ⟨1, ![8]⟩
abbrev S512 : Shape := ⟨1, ![512]⟩
abbrev S_ : Shape := ⟨0, ![]⟩

class Facts : Prop where
  bcast_S_S8x8208x1024 : S_.BroadcastsInDim S8x8208x1024 (![] : Fin 0 → Fin S8x8208x1024.rank)
  bcast_S_S8x8208x8 : S_.BroadcastsInDim S8x8208x8 (![] : Fin 0 → Fin S8x8208x8.rank)
  bcast_S_S4x1024 : S_.BroadcastsInDim S4x1024 (![] : Fin 0 → Fin S4x1024.rank)
  bcast_S_S1024 : S_.BroadcastsInDim S1024 (![] : Fin 0 → Fin S1024.rank)
  bcast_S_S8 : S_.BroadcastsInDim S8 (![] : Fin 0 → Fin S8.rank)

variable [Facts]

def fn {F : FTy → Type} [FloatOps F] (main_arg0 : FVec F S8x8208x512 .f32) (main_arg1 : FVec F S8x8208x1024 .f32) (main_arg2 : FVec F S8x8208x8 .f32) (main_arg3 : FVec F S4x1024 .f32) (main_arg4 : FVec F S1024 .f32) (main_arg5 : FVec F S8 .f32) (main_arg6 : FVec F S8 .f32) (main_arg7 : FVec F S8 .f32) (main_arg8 : FVec F S512 .f32) : IVec S8x8208x1024 1 × IVec S8x8208x8 1 × IVec S4x1024 1 × IVec S1024 1 × IVec S8 1 :=
  let main_v0 : FVec F S8x8208x1024 .f32 := Host.absf main_arg1
  let main_cst : FVec F S_ .f32 := constant S_ .f32 0x7F800000#32
  let main_v1 : FVec F S8x8208x1024 .f32 := broadcastInDim S8x8208x1024 ![] bcast_S_S8x8208x1024 main_cst
  let main_v2 : IVec S8x8208x1024 1 := cmpf .olt main_v0 main_v1
  let main_v3 : FVec F S8x8208x8 .f32 := Host.absf main_arg2
  let main_cst_0 : FVec F S_ .f32 := constant S_ .f32 0x7F800000#32
  let main_v4 : FVec F S8x8208x8 .f32 := broadcastInDim S8x8208x8 ![] bcast_S_S8x8208x8 main_cst_0
  let main_v5 : IVec S8x8208x8 1 := cmpf .olt main_v3 main_v4
  let main_v6 : FVec F S4x1024 .f32 := Host.absf main_arg3
  let main_cst_1 : FVec F S_ .f32 := constant S_ .f32 0x7F800000#32
  let main_v7 : FVec F S4x1024 .f32 := broadcastInDim S4x1024 ![] bcast_S_S4x1024 main_cst_1
  let main_v8 : IVec S4x1024 1 := cmpf .olt main_v6 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S8 .f32 := Host.absf main_arg5
  let main_cst_3 : FVec F S_ .f32 := constant S_ .f32 0x7F800000#32
  let main_v13 : FVec F S8 .f32 := broadcastInDim S8 ![] bcast_S_S8 main_cst_3
  let main_v14 : IVec S8 1 := cmpf .olt main_v12 main_v13
  (main_v2, main_v5, main_v8, main_v11, main_v14)
-- ==== Pre_finite_q.lean ====
abbrev S8x8208x192 : Shape := ⟨3, ![8, 8208, 192]⟩
abbrev S8x8208x128 : Shape := ⟨3, ![8, 8208, 128]⟩
abbrev S8x8208x32 : Shape := ⟨3, ![8, 8208, 32]⟩
abbrev S192 : Shape := ⟨1, ![192]⟩
abbrev S128 : Shape := ⟨1, ![128]⟩
abbrev S192x384 : Shape := ⟨2, ![192, 384]⟩
abbrev S128x512 : Shape := ⟨2, ![128, 512]⟩
abbrev S_ : Shape := ⟨0, ![]⟩

class Facts : Prop where
  bcast_S_S192 : S_.BroadcastsInDim S192 (![] : Fin 0 → Fin S192.rank)
  bcast_S_S192x384 : S_.BroadcastsInDim S192x384 (![] : Fin 0 → Fin S192x384.rank)

variable [Facts]

def fn {F : FTy → Type} [FloatOps F] (main_arg0 : FVec F S8x8208x192 .f32) (main_arg1 : FVec F S8x8208x128 .f32) (main_arg2 : FVec F S8x8208x32 .f32) (main_arg3 : FVec F S192 .f32) (main_arg4 : FVec F S128 .f32) (main_arg5 : FVec F S192x384 .f32) (main_arg6 : FVec F S128x512 .f32) : IVec S192 1 × IVec S192x384 1 :=
  let main_v0 : FVec F S192 .f32 := Host.absf main_arg3
  let main_cst : FVec F S_ .f32 := constant S_ .f32 0x7F800000#32
  let main_v1 : FVec F S192 .f32 := broadcastInDim S192 ![] bcast_S_S192 main_cst
  let main_v2 : IVec S192 1 := cmpf .olt main_v0 main_v1
  let main_v3 : FVec F S192x384 .f32 := Host.absf main_arg5
  let main_cst_0 : FVec F S_ .f32 := constant S_ .f32 0x7F800000#32
  let main_v4 : FVec F S192x384 .f32 := broadcastInDim S192x384 ![] bcast_S_S192x384 main_cst_0
  let main_v5 : IVec S192x384 1 := cmpf .olt main_v3 main_v4
  (main_v2, main_v5)
-- ==== Kernel.lean ====
abbrev S8x8208x1024 : Shape := ⟨3, ![8, 8208, 1024]⟩
abbrev S8x8208x512 : Shape := ⟨3, ![8, 8208, 512]⟩
abbrev S8x8208x256 : Shape := ⟨3, ![8, 8208, 256]⟩
abbrev S256 : Shape := ⟨1, ![256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x8448x1024 : Shape := ⟨3, ![8, 8448, 1024]⟩
abbrev S8x8448x512 : Shape := ⟨3, ![8, 8448, 512]⟩
abbrev S8x8448x256 : Shape := ⟨3, ![8, 8448, 256]⟩
abbrev S1x256 : Shape := ⟨2, ![1, 256]⟩
abbrev S1x1024 : Shape := ⟨2, ![1, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S3x2816 : Shape := ⟨2, ![3, 2816]⟩
abbrev S3x11x256 : Shape := ⟨3, ![3, 11, 256]⟩
abbrev S3x11x512 : Shape := ⟨3, ![3, 11, 512]⟩
abbrev S2816 : Shape := ⟨1, ![2816]⟩
abbrev S11x256 : Shape := ⟨2, ![11, 256]⟩
abbrev S11x512 : Shape := ⟨2, ![11, 512]⟩
abbrev S1x5632 : Shape := ⟨2, ![1, 5632]⟩
abbrev S1x768x1024 : Shape := ⟨3, ![1, 768, 1024]⟩
abbrev S1x768x512 : Shape := ⟨3, ![1, 768, 512]⟩
abbrev S1x768x256 : Shape := ⟨3, ![1, 768, 256]⟩
abbrev S8x5632 : Shape := ⟨2, ![8, 5632]⟩
abbrev S776x512 : Shape := ⟨2, ![776, 512]⟩
abbrev S768x2816 : Shape := ⟨2, ![768, 2816]⟩
abbrev S768x256 : Shape := ⟨2, ![768, 256]⟩
abbrev S768 : Shape := ⟨1, ![768]⟩
abbrev S768x1 : Shape := ⟨2, ![768, 1]⟩
abbrev S768x512 : Shape := ⟨2, ![768, 512]⟩
abbrev S512x1024 : Shape := ⟨2, ![512, 1024]⟩
abbrev S768x1024 : Shape := ⟨2, ![768, 1024]⟩
abbrev S256x1024 : Shape := ⟨2, ![256, 1024]⟩
abbrev S8x512 : Shape := ⟨2, ![8, 512]⟩
abbrev S1024x512 : Shape := ⟨2, ![1024, 512]⟩
abbrev S3x512 : Shape := ⟨2, ![3, 512]⟩
abbrev S1x512 : Shape := ⟨2, ![1, 512]⟩

abbrev nBuf : Space → Nat
  | .hbm => 54
  | .vmem => 21
  | .smem => 0
  | _ => 0

abbrev bufTy : (tb : Table) → Fin (tcTables nBuf tb) → BufTy
  | .hbm, ⟨0, _⟩ => ⟨S8x8208x1024, .f32⟩
  | .hbm, ⟨1, _⟩ => ⟨S8x8208x512, .f32⟩
  | .hbm, ⟨2, _⟩ => ⟨S8x8208x256, .f32⟩
  | .hbm, ⟨3, _⟩ => ⟨S8x8208x256, .f32⟩
  | .hbm, ⟨4, _⟩ => ⟨S256, .f32⟩
  | .hbm, ⟨5, _⟩ => ⟨S256, .f32⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S3x5632, .f32⟩
  | .hbm, ⟨10, _⟩ => ⟨S5632, .f32⟩
  | .hbm, ⟨11, _⟩ => ⟨S2816x1024, .f32⟩
  | .hbm, ⟨12, _⟩ => ⟨S_, .i32⟩
  | .hbm, ⟨13, _⟩ => ⟨S_, .f32⟩
  | .hbm, ⟨14, _⟩ => ⟨S8x8448x1024, .f32⟩
  | .hbm, ⟨15, _⟩ => ⟨S_, .i32⟩
  | .hbm, ⟨16, _⟩ => ⟨S_, .f32⟩
  | .hbm, ⟨17, _⟩ => ⟨S8x8448x512, .f32⟩
  | .hbm, ⟨18, _⟩ => ⟨S8x8448x512, .bf16⟩
  | .hbm, ⟨19, _⟩ => ⟨S_, .i32⟩
  | .hbm, ⟨20, _⟩ => ⟨S_, .f32⟩
  | .hbm, ⟨21, _⟩ => ⟨S8x8448x256, .f32⟩
  | .hbm, ⟨22, _⟩ => ⟨S8x8448x256, .bf16⟩
  | .hbm, ⟨23, _⟩ => ⟨S_, .i32⟩
  | .hbm, ⟨24, _⟩ => ⟨S_, .f32⟩
  | .hbm, ⟨25, _⟩ => ⟨S8x8448x256, .f32⟩
  | .hbm, ⟨26, _⟩ => ⟨S8x8448x256, .bf16⟩
  | .hbm, ⟨27, _⟩ => ⟨S1x256, .f32⟩
  | .hbm, ⟨28, _⟩ => ⟨S1x256, .f32⟩
  | .hbm, ⟨29, _⟩ => ⟨S1024x1024, .bf16⟩
  | .hbm, ⟨30, _⟩ => ⟨S1x1024, .f32⟩
  | .hbm, ⟨31, _⟩ => ⟨S1024x2816, .f32⟩
  | .hbm, ⟨32, _⟩ => ⟨S1024x11x256, .f32⟩
  | .hbm, ⟨33, _⟩ => ⟨S1024x2816, .f32⟩
  | .hbm, ⟨34, _⟩ => ⟨S1024x11x256, .f32⟩
  | .hbm, ⟨35, _⟩ => ⟨S1024x11x512, .f32⟩
  | .hbm, ⟨36, _⟩ => ⟨S1024x5632, .f32⟩
  | .hbm, ⟨37, _⟩ => ⟨S1024x5632, .bf16⟩
  | .hbm, ⟨38, _⟩ => ⟨S3x2816, .f32⟩
  | .hbm, ⟨39, _⟩ => ⟨S3x11x256, .f32⟩
  | .hbm, ⟨40, _⟩ => ⟨S3x2816, .f32⟩
  | .hbm, ⟨41, _⟩ => ⟨S3x11x256, .f32⟩
  | .hbm, ⟨42, _⟩ => ⟨S3x11x512, .f32⟩
  | .hbm, ⟨43, _⟩ => ⟨S3x5632, .f32⟩
  | .hbm, ⟨44, _⟩ => ⟨S2816, .f32⟩
  | .hbm, ⟨45, _⟩ => ⟨S11x256, .f32⟩
  | .hbm, ⟨46, _⟩ => ⟨S2816, .f32⟩
  | .hbm, ⟨47, _⟩ => ⟨S11x256, .f32⟩
  | .hbm, ⟨48, _⟩ => ⟨S11x512, .f32⟩
  | .hbm, ⟨49, _⟩ => ⟨S5632, .f32⟩
  | .hbm, ⟨50, _⟩ => ⟨S1x5632, .f32⟩
  | .hbm, ⟨51, _⟩ => ⟨S2816x1024, .bf16⟩
  | .hbm, ⟨52, _⟩ => ⟨S8x8448x1024, .f32⟩
  | .hbm, ⟨53, _⟩ => ⟨S8x8208x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x768x512, .bf16⟩
  | .local _ .vmem, ⟨3, _⟩ => ⟨S1x768x512, .bf16⟩
  | .local _ .vmem, ⟨4, _⟩ => ⟨S1x768x256, .bf16⟩
  | .local _ .vmem, ⟨5, _⟩ => ⟨S1x768x256, .bf16⟩
  | .local _ .vmem, ⟨6, _⟩ => ⟨S1x768x256, .bf16⟩
  | .local _ .vmem, ⟨7, _⟩ => ⟨S1x768x256, .bf16⟩
  | .local _ .vmem, ⟨8, _⟩ => ⟨S1x256, .f32⟩
  | .local _ .vmem, ⟨9, _⟩ => ⟨S1x256, .f32⟩
  | .local _ .vmem, ⟨10, _⟩ => ⟨S1024x1024, .bf16⟩
  | .local _ .vmem, ⟨11, _⟩ => ⟨S1x1024, .f32⟩
  | .local _ .vmem, ⟨12, _⟩ => ⟨S1024x5632, .bf16⟩
  | .local _ .vmem, ⟨13, _⟩ => ⟨S3x5632, .f32⟩
  | .local _ .vmem, ⟨14, _⟩ => ⟨S1x5632, .f32⟩
  | .local _ .vmem, ⟨15, _⟩ => ⟨S2816x1024, .bf16⟩
  | .local _ .vmem, ⟨16, _⟩ => ⟨S1x768x1024, .f32⟩
  | .local _ .vmem, ⟨17, _⟩ => ⟨S1x768x1024, .f32⟩
  | .local _ .vmem, ⟨18, _⟩ => ⟨S8x5632, .f32⟩
  | .local _ .vmem, ⟨19, _⟩ => ⟨S776x512, .f32⟩
  | .local _ .vmem, ⟨20, _⟩ => ⟨S768x2816, .bf16⟩
  | _, _ => ⟨S8x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_c_0 : Ref sig .tc := ⟨.hbm, 15, rfl⟩
abbrev main_call1_v0 : Ref sig .tc := ⟨.hbm, 16, rfl⟩
abbrev main_v1 : Ref sig .tc := ⟨.hbm, 17, rfl⟩
abbrev main_v2 : Ref sig .tc := ⟨.hbm, 18, rfl⟩
abbrev main_c_1 : Ref sig .tc := ⟨.hbm, 19, rfl⟩
abbrev main_call2_v0 : Ref sig .tc := ⟨.hbm, 20, rfl⟩
abbrev main_v3 : Ref sig .tc := ⟨.hbm, 21, rfl⟩
abbrev main_v4 : Ref sig .tc := ⟨.hbm, 22, rfl⟩
abbrev main_c_2 : Ref sig .tc := ⟨.hbm, 23, rfl⟩
abbrev main_call3_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![8, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x768x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x768x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S8x8208x1024 : Shape := ⟨3, ![8, 8208, 1024]⟩
abbrev S8x8208x512 : Shape := ⟨3, ![8, 8208, 512]⟩
abbrev S8x8208x256 : Shape := ⟨3, ![8, 8208, 256]⟩
abbrev S256 : Shape := ⟨1, ![256]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x8208 : Shape := ⟨2, ![8, 8208]⟩
abbrev S8x8208x1 : Shape := ⟨3, ![8, 8208, 1]⟩
abbrev S1x1x256 : Shape := ⟨3, ![1, 1, 256]⟩
abbrev S1x1x1024 : Shape := ⟨3, ![1, 1, 1024]⟩
abbrev S8x8208x5632 : Shape := ⟨3, ![8, 8208, 5632]⟩
abbrev S8x8210x5632 : Shape := ⟨3, ![8, 8210, 5632]⟩
abbrev S1x5632 : Shape := ⟨2, ![1, 5632]⟩
abbrev S1x1x5632 : Shape := ⟨3, ![1, 1, 5632]⟩
abbrev S8x8208x2816 : Shape := ⟨3, ![8, 8208, 2816]⟩

abbrev nBuf : Space → Nat
  | .hbm => 104
  | .vmem => 0
  | .smem => 0
  | _ => 0

abbrev bufTy : (tb : Table) → Fin (tcTables nBuf tb) → BufTy
  | .hbm, ⟨0, _⟩ => ⟨S8x8208x1024, .f32⟩
  | .hbm, ⟨1, _⟩ => ⟨S8x8208x512, .f32⟩
  | .hbm, ⟨2, _⟩ => ⟨S8x8208x256, .f32⟩
  | .hbm, ⟨3, _⟩ => ⟨S8x8208x256, .f32⟩
  | .hbm, ⟨4, _⟩ => ⟨S256, .f32⟩
  | .hbm, ⟨5, _⟩ => ⟨S256, .f32⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S3x5632, .f32⟩
  | .hbm, ⟨10, _⟩ => ⟨S5632, .f32⟩
  | .hbm, ⟨11, _⟩ => ⟨S2816x1024, .f32⟩
  | .hbm, ⟨12, _⟩ => ⟨S8x8208x256, .f32⟩
  | .hbm, ⟨13, _⟩ => ⟨S_, .f32⟩
  | .hbm, ⟨14, _⟩ => ⟨S8x8208, .f32⟩
  | .hbm, ⟨15, _⟩ => ⟨S8x8208x1, .f32⟩
  | .hbm, ⟨16, _⟩ => ⟨S_, .f32⟩
  | .hbm, ⟨17, _⟩ => ⟨S8x8208x1, .f32⟩
  | .hbm, ⟨18, _⟩ => ⟨S8x8208x1, .f32⟩
  | .hbm, ⟨19, _⟩ => ⟨S_, .f32⟩
  | .hbm, ⟨20, _⟩ => ⟨S8x8208x1, .f32⟩
  | .hbm, ⟨21, _⟩ => ⟨S8x8208x1, .f32⟩
  | .hbm, ⟨22, _⟩ => ⟨S8x8208x1, .f32⟩
  | .hbm, ⟨23, _⟩ => ⟨S8x8208x256, .f32⟩
  | .hbm, ⟨24, _⟩ => ⟨S8x8208x256, .f32⟩
  | .hbm, ⟨25, _⟩ => ⟨S1x1x256, .f32⟩
  | .hbm, ⟨26, _⟩ => ⟨S8x8208x256, .f32⟩
  | .hbm, ⟨27, _⟩ => ⟨S8x8208x256, .f32⟩
  | .hbm, ⟨28, _⟩ => ⟨S8x8208x256, .f32⟩
  | .hbm, ⟨29, _⟩ => ⟨S_, .f32⟩
  | .hbm, ⟨30, _⟩ => ⟨S8x8208, .f32⟩
  | .hbm, ⟨31, _⟩ => ⟨S8x8208x1, .f32⟩
  | .hbm, ⟨32, _⟩ => ⟨S_, .f32⟩
  | .hbm, ⟨33, _⟩ => ⟨S8x8208x1, .f32⟩
  | .hbm, ⟨34, _⟩ => ⟨S8x8208x1, .f32⟩
  | .hbm, ⟨35, _⟩ => ⟨S_, .f32⟩
  | .hbm, ⟨36, _⟩ => ⟨S8x8208x1, .f32⟩
  | .hbm, ⟨37, _⟩ => ⟨S8x8208x1, .f32⟩
  | .hbm, ⟨38, _⟩ => ⟨S8x8208x1, .f32⟩
  | .hbm, ⟨39, _⟩ => ⟨S8x8208x256, .f32⟩
  | .hbm, ⟨40, _⟩ => ⟨S8x8208x256, .f32⟩
  | .hbm, ⟨41, _⟩ => ⟨S1x1x256, .f32⟩
  | .hbm, ⟨42, _⟩ => ⟨S8x8208x256, .f32⟩
  | .hbm, ⟨43, _⟩ => ⟨S8x8208x256, .f32⟩
  | .hbm, ⟨44, _⟩ => ⟨S8x8208x1024, .f32⟩
  | .hbm, ⟨45, _⟩ => ⟨S8x8208x1024, .f32⟩
  | .hbm, ⟨46, _⟩ => ⟨S8x8208x1024, .f32⟩
  | .hbm, ⟨47, _⟩ => ⟨S8x8208x1024, .f32⟩
  | .hbm, ⟨48, _⟩ => ⟨S_, .f32⟩
  | .hbm, ⟨49, _⟩ => ⟨S8x8208, .f32⟩
  | .hbm, ⟨50, _⟩ => ⟨S8x8208x1, .f32⟩
  | .hbm, ⟨51, _⟩ => ⟨S_, .f32⟩
  | .hbm, ⟨52, _⟩ => ⟨S8x8208x1, .f32⟩
  | .hbm, ⟨53, _⟩ => ⟨S8x8208x1, .f32⟩
  | .hbm, ⟨54, _⟩ => ⟨S_, .f32⟩
  | .hbm, ⟨55, _⟩ => ⟨S8x8208x1, .f32⟩
  | .hbm, ⟨56, _⟩ => ⟨S8x8208x1, .f32⟩
  | .hbm, ⟨57, _⟩ => ⟨S8x8208x1, .f32⟩
  | .hbm, ⟨58, _⟩ => ⟨S8x8208x1024, .f32⟩
  | .hbm, ⟨59, _⟩ => ⟨S8x8208x1024, .f32⟩
  | .hbm, ⟨60, _⟩ => ⟨S1x1x1024, .f32⟩
  | .hbm, ⟨61, _⟩ => ⟨S8x8208x1024, .f32⟩
  | .hbm, ⟨62, _⟩ => ⟨S8x8208x1024, .f32⟩
  | .hbm, ⟨63, _⟩ => ⟨S8x8208x5632, .f32⟩
  | .hbm, ⟨64, _⟩ => ⟨S_, .i32⟩
  | .hbm, ⟨65, _⟩ => ⟨S_, .f32⟩
  | .hbm, ⟨66, _⟩ => ⟨S8x8210x5632, .f32⟩
  | .hbm, ⟨67, _⟩ => ⟨S8x8208x5632, .f32⟩
  | .hbm, ⟨68, _⟩ => ⟨S1x5632, .f32⟩
  | .hbm, ⟨69, _⟩ => ⟨S5632, .f32⟩
  | .hbm, ⟨70, _⟩ => ⟨S1x1x5632, .f32⟩
  | .hbm, ⟨71, _⟩ => ⟨S8x8208x5632, .f32⟩
  | .hbm, ⟨72, _⟩ => ⟨S8x8208x5632, .f32⟩
  | .hbm, ⟨73, _⟩ => ⟨S8x8208x5632, .f32⟩
  | .hbm, ⟨74, _⟩ => ⟨S1x5632, .f32⟩
  | .hbm, ⟨75, _⟩ => ⟨S5632, .f32⟩
  | .hbm, ⟨76, _⟩ => ⟨S1x1x5632, .f32⟩
  | .hbm, ⟨77, _⟩ => ⟨S8x8208x5632, .f32⟩
  | .hbm, ⟨78, _⟩ => ⟨S8x8208x5632, .f32⟩
  | .hbm, ⟨79, _⟩ => ⟨S8x8208x5632, .f32⟩
  | .hbm, ⟨80, _⟩ => ⟨S8x8208x5632, .f32⟩
  | .hbm, ⟨81, _⟩ => ⟨S1x5632, .f32⟩
  | .hbm, ⟨82, _⟩ => ⟨S5632, .f32⟩
  | .hbm, ⟨83, _⟩ => ⟨S1x1x5632, .f32⟩
  | .hbm, ⟨84, _⟩ => ⟨S8x8208x5632, .f32⟩
  | .hbm, ⟨85, _⟩ => ⟨S8x8208x5632, .f32⟩
  | .hbm, ⟨86, _⟩ => ⟨S8x8208x5632, .f32⟩
  | .hbm, ⟨87, _⟩ => ⟨S1x1x5632, .f32⟩
  | .hbm, ⟨88, _⟩ => ⟨S8x8208x5632, .f32⟩
  | .hbm, ⟨89, _⟩ => ⟨S8x8208x5632, .f32⟩
  | .hbm, ⟨90, _⟩ => ⟨S8x8208x2816, .f32⟩
  | .hbm, ⟨91, _⟩ => ⟨S8x8208x2816, .f32⟩
  | .hbm, ⟨92, _⟩ => ⟨S8x8208x2816, .f32⟩
  | .hbm, ⟨93, _⟩ => ⟨S_, .f32⟩
  | .hbm, ⟨94, _⟩ => ⟨S8x8208x2816, .f32⟩
  | .hbm, ⟨95, _⟩ => ⟨S8x8208x2816, .f32⟩
  | .hbm, ⟨96, _⟩ => ⟨S_, .f32⟩
  | .hbm, ⟨97, _⟩ => ⟨S8x8208x2816, .f32⟩
  | .hbm, ⟨98, _⟩ => ⟨S8x8208x2816, .f32⟩
  | .hbm, ⟨99, _⟩ => ⟨S8x8208x2816, .f32⟩
  | .hbm, ⟨100, _⟩ => ⟨S8x8208x2816, .f32⟩
  | .hbm, ⟨101, _⟩ => ⟨S8x8208x2816, .f32⟩
  | .hbm, ⟨102, _⟩ => ⟨S8x8208x1024, .f32⟩
  | .hbm, ⟨103, _⟩ => ⟨S8x8208x1024, .f32⟩
  | _, _ => ⟨S8x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c : Ref sig .tc := ⟨.hbm, 64, rfl⟩
abbrev main_call0_v0 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_call1_v0 : Ref sig .tc := ⟨.hbm, 91, rfl⟩
abbrev main_call1_v1 : Ref sig .tc := ⟨.hbm, 92, rfl⟩
abbrev main_call1_cst : Ref sig .tc := ⟨.hbm, 93, rfl⟩
abbrev main_call1_v2 : Ref sig .tc := ⟨.hbm, 94, rfl⟩
abbrev main_call1_v3 : Ref sig .tc := ⟨.hbm, 95, rfl⟩
abbrev main_call1_cst_0 : Ref sig .tc := ⟨.hbm, 96, rfl⟩
abbrev main_call1_v4 : Ref sig .tc := ⟨.hbm, 97, rfl⟩
abbrev main_call1_v5 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]
-- ==== Kernel2.lean ====
abbrev S8x8208x1024 : Shape := ⟨3, ![8, 8208, 1024]⟩
abbrev S1024 : Shape := ⟨1, ![1024]⟩
abbrev S1024x2664 : Shape := ⟨2, ![1024, 2664]⟩
abbrev S_ : Shape := ⟨0, ![]⟩
abbrev S8x8448x1024 : Shape := ⟨3, ![8, 8448, 1024]⟩
abbrev S67584x1024 : Shape := ⟨2, ![67584, 1024]⟩
abbrev S1x1024 : Shape := ⟨2, ![1, 1024]⟩
abbrev S1024x512 : Shape := ⟨2, ![1024, 512]⟩
abbrev S1024x1024 : Shape := ⟨2, ![1024, 1024]⟩
abbrev S1024x8 : Shape := ⟨2, ![1024, 8]⟩
abbrev S1024x256 : Shape := ⟨2, ![1024, 256]⟩
abbrev S1024x192 : Shape := ⟨2, ![1024, 192]⟩
abbrev S1024x128 : Shape := ⟨2, ![1024, 128]⟩
abbrev S1024x32 : Shape := ⟨2, ![1024, 32]⟩
abbrev S1024x64 : Shape := ⟨2, ![1024, 64]⟩
abbrev S1024x16 : Shape := ⟨2, ![1024, 16]⟩
abbrev S1024x8x64 : Shape := ⟨3, ![1024, 8, 64]⟩
abbrev S1024x3456 : Shape := ⟨2, ![1024, 3456]⟩
abbrev S67584x2944 : Shape := ⟨2, ![67584, 2944]⟩
abbrev S67584x512 : Shape := ⟨2, ![67584, 512]⟩
abbrev S512x1024 : Shape := ⟨2, ![512, 1024]⟩
abbrev S512x2944 : Shape := ⟨2, ![512, 2944]⟩
abbrev S512x512 : Shape := ⟨2, ![512, 512]⟩
abbrev S512 : Shape := ⟨1, ![512]⟩
abbrev S512x1 : Shape := ⟨2, ![512, 1]⟩
abbrev S1024x384 : Shape := ⟨2, ![1024, 384]⟩
abbrev S512x384 : Shape := ⟨2, ![512, 384]⟩
abbrev S8x8448x2944 : Shape := ⟨3, ![8, 8448, 2944]⟩
abbrev S8x8208x2944 : Shape := ⟨3, ![8, 8208, 2944]⟩
abbrev S8x8448x8x64 : Shape := ⟨4, ![8, 8448, 8, 64]⟩
abbrev S8x8208x8x1 : Shape := ⟨4, ![8, 8208, 8, 1]⟩
abbrev S8x8208x8 : Shape := ⟨3, ![8, 8208, 8]⟩
abbrev S8x8208x512 : Shape := ⟨3, ![8, 8208, 512]⟩
abbrev S8x8208x256 : Shape := ⟨3, ![8, 8208, 256]⟩
abbrev S8x8208x192 : Shape := ⟨3, ![8, 8208, 192]⟩
abbrev S8x8208x128 : Shape := ⟨3, ![8, 8208, 128]⟩
abbrev S8x8208x32 : Shape := ⟨3, ![8, 8208, 32]⟩

abbrev nBuf : Space → Nat
  | .hbm => 56
  | .vmem => 8
  | .smem => 0
  | _ => 0

abbrev bufTy : (tb : Table) → Fin (tcTables nBuf tb) → BufTy
  | .hbm, ⟨0, _⟩ => ⟨S8x8208x1024, .f32⟩
  | .hbm, ⟨1, _⟩ => ⟨S1024, .f32⟩
  | .hbm, ⟨2, _⟩ => ⟨S1024x2664, .f32⟩
  | .hbm, ⟨3, _⟩ => ⟨S_, .i32⟩
  | .hbm, ⟨4, _⟩ => ⟨S_, .f32⟩
  | .hbm, ⟨5, _⟩ => ⟨S8x8448x1024, .f32⟩
  | .hbm, ⟨6, _⟩ => ⟨S67584x1024, .f32⟩
  | .hbm, ⟨7, _⟩ => ⟨S1x1024, .f32⟩
  | .hbm, ⟨8, _⟩ => ⟨S1024x512, .f32⟩
  | .hbm, ⟨9, _⟩ => ⟨S1024x1024, .f32⟩
  | .hbm, ⟨10, _⟩ => ⟨S1024x8, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S1024x192, .f32⟩
  | .hbm, ⟨15, _⟩ => ⟨S1024x128, .f32⟩
  | .hbm, ⟨16, _⟩ => ⟨S1024x32, .f32⟩
  | .hbm, ⟨17, _⟩ => ⟨S_, .f32⟩
  | .hbm, ⟨18, _⟩ => ⟨S1024x64, .f32⟩
  | .hbm, ⟨19, _⟩ => ⟨S_, .f32⟩
  | .hbm, ⟨20, _⟩ => ⟨S1024x32, .f32⟩
  | .hbm, ⟨21, _⟩ => ⟨S1024x128, .f32⟩
  | .hbm, ⟨22, _⟩ => ⟨S_, .f32⟩
  | .hbm, ⟨23, _⟩ => ⟨S1024x64, .f32⟩
  | .hbm, ⟨24, _⟩ => ⟨S1024x16, .f32⟩
  | .hbm, ⟨25, _⟩ => ⟨S1024x16, .f32⟩
  | .hbm, ⟨26, _⟩ => ⟨S1024x16, .f32⟩
  | .hbm, ⟨27, _⟩ => ⟨S1024x32, .f32⟩
  | .hbm, ⟨28, _⟩ => ⟨S_, .f32⟩
  | .hbm, ⟨29, _⟩ => ⟨S1024x32, .f32⟩
  | .hbm, ⟨30, _⟩ => ⟨S1024x128, .f32⟩
  | .hbm, ⟨31, _⟩ => ⟨S_, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x64, .f32⟩
  | .hbm, ⟨36, _⟩ => ⟨S1024x8x64, .f32⟩
  | .hbm, ⟨37, _⟩ => ⟨S1024x512, .f32⟩
  | .hbm, ⟨38, _⟩ => ⟨S1024x3456, .f32⟩
  | .hbm, ⟨39, _⟩ => ⟨S1024x3456, .bf16⟩
  | .hbm, ⟨40, _⟩ => ⟨S67584x2944, .bf16⟩
  | .hbm, ⟨41, _⟩ => ⟨S67584x512, .f32⟩
  | .hbm, ⟨42, _⟩ => ⟨S8x8448x2944, .bf16⟩
  | .hbm, ⟨43, _⟩ => ⟨S8x8208x2944, .bf16⟩
  | .hbm, ⟨44, _⟩ => ⟨S8x8208x2944, .f32⟩
  | .hbm, ⟨45, _⟩ => ⟨S8x8448x8x64, .f32⟩
  | .hbm, ⟨46, _⟩ => ⟨S8x8208x8x1, .f32⟩
  | .hbm, ⟨47, _⟩ => ⟨S8x8208x8, .f32⟩
  | .hbm, ⟨48, _⟩ => ⟨S8x8208x512, .f32⟩
  | .hbm, ⟨49, _⟩ => ⟨S8x8208x1024, .f32⟩
  | .hbm, ⟨50, _⟩ => ⟨S8x8208x256, .f32⟩
  | .hbm, ⟨51, _⟩ => ⟨S8x8208x256, .f32⟩
  | .hbm, ⟨52, _⟩ => ⟨S8x8208x256, .f32⟩
  | .hbm, ⟨53, _⟩ => ⟨S8x8208x192, .f32⟩
  | .hbm, ⟨54, _⟩ => ⟨S8x8208x128, .f32⟩
  | .hbm, ⟨55, _⟩ => ⟨S8x8208x32, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S512x2944, .bf16⟩
  | .local _ .vmem, ⟨5, _⟩ => ⟨S512x2944, .bf16⟩
  | .local _ .vmem, ⟨6, _⟩ => ⟨S512x512, .f32⟩
  | .local _ .vmem, ⟨7, _⟩ => ⟨S512x512, .f32⟩
  | _, _ => ⟨S8x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29_0 : Ref sig .tc := ⟨.hbm, 40, rfl⟩
abbrev main_v29_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2944 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8x8208x1024 : Shape := ⟨3, ![8, 8208, 1024]⟩
abbrev S1024 : Shape := ⟨1, ![1024]⟩
abbrev S1024x2664 : Shape := ⟨2, ![1024, 2664]⟩
abbrev S_ : Shape := ⟨0, ![]⟩
abbrev S8x8208 : Shape := ⟨2, ![8, 8208]⟩
abbrev S8x8208x1 : Shape := ⟨3, ![8, 8208, 1]⟩
abbrev S1x1x1024 : Shape := ⟨3, ![1, 1, 1024]⟩
abbrev S8x8208x2664 : Shape := ⟨3, ![8, 8208, 2664]⟩
abbrev S8x8208x512 : Shape := ⟨3, ![8, 8208, 512]⟩
abbrev S8x8208x8 : Shape := ⟨3, ![8, 8208, 8]⟩
abbrev S8x8208x256 : Shape := ⟨3, ![8, 8208, 256]⟩
abbrev S8x8208x192 : Shape := ⟨3, ![8, 8208, 192]⟩
abbrev S8x8208x128 : Shape := ⟨3, ![8, 8208, 128]⟩
abbrev S8x8208x32 : Shape := ⟨3, ![8, 8208, 32]⟩

abbrev nBuf : Space → Nat
  | .hbm => 32
  | .vmem => 0
  | .smem => 0
  | _ => 0

abbrev bufTy : (tb : Table) → Fin (tcTables nBuf tb) → BufTy
  | .hbm, ⟨0, _⟩ => ⟨S8x8208x1024, .f32⟩
  | .hbm, ⟨1, _⟩ => ⟨S1024, .f32⟩
  | .hbm, ⟨2, _⟩ => ⟨S1024x2664, .f32⟩
  | .hbm, ⟨3, _⟩ => ⟨S8x8208x1024, .f32⟩
  | .hbm, ⟨4, _⟩ => ⟨S_, .f32⟩
  | .hbm, ⟨5, _⟩ => ⟨S8x8208, .f32⟩
  | .hbm, ⟨6, _⟩ => ⟨S8x8208x1, .f32⟩
  | .hbm, ⟨7, _⟩ => ⟨S_, .f32⟩
  | .hbm, ⟨8, _⟩ => ⟨S8x8208x1, .f32⟩
  | .hbm, ⟨9, _⟩ => ⟨S8x8208x1, .f32⟩
  | .hbm, ⟨10, _⟩ => ⟨S_, .f32⟩
  | .hbm, ⟨11, _⟩ => ⟨S8x8208x1, .f32⟩
  | .hbm, ⟨12, _⟩ => ⟨S8x8208x1, .f32⟩
  | .hbm, ⟨13, _⟩ => ⟨S8x8208x1, .f32⟩
  | .hbm, ⟨14, _⟩ => ⟨S8x8208x1024, .f32⟩
  | .hbm, ⟨15, _⟩ => ⟨S8x8208x1024, .f32⟩
  | .hbm, ⟨16, _⟩ => ⟨S1x1x1024, .f32⟩
  | .hbm, ⟨17, _⟩ => ⟨S8x8208x1024, .f32⟩
  | .hbm, ⟨18, _⟩ => ⟨S8x8208x1024, .f32⟩
  | .hbm, ⟨19, _⟩ => ⟨S8x8208x2664, .f32⟩
  | .hbm, ⟨20, _⟩ => ⟨S8x8208x512, .f32⟩
  | .hbm, ⟨21, _⟩ => ⟨S8x8208x1024, .f32⟩
  | .hbm, ⟨22, _⟩ => ⟨S8x8208x8, .f32⟩
  | .hbm, ⟨23, _⟩ => ⟨S8x8208x256, .f32⟩
  | .hbm, ⟨24, _⟩ => ⟨S8x8208x256, .f32⟩
  | .hbm, ⟨25, _⟩ => ⟨S8x8208x256, .f32⟩
  | .hbm, ⟨26, _⟩ => ⟨S8x8208x192, .f32⟩
  | .hbm, ⟨27, _⟩ => ⟨S8x8208x128, .f32⟩
  | .hbm, ⟨28, _⟩ => ⟨S8x8208x32, .f32⟩
  | .hbm, ⟨29, _⟩ => ⟨S_, .f32⟩
  | .hbm, ⟨30, _⟩ => ⟨S8x8208x256, .f32⟩
  | .hbm, ⟨31, _⟩ => ⟨S8x8208x256, .f32⟩
  | _, _ => ⟨S8x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel3.lean ====
abbrev S8x8208x1024 : Shape := ⟨3, ![8, 8208, 1024]⟩
abbrev S1024 : Shape := ⟨1, ![1024]⟩
abbrev S_ : Shape := ⟨0, ![]⟩
abbrev S8x8448x1024 : Shape := ⟨3, ![8, 8448, 1024]⟩
abbrev S1x1024 : Shape := ⟨2, ![1, 1024]⟩
abbrev S8x8192x1024 : Shape := ⟨3, ![8, 8192, 1024]⟩
abbrev S1x512x1024 : Shape := ⟨3, ![1, 512, 1024]⟩
abbrev S1x16x1024 : Shape := ⟨3, ![1, 16, 1024]⟩
abbrev S1x496x1024 : Shape := ⟨3, ![1, 496, 1024]⟩
abbrev S496x1024 : Shape := ⟨2, ![496, 1024]⟩
abbrev S496 : Shape := ⟨1, ![496]⟩
abbrev S496x1 : Shape := ⟨2, ![496, 1]⟩
abbrev S16x1024 : Shape := ⟨2, ![16, 1024]⟩
abbrev S16 : Shape := ⟨1, ![16]⟩
abbrev S16x1 : Shape := ⟨2, ![16, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x8208x1024, .f32⟩
  | .hbm, ⟨1, _⟩ => ⟨S1024, .f32⟩
  | .hbm, ⟨2, _⟩ => ⟨S_, .i32⟩
  | .hbm, ⟨3, _⟩ => ⟨S_, .f32⟩
  | .hbm, ⟨4, _⟩ => ⟨S8x8448x1024, .f32⟩
  | .hbm, ⟨5, _⟩ => ⟨S1x1024, .f32⟩
  | .hbm, ⟨6, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x1024, .f32⟩
  | .local _ .vmem, ⟨5, _⟩ => ⟨S1x512x1024, .f32⟩
  | .local _ .vmem, ⟨6, _⟩ => ⟨S1x512x1024, .f32⟩
  | _, _ => ⟨S8x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c0_i32 : BitVec 32 := 0#32
  let c0_i32_0 : BitVec 32 := 0#32
  ![arg0.toNat, v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8x8208x1024 : Shape := ⟨3, ![8, 8208, 1024]⟩
abbrev S1024 : Shape := ⟨1, ![1024]⟩
abbrev S_ : Shape := ⟨0, ![]⟩
abbrev S8x8208 : Shape := ⟨2, ![8, 8208]⟩
abbrev S8x8208x1 : Shape := ⟨3, ![8, 8208, 1]⟩
abbrev S1x1x1024 : Shape := ⟨3, ![1, 1, 1024]⟩
abbrev S8x8192x1024 : Shape := ⟨3, ![8, 8192, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8x8208x1024, .f32⟩
  | .hbm, ⟨1, _⟩ => ⟨S1024, .f32⟩
  | .hbm, ⟨2, _⟩ => ⟨S8x8208x1024, .f32⟩
  | .hbm, ⟨3, _⟩ => ⟨S_, .f32⟩
  | .hbm, ⟨4, _⟩ => ⟨S8x8208, .f32⟩
  | .hbm, ⟨5, _⟩ => ⟨S8x8208x1, .f32⟩
  | .hbm, ⟨6, _⟩ => ⟨S_, .f32⟩
  | .hbm, ⟨7, _⟩ => ⟨S8x8208x1, .f32⟩
  | .hbm, ⟨8, _⟩ => ⟨S8x8208x1, .f32⟩
  | .hbm, ⟨9, _⟩ => ⟨S_, .f32⟩
  | .hbm, ⟨10, _⟩ => ⟨S8x8208x1, .f32⟩
  | .hbm, ⟨11, _⟩ => ⟨S8x8208x1, .f32⟩
  | .hbm, ⟨12, _⟩ => ⟨S8x8208x1, .f32⟩
  | .hbm, ⟨13, _⟩ => ⟨S8x8208x1024, .f32⟩
  | .hbm, ⟨14, _⟩ => ⟨S8x8208x1024, .f32⟩
  | .hbm, ⟨15, _⟩ => ⟨S1x1x1024, .f32⟩
  | .hbm, ⟨16, _⟩ => ⟨S8x8208x1024, .f32⟩
  | .hbm, ⟨17, _⟩ => ⟨S8x8208x1024, .f32⟩
  | .hbm, ⟨18, _⟩ => ⟨S8x8192x1024, .f32⟩
  | _, _ => ⟨S8x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel4.lean ====
abbrev S8x8208x512 : Shape := ⟨3, ![8, 8208, 512]⟩
abbrev S8x8208x1024 : Shape := ⟨3, ![8, 8208, 1024]⟩
abbrev S8x8208x8 : Shape := ⟨3, ![8, 8208, 8]⟩
abbrev S4x1024 : Shape := ⟨2, ![4, 1024]⟩
abbrev S1024 : Shape := ⟨1, ![1024]⟩
abbrev S8 : Shape := ⟨1, ![8]⟩
abbrev S512 : Shape := ⟨1, ![512]⟩
abbrev S_ : Shape := ⟨0, ![]⟩
abbrev S8x8208x1408 : Shape := ⟨3, ![8, 8208, 1408]⟩
abbrev S8x8208x2944 : Shape := ⟨3, ![8, 8208, 2944]⟩
abbrev S8x8448x2944 : Shape := ⟨3, ![8, 8448, 2944]⟩
abbrev S8x8208x8x64 : Shape := ⟨4, ![8, 8208, 8, 64]⟩
abbrev S8x8448x512 : Shape := ⟨3, ![8, 8448, 512]⟩
abbrev S1x1024 : Shape := ⟨2, ![1, 1024]⟩
abbrev S8x64 : Shape := ⟨2, ![8, 64]⟩
abbrev S1x512 : Shape := ⟨2, ![1, 512]⟩
abbrev S1x128x512 : Shape := ⟨3, ![1, 128, 512]⟩
abbrev S1x128x1024 : Shape := ⟨3, ![1, 128, 1024]⟩
abbrev S136x1024 : Shape := ⟨2, ![136, 1024]⟩
abbrev S2x128x256 : Shape := ⟨3, ![2, 128, 256]⟩
abbrev S8x1024 : Shape := ⟨2, ![8, 1024]⟩
abbrev S128x1024 : Shape := ⟨2, ![128, 1024]⟩
abbrev S128x512 : Shape := ⟨2, ![128, 512]⟩
abbrev S128x256 : Shape := ⟨2, ![128, 256]⟩
abbrev S512x128 : Shape := ⟨2, ![512, 128]⟩
abbrev S128x128 : Shape := ⟨2, ![128, 128]⟩
abbrev S128x1 : Shape := ⟨2, ![128, 1]⟩
abbrev S1x128 : Shape := ⟨2, ![1, 128]⟩
abbrev S1x128x256 : Shape := ⟨3, ![1, 128, 256]⟩
abbrev S1x256 : Shape := ⟨2, ![1, 256]⟩
abbrev S128 : Shape := ⟨1, ![128]⟩

abbrev nBuf : Space → Nat
  | .hbm => 35
  | .vmem => 16
  | .smem => 0
  | _ => 0

abbrev bufTy : (tb : Table) → Fin (tcTables nBuf tb) → BufTy
  | .hbm, ⟨0, _⟩ => ⟨S8x8208x512, .f32⟩
  | .hbm, ⟨1, _⟩ => ⟨S8x8208x1024, .f32⟩
  | .hbm, ⟨2, _⟩ => ⟨S8x8208x8, .f32⟩
  | .hbm, ⟨3, _⟩ => ⟨S4x1024, .f32⟩
  | .hbm, ⟨4, _⟩ => ⟨S1024, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S512, .f32⟩
  | .hbm, ⟨9, _⟩ => ⟨S_, .f32⟩
  | .hbm, ⟨10, _⟩ => ⟨S8x8208x1408, .f32⟩
  | .hbm, ⟨11, _⟩ => ⟨S8x8208x2944, .f32⟩
  | .hbm, ⟨12, _⟩ => ⟨S_, .i32⟩
  | .hbm, ⟨13, _⟩ => ⟨S_, .f32⟩
  | .hbm, ⟨14, _⟩ => ⟨S8x8448x2944, .f32⟩
  | .hbm, ⟨15, _⟩ => ⟨S8x8448x2944, .bf16⟩
  | .hbm, ⟨16, _⟩ => ⟨S8x8208x8x64, .f32⟩
  | .hbm, ⟨17, _⟩ => ⟨S8x8208x512, .f32⟩
  | .hbm, ⟨18, _⟩ => ⟨S_, .i32⟩
  | .hbm, ⟨19, _⟩ => ⟨S_, .f32⟩
  | .hbm, ⟨20, _⟩ => ⟨S8x8448x512, .f32⟩
  | .hbm, ⟨21, _⟩ => ⟨S1x1024, .f32⟩
  | .hbm, ⟨22, _⟩ => ⟨S8x64, .f32⟩
  | .hbm, ⟨23, _⟩ => ⟨S512, .f32⟩
  | .hbm, ⟨24, _⟩ => ⟨S1x512, .f32⟩
  | .hbm, ⟨25, _⟩ => ⟨S8x64, .f32⟩
  | .hbm, ⟨26, _⟩ => ⟨S512, .f32⟩
  | .hbm, ⟨27, _⟩ => ⟨S1x512, .f32⟩
  | .hbm, ⟨28, _⟩ => ⟨S8x64, .f32⟩
  | .hbm, ⟨29, _⟩ => ⟨S512, .f32⟩
  | .hbm, ⟨30, _⟩ => ⟨S1x512, .f32⟩
  | .hbm, ⟨31, _⟩ => ⟨S1x512, .f32⟩
  | .hbm, ⟨32, _⟩ => ⟨S8x8448x512, .bf16⟩
  | .hbm, ⟨33, _⟩ => ⟨S8x8208x512, .bf16⟩
  | .hbm, ⟨34, _⟩ => ⟨S8x8208x512, .f32⟩
  | .local _ .vmem, ⟨0, _⟩ => ⟨S1x128x512, .bf16⟩
  | .local _ .vmem, ⟨1, _⟩ => ⟨S1x128x512, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x512, .f32⟩
  | .local _ .vmem, ⟨5, _⟩ => ⟨S1x128x512, .f32⟩
  | .local _ .vmem, ⟨6, _⟩ => ⟨S4x1024, .f32⟩
  | .local _ .vmem, ⟨7, _⟩ => ⟨S1x1024, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x128x512, .bf16⟩
  | .local _ .vmem, ⟨13, _⟩ => ⟨S1x128x512, .bf16⟩
  | .local _ .vmem, ⟨14, _⟩ => ⟨S136x1024, .f32⟩
  | .local _ .vmem, ⟨15, _⟩ => ⟨S2x128x256, .f32⟩
  | _, _ => ⟨S8x8208x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_call1_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 66], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel4Ideal.lean ====
variable {F : FTy → Type} [FloatOps F] [Named F]
def κ : String → Option EReal := fun
  | "neg_log2e" => some ((-((Real.log 2)⁻¹) : ℝ) : EReal)
  | _ => none
-- ==== Reference4Ideal.lean ====
abbrev S8x8208x512 : Shape := ⟨3, ![8, 8208, 512]⟩
abbrev S8x8208x1024 : Shape := ⟨3, ![8, 8208, 1024]⟩
abbrev S8x8208x8 : Shape := ⟨3, ![8, 8208, 8]⟩
abbrev S4x1024 : Shape := ⟨2, ![4, 1024]⟩
abbrev S1024 : Shape := ⟨1, ![1024]⟩
abbrev S8 : Shape := ⟨1, ![8]⟩
abbrev S512 : Shape := ⟨1, ![512]⟩
abbrev S_ : Shape := ⟨0, ![]⟩
abbrev S8x8211x1024 : Shape := ⟨3, ![8, 8211, 1024]⟩
abbrev S1x1024 : Shape := ⟨2, ![1, 1024]⟩
abbrev S1x1x1024 : Shape := ⟨3, ![1, 1, 1024]⟩
abbrev S8x8208x8x64 : Shape := ⟨4, ![8, 8208, 8, 64]⟩
abbrev S8x8208x256 : Shape := ⟨3, ![8, 8208, 256]⟩
abbrev S8x8208x2x128 : Shape := ⟨4, ![8, 8208, 2, 128]⟩
abbrev S1x1x8 : Shape := ⟨3, ![1, 1, 8]⟩
abbrev S8x8208x8x1 : Shape := ⟨4, ![8, 8208, 8, 1]⟩
abbrev S8x8208x2x4x64 : Shape := ⟨5, ![8, 8208, 2, 4, 64]⟩
abbrev S8x8208x2x4 : Shape := ⟨4, ![8, 8208, 2, 4]⟩
abbrev S8208x8208 : Shape := ⟨2, ![8208, 8208]⟩
abbrev S8x8208x1x2x4 : Shape := ⟨5, ![8, 8208, 1, 2, 4]⟩
abbrev S8x1x8208x2x4 : Shape := ⟨5, ![8, 1, 8208, 2, 4]⟩
abbrev S8x8208x8208x2x4 : Shape := ⟨5, ![8, 8208, 8208, 2, 4]⟩
abbrev S8208x8208x1x1 : Shape := ⟨4, ![8208, 8208, 1, 1]⟩
abbrev S8x2x8208x8208 : Shape := ⟨4, ![8, 2, 8208, 8208]⟩
abbrev S8x8208x8208x2 : Shape := ⟨4, ![8, 8208, 8208, 2]⟩
abbrev S8x8208x8208x2x1 : Shape := ⟨5, ![8, 8208, 8208, 2, 1]⟩
abbrev S8x2x4x64x8208 : Shape := ⟨5, ![8, 2, 4, 64, 8208]⟩
abbrev S8x1 : Shape := ⟨2, ![8, 1]⟩
abbrev S1x1x8x1 : Shape := ⟨4, ![1, 1, 8, 1]⟩
abbrev S8x8208 : Shape := ⟨2, ![8, 8208]⟩
abbrev S8x8208x1 : Shape := ⟨3, ![8, 8208, 1]⟩
abbrev S1x1x512 : Shape := ⟨3, ![1, 1, 512]⟩

abbrev nBuf : Space → Nat
  | .hbm => 150
  | .vmem => 0
  | .smem => 0
  | _ => 0

abbrev hbmTy0_0 (i : Nat) : BufTy := match i % 128 with
  | 0 => ⟨S8x8208x512, .f32⟩
  | 1 => ⟨S8x8208x1024, .f32⟩
  | 2 => ⟨S8x8208x8, .f32⟩
  | 3 => ⟨S4x1024, .f32⟩
  | 4 => ⟨S1024, .f32⟩
  | 5 => ⟨S8, .f32⟩
  | 6 => ⟨S8, .f32⟩
  | 7 => ⟨S8, .f32⟩
  | 8 => ⟨S512, .f32⟩
  | 9 => ⟨S_, .i32⟩
  | 10 => ⟨S_, .f32⟩
  | 11 => ⟨S8x8211x1024, .f32⟩
  | 12 => ⟨S8x8208x1024, .f32⟩
  | 13 => ⟨S1x1024, .f32⟩
  | 14 => ⟨S1024, .f32⟩
  | 15 => ⟨S1x1x1024, .f32⟩
  | 16 => ⟨S8x8208x1024, .f32⟩
  | 17 => ⟨S8x8208x1024, .f32⟩
  | 18 => ⟨S8x8208x1024, .f32⟩
  | 19 => ⟨S1x1024, .f32⟩
  | 20 => ⟨S1024, .f32⟩
  | 21 => ⟨S1x1x1024, .f32⟩
  | 22 => ⟨S8x8208x1024, .f32⟩
  | 23 => ⟨S8x8208x1024, .f32⟩
  | 24 => ⟨S8x8208x1024, .f32⟩
  | 25 => ⟨S8x8208x1024, .f32⟩
  | 26 => ⟨S1x1024, .f32⟩
  | 27 => ⟨S1024, .f32⟩
  | 28 => ⟨S1x1x1024, .f32⟩
  | 29 => ⟨S8x8208x1024, .f32⟩
  | 30 => ⟨S8x8208x1024, .f32⟩
  | 31 => ⟨S8x8208x1024, .f32⟩
  | 32 => ⟨S8x8208x1024, .f32⟩
  | 33 => ⟨S1x1024, .f32⟩
  | 34 => ⟨S1024, .f32⟩
  | 35 => ⟨S1x1x1024, .f32⟩
  | 36 => ⟨S8x8208x1024, .f32⟩
  | 37 => ⟨S8x8208x1024, .f32⟩
  | 38 => ⟨S8x8208x1024, .f32⟩
  | 39 => ⟨S1x1x1024, .f32⟩
  | 40 => ⟨S8x8208x1024, .f32⟩
  | 41 => ⟨S8x8208x1024, .f32⟩
  | 42 => ⟨S8x8208x1024, .f32⟩
  | 43 => ⟨S8x8208x1024, .f32⟩
  | 44 => ⟨S_, .f32⟩
  | 45 => ⟨S8x8208x1024, .f32⟩
  | 46 => ⟨S8x8208x1024, .f32⟩
  | 47 => ⟨S_, .f32⟩
  | 48 => ⟨S8x8208x1024, .f32⟩
  | 49 => ⟨S8x8208x1024, .f32⟩
  | 50 => ⟨S8x8208x1024, .f32⟩
  | 51 => ⟨S8x8208x512, .f32⟩
  | 52 => ⟨S8x8208x8x64, .f32⟩
  | 53 => ⟨S8x8208x256, .f32⟩
  | 54 => ⟨S8x8208x2x128, .f32⟩
  | 55 => ⟨S8x8208x256, .f32⟩
  | 56 => ⟨S8x8208x2x128, .f32⟩
  | 57 => ⟨S1x1x8, .f32⟩
  | 58 => ⟨S8x8208x8, .f32⟩
  | 59 => ⟨S8x8208x8, .f32⟩
  | 60 => ⟨S_, .f32⟩
  | 61 => ⟨S8x8208x8, .f32⟩
  | 62 => ⟨S8x8208x8, .f32⟩
  | 63 => ⟨S8x8208x8, .f32⟩
  | 64 => ⟨S8x8208x8, .f32⟩
  | 65 => ⟨S8x8208x8, .i1⟩
  | 66 => ⟨S8x8208x8, .f32⟩
  | 67 => ⟨S8x8208x8, .f32⟩
  | 68 => ⟨S8x8208x8, .f32⟩
  | 69 => ⟨S8x8208x8, .f32⟩
  | 70 => ⟨S8x8208x8, .f32⟩
  | 71 => ⟨S8x8208x8, .f32⟩
  | 72 => ⟨S8x8208x8, .f32⟩
  | 73 => ⟨S8x8208x8, .f32⟩
  | 74 => ⟨S8, .f32⟩
  | 75 => ⟨S8, .f32⟩
  | 76 => ⟨S8x8208x8x1, .f32⟩
  | 77 => ⟨S8x8208x8x64, .f32⟩
  | 78 => ⟨S8x8208x8x64, .f32⟩
  | 79 => ⟨S8x8208x2x4x64, .f32⟩
  | 80 => ⟨S1x1x8, .f32⟩
  | 81 => ⟨S8x8208x8, .f32⟩
  | 82 => ⟨S8x8208x8, .f32⟩
  | 83 => ⟨S8x8208x2x4, .f32⟩
  | 84 => ⟨S_, .f32⟩
  | 85 => ⟨S_, .f32⟩
  | 86 => ⟨S8x8208x2x4, .f32⟩
  | 87 => ⟨S_, .i1⟩
  | 88 => ⟨S8208x8208, .i1⟩
  | 89 => ⟨S8208x8208, .i32⟩
  | 90 => ⟨S_, .i32⟩
  | 91 => ⟨S8208x8208, .i32⟩
  | 92 => ⟨S8208x8208, .i32⟩
  | 93 => ⟨S8208x8208, .i32⟩
  | 94 => ⟨S8208x8208, .i1⟩
  | 95 => ⟨S_, .i1⟩
  | 96 => ⟨S8208x8208, .i1⟩
  | 97 => ⟨S8208x8208, .i1⟩
  | 98 => ⟨S8x8208x1x2x4, .f32⟩
  | 99 => ⟨S8x1x8208x2x4, .f32⟩
  | 100 => ⟨S8x8208x8208x2x4, .f32⟩
  | 101 => ⟨S8x8208x8208x2x4, .f32⟩
  | 102 => ⟨S8x8208x8208x2x4, .f32⟩
  | 103 => ⟨S8208x8208x1x1, .i1⟩
  | 104 => ⟨S_, .f32⟩
  | 105 => ⟨S_, .f32⟩
  | 106 => ⟨S8x8208x8208x2x4, .i1⟩
  | 107 => ⟨S8x8208x8208x2x4, .f32⟩
  | 108 => ⟨S8x8208x8208x2x4, .f32⟩
  | 109 => ⟨S8x8208x8208x2x4, .f32⟩
  | 110 => ⟨S8x2x8208x8208, .f32⟩
  | 111 => ⟨S8x8208x8208x2, .f32⟩
  | 112 => ⟨S8x8208x8208x2x1, .f32⟩
  | 113 => ⟨S8x8208x8208x2x4, .f32⟩
  | 114 => ⟨S8x8208x8208x2x4, .f32⟩
  | 115 => ⟨S8x2x4x64x8208, .f32⟩
  | 116 => ⟨S8x8208x2x4x64, .f32⟩
  | 117 => ⟨S8x8208x512, .f32⟩
  | 118 => ⟨S8x1, .f32⟩
  | 119 => ⟨S1x1x8x1, .f32⟩
  | 120 => ⟨S8x8208x8x64, .f32⟩
  | 121 => ⟨S8x8208x8x64, .f32⟩
  | 122 => ⟨S8x8208x512, .f32⟩
  | 123 => ⟨S8x8208x512, .f32⟩
  | 124 => ⟨S8x8208x512, .f32⟩
  | 125 => ⟨S8x8208x512, .f32⟩
  | 126 => ⟨S_, .f32⟩
  | 127 => ⟨S8x8208x512, .f32⟩
  | _ => ⟨S8x8208x512, .f32⟩

abbrev hbmTy0_1 (i : Nat) : BufTy := match i % 128 with
  | 0 => ⟨S8x8208x512, .f32⟩
  | 1 => ⟨S_, .f32⟩
  | 2 => ⟨S8x8208x512, .f32⟩
  | 3 => ⟨S8x8208x512, .f32⟩
  | 4 => ⟨S8x8208x512, .f32⟩
  | 5 => ⟨S8x8208x512, .f32⟩
  | 6 => ⟨S8x8208x512, .f32⟩
  | 7 => ⟨S_, .f32⟩
  | 8 => ⟨S8x8208, .f32⟩
  | 9 => ⟨S8x8208x1, .f32⟩
  | 10 => ⟨S_, .f32⟩
  | 11 => ⟨S8x8208x1, .f32⟩
  | 12 => ⟨S8x8208x1, .f32⟩
  | 13 => ⟨S_, .f32⟩
  | 14 => ⟨S8x8208x1, .f32⟩
  | 15 => ⟨S8x8208x1, .f32⟩
  | 16 => ⟨S8x8208x1, .f32⟩
  | 17 => ⟨S8x8208x512, .f32⟩
  | 18 => ⟨S8x8208x512, .f32⟩
  | 19 => ⟨S1x1x512, .f32⟩
  | 20 => ⟨S8x8208x512, .f32⟩
  | 21 => ⟨S8x8208x512, .f32⟩
  | _ => ⟨S8x8208x512, .f32⟩

abbrev hbmTy (i : Nat) : BufTy := match i / 128 with
  | 0 => hbmTy0_0 i
  | 1 => hbmTy0_1 i
  | _ => ⟨S8x8208x512, .f32⟩

abbrev bufTy : (tb : Table) → Fin (tcTables nBuf tb) → BufTy
  | .hbm, ⟨i, _⟩ => hbmTy i
  | _, _ => ⟨S8x8208x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call2_cst : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_call3_call0_cst : Ref sig .tc := ⟨.hbm, 84, rfl⟩
abbrev main_call3_call0_v0 : Ref sig .tc := ⟨.hbm, 85, rfl⟩
abbrev main_v52 : Ref sig .tc := ⟨.hbm, 86, rfl⟩
abbrev main_c_0 : Ref sig .tc := ⟨.hbm, 87, rfl⟩
abbrev main_v53 : Ref sig .tc := ⟨.hbm, 88, rfl⟩
abbrev main_call4_v0 : Ref sig .tc := ⟨.hbm, 89, rfl⟩
abbrev main_call4_c : Ref sig .tc := ⟨.hbm, 90, rfl⟩
abbrev main_call4_v1 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_call4_c_0 : Ref sig .tc := ⟨.hbm, 95, rfl⟩
abbrev main_call4_v5 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst : Ref sig .tc := ⟨.hbm, 104, rfl⟩
abbrev main_call5_v0 : Ref sig .tc := ⟨.hbm, 105, rfl⟩
abbrev main_call5_v1 : Ref sig .tc := ⟨.hbm, 106, rfl⟩
abbrev main_call5_v2 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_call6_v0 : Ref sig .tc := ⟨.hbm, 124, rfl⟩
abbrev main_call6_v1 : Ref sig .tc := ⟨.hbm, 125, rfl⟩
abbrev main_call6_cst : Ref sig .tc := ⟨.hbm, 126, rfl⟩
abbrev main_call6_v2 : Ref sig .tc := ⟨.hbm, 127, rfl⟩
abbrev main_call6_v3 : Ref sig .tc := ⟨.hbm, 128, rfl⟩
abbrev main_call6_cst_0 : Ref sig .tc := ⟨.hbm, 129, rfl⟩
abbrev main_call6_v4 : Ref sig .tc := ⟨.hbm, 130, rfl⟩
abbrev main_call6_v5 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_cst_1 : Ref sig .tc := ⟨.hbm, 135, rfl⟩
abbrev main_v80 : Ref sig .tc := ⟨.hbm, 136, rfl⟩
abbrev main_v81 : Ref sig .tc := ⟨.hbm, 137, rfl⟩
abbrev main_cst_2 : Ref sig .tc := ⟨.hbm, 138, rfl⟩
abbrev main_v82 : Ref sig .tc := ⟨.hbm, 139, rfl⟩
abbrev main_v83 : Ref sig .tc := ⟨.hbm, 140, rfl⟩
abbrev main_cst_3 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩

abbrev nD : Nat := 1
abbrev τ : Topo := Topo.v7x

variable {F : FTy → Type} [FloatOps F]
-- ==== Kernel5.lean ====
abbrev S8x8208x192 : Shape := ⟨3, ![8, 8208, 192]⟩
abbrev S8x8208x128 : Shape := ⟨3, ![8, 8208, 128]⟩
abbrev S8x8208x32 : Shape := ⟨3, ![8, 8208, 32]⟩
abbrev S192 : Shape := ⟨1, ![192]⟩
abbrev S128 : Shape := ⟨1, ![128]⟩
abbrev S192x384 : Shape := ⟨2, ![192, 384]⟩
abbrev S128x512 : Shape := ⟨2, ![128, 512]⟩
abbrev S8x8208x16 : Shape := ⟨3, ![8, 8208, 16]⟩
abbrev S_ : Shape := ⟨0, ![]⟩
abbrev S8x8208x2304 : Shape := ⟨3, ![8, 8208, 2304]⟩
abbrev S8x8208x64 : Shape := ⟨3, ![8, 8208, 64]⟩
abbrev S8x8208x96 : Shape := ⟨3, ![8, 8208, 96]⟩
abbrev S8x8208x2944 : Shape := ⟨3, ![8, 8208, 2944]⟩
abbrev S8x8448x2944 : Shape := ⟨3, ![8, 8448, 2944]⟩
abbrev S67584x2944 : Shape := ⟨2, ![67584, 2944]⟩
abbrev S8448 : Shape := ⟨1, ![8448]⟩
abbrev S16 : Shape := ⟨1, ![16]⟩
abbrev S8448x1 : Shape := ⟨2, ![8448, 1]⟩
abbrev S1x16 : Shape := ⟨2, ![1, 16]⟩
abbrev S8448x16 : Shape := ⟨2, ![8448, 16]⟩
abbrev S8448x32 : Shape := ⟨2, ![8448, 32]⟩
abbrev S8448x64 : Shape := ⟨2, ![8448, 64]⟩
abbrev S8448x128 : Shape := ⟨2, ![8448, 128]⟩
abbrev S192x4x96 : Shape := ⟨3, ![192, 4, 96]⟩
abbrev S192x4x32 : Shape := ⟨3, ![192, 4, 32]⟩
abbrev S192x4x64 : Shape := ⟨3, ![192, 4, 64]⟩
abbrev S192x4x16 : Shape := ⟨3, ![192, 4, 16]⟩
abbrev S192x4x128 : Shape := ⟨3, ![192, 4, 128]⟩
abbrev S192x512 : Shape := ⟨2, ![192, 512]⟩
abbrev S64x512 : Shape := ⟨2, ![64, 512]⟩
abbrev S256x512 : Shape := ⟨2, ![256, 512]⟩
abbrev S128x4x128 : Shape := ⟨3, ![128, 4, 128]⟩
abbrev S128x4x64 : Shape := ⟨3, ![128, 4, 64]⟩
abbrev S128x256 : Shape := ⟨2, ![128, 256]⟩
abbrev S256x128 : Shape := ⟨2, ![256, 128]⟩
abbrev S64 : Shape := ⟨1, ![64]⟩
abbrev S256 : Shape := ⟨1, ![256]⟩
abbrev S1x256 : Shape := ⟨2, ![1, 256]⟩
abbrev S1x128 : Shape := ⟨2, ![1, 128]⟩
abbrev S67584x512 : Shape := ⟨2, ![67584, 512]⟩
abbrev S8x256x8448 : Shape := ⟨3, ![8, 256, 8448]⟩
abbrev S768x256 : Shape := ⟨2, ![768, 256]⟩
abbrev S768x128 : Shape := ⟨2, ![768, 128]⟩
abbrev S768x512 : Shape := ⟨2, ![768, 512]⟩
abbrev S1x256x768 : Shape := ⟨3, ![1, 256, 768]⟩
abbrev S768 : Shape := ⟨1, ![768]⟩
abbrev S768x1 : Shape := ⟨2, ![768, 1]⟩
abbrev S256x768 : Shape := ⟨2, ![256, 768]⟩
abbrev S8x8448x4x128 : Shape := ⟨4, ![8, 8448, 4, 128]⟩
abbrev S8x8208x4x96 : Shape := ⟨4, ![8, 8208, 4, 96]⟩
abbrev S8x8448x256 : Shape := ⟨3, ![8, 8448, 256]⟩
abbrev S8x8448x4x64 : Shape := ⟨4, ![8, 8448, 4, 64]⟩
abbrev S8x8208x4x64 : Shape := ⟨4, ![8, 8208, 4, 64]⟩

abbrev nBuf : Space → Nat
  | .hbm => 112
  | .vmem => 24
  | .smem => 0
  | _ => 0

abbrev bufTy : (tb : Table) → Fin (tcTables nBuf tb) → BufTy
  | .hbm, ⟨0, _⟩ => ⟨S8x8208x192, .f32⟩
  | .hbm, ⟨1, _⟩ => ⟨S8x8208x128, .f32⟩
  | .hbm, ⟨2, _⟩ => ⟨S8x8208x32, .f32⟩
  | .hbm, ⟨3, _⟩ => ⟨S192, .f32⟩
  | .hbm, ⟨4, _⟩ => ⟨S128, .f32⟩
  | .hbm, ⟨5, _⟩ => ⟨S192x384, .f32⟩
  | .hbm, ⟨6, _⟩ => ⟨S128x512, .f32⟩
  | .hbm, ⟨7, _⟩ => ⟨S8x8208x16, .f32⟩
  | .hbm, ⟨8, _⟩ => ⟨S8x8208x16, .f32⟩
  | .hbm, ⟨9, _⟩ => ⟨S8x8208x16, .f32⟩
  | .hbm, ⟨10, _⟩ => ⟨S8x8208x32, .f32⟩
  | .hbm, ⟨11, _⟩ => ⟨S_, .f32⟩
  | .hbm, ⟨12, _⟩ => ⟨S8x8208x2304, .f32⟩
  | .hbm, ⟨13, _⟩ => ⟨S_, .f32⟩
  | .hbm, ⟨14, _⟩ => ⟨S8x8208x64, .f32⟩
  | .hbm, ⟨15, _⟩ => ⟨S_, .f32⟩
  | .hbm, ⟨16, _⟩ => ⟨S8x8208x64, .f32⟩
  | .hbm, ⟨17, _⟩ => ⟨S_, .f32⟩
  | .hbm, ⟨18, _⟩ => ⟨S8x8208x96, .f32⟩
  | .hbm, ⟨19, _⟩ => ⟨S_, .f32⟩
  | .hbm, ⟨20, _⟩ => ⟨S8x8208x32, .f32⟩
  | .hbm, ⟨21, _⟩ => ⟨S8x8208x2944, .f32⟩
  | .hbm, ⟨22, _⟩ => ⟨S_, .i32⟩
  | .hbm, ⟨23, _⟩ => ⟨S_, .f32⟩
  | .hbm, ⟨24, _⟩ => ⟨S8x8448x2944, .f32⟩
  | .hbm, ⟨25, _⟩ => ⟨S8x8448x2944, .bf16⟩
  | .hbm, ⟨26, _⟩ => ⟨S67584x2944, .bf16⟩
  | .hbm, ⟨27, _⟩ => ⟨S8448, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S8448x1, .f32⟩
  | .hbm, ⟨45, _⟩ => ⟨S1x16, .f32⟩
  | .hbm, ⟨46, _⟩ => ⟨S8448x16, .f32⟩
  | .hbm, ⟨47, _⟩ => ⟨S8448x16, .f32⟩
  | .hbm, ⟨48, _⟩ => ⟨S8448x16, .f32⟩
  | .hbm, ⟨49, _⟩ => ⟨S8448x32, .f32⟩
  | .hbm, ⟨50, _⟩ => ⟨S_, .f32⟩
  | .hbm, ⟨51, _⟩ => ⟨S8448x64, .f32⟩
  | .hbm, ⟨52, _⟩ => ⟨S8448x32, .f32⟩
  | .hbm, ⟨53, _⟩ => ⟨S_, .f32⟩
  | .hbm, ⟨54, _⟩ => ⟨S8448x32, .f32⟩
  | .hbm, ⟨55, _⟩ => ⟨S8448x128, .f32⟩
  | .hbm, ⟨56, _⟩ => ⟨S_, .f32⟩
  | .hbm, ⟨57, _⟩ => ⟨S8448x64, .f32⟩
  | .hbm, ⟨58, _⟩ => ⟨S8448x64, .f32⟩
  | .hbm, ⟨59, _⟩ => ⟨S8448x32, .f32⟩
  | .hbm, ⟨60, _⟩ => ⟨S_, .f32⟩
  | .hbm, ⟨61, _⟩ => ⟨S8448x32, .f32⟩
  | .hbm, ⟨62, _⟩ => ⟨S8448x128, .f32⟩
  | .hbm, ⟨63, _⟩ => ⟨S192x4x96, .f32⟩
  | .hbm, ⟨64, _⟩ => ⟨S_, .f32⟩
  | .hbm, ⟨65, _⟩ => ⟨S192x4x32, .f32⟩
  | .hbm, ⟨66, _⟩ => ⟨S_, .f32⟩
  | .hbm, ⟨67, _⟩ => ⟨S192x4x64, .f32⟩
  | .hbm, ⟨68, _⟩ => ⟨S192x4x32, .f32⟩
  | .hbm, ⟨69, _⟩ => ⟨S192x4x16, .f32⟩
  | .hbm, ⟨70, _⟩ => ⟨S192x4x16, .f32⟩
  | .hbm, ⟨71, _⟩ => ⟨S192x4x16, .f32⟩
  | .hbm, ⟨72, _⟩ => ⟨S192x4x32, .f32⟩
  | .hbm, ⟨73, _⟩ => ⟨S192x4x128, .f32⟩
  | .hbm, ⟨74, _⟩ => ⟨S192x512, .f32⟩
  | .hbm, ⟨75, _⟩ => ⟨S192x4x128, .f32⟩
  | .hbm, ⟨76, _⟩ => ⟨S192x512, .f32⟩
  | .hbm, ⟨77, _⟩ => ⟨S_, .f32⟩
  | .hbm, ⟨78, _⟩ => ⟨S64x512, .f32⟩
  | .hbm, ⟨79, _⟩ => ⟨S256x512, .f32⟩
  | .hbm, ⟨80, _⟩ => ⟨S256x512, .bf16⟩
  | .hbm, ⟨81, _⟩ => ⟨S256x512, .f32⟩
  | .hbm, ⟨82, _⟩ => ⟨S256x512, .bf16⟩
  | .hbm, ⟨83, _⟩ => ⟨S128x4x128, .f32⟩
  | .hbm, ⟨84, _⟩ => ⟨S_, .f32⟩
  | .hbm, ⟨85, _⟩ => ⟨S128x4x64, .f32⟩
  | .hbm, ⟨86, _⟩ => ⟨S128x4x64, .f32⟩
  | .hbm, ⟨87, _⟩ => ⟨S128x4x128, .f32⟩
  | .hbm, ⟨88, _⟩ => ⟨S128x512, .f32⟩
  | .hbm, ⟨89, _⟩ => ⟨S128x4x64, .f32⟩
  | .hbm, ⟨90, _⟩ => ⟨S128x256, .f32⟩
  | .hbm, ⟨91, _⟩ => ⟨S256x128, .f32⟩
  | .hbm, ⟨92, _⟩ => ⟨S128x512, .bf16⟩
  | .hbm, ⟨93, _⟩ => ⟨S256x128, .bf16⟩
  | .hbm, ⟨94, _⟩ => ⟨S_, .f32⟩
  | .hbm, ⟨95, _⟩ => ⟨S64, .f32⟩
  | .hbm, ⟨96, _⟩ => ⟨S256, .f32⟩
  | .hbm, ⟨97, _⟩ => ⟨S1x256, .f32⟩
  | .hbm, ⟨98, _⟩ => ⟨S1x128, .f32⟩
  | .hbm, ⟨99, _⟩ => ⟨S67584x512, .bf16⟩
  | .hbm, ⟨100, _⟩ => ⟨S67584x512, .bf16⟩
  | .hbm, ⟨101, _⟩ => ⟨S8x256x8448, .bf16⟩
  | .hbm, ⟨102, _⟩ => ⟨S8x8448x4x128, .bf16⟩
  | .hbm, ⟨103, _⟩ => ⟨S8x8208x4x96, .bf16⟩
  | .hbm, ⟨104, _⟩ => ⟨S8x8208x4x96, .f32⟩
  | .hbm, ⟨105, _⟩ => ⟨S8x8448x4x128, .bf16⟩
  | .hbm, ⟨106, _⟩ => ⟨S8x8208x4x96, .bf16⟩
  | .hbm, ⟨107, _⟩ => ⟨S8x8208x4x96, .f32⟩
  | .hbm, ⟨108, _⟩ => ⟨S8x8448x256, .bf16⟩
  | .hbm, ⟨109, _⟩ => ⟨S8x8448x4x64, .bf16⟩
  | .hbm, ⟨110, _⟩ => ⟨S8x8208x4x64, .bf16⟩
  | .hbm, ⟨111, _⟩ => ⟨S8x8208x4x64, .f32⟩
  | .local _ .vmem, ⟨0, _⟩ => ⟨S768x256, .bf16⟩
  | .local _ .vmem, ⟨1, _⟩ => ⟨S768x256, .bf16⟩
  | .local _ .vmem, ⟨2, _⟩ => ⟨S768x128, .bf16⟩
  | .local _ .vmem, ⟨3, _⟩ => ⟨S768x128, .bf16⟩
  | .local _ .vmem, ⟨4, _⟩ => ⟨S768x128, .bf16⟩
  | .local _ .vmem, ⟨5, _⟩ => ⟨S768x128, .bf16⟩
  | .local _ .vmem, ⟨6, _⟩ => ⟨S768x128, .bf16⟩
  | .local _ .vmem, ⟨7, _⟩ => ⟨S768x128, .bf16⟩
  | .local _ .vmem, ⟨8, _⟩ => ⟨S768x128, .f32⟩
  | .local _ .vmem, ⟨9, _⟩ => ⟨S768x128, .f32⟩
  | .local _ .vmem, ⟨10, _⟩ => ⟨S768x128, .f32⟩
  | .local _ .vmem, ⟨11, _⟩ => ⟨S768x128, .f32⟩
  | .local _ .vmem, ⟨12, _⟩ => ⟨S1x256, .f32⟩
  | .local _ .vmem, ⟨13, _⟩ => ⟨S1x128, .f32⟩
  | .local _ .vmem, ⟨14, _⟩ => ⟨S256x512, .bf16⟩
  | .local _ .vmem, ⟨15, _⟩ => ⟨S256x512, .bf16⟩
  | .local _ .vmem, ⟨16, _⟩ => ⟨S128x512, .bf16⟩
  | .local _ .vmem, ⟨17, _⟩ => ⟨S256x128, .bf16⟩
  | .local _ .vmem, ⟨18, _⟩ => ⟨S768x512, .bf16⟩
  | .local _ .vmem, ⟨19, _⟩ => ⟨S768x512, .bf16⟩
  | .local _ .vmem, ⟨20, _⟩ => ⟨S768x512, .bf16⟩
  | .local _ .vmem, ⟨21, _⟩ => ⟨S768x512, .bf16⟩
  | .local _ .vmem, ⟨22, _⟩ => ⟨S1x256x768, .bf16⟩
  | .local _ .vmem, ⟨23, _⟩ => ⟨S1x256x768, .bf16⟩
  | _, _ => ⟨S8x8208x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_v22 : Ref sig .tc := ⟨.hbm, 40, rfl⟩
abbrev main_cst_8 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev main_v34 : Ref sig .tc := ⟨.hbm, 55, rfl⟩
abbrev main_cst_11 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_12 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_13 : Ref sig .tc := ⟨.hbm, 64, rfl⟩
abbrev main_v41 : Ref sig .tc := ⟨.hbm, 65, rfl⟩
abbrev main_cst_14 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_15 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_16 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_17 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71_0 : Ref sig .tc := ⟨.hbm, 99, rfl⟩
abbrev main_v71_1 : Ref sig .tc := ⟨.hbm, 100, rfl⟩
abbrev main_v71_2 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![88], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_2 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_3 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_4 (i : grid0.Coords) : Fin 2 → Nat :=
  let arg0 : BitVec 32 := BitVec.ofNat 32 (i 0).val
  let c11_i32 : BitVec 32 := 11#32
  let c0_i32 : BitVec 32 := 0#32
  let v0 : BitVec 1 := Scalar.cmpi .eq c11_i32 c0_i32
  let c1_i32 : BitVec 32 := 1#32
  let v1 : BitVec 32 := Scalar.select v0 c1_i32 c11_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c11_i32 : BitVec 32 := 11#32
  let c0_i32 : BitVec 32 := 0#32
  let v0 : BitVec 1 := Scalar.cmpi .eq c11_i32 c0_i32
  let c1_i32 : BitVec 32 := 1#32
  let v1 : BitVec 32 := Scalar.select v0 c1_i32 c11_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c11_i32 : BitVec 32 := 11#32
  let v0 : BitVec 32 := Scalar.divsi arg0 c11_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S768x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S768x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel5Ideal.lean ====
variable {F : FTy → Type} [FloatOps F] [Named F]
def κ : String → Option EReal := fun
  | "inv_192" => some ((192⁻¹ : ℝ) : EReal)
  | _ => none
-- ==== Reference5Ideal.lean ====
abbrev S8x8208x192 : Shape := ⟨3, ![8, 8208, 192]⟩
abbrev S8x8208x128 : Shape := ⟨3, ![8, 8208, 128]⟩
abbrev S8x8208x32 : Shape := ⟨3, ![8, 8208, 32]⟩
abbrev S192 : Shape := ⟨1, ![192]⟩
abbrev S128 : Shape := ⟨1, ![128]⟩
abbrev S192x384 : Shape := ⟨2, ![192, 384]⟩
abbrev S128x512 : Shape := ⟨2, ![128, 512]⟩
abbrev S8208 : Shape := ⟨1, ![8208]⟩
abbrev S16 : Shape := ⟨1, ![16]⟩
abbrev S_ : Shape := ⟨0, ![]⟩
abbrev S8208x1 : Shape := ⟨2, ![8208, 1]⟩
abbrev S1x16 : Shape := ⟨2, ![1, 16]⟩
abbrev S8208x16 : Shape := ⟨2, ![8208, 16]⟩
abbrev S8208x32 : Shape := ⟨2, ![8208, 32]⟩
abbrev S8x8208 : Shape := ⟨2, ![8, 8208]⟩
abbrev S8x8208x1 : Shape := ⟨3, ![8, 8208, 1]⟩
abbrev S1x1x192 : Shape := ⟨3, ![1, 1, 192]⟩
abbrev S8x8208x384 : Shape := ⟨3, ![8, 8208, 384]⟩
abbrev S8x8208x4x96 : Shape := ⟨4, ![8, 8208, 4, 96]⟩
abbrev S8x8208x4x64 : Shape := ⟨4, ![8, 8208, 4, 64]⟩
abbrev S8x8208x4x32 : Shape := ⟨4, ![8, 8208, 4, 32]⟩
abbrev S8x8208x4x16 : Shape := ⟨4, ![8, 8208, 4, 16]⟩
abbrev S1x8208x1x32 : Shape := ⟨4, ![1, 8208, 1, 32]⟩
abbrev S1x1x128 : Shape := ⟨3, ![1, 1, 128]⟩
abbrev S8x8208x512 : Shape := ⟨3, ![8, 8208, 512]⟩
abbrev S8x8208x4x128 : Shape := ⟨4, ![8, 8208, 4, 128]⟩
abbrev S8x8208x1x32 : Shape := ⟨4, ![8, 8208, 1, 32]⟩
abbrev S8x8208x1x16 : Shape := ⟨4, ![8, 8208, 1, 16]⟩

abbrev nBuf : Space → Nat
  | .hbm => 101
  | .vmem => 0
  | .smem => 0
  | _ => 0

abbrev bufTy : (tb : Table) → Fin (tcTables nBuf tb) → BufTy
  | .hbm, ⟨0, _⟩ => ⟨S8x8208x192, .f32⟩
  | .hbm, ⟨1, _⟩ => ⟨S8x8208x128, .f32⟩
  | .hbm, ⟨2, _⟩ => ⟨S8x8208x32, .f32⟩
  | .hbm, ⟨3, _⟩ => ⟨S192, .f32⟩
  | .hbm, ⟨4, _⟩ => ⟨S128, .f32⟩
  | .hbm, ⟨5, _⟩ => ⟨S192x384, .f32⟩
  | .hbm, ⟨6, _⟩ => ⟨S128x512, .f32⟩
  | .hbm, ⟨7, _⟩ => ⟨S8208, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S8208x1, .f32⟩
  | .hbm, ⟨25, _⟩ => ⟨S1x16, .f32⟩
  | .hbm, ⟨26, _⟩ => ⟨S8208x16, .f32⟩
  | .hbm, ⟨27, _⟩ => ⟨S8208x16, .f32⟩
  | .hbm, ⟨28, _⟩ => ⟨S8208x16, .f32⟩
  | .hbm, ⟨29, _⟩ => ⟨S8208x32, .f32⟩
  | .hbm, ⟨30, _⟩ => ⟨S8208x32, .f32⟩
  | .hbm, ⟨31, _⟩ => ⟨S8208x32, .f32⟩
  | .hbm, ⟨32, _⟩ => ⟨S8x8208x192, .f32⟩
  | .hbm, ⟨33, _⟩ => ⟨S_, .f32⟩
  | .hbm, ⟨34, _⟩ => ⟨S8x8208, .f32⟩
  | .hbm, ⟨35, _⟩ => ⟨S8x8208x1, .f32⟩
  | .hbm, ⟨36, _⟩ => ⟨S_, .f32⟩
  | .hbm, ⟨37, _⟩ => ⟨S8x8208x1, .f32⟩
  | .hbm, ⟨38, _⟩ => ⟨S8x8208x1, .f32⟩
  | .hbm, ⟨39, _⟩ => ⟨S_, .f32⟩
  | .hbm, ⟨40, _⟩ => ⟨S8x8208x1, .f32⟩
  | .hbm, ⟨41, _⟩ => ⟨S8x8208x1, .f32⟩
  | .hbm, ⟨42, _⟩ => ⟨S8x8208x1, .f32⟩
  | .hbm, ⟨43, _⟩ => ⟨S8x8208x192, .f32⟩
  | .hbm, ⟨44, _⟩ => ⟨S8x8208x192, .f32⟩
  | .hbm, ⟨45, _⟩ => ⟨S1x1x192, .f32⟩
  | .hbm, ⟨46, _⟩ => ⟨S8x8208x192, .f32⟩
  | .hbm, ⟨47, _⟩ => ⟨S8x8208x192, .f32⟩
  | .hbm, ⟨48, _⟩ => ⟨S8x8208x384, .f32⟩
  | .hbm, ⟨49, _⟩ => ⟨S8x8208x4x96, .f32⟩
  | .hbm, ⟨50, _⟩ => ⟨S8x8208x4x64, .f32⟩
  | .hbm, ⟨51, _⟩ => ⟨S8x8208x4x32, .f32⟩
  | .hbm, ⟨52, _⟩ => ⟨S8x8208x4x16, .f32⟩
  | .hbm, ⟨53, _⟩ => ⟨S8x8208x4x16, .f32⟩
  | .hbm, ⟨54, _⟩ => ⟨S8x8208x4x16, .f32⟩
  | .hbm, ⟨55, _⟩ => ⟨S8x8208x4x32, .f32⟩
  | .hbm, ⟨56, _⟩ => ⟨S1x8208x1x32, .f32⟩
  | .hbm, ⟨57, _⟩ => ⟨S8x8208x4x32, .f32⟩
  | .hbm, ⟨58, _⟩ => ⟨S8x8208x4x32, .f32⟩
  | .hbm, ⟨59, _⟩ => ⟨S1x8208x1x32, .f32⟩
  | .hbm, ⟨60, _⟩ => ⟨S8x8208x4x32, .f32⟩
  | .hbm, ⟨61, _⟩ => ⟨S8x8208x4x32, .f32⟩
  | .hbm, ⟨62, _⟩ => ⟨S8x8208x4x32, .f32⟩
  | .hbm, ⟨63, _⟩ => ⟨S8x8208x4x96, .f32⟩
  | .hbm, ⟨64, _⟩ => ⟨S8x8208x128, .f32⟩
  | .hbm, ⟨65, _⟩ => ⟨S_, .f32⟩
  | .hbm, ⟨66, _⟩ => ⟨S8x8208, .f32⟩
  | .hbm, ⟨67, _⟩ => ⟨S8x8208x1, .f32⟩
  | .hbm, ⟨68, _⟩ => ⟨S_, .f32⟩
  | .hbm, ⟨69, _⟩ => ⟨S8x8208x1, .f32⟩
  | .hbm, ⟨70, _⟩ => ⟨S8x8208x1, .f32⟩
  | .hbm, ⟨71, _⟩ => ⟨S_, .f32⟩
  | .hbm, ⟨72, _⟩ => ⟨S8x8208x1, .f32⟩
  | .hbm, ⟨73, _⟩ => ⟨S8x8208x1, .f32⟩
  | .hbm, ⟨74, _⟩ => ⟨S8x8208x1, .f32⟩
  | .hbm, ⟨75, _⟩ => ⟨S8x8208x128, .f32⟩
  | .hbm, ⟨76, _⟩ => ⟨S8x8208x128, .f32⟩
  | .hbm, ⟨77, _⟩ => ⟨S1x1x128, .f32⟩
  | .hbm, ⟨78, _⟩ => ⟨S8x8208x128, .f32⟩
  | .hbm, ⟨79, _⟩ => ⟨S8x8208x128, .f32⟩
  | .hbm, ⟨80, _⟩ => ⟨S8x8208x512, .f32⟩
  | .hbm, ⟨81, _⟩ => ⟨S8x8208x4x128, .f32⟩
  | .hbm, ⟨82, _⟩ => ⟨S8x8208x1x32, .f32⟩
  | .hbm, ⟨83, _⟩ => ⟨S8x8208x1x16, .f32⟩
  | .hbm, ⟨84, _⟩ => ⟨S8x8208x1x16, .f32⟩
  | .hbm, ⟨85, _⟩ => ⟨S8x8208x1x16, .f32⟩
  | .hbm, ⟨86, _⟩ => ⟨S8x8208x1x32, .f32⟩
  | .hbm, ⟨87, _⟩ => ⟨S1x8208x1x32, .f32⟩
  | .hbm, ⟨88, _⟩ => ⟨S8x8208x1x32, .f32⟩
  | .hbm, ⟨89, _⟩ => ⟨S8x8208x1x32, .f32⟩
  | .hbm, ⟨90, _⟩ => ⟨S1x8208x1x32, .f32⟩
  | .hbm, ⟨91, _⟩ => ⟨S8x8208x1x32, .f32⟩
  | .hbm, ⟨92, _⟩ => ⟨S8x8208x1x32, .f32⟩
  | .hbm, ⟨93, _⟩ => ⟨S8x8208x1x32, .f32⟩
  | .hbm, ⟨94, _⟩ => ⟨S8x8208x4x64, .f32⟩
  | .hbm, ⟨95, _⟩ => ⟨S8x8208x4x32, .f32⟩
  | .hbm, ⟨96, _⟩ => ⟨S8x8208x4x96, .f32⟩
  | .hbm, ⟨97, _⟩ => ⟨S_, .f32⟩
  | .hbm, ⟨98, _⟩ => ⟨S8x8208x4x96, .f32⟩
  | .hbm, ⟨99, _⟩ => ⟨S8x8208x4x96, .f32⟩
  | .hbm, ⟨100, _⟩ => ⟨S8x8208x4x64, .f32⟩
  | _, _ => ⟨S8x8208x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_10 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩

abbrev nD : Nat := 1
abbrev τ : Topo := Topo.v7x

variable {F : FTy → Type} [FloatOps F]
-- ==== Proof.Tile.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise

/-! What one grid point of the out-projection and ConvFFN kernel computes, as a function of its input blocks and of the
    halo rows that the point before left. Each of the eleven channel chunks stores the halo rows and the up-projection of
    the tile into a scratch, loads the scratch at four row offsets, and stores a column block of the gated activation. -/

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

/-- The chunk's scratch after its two stores: eight halo rows, then the tile's 768 rows. -/
def extOf (H : Vec F S8x512 .f32) (U : Vec F S768x512 .f32) : Vec F S776x512 .f32 :=
  fun i => if h : (i 0).val < 8 then H (ix2 ⟨(i 0).val, h⟩ (i 1))
    else U (ix2 ⟨(i 0).val - 8, by have := (i 0).isLt; change (i 0).val < 776 at this; omega⟩ (i 1))

theorem canon_ext (H : Vec F S8x512 .f32) (U : Vec F S768x512 .f32) (L : List (View.Piece (Elt F) S776x512 .f32)) :
    View.canon (⟨Rect.unit (s := S776x512) ![8, 0] S768x512.size inb_S776x512_S768x512_8_0, U⟩ ::
      ⟨Rect.unit (s := S776x512) ![0, 0] S8x512.size inb_S776x512_S8x512_0_0, H⟩ :: L) = extOf H U := by
  funext y
  refine View.canon_append_of_piecesOf (extOf H U) L
    [⟨Rect.unit (s := S776x512) ![8, 0] S768x512.size inb_S776x512_S768x512_8_0, U⟩,
      ⟨Rect.unit (s := S776x512) ![0, 0] S8x512.size inb_S776x512_S8x512_0_0, H⟩] ⟨fun x => ?_, fun x => ?_, trivial⟩ y ?_
  · have e0 : (((Rect.unit (s := S776x512) ![8, 0] S768x512.size inb_S776x512_S768x512_8_0).emb x) 0).val = 8 + (x 0).val :=
      Rect.idx_unit_val _ _ _ x 0
    have e1 : (((Rect.unit (s := S776x512) ![8, 0] S768x512.size inb_S776x512_S768x512_8_0).emb x) 1).val = 0 + (x 1).val :=
      Rect.idx_unit_val _ _ _ x 1
    have hn : ¬ (((Rect.unit (s := S776x512) ![8, 0] S768x512.size inb_S776x512_S768x512_8_0).emb x) 0).val < 8 := by omega
    unfold extOf
    rw [dif_neg hn]
    refine congrArg U (funext fun a => Fin.ext ?_)
    match a with
    | ⟨0, _⟩ => exact (by omega : (x 0).val = (((Rect.unit (s := S776x512) ![8, 0] S768x512.size inb_S776x512_S768x512_8_0).emb x) 0).val - 8)
    | ⟨1, _⟩ => exact (by omega : (x 1).val = (((Rect.unit (s := S776x512) ![8, 0] S768x512.size inb_S776x512_S768x512_8_0).emb x) 1).val)
  · have e0 : (((Rect.unit (s := S776x512) ![0, 0] S8x512.size inb_S776x512_S8x512_0_0).emb x) 0).val = 0 + (x 0).val :=
      Rect.idx_unit_val _ _ _ x 0
    have e1 : (((Rect.unit (s := S776x512) ![0, 0] S8x512.size inb_S776x512_S8x512_0_0).emb x) 1).val = 0 + (x 1).val :=
      Rect.idx_unit_val _ _ _ x 1
    have hx : (x 0).val < 8 := (x 0).isLt
    have hn : (((Rect.unit (s := S776x512) ![0, 0] S8x512.size inb_S776x512_S8x512_0_0).emb x) 0).val < 8 := by omega
    unfold extOf
    rw [dif_pos hn]
    refine congrArg H (funext fun a => Fin.ext ?_)
    match a with
    | ⟨0, _⟩ => exact (by omega : (x 0).val = (((Rect.unit (s := S776x512) ![0, 0] S8x512.size inb_S776x512_S8x512_0_0).emb x) 0).val)
    | ⟨1, _⟩ => exact (by omega : (x 1).val = (((Rect.unit (s := S776x512) ![0, 0] S8x512.size inb_S776x512_S8x512_0_0).emb x) 1).val)
  · have b0 : (y 0).val < 776 := (y 0).isLt
    have b1 : (y 1).val < 512 := (y 1).isLt
    by_cases h : (y 0).val < 8
    · exact ⟨_, List.mem_cons_of_mem _ (List.mem_cons_self ..), by
        show y ∈ (Rect.unit (s := S776x512) ![0, 0] S8x512.size inb_S776x512_S8x512_0_0).set
        refine Rect.mem_set_unit.mpr fun a => ?_
        exact match a with
        | ⟨0, _⟩ => (⟨Nat.zero_le _, by show (y 0).val < 0 + 8; omega⟩ : 0 ≤ (y 0).val ∧ (y 0).val < 0 + 8)
        | ⟨1, _⟩ => (⟨Nat.zero_le _, by show (y 1).val < 0 + 512; omega⟩ : 0 ≤ (y 1).val ∧ (y 1).val < 0 + 512)⟩
    · exact ⟨_, List.mem_cons_self .., by
        show y ∈ (Rect.unit (s := S776x512) ![8, 0] S768x512.size inb_S776x512_S768x512_8_0).set
        refine Rect.mem_set_unit.mpr fun a => ?_
        exact match a with
        | ⟨0, _⟩ => (⟨by omega, by omega⟩ : 8 ≤ (y 0).val ∧ (y 0).val < 8 + 768)
        | ⟨1, _⟩ => (⟨Nat.zero_le _, by omega⟩ : 0 ≤ (y 1).val ∧ (y 1).val < 0 + 512)⟩

/-- A load of the chunk's scratch reads that array, whatever the scratch held before. -/
theorem readCov_ext {sig' : RefSig} {κ : Kind} {sp : Space} (v : View sig' κ sp S776x512 .f32) (H : Vec F S8x512 .f32) (U : Vec F S768x512 .f32)
    (L : List (View.Piece (Elt F) S776x512 .f32)) (r : Rect S776x512) :
    v.readCov (⟨Rect.unit (s := S776x512) ![8, 0] (no_index ![768, 512]) inb_S776x512_S768x512_8_0, U⟩ ::
      ⟨Rect.unit (s := S776x512) ![0, 0] (no_index ![8, 512]) inb_S776x512_S8x512_0_0, H⟩ :: L) r.toLoadRect = View.ld (extOf H U) r := by
  rw [View.readCov_eq_canon']
  exact funext fun j => congrFun (canon_ext H U L) _

/-- Writes that lie under a covering list of later writes do not show. -/
theorem canon_append_cover {s : Shape} {e : EltTy} (L' : List (View.Piece (Elt F) s e)) (y : s.Idx) :
    ∀ (L : List (View.Piece (Elt F) s e)) (_ : ∃ p ∈ L, y ∈ p.1.set), View.canon (L ++ L') y = View.canon L y
  | [], h => by obtain ⟨p, hp, _⟩ := h; simp at hp
  | p :: L, h => by
    by_cases hm : y ∈ p.1.set
    · obtain ⟨x, rfl⟩ := p.1.exists_idx_of_mem hm
      rw [show p.1.idx x = p.1.emb x from rfl, List.cons_append]
      exact (View.canon_cons_emb p.1 p.2 _ x).trans (View.canon_cons_emb p.1 p.2 _ x).symm
    · rw [List.cons_append, View.canon_cons_of_not_mem _ _ hm, View.canon_cons_of_not_mem _ _ hm]
      refine canon_append_cover L' y L ?_
      obtain ⟨q, hq, hy⟩ := h
      rcases List.mem_cons.mp hq with rfl | hq
      · exact absurd hy hm
      · exact ⟨q, hq, hy⟩

/-- The residual stream of the tile after the out-projection, as stored. -/
def hT (x0 : Vec F S1x768x1024 .f32) (x1 : Vec F S1x768x512 .bf16) (x2 x3 : Vec F S1x768x256 .bf16) (x4 x5 : Vec F S1x256 .f32)
    (x6 : Vec F S1024x1024 .bf16) : Vec F S1x768x1024 .f32 :=
  k0_pay7 (k0_pay4 x2 x4) (k0_pay5 x3 x5) x1
    (View.ld x6 (Rect.unit (s := S1024x1024) ![0, 0] S512x1024.size inb_S1024x1024_S512x1024_0_0))
    (View.ld x6 (Rect.unit (s := S1024x1024) ![512, 0] S256x1024.size inb_S1024x1024_S256x1024_512_0))
    (View.ld x6 (Rect.unit (s := S1024x1024) ![768, 0] S256x1024.size inb_S1024x1024_S256x1024_768_0)) x0

/-- The tile's normalised rows. -/
def xnT (x0 : Vec F S1x768x1024 .f32) (x1 : Vec F S1x768x512 .bf16) (x2 x3 : Vec F S1x768x256 .bf16) (x4 x5 : Vec F S1x256 .f32)
    (x6 : Vec F S1024x1024 .bf16) (x7 : Vec F S1x1024 .f32) : Vec F S768x1024 .bf16 :=
  k0_pay8 (k0_pay4 x2 x4) (k0_pay5 x3 x5) x1
    (View.ld x6 (Rect.unit (s := S1024x1024) ![0, 0] S512x1024.size inb_S1024x1024_S512x1024_0_0))
    (View.ld x6 (Rect.unit (s := S1024x1024) ![512, 0] S256x1024.size inb_S1024x1024_S256x1024_512_0))
    (View.ld x6 (Rect.unit (s := S1024x1024) ![768, 0] S256x1024.size inb_S1024x1024_S256x1024_768_0)) x0 x7

/-- One chunk's up-projection. -/
def upT (xn : Vec F S768x1024 .bf16) (W : Vec F S1024x512 .bf16) : Vec F S768x512 .f32 := k0_pay10 xn W

/-- One chunk's gated activation, from the scratch's contents and the chunk's convolution weights and bias. -/
def actC (cw : Vec F S3x512 .f32) (cb : Vec F S1x512 .f32) (a b d : Vec F S768x512 .f32) : Vec F S768x256 .bf16 :=
  k0_pay15 (k0_pay12 cw cb a b d) (k0_pay13 cw cb a b d) (k0_pay14 cw cb a b d)

/-- The same with the three loads of the scratch. -/
def actT (E : Vec F S776x512 .f32) (cw : Vec F S3x512 .f32) (cb : Vec F S1x512 .f32) : Vec F S768x256 .bf16 :=
  actC cw cb (View.ld E (Rect.unit (s := S776x512) ![8, 0] S768x512.size inb_S776x512_S768x512_8_0))
    (View.ld E (Rect.unit (s := S776x512) ![7, 0] S768x512.size inb_S776x512_S768x512_7_0))
    (View.ld E (Rect.unit (s := S776x512) ![6, 0] S768x512.size inb_S776x512_S768x512_6_0))

/-- The scratch's contents at the chunk whose first column is `o`. -/
def eT (xn : Vec F S768x1024 .bf16) (x8 : Vec F S1024x5632 .bf16) (hal : Vec F S8x5632 .f32) (o : ℕ)
    (hW : ∀ a, (![0, o] : Fin 2 → ℕ) a + S1024x512.size a ≤ S1024x5632.size a)
    (hH : ∀ a, (![0, o] : Fin 2 → ℕ) a + S8x512.size a ≤ S8x5632.size a) : Vec F S776x512 .f32 :=
  extOf (View.ld hal (Rect.unit (s := S8x5632) ![0, o] S8x512.size hH))
    (upT xn (View.ld x8 (Rect.unit (s := S1024x5632) ![0, o] S1024x512.size hW)))

/-- One chunk's gated activation at its first column `o`. -/
def aT (xn : Vec F S768x1024 .bf16) (x8 : Vec F S1024x5632 .bf16) (x9 : Vec F S3x5632 .f32) (x10 : Vec F S1x5632 .f32)
    (hal : Vec F S8x5632 .f32) (o : ℕ)
    (hW : ∀ a, (![0, o] : Fin 2 → ℕ) a + S1024x512.size a ≤ S1024x5632.size a)
    (hH : ∀ a, (![0, o] : Fin 2 → ℕ) a + S8x512.size a ≤ S8x5632.size a)
    (hC : ∀ a, (![0, o] : Fin 2 → ℕ) a + S3x512.size a ≤ S3x5632.size a)
    (hB : ∀ a, (![0, o] : Fin 2 → ℕ) a + S1x512.size a ≤ S1x5632.size a) : Vec F S768x256 .bf16 :=
  actT (eT xn x8 hal o hW hH) (View.ld x9 (Rect.unit (s := S3x5632) ![0, o] S3x512.size hC))
    (View.ld x10 (Rect.unit (s := S1x5632) ![0, o] S1x512.size hB))

/-- One chunk's new halo: the last eight rows of the scratch. -/
def nT (xn : Vec F S768x1024 .bf16) (x8 : Vec F S1024x5632 .bf16) (hal : Vec F S8x5632 .f32) (o : ℕ)
    (hW : ∀ a, (![0, o] : Fin 2 → ℕ) a + S1024x512.size a ≤ S1024x5632.size a)
    (hH : ∀ a, (![0, o] : Fin 2 → ℕ) a + S8x512.size a ≤ S8x5632.size a) : Vec F S8x512 .f32 :=
  View.ld (eT xn x8 hal o hW hH) (Rect.unit (s := S776x512) ![768, 0] S8x512.size inb_S776x512_S8x512_768_0)

/-- The gated activation of the tile, chunk by chunk, the last chunk first. -/
def actPieces (xn : Vec F S768x1024 .bf16) (x8 : Vec F S1024x5632 .bf16) (x9 : Vec F S3x5632 .f32) (x10 : Vec F S1x5632 .f32)
    (hal : Vec F S8x5632 .f32) : List (View.Piece (Elt F) S768x2816 .bf16) :=
  [⟨Rect.unit (s := S768x2816) ![0, 2560] S768x256.size inb_S768x2816_S768x256_0_2560,
      aT xn x8 x9 x10 hal 5120 inb_S1024x5632_S1024x512_0_5120 inb_S8x5632_S8x512_0_5120 inb_S3x5632_S3x512_0_5120 inb_S1x5632_S1x512_0_5120⟩,
    ⟨Rect.unit (s := S768x2816) ![0, 2304] S768x256.size inb_S768x2816_S768x256_0_2304,
      aT xn x8 x9 x10 hal 4608 inb_S1024x5632_S1024x512_0_4608 inb_S8x5632_S8x512_0_4608 inb_S3x5632_S3x512_0_4608 inb_S1x5632_S1x512_0_4608⟩,
    ⟨Rect.unit (s := S768x2816) ![0, 2048] S768x256.size inb_S768x2816_S768x256_0_2048,
      aT xn x8 x9 x10 hal 4096 inb_S1024x5632_S1024x512_0_4096 inb_S8x5632_S8x512_0_4096 inb_S3x5632_S3x512_0_4096 inb_S1x5632_S1x512_0_4096⟩,
    ⟨Rect.unit (s := S768x2816) ![0, 1792] S768x256.size inb_S768x2816_S768x256_0_1792,
      aT xn x8 x9 x10 hal 3584 inb_S1024x5632_S1024x512_0_3584 inb_S8x5632_S8x512_0_3584 inb_S3x5632_S3x512_0_3584 inb_S1x5632_S1x512_0_3584⟩,
    ⟨Rect.unit (s := S768x2816) ![0, 1536] S768x256.size inb_S768x2816_S768x256_0_1536,
      aT xn x8 x9 x10 hal 3072 inb_S1024x5632_S1024x512_0_3072 inb_S8x5632_S8x512_0_3072 inb_S3x5632_S3x512_0_3072 inb_S1x5632_S1x512_0_3072⟩,
    ⟨Rect.unit (s := S768x2816) ![0, 1280] S768x256.size inb_S768x2816_S768x256_0_1280,
      aT xn x8 x9 x10 hal 2560 inb_S1024x5632_S1024x512_0_2560 inb_S8x5632_S8x512_0_2560 inb_S3x5632_S3x512_0_2560 inb_S1x5632_S1x512_0_2560⟩,
    ⟨Rect.unit (s := S768x2816) ![0, 1024] S768x256.size inb_S768x2816_S768x256_0_1024,
      aT xn x8 x9 x10 hal 2048 inb_S1024x5632_S1024x512_0_2048 inb_S8x5632_S8x512_0_2048 inb_S3x5632_S3x512_0_2048 inb_S1x5632_S1x512_0_2048⟩,
    ⟨Rect.unit (s := S768x2816) ![0, 768] S768x256.size inb_S768x2816_S768x256_0_768,
      aT xn x8 x9 x10 hal 1536 inb_S1024x5632_S1024x512_0_1536 inb_S8x5632_S8x512_0_1536 inb_S3x5632_S3x512_0_1536 inb_S1x5632_S1x512_0_1536⟩,
    ⟨Rect.unit (s := S768x2816) ![0, 512] S768x256.size inb_S768x2816_S768x256_0_512,
      aT xn x8 x9 x10 hal 1024 inb_S1024x5632_S1024x512_0_1024 inb_S8x5632_S8x512_0_1024 inb_S3x5632_S3x512_0_1024 inb_S1x5632_S1x512_0_1024⟩,
    ⟨Rect.unit (s := S768x2816) ![0, 256] S768x256.size inb_S768x2816_S768x256_0_256,
      aT xn x8 x9 x10 hal 512 inb_S1024x5632_S1024x512_0_512 inb_S8x5632_S8x512_0_512 inb_S3x5632_S3x512_0_512 inb_S1x5632_S1x512_0_512⟩,
    ⟨Rect.unit (s := S768x2816) ![0, 0] S768x256.size inb_S768x2816_S768x256_0_0,
      aT xn x8 x9 x10 hal 0 inb_S1024x5632_S1024x512_0_0 inb_S8x5632_S8x512_0_0 inb_S3x5632_S3x512_0_0 inb_S1x5632_S1x512_0_0⟩]

/-- The new halo, chunk by chunk, the last chunk first. -/
def haloPieces (xn : Vec F S768x1024 .bf16) (x8 : Vec F S1024x5632 .bf16)
    (hal : Vec F S8x5632 .f32) : List (View.Piece (Elt F) S8x5632 .f32) :=
  [⟨Rect.unit (s := S8x5632) ![0, 5120] S8x512.size inb_S8x5632_S8x512_0_5120,
      nT xn x8 hal 5120 inb_S1024x5632_S1024x512_0_5120 inb_S8x5632_S8x512_0_5120⟩,
    ⟨Rect.unit (s := S8x5632) ![0, 4608] S8x512.size inb_S8x5632_S8x512_0_4608,
      nT xn x8 hal 4608 inb_S1024x5632_S1024x512_0_4608 inb_S8x5632_S8x512_0_4608⟩,
    ⟨Rect.unit (s := S8x5632) ![0, 4096] S8x512.size inb_S8x5632_S8x512_0_4096,
      nT xn x8 hal 4096 inb_S1024x5632_S1024x512_0_4096 inb_S8x5632_S8x512_0_4096⟩,
    ⟨Rect.unit (s := S8x5632) ![0, 3584] S8x512.size inb_S8x5632_S8x512_0_3584,
      nT xn x8 hal 3584 inb_S1024x5632_S1024x512_0_3584 inb_S8x5632_S8x512_0_3584⟩,
    ⟨Rect.unit (s := S8x5632) ![0, 3072] S8x512.size inb_S8x5632_S8x512_0_3072,
      nT xn x8 hal 3072 inb_S1024x5632_S1024x512_0_3072 inb_S8x5632_S8x512_0_3072⟩,
    ⟨Rect.unit (s := S8x5632) ![0, 2560] S8x512.size inb_S8x5632_S8x512_0_2560,
      nT xn x8 hal 2560 inb_S1024x5632_S1024x512_0_2560 inb_S8x5632_S8x512_0_2560⟩,
    ⟨Rect.unit (s := S8x5632) ![0, 2048] S8x512.size inb_S8x5632_S8x512_0_2048,
      nT xn x8 hal 2048 inb_S1024x5632_S1024x512_0_2048 inb_S8x5632_S8x512_0_2048⟩,
    ⟨Rect.unit (s := S8x5632) ![0, 1536] S8x512.size inb_S8x5632_S8x512_0_1536,
      nT xn x8 hal 1536 inb_S1024x5632_S1024x512_0_1536 inb_S8x5632_S8x512_0_1536⟩,
    ⟨Rect.unit (s := S8x5632) ![0, 1024] S8x512.size inb_S8x5632_S8x512_0_1024,
      nT xn x8 hal 1024 inb_S1024x5632_S1024x512_0_1024 inb_S8x5632_S8x512_0_1024⟩,
    ⟨Rect.unit (s := S8x5632) ![0, 512] S8x512.size inb_S8x5632_S8x512_0_512,
      nT xn x8 hal 512 inb_S1024x5632_S1024x512_0_512 inb_S8x5632_S8x512_0_512⟩,
    ⟨Rect.unit (s := S8x5632) ![0, 0] S8x512.size inb_S8x5632_S8x512_0_0,
      nT xn x8 hal 0 inb_S1024x5632_S1024x512_0_0 inb_S8x5632_S8x512_0_0⟩]

/-- The tile's output block. -/
def outT (x0 : Vec F S1x768x1024 .f32) (x1 : Vec F S1x768x512 .bf16) (x2 x3 : Vec F S1x768x256 .bf16) (x4 x5 : Vec F S1x256 .f32)
    (x6 : Vec F S1024x1024 .bf16) (x7 : Vec F S1x1024 .f32) (x8 : Vec F S1024x5632 .bf16) (x9 : Vec F S3x5632 .f32)
    (x10 : Vec F S1x5632 .f32) (x11 : Vec F S2816x1024 .bf16) (hal : Vec F S8x5632 .f32) : Vec F S1x768x1024 .f32 :=
  k0_pay2 (hT x0 x1 x2 x3 x4 x5 x6) (View.canon (actPieces (xnT x0 x1 x2 x3 x4 x5 x6 x7) x8 x9 x10 hal)) x11

theorem haloPieces_cover (xn : Vec F S768x1024 .bf16) (x8 : Vec F S1024x5632 .bf16) (hal : Vec F S8x5632 .f32) (y : S8x5632.Idx) :
    ∃ p ∈ haloPieces xn x8 hal, y ∈ p.1.set := View.cover_of_tiledL _ ![8, 512] (by rfl) y

theorem actPieces_cover (xn : Vec F S768x1024 .bf16) (x8 : Vec F S1024x5632 .bf16) (x9 : Vec F S3x5632 .f32) (x10 : Vec F S1x5632 .f32)
    (hal : Vec F S8x5632 .f32) (y : S768x2816.Idx) :
    ∃ p ∈ actPieces xn x8 x9 x10 hal, y ∈ p.1.set := View.cover_of_tiledL _ ![768, 256] (by rfl) y

theorem act_0 (cw : Vec F S3x512 .f32) (cb : Vec F S1x512 .f32) (a b d : Vec F S768x512 .f32) : k0_pay15 (k0_pay12 cw cb a b d) (k0_pay13 cw cb a b d) (k0_pay14 cw cb a b d) = actC cw cb a b d := rfl
theorem act_1 (cw : Vec F S3x512 .f32) (cb : Vec F S1x512 .f32) (a b d : Vec F S768x512 .f32) : k0_pay22 (k0_pay19 cw) (k0_pay20 cw cb a) b (k0_pay21 cw) d = actC cw cb a b d := rfl
theorem act_2 (cw : Vec F S3x512 .f32) (cb : Vec F S1x512 .f32) (a b d : Vec F S768x512 .f32) : k0_pay28 (k0_pay26 cw) (k0_pay27 cb) a b d = actC cw cb a b d := rfl
theorem act_3 (cw : Vec F S3x512 .f32) (cb : Vec F S1x512 .f32) (a b d : Vec F S768x512 .f32) : k0_pay32 cw cb a b d = actC cw cb a b d := rfl
theorem act_4 (cw : Vec F S3x512 .f32) (cb : Vec F S1x512 .f32) (a b d : Vec F S768x512 .f32) : k0_pay37 cw cb a b d = actC cw cb a b d := rfl
theorem act_5 (cw : Vec F S3x512 .f32) (cb : Vec F S1x512 .f32) (a b d : Vec F S768x512 .f32) : k0_pay44 (k0_pay41 cw cb a b d) (k0_pay42 cw cb a b d) (k0_pay43 cw cb a b d) = actC cw cb a b d := rfl
theorem act_6 (cw : Vec F S3x512 .f32) (cb : Vec F S1x512 .f32) (a b d : Vec F S768x512 .f32) : k0_pay51 (k0_pay48 cw) (k0_pay49 cw cb a) b (k0_pay50 cw) d = actC cw cb a b d := rfl
theorem act_7 (cw : Vec F S3x512 .f32) (cb : Vec F S1x512 .f32) (a b d : Vec F S768x512 .f32) : k0_pay57 (k0_pay55 cw) (k0_pay56 cb) a b d = actC cw cb a b d := rfl
theorem act_8 (cw : Vec F S3x512 .f32) (cb : Vec F S1x512 .f32) (a b d : Vec F S768x512 .f32) : k0_pay61 cw cb a b d = actC cw cb a b d := rfl
theorem act_9 (cw : Vec F S3x512 .f32) (cb : Vec F S1x512 .f32) (a b d : Vec F S768x512 .f32) : k0_pay66 cw cb a b d = actC cw cb a b d := rfl
theorem act_10 (cw : Vec F S3x512 .f32) (cb : Vec F S1x512 .f32) (a b d : Vec F S768x512 .f32) : k0_pay1 (k0_pay70 cw cb a b d) (k0_pay71 cw cb a b d) (k0_pay72 cw cb a b d) = actC cw cb a b d := rfl
theorem up_10 (xn : Vec F S768x1024 .bf16) (W : Vec F S1024x512 .bf16) : k0_pay10 xn W = upT xn W := rfl
theorem up_17 (xn : Vec F S768x1024 .bf16) (W : Vec F S1024x512 .bf16) : k0_pay17 xn W = upT xn W := rfl
theorem up_24 (xn : Vec F S768x1024 .bf16) (W : Vec F S1024x512 .bf16) : k0_pay24 xn W = upT xn W := rfl
theorem up_30 (xn : Vec F S768x1024 .bf16) (W : Vec F S1024x512 .bf16) : k0_pay30 xn W = upT xn W := rfl
theorem up_39 (xn : Vec F S768x1024 .bf16) (W : Vec F S1024x512 .bf16) : k0_pay39 xn W = upT xn W := rfl
theorem up_46 (xn : Vec F S768x1024 .bf16) (W : Vec F S1024x512 .bf16) : k0_pay46 xn W = upT xn W := rfl
theorem up_53 (xn : Vec F S768x1024 .bf16) (W : Vec F S1024x512 .bf16) : k0_pay53 xn W = upT xn W := rfl
theorem up_59 (xn : Vec F S768x1024 .bf16) (W : Vec F S1024x512 .bf16) : k0_pay59 xn W = upT xn W := rfl
theorem up_68 (xn : Vec F S768x1024 .bf16) (W : Vec F S1024x512 .bf16) : k0_pay68 xn W = upT xn W := rfl
theorem up_35 (xn : Vec F S768x1024 .bf16) (W : Vec F S1024x512 .bf16) : k0_pay35 xn (k0_pay34 W) (constant S768x512 .f32 0#32) = upT xn W := rfl
theorem up_64 (xn : Vec F S768x1024 .bf16) (W : Vec F S1024x512 .bf16) : k0_pay64 xn (k0_pay63 W) (constant S768x512 .f32 0#32) = upT xn W := rfl
theorem row_9 (v : Vec F S8x512 .f32) : k0_pay9 v = v := shapeCast_self _ _
theorem row_16 (v : Vec F S8x512 .f32) : k0_pay16 v = v := shapeCast_self _ _
theorem row_23 (v : Vec F S8x512 .f32) : k0_pay23 v = v := shapeCast_self _ _
theorem row_29 (v : Vec F S8x512 .f32) : k0_pay29 v = v := shapeCast_self _ _
theorem row_33 (v : Vec F S8x512 .f32) : k0_pay33 v = v := shapeCast_self _ _
theorem row_38 (v : Vec F S8x512 .f32) : k0_pay38 v = v := shapeCast_self _ _
theorem row_45 (v : Vec F S8x512 .f32) : k0_pay45 v = v := shapeCast_self _ _
theorem row_52 (v : Vec F S8x512 .f32) : k0_pay52 v = v := shapeCast_self _ _
theorem row_58 (v : Vec F S8x512 .f32) : k0_pay58 v = v := shapeCast_self _ _
theorem row_62 (v : Vec F S8x512 .f32) : k0_pay62 v = v := shapeCast_self _ _
theorem row_67 (v : Vec F S8x512 .f32) : k0_pay67 v = v := shapeCast_self _ _
theorem row_11 (v : Vec F S8x512 .f32) : k0_pay11 v = v := shapeCast_self _ _
theorem row_18 (v : Vec F S8x512 .f32) : k0_pay18 v = v := shapeCast_self _ _
theorem row_25 (v : Vec F S8x512 .f32) : k0_pay25 v = v := shapeCast_self _ _
theorem row_31 (v : Vec F S8x512 .f32) : k0_pay31 v = v := shapeCast_self _ _
theorem row_36 (v : Vec F S8x512 .f32) : k0_pay36 v = v := shapeCast_self _ _
theorem row_40 (v : Vec F S8x512 .f32) : k0_pay40 v = v := shapeCast_self _ _
theorem row_47 (v : Vec F S8x512 .f32) : k0_pay47 v = v := shapeCast_self _ _
theorem row_54 (v : Vec F S8x512 .f32) : k0_pay54 v = v := shapeCast_self _ _
theorem row_60 (v : Vec F S8x512 .f32) : k0_pay60 v = v := shapeCast_self _ _
theorem row_65 (v : Vec F S8x512 .f32) : k0_pay65 v = v := shapeCast_self _ _
theorem row_69 (v : Vec F S8x512 .f32) : k0_pay69 v = v := shapeCast_self _ _

theorem fold_xn (x0 : Vec F S1x768x1024 .f32) (x1 : Vec F S1x768x512 .bf16) (x2 x3 : Vec F S1x768x256 .bf16) (x4 x5 : Vec F S1x256 .f32)
    (x6 : Vec F S1024x1024 .bf16) (x7 : Vec F S1x1024 .f32) (h1 h2 h3) :
    k0_pay8 (k0_pay4 x2 x4) (k0_pay5 x3 x5) x1 (View.ld x6 (Rect.unit (s := S1024x1024) ![0, 0] (no_index ![512, 1024]) h1))
      (View.ld x6 (Rect.unit (s := S1024x1024) ![512, 0] (no_index ![256, 1024]) h2))
      (View.ld x6 (Rect.unit (s := S1024x1024) ![768, 0] (no_index ![256, 1024]) h3)) x0 x7 = xnT x0 x1 x2 x3 x4 x5 x6 x7 := rfl

theorem fold_h (x0 : Vec F S1x768x1024 .f32) (x1 : Vec F S1x768x512 .bf16) (x2 x3 : Vec F S1x768x256 .bf16) (x4 x5 : Vec F S1x256 .f32)
    (x6 : Vec F S1024x1024 .bf16) (h1 h2 h3) :
    k0_pay7 (k0_pay4 x2 x4) (k0_pay5 x3 x5) x1 (View.ld x6 (Rect.unit (s := S1024x1024) ![0, 0] (no_index ![512, 1024]) h1))
      (View.ld x6 (Rect.unit (s := S1024x1024) ![512, 0] (no_index ![256, 1024]) h2))
      (View.ld x6 (Rect.unit (s := S1024x1024) ![768, 0] (no_index ![256, 1024]) h3)) x0 = hT x0 x1 x2 x3 x4 x5 x6 := rfl

theorem fold_act (E : Vec F S776x512 .f32) (cw : Vec F S3x512 .f32) (cb : Vec F S1x512 .f32) (h1 h2 h3) :
    actC cw cb (View.ld E (Rect.unit (s := S776x512) ![8, 0] (no_index ![768, 512]) h1))
      (View.ld E (Rect.unit (s := S776x512) ![7, 0] (no_index ![768, 512]) h2))
      (View.ld E (Rect.unit (s := S776x512) ![6, 0] (no_index ![768, 512]) h3)) = actT E cw cb := rfl

theorem fold_e (xn : Vec F S768x1024 .bf16) (x8 : Vec F S1024x5632 .bf16) (hal : Vec F S8x5632 .f32) (o : ℕ) (h1 h2) :
    extOf (View.ld hal (Rect.unit (s := S8x5632) ![0, o] (no_index ![8, 512]) h1))
      (upT xn (View.ld x8 (Rect.unit (s := S1024x5632) ![0, o] (no_index ![1024, 512]) h2))) = eT xn x8 hal o h2 h1 := rfl

theorem fold_a (xn : Vec F S768x1024 .bf16) (x8 : Vec F S1024x5632 .bf16) (x9 : Vec F S3x5632 .f32) (x10 : Vec F S1x5632 .f32)
    (hal : Vec F S8x5632 .f32) (o : ℕ) (h1 h2 h3 h4) :
    actT (eT xn x8 hal o h1 h2) (View.ld x9 (Rect.unit (s := S3x5632) ![0, o] (no_index ![3, 512]) h3))
      (View.ld x10 (Rect.unit (s := S1x5632) ![0, o] (no_index ![1, 512]) h4)) = aT xn x8 x9 x10 hal o h1 h2 h3 h4 := rfl

theorem fold_read {sig' : RefSig} {κ : Kind} {sp : Space} (v : View sig' κ sp S768x2816 .bf16) (L : List (View.Piece (Elt F) S768x2816 .bf16)) (h) :
    v.readCov L (Rect.unit (s := S768x2816) ![0, 0] (no_index ![768, 2816]) h).toLoadRect = View.canon L := by
  rw [View.readCov_eq_canon']
  exact View.ld_unit_zero (S := S768x2816) (by decide) h (View.canon L)

theorem fold_n (xn : Vec F S768x1024 .bf16) (x8 : Vec F S1024x5632 .bf16) (hal : Vec F S8x5632 .f32) (o : ℕ) (h1 h2 h3) :
    View.ld (eT xn x8 hal o h1 h2) (Rect.unit (s := S776x512) ![768, 0] (no_index ![8, 512]) h3) = nT xn x8 hal o h1 h2 := rfl

variable (m : (ℓ : Loc nD τ sig) → Buf (Elt F) ℓ)

set_option maxHeartbeats 800000 in
theorem outB (c : Dev nD) (t : Fin cfg0.N) (h0 : ¬ t.val % 11 = 0) :
    (outsAt0 m c t.val t.isLt).1 = outT (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2 := by
  rw [outsAt0_B m c t h0]
  unfold out0_B_12 kernelRun0_B
  dsimp only
  simp (disch := decide) only [kernelRun0_B.sl.H12_1, kernelRun0_B.sl.HS1_10, kernelRun0_B.sl.HS1_12, kernelRun0_B.sl.HS1_14, kernelRun0_B.sl.HS1_16, kernelRun0_B.sl.HS1_18, kernelRun0_B.sl.HS1_2, kernelRun0_B.sl.HS1_20, kernelRun0_B.sl.HS1_22, kernelRun0_B.sl.HS1_4, kernelRun0_B.sl.HS1_6, kernelRun0_B.sl.HS1_8, kernelRun0_B.sl.HS2_11, kernelRun0_B.sl.cst_135, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v102, kernelRun0_B.sl.v116, kernelRun0_B.sl.v126, kernelRun0_B.sl.v134, kernelRun0_B.sl.v140, kernelRun0_B.sl.v145, kernelRun0_B.sl.v159, kernelRun0_B.sl.v169, kernelRun0_B.sl.v177, kernelRun0_B.sl.v183, kernelRun0_B.sl.v188, kernelRun0_B.sl.v202, kernelRun0_B.sl.v212, kernelRun0_B.sl.v220, kernelRun0_B.sl.v226, kernelRun0_B.sl.v231, kernelRun0_B.sl.v245, kernelRun0_B.sl.v255, kernelRun0_B.sl.v263, kernelRun0_B.sl.v269, kernelRun0_B.sl.v274, kernelRun0_B.sl.v288, kernelRun0_B.sl.v298, kernelRun0_B.sl.v306, kernelRun0_B.sl.v312, kernelRun0_B.sl.v317, kernelRun0_B.sl.v331, kernelRun0_B.sl.v341, kernelRun0_B.sl.v349, kernelRun0_B.sl.v355, kernelRun0_B.sl.v360, kernelRun0_B.sl.v374, kernelRun0_B.sl.v384, kernelRun0_B.sl.v392, kernelRun0_B.sl.v398, kernelRun0_B.sl.v403, kernelRun0_B.sl.v417, kernelRun0_B.sl.v427, kernelRun0_B.sl.v435, kernelRun0_B.sl.v441, kernelRun0_B.sl.v446, kernelRun0_B.sl.v460, kernelRun0_B.sl.v470, kernelRun0_B.sl.v478, kernelRun0_B.sl.v484, kernelRun0_B.sl.v489, kernelRun0_B.sl.v503, kernelRun0_B.sl.v513, kernelRun0_B.sl.v521, kernelRun0_B.sl.v527, kernelRun0_B.sl.v532, kernelRun0_B.sl.v546, kernelRun0_B.sl.v548, kernelRun0_B.sl.v83, kernelRun0_B.sl.v91, kernelRun0_B.sl.v97,
    View.read_writes_junk_eq_canon, readCov_ext, View.readAt_eq_ld, Memref.IsWhole.read_unread, read_unread_whole,
    View.canon_cons_unit_lit', View.ld_unit_lit', View.readCov_unit_lit', View.readCov_cons_unit_lit',
    ↓ View.readCov_skip, ↓ View.readCov_cons_toLoadRect, ↓ View.readCov_fill]
  simp only [act_0, act_1, act_2, act_3, act_4, act_5, act_6, act_7, act_8, act_9, act_10, up_10, up_17, up_24, up_30, up_39, up_46, up_53, up_59, up_68, up_35, up_64, row_9, row_16, row_23, row_29, row_33, row_38, row_45, row_52, row_58, row_62, row_67, row_11, row_18, row_25, row_31, row_36, row_40, row_47, row_54, row_60, row_65, row_69, fold_xn, fold_h, fold_act, fold_e, fold_a, fold_n, fold_read]
  unfold outT actPieces
  rfl

set_option maxHeartbeats 800000 in
theorem haloB (c : Dev nD) (t : Fin cfg0.N) (h0 : ¬ t.val % 11 = 0) :
    (outsAt0 m c t.val t.isLt).2 = View.canon (haloPieces (xnT (iblk m c 0 t) (iblk m c 1 t) (iblk m c 2 t) (iblk m c 3 t) (iblk m c 4 t) (iblk m c 5 t) (iblk m c 6 t) (iblk m c 7 t)) (iblk m c 8 t) (outsAt0 m c (t.val - 1) (Nat.lt_of_le_of_lt (Nat.sub_le _ _) t.isLt)).2) := by
  rw [outsAt0_B m c t h0]
  unfold sout0_B_0 kernelRun0_B
  dsimp only
  simp (disch := decide) only [kernelRun0_B.sl.H12_1, kernelRun0_B.sl.HS1_10, kernelRun0_B.sl.HS1_12, kernelRun0_B.sl.HS1_14, kernelRun0_B.sl.HS1_16, kernelRun0_B.sl.HS1_18, kernelRun0_B.sl.HS1_2, kernelRun0_B.sl.HS1_20, kernelRun0_B.sl.HS1_22, kernelRun0_B.sl.HS1_4, kernelRun0_B.sl.HS1_6, kernelRun0_B.sl.HS1_8, kernelRun0_B.sl.HS2_11, kernelRun0_B.sl.cst_135, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v102, kernelRun0_B.sl.v116, kernelRun0_B.sl.v126, kernelRun0_B.sl.v134, kernelRun0_B.sl.v140, kernelRun0_B.sl.v145, kernelRun0_B.sl.v159, kernelRun0_B.sl.v169, kernelRun0_B.sl.v177, kernelRun0_B.sl.v183, kernelRun0_B.sl.v188, kernelRun0_B.sl.v202, kernelRun0_B.sl.v212, kernelRun0_B.sl.v220, kernelRun0_B.sl.v226, kernelRun0_B.sl.v231, kernelRun0_B.sl.v245, kernelRun0_B.sl.v255, kernelRun0_B.sl.v263, kernelRun0_B.sl.v269, kernelRun0_B.sl.v274, kernelRun0_B.sl.v288, kernelRun0_B.sl.v298, kernelRun0_B.sl.v306, kernelRun0_B.sl.v312, kernelRun0_B.sl.v317, kernelRun0_B.sl.v331, kernelRun0_B.sl.v341, kernelRun0_B.sl.v349, kernelRun0_B.sl.v355, kernelRun0_B.sl.v360, kernelRun0_B.sl.v374, kernelRun0_B.sl.v384, kernelRun0_B.sl.v392, kernelRun0_B.sl.v398, kernelRun0_B.sl.v403, kernelRun0_B.sl.v417, kernelRun0_B.sl.v427, kernelRun0_B.sl.v435, kernelRun0_B.sl.v441, kernelRun0_B.sl.v446, kernelRun0_B.sl.v460, kernelRun0_B.sl.v470, kernelRun0_B.sl.v478, kernelRun0_B.sl.v484, kernelRun0_B.sl.v489, kernelRun0_B.sl.v503, kernelRun0_B.sl.v513, kernelRun0_B.sl.v521, kernelRun0_B.sl.v527, kernelRun0_B.sl.v532, kernelRun0_B.sl.v546, kernelRun0_B.sl.v548, kernelRun0_B.sl.v83, kernelRun0_B.sl.v91, kernelRun0_B.sl.v97,
    View.read_writes_junk_eq_canon, readCov_ext, View.readAt_eq_ld, Memref.IsWhole.read_unread, read_unread_whole,
    View.canon_cons_unit_lit', View.ld_unit_lit', View.readCov_unit_lit', View.readCov_cons_unit_lit',
    ↓ View.readCov_skip, ↓ View.readCov_cons_toLoadRect, ↓ View.readCov_fill]
  simp only [act_0, act_1, act_2, act_3, act_4, act_5, act_6, act_7, act_8, act_9, act_10, up_10, up_17, up_24, up_30, up_39, up_46, up_53, up_59, up_68, up_35, up_64, row_9, row_16, row_23, row_29, row_33, row_38, row_45, row_52, row_58, row_62, row_67, row_11, row_18, row_25, row_31, row_36, row_40, row_47, row_54, row_60, row_65, row_69, fold_xn, fold_h, fold_act, fold_e, fold_a, fold_n, fold_read]
  simp only [haloPieces]

set_option maxHeartbeats 800000 in
theorem outA (c : Dev nD) (t : Fin cfg0.N) (h0 : t.val % 11 = 0) :
    (outsAt0 m c t.val t.isLt).1 = outT (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) k0_pay3 := by
  rw [outsAt0_A m c t h0]
  unfold out0_A_12 kernelRun0_A
  dsimp only
  simp (disch := decide) only [kernelRun0_A.sl.H12_1, kernelRun0_A.sl.HS0_1, kernelRun0_A.sl.HS0_10, kernelRun0_A.sl.HS0_11, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS1_10, kernelRun0_A.sl.HS1_12, kernelRun0_A.sl.HS1_14, kernelRun0_A.sl.HS1_16, kernelRun0_A.sl.HS1_18, kernelRun0_A.sl.HS1_2, kernelRun0_A.sl.HS1_20, kernelRun0_A.sl.HS1_22, kernelRun0_A.sl.HS1_4, kernelRun0_A.sl.HS1_6, kernelRun0_A.sl.HS1_8, kernelRun0_A.sl.HS2_11, kernelRun0_A.sl.cst_135, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v102, kernelRun0_A.sl.v116, kernelRun0_A.sl.v126, kernelRun0_A.sl.v134, kernelRun0_A.sl.v140, kernelRun0_A.sl.v145, kernelRun0_A.sl.v159, kernelRun0_A.sl.v169, kernelRun0_A.sl.v177, kernelRun0_A.sl.v183, kernelRun0_A.sl.v188, kernelRun0_A.sl.v202, kernelRun0_A.sl.v212, kernelRun0_A.sl.v220, kernelRun0_A.sl.v226, kernelRun0_A.sl.v231, kernelRun0_A.sl.v245, kernelRun0_A.sl.v255, kernelRun0_A.sl.v263, kernelRun0_A.sl.v269, kernelRun0_A.sl.v274, kernelRun0_A.sl.v288, kernelRun0_A.sl.v298, kernelRun0_A.sl.v306, kernelRun0_A.sl.v312, kernelRun0_A.sl.v317, kernelRun0_A.sl.v331, kernelRun0_A.sl.v341, kernelRun0_A.sl.v349, kernelRun0_A.sl.v355, kernelRun0_A.sl.v360, kernelRun0_A.sl.v374, kernelRun0_A.sl.v384, kernelRun0_A.sl.v392, kernelRun0_A.sl.v398, kernelRun0_A.sl.v403, kernelRun0_A.sl.v417, kernelRun0_A.sl.v427, kernelRun0_A.sl.v435, kernelRun0_A.sl.v441, kernelRun0_A.sl.v446, kernelRun0_A.sl.v460, kernelRun0_A.sl.v470, kernelRun0_A.sl.v478, kernelRun0_A.sl.v484, kernelRun0_A.sl.v489, kernelRun0_A.sl.v503, kernelRun0_A.sl.v513, kernelRun0_A.sl.v521, kernelRun0_A.sl.v527, kernelRun0_A.sl.v532, kernelRun0_A.sl.v546, kernelRun0_A.sl.v548, kernelRun0_A.sl.v73, kernelRun0_A.sl.v83, kernelRun0_A.sl.v91, kernelRun0_A.sl.v97,
    View.read_writes_junk_eq_canon, readCov_ext, View.readAt_eq_ld, Memref.IsWhole.read_unread, read_unread_whole,
    View.canon_cons_unit_lit', View.ld_unit_lit', View.readCov_unit_lit', View.readCov_cons_unit_lit',
    ↓ View.readCov_skip, ↓ View.readCov_cons_toLoadRect, ↓ View.readCov_fill]
  simp only [act_0, act_1, act_2, act_3, act_4, act_5, act_6, act_7, act_8, act_9, act_10, up_10, up_17, up_24, up_30, up_39, up_46, up_53, up_59, up_68, up_35, up_64, row_9, row_16, row_23, row_29, row_33, row_38, row_45, row_52, row_58, row_62, row_67, row_11, row_18, row_25, row_31, row_36, row_40, row_47, row_54, row_60, row_65, row_69, fold_xn, fold_h, fold_act, fold_e, fold_a, fold_n, fold_read]
  unfold outT actPieces
  rfl

set_option maxHeartbeats 800000 in
theorem haloA (c : Dev nD) (t : Fin cfg0.N) (h0 : t.val % 11 = 0) :
    (outsAt0 m c t.val t.isLt).2 = View.canon (haloPieces (xnT (iblk m c 0 t) (iblk m c 1 t) (iblk m c 2 t) (iblk m c 3 t) (iblk m c 4 t) (iblk m c 5 t) (iblk m c 6 t) (iblk m c 7 t)) (iblk m c 8 t) k0_pay3) := by
  rw [outsAt0_A m c t h0]
  unfold sout0_A_0 kernelRun0_A
  dsimp only
  simp (disch := decide) only [kernelRun0_A.sl.H12_1, kernelRun0_A.sl.HS0_1, kernelRun0_A.sl.HS0_10, kernelRun0_A.sl.HS0_11, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS1_10, kernelRun0_A.sl.HS1_12, kernelRun0_A.sl.HS1_14, kernelRun0_A.sl.HS1_16, kernelRun0_A.sl.HS1_18, kernelRun0_A.sl.HS1_2, kernelRun0_A.sl.HS1_20, kernelRun0_A.sl.HS1_22, kernelRun0_A.sl.HS1_4, kernelRun0_A.sl.HS1_6, kernelRun0_A.sl.HS1_8, kernelRun0_A.sl.HS2_11, kernelRun0_A.sl.cst_135, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v102, kernelRun0_A.sl.v116, kernelRun0_A.sl.v126, kernelRun0_A.sl.v134, kernelRun0_A.sl.v140, kernelRun0_A.sl.v145, kernelRun0_A.sl.v159, kernelRun0_A.sl.v169, kernelRun0_A.sl.v177, kernelRun0_A.sl.v183, kernelRun0_A.sl.v188, kernelRun0_A.sl.v202, kernelRun0_A.sl.v212, kernelRun0_A.sl.v220, kernelRun0_A.sl.v226, kernelRun0_A.sl.v231, kernelRun0_A.sl.v245, kernelRun0_A.sl.v255, kernelRun0_A.sl.v263, kernelRun0_A.sl.v269, kernelRun0_A.sl.v274, kernelRun0_A.sl.v288, kernelRun0_A.sl.v298, kernelRun0_A.sl.v306, kernelRun0_A.sl.v312, kernelRun0_A.sl.v317, kernelRun0_A.sl.v331, kernelRun0_A.sl.v341, kernelRun0_A.sl.v349, kernelRun0_A.sl.v355, kernelRun0_A.sl.v360, kernelRun0_A.sl.v374, kernelRun0_A.sl.v384, kernelRun0_A.sl.v392, kernelRun0_A.sl.v398, kernelRun0_A.sl.v403, kernelRun0_A.sl.v417, kernelRun0_A.sl.v427, kernelRun0_A.sl.v435, kernelRun0_A.sl.v441, kernelRun0_A.sl.v446, kernelRun0_A.sl.v460, kernelRun0_A.sl.v470, kernelRun0_A.sl.v478, kernelRun0_A.sl.v484, kernelRun0_A.sl.v489, kernelRun0_A.sl.v503, kernelRun0_A.sl.v513, kernelRun0_A.sl.v521, kernelRun0_A.sl.v527, kernelRun0_A.sl.v532, kernelRun0_A.sl.v546, kernelRun0_A.sl.v548, kernelRun0_A.sl.v73, kernelRun0_A.sl.v83, kernelRun0_A.sl.v91, kernelRun0_A.sl.v97,
    View.read_writes_junk_eq_canon, readCov_ext, View.readAt_eq_ld, Memref.IsWhole.read_unread, read_unread_whole,
    View.canon_cons_unit_lit', View.ld_unit_lit', View.readCov_unit_lit', View.readCov_cons_unit_lit',
    ↓ View.readCov_skip, ↓ View.readCov_cons_toLoadRect, ↓ View.readCov_fill]
  simp only [act_0, act_1, act_2, act_3, act_4, act_5, act_6, act_7, act_8, act_9, act_10, up_10, up_17, up_24, up_30, up_39, up_46, up_53, up_59, up_68, up_35, up_64, row_9, row_16, row_23, row_29, row_33, row_38, row_45, row_52, row_58, row_62, row_67, row_11, row_18, row_25, row_31, row_36, row_40, row_47, row_54, row_60, row_65, row_69, fold_xn, fold_h, fold_act, fold_e, fold_a, fold_n, fold_read]
  refine Eq.trans ?_ (show View.canon (haloPieces (xnT (iblk m c 0 t) (iblk m c 1 t) (iblk m c 2 t) (iblk m c 3 t) (iblk m c 4 t)
      (iblk m c 5 t) (iblk m c 6 t) (iblk m c 7 t)) (iblk m c 8 t) k0_pay3 ++ [⟨Rect.unit (s := S8x5632) ![0, 0] ![8, 5632] inb_S8x5632_S8x5632_0_0, k0_pay3⟩]) = _ from
      funext fun y => canon_append_cover _ y _ (haloPieces_cover _ _ _ y))
  simp only [haloPieces, List.cons_append, List.nil_append]

end Cert.KernelIdeal.Value

end
-- ==== Proof.Rows.lean ====
module

public import Idealize.ShloMosaic.Lib.Pointwise
/-!
The layer's last part, one position at a time: what the output projection, the norms, the up projection and the gate do to
the row of one position.
-/
@[expose] public section
noncomputable section
namespace Cert.Rows
open Idealize.ShloMosaic

/-- The norms' epsilon. -/
def eps : EReal := Ideal.ofBits FTy.f32 897988541#32

/-- A row over the root of its mean square (`c` times the sum of squares), times the gain. -/
def rms {n : ℕ} (c : EReal) (v g : Fin n → EReal) (k : Fin n) : EReal :=
  v k * Ideal.rsqrt ((∑ x, v x * v x) * c + eps) * g k

/-- `1 / 256`. -/
def c256 : EReal := Ideal.ofBits FTy.f32 998244352#32
/-- `1 / 1024`. -/
def c1024 : EReal := Ideal.ofBits FTy.f32 981467136#32

/-- The hidden row after the output projection: the three mixers' rows, two of them normed, against the three row ranges
    of the projection. -/
def h1 (h : Fin 1024 → EReal) (y : Fin 512 → EReal) (s m gs gm : Fin 256 → EReal) (W : Fin 1024 → Fin 1024 → EReal)
    (d : Fin 1024) : EReal :=
  h d + (((∑ x : Fin 512, y x * W ⟨x.val, by omega⟩ d) + ∑ x : Fin 256, rms c256 s gs x * W ⟨512 + x.val, by omega⟩ d) +
    ∑ x : Fin 256, rms c256 m gm x * W ⟨768 + x.val, by omega⟩ d)

/-- A normed row against the up projection. -/
def up (xn : Fin 1024 → EReal) (W : Fin 1024 → Fin 5632 → EReal) (j : Fin 5632) : EReal := ∑ x, xn x * W x j

/-- The causal convolution of three positions' up-projected rows (`u2` the position itself, `u0` two before it). -/
def conv (w : Fin 3 → Fin 5632 → EReal) (b : Fin 5632 → EReal) (u0 u1 u2 : Fin 5632 → EReal) (j : Fin 5632) : EReal :=
  b j + u2 j * w 2 j + u1 j * w 1 j + u0 j * w 0 j

/-- The gated unit. -/
def glu (g v : EReal) : EReal := g * Ideal.logistic g * v

/-! ## The layer's last part as a whole -/

section
variable (a0 : Fin 8 → Fin 8208 → Fin 1024 → EReal) (a1 : Fin 8 → Fin 8208 → Fin 512 → EReal) (a2 a3 : Fin 8 → Fin 8208 → Fin 256 → EReal)
  (a4 a5 : Fin 256 → EReal) (a6 : Fin 1024 → Fin 1024 → EReal) (a7 : Fin 1024 → EReal) (a8 : Fin 1024 → Fin 5632 → EReal)
  (a9 : Fin 3 → Fin 5632 → EReal) (a10 : Fin 5632 → EReal) (a11 : Fin 2816 → Fin 1024 → EReal)

/-- Position `p`'s hidden row after the output projection. -/
def hid (b : Fin 8) (p : Fin 8208) : Fin 1024 → EReal := h1 (a0 b p) (a1 b p) (a2 b p) (a3 b p) a4 a5 a6

/-- Position `p`'s up-projected row. -/
def ups (b : Fin 8) (p : Fin 8208) : Fin 5632 → EReal := up (rms c1024 (hid a0 a1 a2 a3 a4 a5 a6 b p) a7) a8

/-- The up-projected row `o` positions before `p`: zero before the sequence starts. -/
def past (o : ℕ) (b : Fin 8) (p : Fin 8208) (j : Fin 5632) : EReal :=
  if p.val < o then 0 else ups a0 a1 a2 a3 a4 a5 a6 a7 a8 b ⟨p.val - o, by omega⟩ j

/-- Position `p`'s convolved row. -/
def cnv (b : Fin 8) (p : Fin 8208) : Fin 5632 → EReal :=
  conv a9 a10 (past a0 a1 a2 a3 a4 a5 a6 a7 a8 2 b p) (past a0 a1 a2 a3 a4 a5 a6 a7 a8 1 b p) (past a0 a1 a2 a3 a4 a5 a6 a7 a8 0 b p)

/-- Position `p`'s row of the output. -/
def out (b : Fin 8) (p : Fin 8208) (d : Fin 1024) : EReal :=
  hid a0 a1 a2 a3 a4 a5 a6 b p d + ∑ k : Fin 2816, glu (cnv a0 a1 a2 a3 a4 a5 a6 a7 a8 a9 a10 b p ⟨k.val, by omega⟩)
    (cnv a0 a1 a2 a3 a4 a5 a6 a7 a8 a9 a10 b p ⟨2816 + k.val, by omega⟩) * a11 k d

end

end Cert.Rows
end
-- ==== Proof.TileAt.lean ====
module

public import proofs.«01_k».proof.Proof.Tile
public import proofs.«01_k».proof.Proof.Rows
/-!
The values of one grid point, read at an index at the reals: the tile's hidden rows, its normed rows, the chunks' activations,
the rows carried to the next tile, and the tile written out.
-/
@[expose] public section
set_option maxRecDepth 16384
noncomputable section
namespace Cert.KernelIdeal.Value
open Cert.KernelIdeal Cert.KernelIdeal.Gen Idealize.ShloMosaic Idealize.ShloMosaic.TcCoe Idealize.SL.Sem

theorem hT_apply (x0 : Vec Ideal S1x768x1024 .f32) (x1 : Vec Ideal S1x768x512 .bf16) (x2 x3 : Vec Ideal S1x768x256 .bf16) (x4 x5 : Vec Ideal S1x256 .f32)
    (x6 : Vec Ideal S1024x1024 .bf16)
    (r : Fin 768) (d : Fin 1024) :
    hT x0 x1 x2 x3 x4 x5 x6 (ix3 0 r d) = Rows.h1 (fun k => x0 (ix3 0 r k)) (fun k => x1 (ix3 0 r k)) (fun k => x2 (ix3 0 r k)) (fun k => x3 (ix3 0 r k))
        (fun k => x4 (ix2 0 k)) (fun k => x5 (ix2 0 k)) (fun k e => x6 (ix2 k e)) d := by
  pointwise [hT, k0_pay7, k0_pay6, k0_pay4, k0_pay5]
  rfl

theorem xnT_apply (x0 : Vec Ideal S1x768x1024 .f32) (x1 : Vec Ideal S1x768x512 .bf16) (x2 x3 : Vec Ideal S1x768x256 .bf16) (x4 x5 : Vec Ideal S1x256 .f32)
    (x6 : Vec Ideal S1024x1024 .bf16)
    (x7 : Vec Ideal S1x1024 .f32) (r : Fin 768) (d : Fin 1024) :
    xnT x0 x1 x2 x3 x4 x5 x6 x7 (ix2 r d) = Rows.rms Rows.c1024 (Rows.h1 (fun k => x0 (ix3 0 r k)) (fun k => x1 (ix3 0 r k)) (fun k => x2 (ix3 0 r k)) (fun k => x3 (ix3 0 r k))
        (fun k => x4 (ix2 0 k)) (fun k => x5 (ix2 0 k)) (fun k e => x6 (ix2 k e)))
      (fun k => x7 (ix2 0 k)) d := by
  pointwise [xnT, k0_pay8, k0_pay6, k0_pay4, k0_pay5]
  rfl

theorem actC_apply (cw : Vec Ideal S3x512 .f32) (cb : Vec Ideal S1x512 .f32) (a b d : Vec Ideal S768x512 .f32) (r : Fin 768) (l : Fin 256) :
    actC cw cb a b d (ix2 r l) =
      Rows.glu (cb (ix2 0 ⟨l.val, by omega⟩) + a (ix2 r ⟨l.val, by omega⟩) * cw (ix2 2 ⟨l.val, by omega⟩) +
          b (ix2 r ⟨l.val, by omega⟩) * cw (ix2 1 ⟨l.val, by omega⟩) + d (ix2 r ⟨l.val, by omega⟩) * cw (ix2 0 ⟨l.val, by omega⟩))
        (cb (ix2 0 ⟨256 + l.val, by omega⟩) + a (ix2 r ⟨256 + l.val, by omega⟩) * cw (ix2 2 ⟨256 + l.val, by omega⟩) +
          b (ix2 r ⟨256 + l.val, by omega⟩) * cw (ix2 1 ⟨256 + l.val, by omega⟩) +
          d (ix2 r ⟨256 + l.val, by omega⟩) * cw (ix2 0 ⟨256 + l.val, by omega⟩)) := by
  pointwise [actC, k0_pay15, k0_pay12, k0_pay13, k0_pay14]
  rfl

theorem upT_apply (xn : Vec Ideal S768x1024 .bf16) (W : Vec Ideal S1024x512 .bf16) (r : Fin 768) (j : Fin 512) :
    upT xn W (ix2 r j) = ∑ x, xn (ix2 r x) * W (ix2 x j) := by
  pointwise [upT, k0_pay10]

/-- The tile's up-projected rows with the eight rows before them: row `q` of the scratch, all columns. -/
def rowE (xn : Vec Ideal S768x1024 .bf16) (x8 : Vec Ideal S1024x5632 .bf16) (hal : Vec Ideal S8x5632 .f32) (q : Fin 776) (j : Fin 5632) :
    EReal :=
  if h : q.val < 8 then hal (ix2 ⟨q.val, h⟩ j) else Rows.up (fun k => xn (ix2 ⟨q.val - 8, by omega⟩ k)) (fun k e => x8 (ix2 k e)) j

/-- The convolution's row `r`. -/
def rowC (xn : Vec Ideal S768x1024 .bf16) (x8 : Vec Ideal S1024x5632 .bf16) (x9 : Vec Ideal S3x5632 .f32) (x10 : Vec Ideal S1x5632 .f32)
    (hal : Vec Ideal S8x5632 .f32) (r : Fin 768) (j : Fin 5632) : EReal :=
  Rows.conv (fun t e => x9 (ix2 t e)) (fun e => x10 (ix2 0 e)) (rowE xn x8 hal ⟨6 + r.val, by omega⟩)
    (rowE xn x8 hal ⟨7 + r.val, by omega⟩) (rowE xn x8 hal ⟨8 + r.val, by omega⟩) j

/-- The activation's entry at row `r`, column `k`: the gate in the first half of its chunk's columns, the value in the
    second. -/
def rowA (xn : Vec Ideal S768x1024 .bf16) (x8 : Vec Ideal S1024x5632 .bf16) (x9 : Vec Ideal S3x5632 .f32) (x10 : Vec Ideal S1x5632 .f32)
    (hal : Vec Ideal S8x5632 .f32) (r : Fin 768) (k : Fin 2816) : EReal :=
  Rows.glu (rowC xn x8 x9 x10 hal r ⟨512 * (k.val / 256) + k.val % 256, by omega⟩)
    (rowC xn x8 x9 x10 hal r ⟨512 * (k.val / 256) + (256 + k.val % 256), by omega⟩)

theorem eT_apply (xn : Vec Ideal S768x1024 .bf16) (x8 : Vec Ideal S1024x5632 .bf16) (hal : Vec Ideal S8x5632 .f32) (o : ℕ) (ho : o + 512 ≤ 5632)
    (hW : ∀ a, ![0, o] a + S1024x512.size a ≤ S1024x5632.size a) (hH : ∀ a, ![0, o] a + S8x512.size a ≤ S8x5632.size a)
    (q : Fin 776) (j : Fin 512) :
    eT xn x8 hal o hW hH (ix2 q j) = rowE xn x8 hal q ⟨o + j.val, by omega⟩ := by
  unfold eT extOf rowE
  by_cases h : q.val < 8
  · rw [dif_pos (show ((ix2 q j : S776x512.Idx) 0).val < 8 from h), dif_pos h]
    pointwise
  · rw [dif_neg (show ¬ ((ix2 q j : S776x512.Idx) 0).val < 8 from h), dif_neg h]
    refine (upT_apply _ _ _ _).trans ?_
    unfold Rows.up
    refine Finset.sum_congr rfl fun x _ => ?_
    pointwise

theorem nT_apply (xn : Vec Ideal S768x1024 .bf16) (x8 : Vec Ideal S1024x5632 .bf16) (hal : Vec Ideal S8x5632 .f32) (o : ℕ) (ho : o + 512 ≤ 5632)
    (hW : ∀ a, ![0, o] a + S1024x512.size a ≤ S1024x5632.size a) (hH : ∀ a, ![0, o] a + S8x512.size a ≤ S8x5632.size a)
    (q : Fin 8) (j : Fin 512) :
    nT xn x8 hal o hW hH (ix2 q j) =
      Rows.up (fun k => xn (ix2 ⟨760 + q.val, by omega⟩ k)) (fun k e => x8 (ix2 k e)) ⟨o + j.val, by omega⟩ := by
  have e : nT xn x8 hal o hW hH (ix2 q j) = eT xn x8 hal o hW hH (ix2 ⟨768 + q.val, by omega⟩ j) := by
    unfold nT
    pointwise
  rw [e, eT_apply _ _ _ _ ho]
  unfold rowE
  rw [dif_neg (by show ¬ 768 + q.val < 8; omega)]
  have h : (⟨768 + q.val - 8, by omega⟩ : Fin 768) = ⟨760 + q.val, by omega⟩ := Fin.ext (by show 768 + q.val - 8 = 760 + q.val; omega)
  simp only [h]

theorem aT_apply (xn : Vec Ideal S768x1024 .bf16) (x8 : Vec Ideal S1024x5632 .bf16) (x9 : Vec Ideal S3x5632 .f32) (x10 : Vec Ideal S1x5632 .f32)
    (hal : Vec Ideal S8x5632 .f32) (o : ℕ) (ho : o + 512 ≤ 5632)
    (hW : ∀ a, ![0, o] a + S1024x512.size a ≤ S1024x5632.size a) (hH : ∀ a, ![0, o] a + S8x512.size a ≤ S8x5632.size a)
    (hC : ∀ a, ![0, o] a + S3x512.size a ≤ S3x5632.size a) (hB : ∀ a, ![0, o] a + S1x512.size a ≤ S1x5632.size a)
    (r : Fin 768) (l : Fin 256) :
    aT xn x8 x9 x10 hal o hW hH hC hB (ix2 r l) =
      Rows.glu (rowC xn x8 x9 x10 hal r ⟨o + l.val, by omega⟩) (rowC xn x8 x9 x10 hal r ⟨o + (256 + l.val), by omega⟩) := by
  have e : ∀ (q : Fin 776) (j : Fin 512), eT xn x8 hal o hW hH (ix2 q j) = rowE xn x8 hal q ⟨o + j.val, by omega⟩ :=
    eT_apply xn x8 hal o ho hW hH
  unfold aT actT
  generalize eT xn x8 hal o hW hH = E at e ⊢
  rw [actC_apply]
  have c : ∀ j : Fin 512, View.ld x10 (Rect.unit (s := S1x5632) ![0, o] S1x512.size hB) (ix2 0 j) = x10 (ix2 0 ⟨o + j.val, by omega⟩) := by
    intro j; pointwise
  have w : ∀ (t : Fin 3) (j : Fin 512), View.ld x9 (Rect.unit (s := S3x5632) ![0, o] S3x512.size hC) (ix2 t j) = x9 (ix2 t ⟨o + j.val, by omega⟩) := by
    intro t j; pointwise
  have a8 : ∀ (h : _) (j : Fin 512), View.ld E (Rect.unit (s := S776x512) ![8, 0] S768x512.size h) (ix2 r j) = E (ix2 ⟨8 + r.val, by omega⟩ j) := by
    intro h j; pointwise
  have a7 : ∀ (h : _) (j : Fin 512), View.ld E (Rect.unit (s := S776x512) ![7, 0] S768x512.size h) (ix2 r j) = E (ix2 ⟨7 + r.val, by omega⟩ j) := by
    intro h j; pointwise
  have a6 : ∀ (h : _) (j : Fin 512), View.ld E (Rect.unit (s := S776x512) ![6, 0] S768x512.size h) (ix2 r j) = E (ix2 ⟨6 + r.val, by omega⟩ j) := by
    intro h j; pointwise
  simp only [a8, a7, a6, c, w, e]
  rfl

/-- `rowA` as an array. -/
def actG (xn : Vec Ideal S768x1024 .bf16) (x8 : Vec Ideal S1024x5632 .bf16) (x9 : Vec Ideal S3x5632 .f32) (x10 : Vec Ideal S1x5632 .f32)
    (hal : Vec Ideal S8x5632 .f32) : Vec Ideal S768x2816 .bf16 := fun y => rowA xn x8 x9 x10 hal (y 0) (y 1)

theorem canon_act (xn : Vec Ideal S768x1024 .bf16) (x8 : Vec Ideal S1024x5632 .bf16) (x9 : Vec Ideal S3x5632 .f32) (x10 : Vec Ideal S1x5632 .f32)
    (hal : Vec Ideal S8x5632 .f32) (r : Fin 768) (k : Fin 2816) :
    View.canon (actPieces xn x8 x9 x10 hal) (ix2 r k) = rowA xn x8 x9 x10 hal r k := by
  have key : ∀ (o c : ℕ) (hc : c < 11) (ho : o = 512 * c) hW hH hC hB (x : S768x256.Idx) (y : S768x2816.Idx)
      (h0 : (y 0).val = 0 + (x 0).val) (h1 : (y 1).val = 256 * c + (x 1).val),
      aT xn x8 x9 x10 hal o hW hH hC hB x = rowA xn x8 x9 x10 hal (y 0) (y 1) := by
    intro o c hc ho hW hH hC hB x y h0 h1
    obtain ⟨r, l, rfl⟩ : ∃ (a : Fin 768) (b : Fin 256), x = ix2 a b := ⟨x 0, x 1, eq_ix2 x⟩
    obtain ⟨r', k', rfl⟩ : ∃ (a : Fin 768) (b : Fin 2816), y = ix2 a b := ⟨y 0, y 1, eq_ix2 y⟩
    have hl : l.val < 256 := l.isLt
    replace h0 : r'.val = 0 + r.val := h0
    replace h1 : k'.val = 256 * c + l.val := h1
    have hr : r' = r := Fin.ext (by omega)
    subst hr
    refine (aT_apply xn x8 x9 x10 hal o (by omega) hW hH hC hB r' l).trans ?_
    show _ = rowA xn x8 x9 x10 hal r' k'
    unfold rowA
    have e1 : (⟨o + l.val, by omega⟩ : Fin 5632) = ⟨512 * (k'.val / 256) + k'.val % 256, by omega⟩ := Fin.ext (by show o + l.val = 512 * (k'.val / 256) + k'.val % 256; omega)
    have e2 : (⟨o + (256 + l.val), by omega⟩ : Fin 5632) = ⟨512 * (k'.val / 256) + (256 + k'.val % 256), by omega⟩ :=
      Fin.ext (by show o + (256 + l.val) = 512 * (k'.val / 256) + (256 + k'.val % 256); omega)
    rw [e1, e2]
  have key2 : ∀ (o p c : ℕ) (hc : c < 11) (ho : o = 512 * c) (hp : p = 256 * c) hR hW hH hC hB (x : S768x256.Idx),
      aT xn x8 x9 x10 hal o hW hH hC hB x = (actG xn x8 x9 x10 hal)
        ((Rect.unit (s := S768x2816) ![0, p] S768x256.size hR).emb x) := by
    intro o p c hc ho hp hR hW hH hC hB x
    subst hp
    exact key o c hc ho hW hH hC hB x _ (Rect.idx_unit_val (s := S768x2816) ![0, 256 * c] S768x256.size hR x 0) (Rect.idx_unit_val (s := S768x2816) ![0, 256 * c] S768x256.size hR x 1)
  have h := View.canon_append_of_piecesOf (actG xn x8 x9 x10 hal) []
    (actPieces xn x8 x9 x10 hal) (show View.PiecesOf (actG xn x8 x9 x10 hal) (actPieces xn x8 x9 x10 hal) from ⟨key2 5120 2560 10 (by omega) (by omega) (by omega) inb_S768x2816_S768x256_0_2560 _ _ _ _,
    key2 4608 2304 9 (by omega) (by omega) (by omega) inb_S768x2816_S768x256_0_2304 _ _ _ _,
    key2 4096 2048 8 (by omega) (by omega) (by omega) inb_S768x2816_S768x256_0_2048 _ _ _ _,
    key2 3584 1792 7 (by omega) (by omega) (by omega) inb_S768x2816_S768x256_0_1792 _ _ _ _,
    key2 3072 1536 6 (by omega) (by omega) (by omega) inb_S768x2816_S768x256_0_1536 _ _ _ _,
    key2 2560 1280 5 (by omega) (by omega) (by omega) inb_S768x2816_S768x256_0_1280 _ _ _ _,
    key2 2048 1024 4 (by omega) (by omega) (by omega) inb_S768x2816_S768x256_0_1024 _ _ _ _,
    key2 1536 768 3 (by omega) (by omega) (by omega) inb_S768x2816_S768x256_0_768 _ _ _ _,
    key2 1024 512 2 (by omega) (by omega) (by omega) inb_S768x2816_S768x256_0_512 _ _ _ _,
    key2 512 256 1 (by omega) (by omega) (by omega) inb_S768x2816_S768x256_0_256 _ _ _ _,
    key2 0 0 0 (by omega) (by omega) (by omega) inb_S768x2816_S768x256_0_0 _ _ _ _, trivial⟩) (ix2 r k) (actPieces_cover xn x8 x9 x10 hal _)
  rw [List.append_nil] at h
  exact h

/-- Row `q` of the rows carried on: the tile's last eight up-projected rows. -/
def rowH (xn : Vec Ideal S768x1024 .bf16) (x8 : Vec Ideal S1024x5632 .bf16) (q : Fin 8) (j : Fin 5632) : EReal :=
  Rows.up (fun k => xn (ix2 ⟨760 + q.val, by omega⟩ k)) (fun k e => x8 (ix2 k e)) j

/-- `rowH` as an array. -/
def haloG (xn : Vec Ideal S768x1024 .bf16) (x8 : Vec Ideal S1024x5632 .bf16) : Vec Ideal S8x5632 .f32 := fun y => rowH xn x8 (y 0) (y 1)

theorem canon_halo (xn : Vec Ideal S768x1024 .bf16) (x8 : Vec Ideal S1024x5632 .bf16)
    (hal : Vec Ideal S8x5632 .f32) (q : Fin 8) (j : Fin 5632) :
    View.canon (haloPieces xn x8 hal) (ix2 q j) = rowH xn x8 q j := by
  have key : ∀ (o : ℕ) (ho : o + 512 ≤ 5632) hW hH (x : S8x512.Idx) (y : S8x5632.Idx)
      (h0 : (y 0).val = 0 + (x 0).val) (h1 : (y 1).val = o + (x 1).val),
      nT xn x8 hal o hW hH x = rowH xn x8 (y 0) (y 1) := by
    intro o ho hW hH x y h0 h1
    obtain ⟨r, l, rfl⟩ : ∃ (a : Fin 8) (b : Fin 512), x = ix2 a b := ⟨x 0, x 1, eq_ix2 x⟩
    obtain ⟨r', k', rfl⟩ : ∃ (a : Fin 8) (b : Fin 5632), y = ix2 a b := ⟨y 0, y 1, eq_ix2 y⟩
    have hl : l.val < 512 := l.isLt
    replace h0 : r'.val = 0 + r.val := h0
    replace h1 : k'.val = o + l.val := h1
    have hr : r' = r := Fin.ext (by omega)
    subst hr
    refine (nT_apply xn x8 hal o ho hW hH r' l).trans ?_
    have e1 : (⟨o + l.val, by omega⟩ : Fin 5632) = k' := Fin.ext h1.symm
    rw [e1]
    rfl
  have key2 : ∀ (o : ℕ) (ho : o + 512 ≤ 5632) hR hW hH (x : S8x512.Idx),
      nT xn x8 hal o hW hH x = (haloG xn x8)
        ((Rect.unit (s := S8x5632) ![0, o] S8x512.size hR).emb x) := by
    intro o ho hR hW hH x
    exact key o ho hW hH x _ (Rect.idx_unit_val (s := S8x5632) ![0, o] S8x512.size hR x 0) (Rect.idx_unit_val (s := S8x5632) ![0, o] S8x512.size hR x 1)
  have h := View.canon_append_of_piecesOf (haloG xn x8) []
    (haloPieces xn x8 hal) (show View.PiecesOf (haloG xn x8) (haloPieces xn x8 hal) from ⟨key2 5120 (by omega) inb_S8x5632_S8x512_0_5120 _ _,
    key2 4608 (by omega) inb_S8x5632_S8x512_0_4608 _ _,
    key2 4096 (by omega) inb_S8x5632_S8x512_0_4096 _ _,
    key2 3584 (by omega) inb_S8x5632_S8x512_0_3584 _ _,
    key2 3072 (by omega) inb_S8x5632_S8x512_0_3072 _ _,
    key2 2560 (by omega) inb_S8x5632_S8x512_0_2560 _ _,
    key2 2048 (by omega) inb_S8x5632_S8x512_0_2048 _ _,
    key2 1536 (by omega) inb_S8x5632_S8x512_0_1536 _ _,
    key2 1024 (by omega) inb_S8x5632_S8x512_0_1024 _ _,
    key2 512 (by omega) inb_S8x5632_S8x512_0_512 _ _,
    key2 0 (by omega) inb_S8x5632_S8x512_0_0 _ _, trivial⟩) (ix2 q j) (haloPieces_cover xn x8 hal _)
  rw [List.append_nil] at h
  exact h

theorem outT_apply (x0 : Vec Ideal S1x768x1024 .f32) (x1 : Vec Ideal S1x768x512 .bf16) (x2 x3 : Vec Ideal S1x768x256 .bf16) (x4 x5 : Vec Ideal S1x256 .f32)
    (x6 : Vec Ideal S1024x1024 .bf16)
    (x7 : Vec Ideal S1x1024 .f32) (x8 : Vec Ideal S1024x5632 .bf16) (x9 : Vec Ideal S3x5632 .f32) (x10 : Vec Ideal S1x5632 .f32)
    (x11 : Vec Ideal S2816x1024 .bf16) (hal : Vec Ideal S8x5632 .f32) (r : Fin 768) (d : Fin 1024) :
    outT x0 x1 x2 x3 x4 x5 x6 x7 x8 x9 x10 x11 hal (ix3 0 r d) =
      Rows.h1 (fun k => x0 (ix3 0 r k)) (fun k => x1 (ix3 0 r k)) (fun k => x2 (ix3 0 r k)) (fun k => x3 (ix3 0 r k))
        (fun k => x4 (ix2 0 k)) (fun k => x5 (ix2 0 k)) (fun k e => x6 (ix2 k e)) d + ∑ k : Fin 2816, rowA (xnT x0 x1 x2 x3 x4 x5 x6 x7) x8 x9 x10 hal r k * x11 (ix2 k d) := by
  unfold outT
  have e := hT_apply x0 x1 x2 x3 x4 x5 x6 r d
  have f := canon_act (xnT x0 x1 x2 x3 x4 x5 x6 x7) x8 x9 x10 hal r
  generalize hT x0 x1 x2 x3 x4 x5 x6 = H at e ⊢
  generalize View.canon (actPieces (xnT x0 x1 x2 x3 x4 x5 x6 x7) x8 x9 x10 hal) = A at f ⊢
  rw [← e]
  simp only [← f]
  pointwise [k0_pay2]

end Cert.KernelIdeal.Value
end
-- ==== Proof.Blocks.lean ====
module

public import proofs.«01_k».proof.Proof.TileAt
/-!
The blocks the grid's points read, at an index, in terms of the arguments: the host's padding, casts and the interleaving of
the gate's and the value's columns are read away.
-/
@[expose] public section
set_option maxRecDepth 16384
noncomputable section
namespace Cert.KernelIdeal.Value
open Cert.KernelIdeal Cert.KernelIdeal.Gen Idealize.ShloMosaic Idealize.ShloMosaic.TcCoe Idealize.SL.Sem
variable (m : (ℓ : Loc nD τ sig) → Buf (Elt Ideal) ℓ) (c : Dev nD)

abbrev A0 : Vec Ideal S8x8208x1024 .f32 := m ((c.tc : Thread nD τ).loc main_arg0)
abbrev A1 : Vec Ideal S8x8208x512 .f32 := m ((c.tc : Thread nD τ).loc main_arg1)
abbrev A2 : Vec Ideal S8x8208x256 .f32 := m ((c.tc : Thread nD τ).loc main_arg2)
abbrev A3 : Vec Ideal S8x8208x256 .f32 := m ((c.tc : Thread nD τ).loc main_arg3)
abbrev A4 : Vec Ideal S256 .f32 := m ((c.tc : Thread nD τ).loc main_arg4)
abbrev A5 : Vec Ideal S256 .f32 := m ((c.tc : Thread nD τ).loc main_arg5)
abbrev A6 : Vec Ideal S1024x1024 .f32 := m ((c.tc : Thread nD τ).loc main_arg6)
abbrev A7 : Vec Ideal S1024 .f32 := m ((c.tc : Thread nD τ).loc main_arg7)
abbrev A8 : Vec Ideal S1024x5632 .f32 := m ((c.tc : Thread nD τ).loc main_arg8)
abbrev A9 : Vec Ideal S3x5632 .f32 := m ((c.tc : Thread nD τ).loc main_arg9)
abbrev A10 : Vec Ideal S5632 .f32 := m ((c.tc : Thread nD τ).loc main_arg10)
abbrev A11 : Vec Ideal S2816x1024 .f32 := m ((c.tc : Thread nD τ).loc main_arg11)

/-- The column of the up projection that the interleaved array holds at column `j`. -/
def col (j : Fin 5632) : Fin 5632 :=
  if j.val % 512 < 256 then ⟨j.val / 512 * 256 + j.val % 512, by omega⟩ else ⟨2816 + (j.val / 512 * 256 + (j.val % 512 - 256)), by omega⟩

theorem idxs : ∀ t : Fin cfg0.N, win0_0.index t = ![t.val / 11, t.val % 11, 0] ∧ win0_1.index t = ![t.val / 11, t.val % 11, 0] ∧
    win0_2.index t = ![t.val / 11, t.val % 11, 0] ∧ win0_3.index t = ![t.val / 11, t.val % 11, 0] ∧ win0_12.index t = ![t.val / 11, t.val % 11, 0] := by
  decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel

theorem V_v0 : (V m c main_v0 : Vec Ideal S8x8448x1024 .f32) = (pad S8x8448x1024 ![0, 0, 0] ![0, 240, 0] ![0, 0, 0] (A0 m c) (sitofp (F := Ideal) .f32 (constantI S_ 32 0#32)) pads_S8x8208x1024_S8x8448x1024_000_02400_000 h_S_ : Vec Ideal S8x8448x1024 .f32) := by
  show StableHlo.after _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results <;> rfl
theorem blk0 (t : Fin cfg0.N) (ht : t.val < 88) (r : Fin 768) (d : Fin 1024) (hp : t.val % 11 * 768 + r.val < 8208) :
    (iblk m c 0 t : Vec Ideal S1x768x1024 .f32) (ix3 0 r d) = A0 m c (ix3 ⟨t.val / 11, by omega⟩ ⟨t.val % 11 * 768 + r.val, hp⟩ d) := by
  have h : (iblk m c 0 t : Vec Ideal S1x768x1024 .f32) (ix3 0 r d) =
      (V m c main_v0 : Vec Ideal S8x8448x1024 .f32) (ix3 ⟨t.val / 11, by omega⟩ ⟨t.val % 11 * 768 + r.val, by omega⟩ d) := by
    obtain ⟨e0, e1, e2, e3, -⟩ := idxs t
    blk_ext [iblk, e0]
  rw [h, V_v0]
  pointwise
  rw [dif_pos ⟨by omega, hp⟩]

theorem V_v2 : (V m c main_v2 : Vec Ideal S8x8448x512 .bf16) = (truncf (F := Ideal) .bf16 (pad S8x8448x512 ![0, 0, 0] ![0, 240, 0] ![0, 0, 0] (A1 m c) (sitofp (F := Ideal) .f32 (constantI S_ 32 0#32)) pads_S8x8208x512_S8x8448x512_000_02400_000 h_S_) bitsLt_bf16_f32 : Vec Ideal S8x8448x512 .bf16) := by
  show StableHlo.after _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results <;> rfl
theorem blk1 (t : Fin cfg0.N) (ht : t.val < 88) (r : Fin 768) (d : Fin 512) (hp : t.val % 11 * 768 + r.val < 8208) :
    (iblk m c 1 t : Vec Ideal S1x768x512 .bf16) (ix3 0 r d) = A1 m c (ix3 ⟨t.val / 11, by omega⟩ ⟨t.val % 11 * 768 + r.val, hp⟩ d) := by
  have h : (iblk m c 1 t : Vec Ideal S1x768x512 .bf16) (ix3 0 r d) =
      (V m c main_v2 : Vec Ideal S8x8448x512 .bf16) (ix3 ⟨t.val / 11, by omega⟩ ⟨t.val % 11 * 768 + r.val, by omega⟩ d) := by
    obtain ⟨e0, e1, e2, e3, -⟩ := idxs t
    blk_ext [iblk, e1]
  rw [h, V_v2]
  pointwise
  rw [dif_pos ⟨by omega, hp⟩]

theorem V_v4 : (V m c main_v4 : Vec Ideal S8x8448x256 .bf16) = (truncf (F := Ideal) .bf16 (pad S8x8448x256 ![0, 0, 0] ![0, 240, 0] ![0, 0, 0] (A2 m c) (sitofp (F := Ideal) .f32 (constantI S_ 32 0#32)) pads_S8x8208x256_S8x8448x256_000_02400_000 h_S_) bitsLt_bf16_f32 : Vec Ideal S8x8448x256 .bf16) := by
  show StableHlo.after _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results <;> rfl
theorem blk2 (t : Fin cfg0.N) (ht : t.val < 88) (r : Fin 768) (d : Fin 256) (hp : t.val % 11 * 768 + r.val < 8208) :
    (iblk m c 2 t : Vec Ideal S1x768x256 .bf16) (ix3 0 r d) = A2 m c (ix3 ⟨t.val / 11, by omega⟩ ⟨t.val % 11 * 768 + r.val, hp⟩ d) := by
  have h : (iblk m c 2 t : Vec Ideal S1x768x256 .bf16) (ix3 0 r d) =
      (V m c main_v4 : Vec Ideal S8x8448x256 .bf16) (ix3 ⟨t.val / 11, by omega⟩ ⟨t.val % 11 * 768 + r.val, by omega⟩ d) := by
    obtain ⟨e0, e1, e2, e3, -⟩ := idxs t
    blk_ext [iblk, e2]
  rw [h, V_v4]
  pointwise
  rw [dif_pos ⟨by omega, hp⟩]

theorem V_v6 : (V m c main_v6 : Vec Ideal S8x8448x256 .bf16) = (truncf (F := Ideal) .bf16 (pad S8x8448x256 ![0, 0, 0] ![0, 240, 0] ![0, 0, 0] (A3 m c) (sitofp (F := Ideal) .f32 (constantI S_ 32 0#32)) pads_S8x8208x256_S8x8448x256_000_02400_000 h_S_) bitsLt_bf16_f32 : Vec Ideal S8x8448x256 .bf16) := by
  show StableHlo.after _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results <;> rfl
theorem blk3 (t : Fin cfg0.N) (ht : t.val < 88) (r : Fin 768) (d : Fin 256) (hp : t.val % 11 * 768 + r.val < 8208) :
    (iblk m c 3 t : Vec Ideal S1x768x256 .bf16) (ix3 0 r d) = A3 m c (ix3 ⟨t.val / 11, by omega⟩ ⟨t.val % 11 * 768 + r.val, hp⟩ d) := by
  have h : (iblk m c 3 t : Vec Ideal S1x768x256 .bf16) (ix3 0 r d) =
      (V m c main_v6 : Vec Ideal S8x8448x256 .bf16) (ix3 ⟨t.val / 11, by omega⟩ ⟨t.val % 11 * 768 + r.val, by omega⟩ d) := by
    obtain ⟨e0, e1, e2, e3, -⟩ := idxs t
    blk_ext [iblk, e3]
  rw [h, V_v6]
  pointwise
  rw [dif_pos ⟨by omega, hp⟩]

theorem V_v7 : (V m c main_v7 : Vec Ideal S1x256 .f32) = (shapeCast S1x256 (A4 m c) shapeCasts_S256_S1x256 : Vec Ideal S1x256 .f32) := by
  show StableHlo.after _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results <;> rfl
theorem blk4 (t : Fin cfg0.N) (k : Fin 256) :
    (iblk m c 4 t : Vec Ideal S1x256 .f32) (ix2 0 k) = A4 m c (ix1 k) := by
  have h : (iblk m c 4 t : Vec Ideal S1x256 .f32) (ix2 0 k) = (V m c main_v7 : Vec Ideal S1x256 .f32) (ix2 0 k) := by
    blk_ext [iblk, idx4 t]
  rw [h, V_v7]
  pointwise

theorem V_v8 : (V m c main_v8 : Vec Ideal S1x256 .f32) = (shapeCast S1x256 (A5 m c) shapeCasts_S256_S1x256 : Vec Ideal S1x256 .f32) := by
  show StableHlo.after _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results <;> rfl
theorem blk5 (t : Fin cfg0.N) (k : Fin 256) :
    (iblk m c 5 t : Vec Ideal S1x256 .f32) (ix2 0 k) = A5 m c (ix1 k) := by
  have h : (iblk m c 5 t : Vec Ideal S1x256 .f32) (ix2 0 k) = (V m c main_v8 : Vec Ideal S1x256 .f32) (ix2 0 k) := by
    blk_ext [iblk, idx5 t]
  rw [h, V_v8]
  pointwise

theorem V_v9 : (V m c main_v9 : Vec Ideal S1024x1024 .bf16) = (truncf (F := Ideal) .bf16 (A6 m c) bitsLt_bf16_f32 : Vec Ideal S1024x1024 .bf16) := by
  show StableHlo.after _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results <;> rfl
theorem blk6 (t : Fin cfg0.N) (k d : Fin 1024) :
    (iblk m c 6 t : Vec Ideal S1024x1024 .bf16) (ix2 k d) = A6 m c (ix2 k d) := by
  have h : (iblk m c 6 t : Vec Ideal S1024x1024 .bf16) (ix2 k d) = (V m c main_v9 : Vec Ideal S1024x1024 .bf16) (ix2 k d) := by
    blk_ext [iblk, idx6 t]
  rw [h, V_v9]
  pointwise

theorem V_v10 : (V m c main_v10 : Vec Ideal S1x1024 .f32) = (shapeCast S1x1024 (A7 m c) shapeCasts_S1024_S1x1024 : Vec Ideal S1x1024 .f32) := by
  show StableHlo.after _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results <;> rfl
theorem blk7 (t : Fin cfg0.N) (k : Fin 1024) :
    (iblk m c 7 t : Vec Ideal S1x1024 .f32) (ix2 0 k) = A7 m c (ix1 k) := by
  have h : (iblk m c 7 t : Vec Ideal S1x1024 .f32) (ix2 0 k) = (V m c main_v10 : Vec Ideal S1x1024 .f32) (ix2 0 k) := by
    blk_ext [iblk, idx7 t]
  rw [h, V_v10]
  pointwise

theorem V_v17 : (V m c main_v17 : Vec Ideal S1024x5632 .bf16) = (truncf (F := Ideal) .bf16 (shapeCast S1024x5632 (concatenate S1024x11x512 2 [⟨S1024x11x256, shapeCast S1024x11x256 (extractStridedSlice S1024x2816 ![0, 0] (A8 m c) slices_S1024x5632_S1024x2816_0_0) shapeCasts_S1024x2816_S1024x11x256⟩, ⟨S1024x11x256, shapeCast S1024x11x256 (extractStridedSlice S1024x2816 ![0, 2816] (A8 m c) slices_S1024x5632_S1024x2816_0_2816) shapeCasts_S1024x2816_S1024x11x256⟩] concatenates_S1024x11x256_S1024x11x256_S1024x11x512_d2) shapeCasts_S1024x11x512_S1024x5632) bitsLt_bf16_f32 : Vec Ideal S1024x5632 .bf16) := by
  show StableHlo.after _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results <;> rfl
theorem blk8 (t : Fin cfg0.N) (k : Fin 1024) (j : Fin 5632) :
    (iblk m c 8 t : Vec Ideal S1024x5632 .bf16) (ix2 k j) = A8 m c (ix2 k (col j)) := by
  have h : (iblk m c 8 t : Vec Ideal S1024x5632 .bf16) (ix2 k j) = (V m c main_v17 : Vec Ideal S1024x5632 .bf16) (ix2 k j) := by
    blk_ext [iblk, idx8 t]
  rw [h, V_v17]
  pointwise
  unfold col
  split_ifs <;> rfl

theorem V_v23 : (V m c main_v23 : Vec Ideal S3x5632 .f32) = (shapeCast S3x5632 (concatenate S3x11x512 2 [⟨S3x11x256, shapeCast S3x11x256 (extractStridedSlice S3x2816 ![0, 0] (A9 m c) slices_S3x5632_S3x2816_0_0) shapeCasts_S3x2816_S3x11x256⟩, ⟨S3x11x256, shapeCast S3x11x256 (extractStridedSlice S3x2816 ![0, 2816] (A9 m c) slices_S3x5632_S3x2816_0_2816) shapeCasts_S3x2816_S3x11x256⟩] concatenates_S3x11x256_S3x11x256_S3x11x512_d2) shapeCasts_S3x11x512_S3x5632 : Vec Ideal S3x5632 .f32) := by
  show StableHlo.after _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results <;> rfl
theorem blk9 (t : Fin cfg0.N) (k : Fin 3) (j : Fin 5632) :
    (iblk m c 9 t : Vec Ideal S3x5632 .f32) (ix2 k j) = A9 m c (ix2 k (col j)) := by
  have h : (iblk m c 9 t : Vec Ideal S3x5632 .f32) (ix2 k j) = (V m c main_v23 : Vec Ideal S3x5632 .f32) (ix2 k j) := by
    blk_ext [iblk, idx9 t]
  rw [h, V_v23]
  pointwise
  unfold col
  split_ifs <;> rfl

theorem V_v30 : (V m c main_v30 : Vec Ideal S1x5632 .f32) = (shapeCast S1x5632 (shapeCast S5632 (concatenate S11x512 1 [⟨S11x256, shapeCast S11x256 (extractStridedSlice S2816 ![0] (A10 m c) slices_S5632_S2816_0) shapeCasts_S2816_S11x256⟩, ⟨S11x256, shapeCast S11x256 (extractStridedSlice S2816 ![2816] (A10 m c) slices_S5632_S2816_2816) shapeCasts_S2816_S11x256⟩] concatenates_S11x256_S11x256_S11x512_d1) shapeCasts_S11x512_S5632) shapeCasts_S5632_S1x5632 : Vec Ideal S1x5632 .f32) := by
  show StableHlo.after _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results <;> rfl
theorem blk10 (t : Fin cfg0.N) (j : Fin 5632) :
    (iblk m c 10 t : Vec Ideal S1x5632 .f32) (ix2 0 j) = A10 m c (ix1 (col j)) := by
  have h : (iblk m c 10 t : Vec Ideal S1x5632 .f32) (ix2 0 j) = (V m c main_v30 : Vec Ideal S1x5632 .f32) (ix2 0 j) := by
    blk_ext [iblk, idx10 t]
  rw [h, V_v30]
  pointwise
  unfold col
  split_ifs <;> rfl

theorem V_v31 : (V m c main_v31 : Vec Ideal S2816x1024 .bf16) = (truncf (F := Ideal) .bf16 (A11 m c) bitsLt_bf16_f32 : Vec Ideal S2816x1024 .bf16) := by
  show StableHlo.after _ _ _ = _
  simp only [hostOps0, hostOps0_1, hostOps0_2, hostOps0_3, hostOps0_4, hostOps0_5, hostOps0_6, hostOps0_7, hostOps0_8, List.flatten_cons,
    List.flatten_nil, List.append_nil, List.cons_append, List.nil_append]
  after_results <;> rfl
theorem blk11 (t : Fin cfg0.N) (k : Fin 2816) (d : Fin 1024) :
    (iblk m c 11 t : Vec Ideal S2816x1024 .bf16) (ix2 k d) = A11 m c (ix2 k d) := by
  have h : (iblk m c 11 t : Vec Ideal S2816x1024 .bf16) (ix2 k d) = (V m c main_v31 : Vec Ideal S2816x1024 .bf16) (ix2 k d) := by
    blk_ext [iblk, idx11 t]
  rw [h, V_v31]
  pointwise

end Cert.KernelIdeal.Value
end
-- ==== Proof.TileOut.lean ====
module

public import proofs.«01_k».proof.Proof.Blocks
/-!
A grid point's tile against the layer's last part: every row of the tile that lies inside the sequence.
-/
@[expose] public section
set_option maxRecDepth 16384
noncomputable section
namespace Cert.KernelIdeal.Value
open Cert.KernelIdeal Cert.KernelIdeal.Gen Idealize.ShloMosaic Idealize.ShloMosaic.TcCoe Idealize.SL.Sem
variable (m : (ℓ : Loc nD τ sig) → Buf (Elt Ideal) ℓ) (c : Dev nD)

abbrev F0 : Fin 8 → Fin 8208 → Fin 1024 → EReal := fun b p k => A0 m c (ix3 b p k)
abbrev F1 : Fin 8 → Fin 8208 → Fin 512 → EReal := fun b p k => A1 m c (ix3 b p k)
abbrev F2 : Fin 8 → Fin 8208 → Fin 256 → EReal := fun b p k => A2 m c (ix3 b p k)
abbrev F3 : Fin 8 → Fin 8208 → Fin 256 → EReal := fun b p k => A3 m c (ix3 b p k)
abbrev F4 : Fin 256 → EReal := fun k => A4 m c (ix1 k)
abbrev F5 : Fin 256 → EReal := fun k => A5 m c (ix1 k)
abbrev F6 : Fin 1024 → Fin 1024 → EReal := fun k d => A6 m c (ix2 k d)
abbrev F7 : Fin 1024 → EReal := fun k => A7 m c (ix1 k)
abbrev F8 : Fin 1024 → Fin 5632 → EReal := fun k d => A8 m c (ix2 k d)
abbrev F9 : Fin 3 → Fin 5632 → EReal := fun k d => A9 m c (ix2 k d)
abbrev F10 : Fin 5632 → EReal := fun k => A10 m c (ix1 k)
abbrev F11 : Fin 2816 → Fin 1024 → EReal := fun k d => A11 m c (ix2 k d)

abbrev Hid := Rows.hid (F0 m c) (F1 m c) (F2 m c) (F3 m c) (F4 m c) (F5 m c) (F6 m c)
abbrev Ups := Rows.ups (F0 m c) (F1 m c) (F2 m c) (F3 m c) (F4 m c) (F5 m c) (F6 m c) (F7 m c) (F8 m c)
abbrev Past := Rows.past (F0 m c) (F1 m c) (F2 m c) (F3 m c) (F4 m c) (F5 m c) (F6 m c) (F7 m c) (F8 m c)
abbrev Cnv := Rows.cnv (F0 m c) (F1 m c) (F2 m c) (F3 m c) (F4 m c) (F5 m c) (F6 m c) (F7 m c) (F8 m c) (F9 m c) (F10 m c)
abbrev Out := Rows.out (F0 m c) (F1 m c) (F2 m c) (F3 m c) (F4 m c) (F5 m c) (F6 m c) (F7 m c) (F8 m c) (F9 m c) (F10 m c) (F11 m c)

/-- The normed rows of point `t`. -/
abbrev xnAt (t : Fin cfg0.N) : Vec Ideal S768x1024 .bf16 :=
  xnT (iblk m c 0 t) (iblk m c 1 t) (iblk m c 2 t) (iblk m c 3 t) (iblk m c 4 t) (iblk m c 5 t) (iblk m c 6 t) (iblk m c 7 t)

theorem hid_at (t : Fin cfg0.N) (ht : t.val < 88) (r : Fin 768) (hp : t.val % 11 * 768 + r.val < 8208) :
    Rows.h1 (fun k => (iblk m c 0 t : Vec Ideal S1x768x1024 .f32) (ix3 0 r k)) (fun k => (iblk m c 1 t : Vec Ideal S1x768x512 .bf16) (ix3 0 r k))
      (fun k => (iblk m c 2 t : Vec Ideal S1x768x256 .bf16) (ix3 0 r k)) (fun k => (iblk m c 3 t : Vec Ideal S1x768x256 .bf16) (ix3 0 r k))
      (fun k => (iblk m c 4 t : Vec Ideal S1x256 .f32) (ix2 0 k)) (fun k => (iblk m c 5 t : Vec Ideal S1x256 .f32) (ix2 0 k))
      (fun k e => (iblk m c 6 t : Vec Ideal S1024x1024 .bf16) (ix2 k e)) = Hid m c ⟨t.val / 11, by omega⟩ ⟨t.val % 11 * 768 + r.val, hp⟩ := by
  unfold Hid Rows.hid
  simp only [blk0 m c t ht r _ hp, blk1 m c t ht r _ hp, blk2 m c t ht r _ hp, blk3 m c t ht r _ hp, blk4 m c t, blk5 m c t, blk6 m c t]

theorem up_at (t : Fin cfg0.N) (ht : t.val < 88) (r : Fin 768) (hp : t.val % 11 * 768 + r.val < 8208) (j : Fin 5632) :
    Rows.up (fun k => xnAt m c t (ix2 r k)) (fun k e => (iblk m c 8 t : Vec Ideal S1024x5632 .bf16) (ix2 k e)) j =
      Ups m c ⟨t.val / 11, by omega⟩ ⟨t.val % 11 * 768 + r.val, hp⟩ (col j) := by
  unfold Ups Rows.ups Rows.up
  refine Finset.sum_congr rfl fun k _ => ?_
  beta_reduce
  rw [blk8 m c t k j]
  unfold xnAt
  rw [xnT_apply, hid_at m c t ht r hp]
  simp only [blk7 m c t]

theorem halo_at (t : Fin cfg0.N) (ht : t.val < 88) (h : t.val % 11 < 10) (q : Fin 8) (j : Fin 5632) :
    ((outsAt0 m c t.val t.isLt).2 : Vec Ideal S8x5632 .f32) (ix2 q j) =
      Ups m c ⟨t.val / 11, by omega⟩ ⟨t.val % 11 * 768 + (760 + q.val), by omega⟩ (col j) := by
  refine Eq.trans ?_ (up_at m c t ht ⟨760 + q.val, by omega⟩ (by show t.val % 11 * 768 + (760 + q.val) < 8208; omega) j)
  by_cases h0 : t.val % 11 = 0
  · rw [haloA m c t h0]
    exact canon_halo _ _ _ q j
  · rw [haloB m c t h0]
    exact canon_halo _ _ _ q j

/-- The rows before the tile and the tile's own, as up-projected rows of the sequence. -/
theorem rowE_at (t : Fin cfg0.N) (ht : t.val < 88) (hal : Vec Ideal S8x5632 .f32)
    (hh : ∀ (q : Fin 8) (j : Fin 5632), hal (ix2 q j) =
      if h : t.val % 11 = 0 then 0 else Ups m c ⟨t.val / 11, by omega⟩ ⟨t.val % 11 * 768 + q.val - 8, by omega⟩ (col j))
    (o : ℕ) (ho : o ≤ 2) (r : Fin 768) (hp : t.val % 11 * 768 + r.val < 8208) (j : Fin 5632) :
    rowE (xnAt m c t) (iblk m c 8 t) hal ⟨8 - o + r.val, by omega⟩ j =
      Past m c o ⟨t.val / 11, by omega⟩ ⟨t.val % 11 * 768 + r.val, hp⟩ (col j) := by
  unfold rowE Past Rows.past
  by_cases hq : 8 - o + r.val < 8
  · rw [dif_pos hq, hh]
    by_cases h0 : t.val % 11 = 0
    · rw [dif_pos h0, if_pos (by show t.val % 11 * 768 + r.val < o; omega)]
    · rw [dif_neg h0, if_neg (by show ¬ t.val % 11 * 768 + r.val < o; omega)]
      have e : (⟨t.val % 11 * 768 + (8 - o + r.val) - 8, by omega⟩ : Fin 8208) = ⟨t.val % 11 * 768 + r.val - o, by omega⟩ := Fin.ext (by show t.val % 11 * 768 + (8 - o + r.val) - 8 = t.val % 11 * 768 + r.val - o; omega)
      exact congrArg (fun p => Ups m c ⟨t.val / 11, by omega⟩ p (col j)) e
  · rw [dif_neg hq, if_neg (by show ¬ t.val % 11 * 768 + r.val < o; omega)]
    refine (up_at m c t ht ⟨8 - o + r.val - 8, by omega⟩ (by show t.val % 11 * 768 + (8 - o + r.val - 8) < 8208; omega) j).trans ?_
    have e : (⟨t.val % 11 * 768 + (8 - o + r.val - 8), by omega⟩ : Fin 8208) = ⟨t.val % 11 * 768 + r.val - o, by omega⟩ := Fin.ext (by show t.val % 11 * 768 + (8 - o + r.val - 8) = t.val % 11 * 768 + r.val - o; omega)
    exact congrArg (fun p => Ups m c ⟨t.val / 11, by omega⟩ p (col j)) e

theorem rowC_at (t : Fin cfg0.N) (ht : t.val < 88) (hal : Vec Ideal S8x5632 .f32)
    (hh : ∀ (q : Fin 8) (j : Fin 5632), hal (ix2 q j) =
      if h : t.val % 11 = 0 then 0 else Ups m c ⟨t.val / 11, by omega⟩ ⟨t.val % 11 * 768 + q.val - 8, by omega⟩ (col j))
    (r : Fin 768) (hp : t.val % 11 * 768 + r.val < 8208) (j : Fin 5632) :
    rowC (xnAt m c t) (iblk m c 8 t) (iblk m c 9 t) (iblk m c 10 t) hal r j = Cnv m c ⟨t.val / 11, by omega⟩ ⟨t.val % 11 * 768 + r.val, hp⟩ (col j) := by
  unfold rowC Cnv Rows.cnv Rows.conv
  beta_reduce
  rw [blk9 m c t, blk9 m c t, blk9 m c t, blk10 m c t]
  have e0 := rowE_at m c t ht hal hh 0 (by omega) r hp j
  have e1 := rowE_at m c t ht hal hh 1 (by omega) r hp j
  have e2 := rowE_at m c t ht hal hh 2 (by omega) r hp j
  unfold Past at e0 e1 e2
  rw [← e0, ← e1, ← e2]

theorem out_at (t : Fin cfg0.N) (ht : t.val < 88) (hal : Vec Ideal S8x5632 .f32)
    (hh : ∀ (q : Fin 8) (j : Fin 5632), hal (ix2 q j) =
      if h : t.val % 11 = 0 then 0 else Ups m c ⟨t.val / 11, by omega⟩ ⟨t.val % 11 * 768 + q.val - 8, by omega⟩ (col j))
    (r : Fin 768) (hp : t.val % 11 * 768 + r.val < 8208) (d : Fin 1024) :
    outT (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) hal (ix3 0 r d) = Out m c ⟨t.val / 11, by omega⟩ ⟨t.val % 11 * 768 + r.val, hp⟩ d := by
  rw [outT_apply, hid_at m c t ht r hp]
  unfold Out Rows.out
  refine congrArg _ (Finset.sum_congr rfl fun k _ => ?_)
  rw [blk11 m c t]
  unfold rowA
  rw [rowC_at m c t ht hal hh r hp, rowC_at m c t ht hal hh r hp]
  have hk : k.val < 2816 := k.isLt
  have e1 : col ⟨512 * (k.val / 256) + k.val % 256, by omega⟩ = ⟨k.val, by omega⟩ := by
    unfold col
    rw [if_pos (by show (512 * (k.val / 256) + k.val % 256) % 512 < 256; omega)]
    exact Fin.ext (by show (512 * (k.val / 256) + k.val % 256) / 512 * 256 + (512 * (k.val / 256) + k.val % 256) % 512 = k.val; omega)
  have e2 : col ⟨512 * (k.val / 256) + (256 + k.val % 256), by omega⟩ = ⟨2816 + k.val, by omega⟩ := by
    unfold col
    rw [if_neg (by show ¬ (512 * (k.val / 256) + (256 + k.val % 256)) % 512 < 256; omega)]
    exact Fin.ext (by show 2816 + ((512 * (k.val / 256) + (256 + k.val % 256)) / 512 * 256 + ((512 * (k.val / 256) + (256 + k.val % 256)) % 512 - 256)) = 2816 + k.val; omega)
  rw [e1, e2]

theorem tile_at (t : Fin cfg0.N) (r : Fin 768) (ht : t.val < 88) (hp : t.val % 11 * 768 + r.val < 8208) (d : Fin 1024) :
    ((outsAt0 m c t.val t.isLt).1 : Vec Ideal S1x768x1024 .f32) (ix3 0 r d) = Out m c ⟨t.val / 11, by omega⟩ ⟨t.val % 11 * 768 + r.val, hp⟩ d := by
  by_cases h0 : t.val % 11 = 0
  · rw [outA m c t h0]
    refine out_at m c t ht _ (fun q j => ?_) r hp d
    rw [dif_pos h0]
    pointwise [k0_pay3]
  · rw [outB m c t h0]
    refine out_at m c t ht _ (fun q j => ?_) r hp d
    rw [dif_neg h0]
    have hlt : t.val - 1 < cfg0.N := Nat.lt_of_le_of_lt (Nat.sub_le _ _) t.isLt
    refine (halo_at m c ⟨t.val - 1, hlt⟩ (by show t.val - 1 < 88; omega) (by show (t.val - 1) % 11 < 10; omega) q j).trans ?_
    have e1 : (⟨(t.val - 1) / 11, by omega⟩ : Fin 8) = ⟨t.val / 11, by omega⟩ := Fin.ext (by show (t.val - 1) / 11 = t.val / 11; omega)
    have e2 : (⟨(t.val - 1) % 11 * 768 + (760 + q.val), by omega⟩ : Fin 8208) = ⟨t.val % 11 * 768 + q.val - 8, by omega⟩ :=
      Fin.ext (by show (t.val - 1) % 11 * 768 + (760 + q.val) = t.val % 11 * 768 + q.val - 8; omega)
    exact congrArg₂ (fun b p => Ups m c b p (col j)) e1 e2

end Cert.KernelIdeal.Value
end
-- ==== Proof.Final.lean ====
module

public import proofs.«01_k».proof.Proof.TileOut
/-!
The kernel's run: the array the grid writes back, cut to the sequence's length, is the layer's last part.
-/
@[expose] public section
set_option maxRecDepth 16384
noncomputable section
namespace Cert.KernelIdeal.Value
open Cert.KernelIdeal Cert.KernelIdeal.Gen Idealize.ShloMosaic Idealize.ShloMosaic.TcCoe Idealize.SL.Sem
variable (m : (ℓ : Loc nD τ sig) → Buf (Elt Ideal) ℓ) (ρ : Dev nD → PrngReg) (c : Dev nD)

theorem idx_inj : ∀ t t' : Fin cfg0.N, (cfg0.win 12).flush t = true → (cfg0.win 12).flush t' = true →
    (cfg0.win 12).index t = (cfg0.win 12).index t' → t = t' := by
  intro t t' _ _ h
  have ht : t.val < 88 := lt_of_lt_of_eq t.isLt N_0
  have ht' : t'.val < 88 := lt_of_lt_of_eq t'.isLt N_0
  have e : win0_12.index t = win0_12.index t' := h
  rw [(idxs t).2.2.2.2, (idxs t').2.2.2.2] at e
  have e0 : t.val / 11 = t'.val / 11 := congrFun e 0
  have e1 : t.val % 11 = t'.val % 11 := congrFun e 1
  exact Fin.ext (by omega)

/-- The array the grid writes back, at a position of the sequence. -/
theorem arr_at (b : Fin 8) (p : Fin 8208) (d : Fin 1024) :
    ((dats m 0 c).arrAt 12 cfg0.N : Vec Ideal S8x8448x1024 .f32) (ix3 b ⟨p.val, by omega⟩ d) = Out m c b p d := by
  have hN : cfg0.N = 88 := N_0
  have ht : b.val * 11 + p.val / 768 < 88 := by omega
  let t : Fin cfg0.N := ⟨b.val * 11 + p.val / 768, by omega⟩
  have hv : t.val = b.val * 11 + p.val / 768 := rfl
  have h := (dats m 0 c).arrAt_emb_eq_flushed 12 ((cfg0.win 12).hdisj_of_index_inj idx_inj) t (flush0_12 t)
    (ix3 0 ⟨p.val % 768, by omega⟩ d : S1x768x1024.Idx)
  have e : ((cfg0.win 12).blk t).view.emb (ix3 0 ⟨p.val % 768, by omega⟩ d : S1x768x1024.Idx) = (ix3 b ⟨p.val, by omega⟩ d : S8x8448x1024.Idx) := by
    have e4 := (idxs t).2.2.2.2
    blk_ext [e4]
  rw [e] at h
  refine Eq.trans h ?_
  blk_simp
  rw [after0_12]
  refine (tile_at m c t ⟨p.val % 768, by omega⟩ ht (by show t.val % 11 * 768 + p.val % 768 < 8208; omega) d).trans ?_
  have e1 : (⟨t.val / 11, by omega⟩ : Fin 8) = b := Fin.ext (by show t.val / 11 = b.val; omega)
  have e2 : (⟨t.val % 11 * 768 + p.val % 768, by omega⟩ : Fin 8208) = p := Fin.ext (by show t.val % 11 * 768 + p.val % 768 = p.val; omega)
  exact congrArg₂ (fun b p => Out m c b p d) e1 e2

/-- The result. -/
def G : Vec Ideal S8x8208x1024 .f32 := fun i => Out m c (i 0) (i 1) (i 2)

theorem tail_v33 : (Pipeline.afterTail₀ cfgs (dats m) 0 (V0 m) [hostOps1] c main_v33 : Vec Ideal S8x8208x1024 .f32) = G m c := by
  have h : (Pipeline.afterTail₀ cfgs (dats m) 0 (V0 m) [hostOps1] c main_v33 : Vec Ideal S8x8208x1024 .f32) =
      extractStridedSlice S8x8208x1024 ![0, 0, 0] ((dats m 0 c).arrAt 12 cfg0.N : Vec Ideal S8x8448x1024 .f32) slices_S8x8448x1024_S8x8208x1024_0_0_0 := by
    unfold Pipeline.afterTail₀
    simp only [hostOps1, List.flatten_cons, List.flatten_nil, List.append_nil]
    after_results
    exact congrArg (fun x : Vec Ideal S8x8448x1024 .f32 => extractStridedSlice S8x8208x1024 ![0, 0, 0] x slices_S8x8448x1024_S8x8208x1024_0_0_0)
      (Pipeline.withArrays_arr spec0 launch0.win.arr_inj c (V0 m c) (fun w => (dats m 0 c).arrAt w cfg0.N) 12)
  rw [h]
  funext i
  obtain ⟨b, p, d, rfl⟩ : ∃ (b : Fin 8) (p : Fin 8208) (d : Fin 1024), i = ix3 b p d := ⟨i 0, i 1, i 2, eq_ix3 i⟩
  refine Eq.trans ?_ (arr_at m c b p d)
  generalize ((dats m 0 c).arrAt 12 cfg0.N : Vec Ideal S8x8448x1024 .f32) = X
  pointwise

theorem run : θ_run defs (onTc (τ := τ) (main (F := Ideal))) ⟨m, fun _ => 0, ρ⟩ (fun r => ∀ c : Dev nD,
      r.2.mem ((c.tc : Thread nD τ).loc main_v33) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  have h := θ_run_and (run_main m ρ) (unchanged m ρ)
  refine (θ_run defs _ _).mono (fun r hr c => ?_) h
  exact ⟨((hr.1 c).2 main_v33 (Pipeline.mem_restRefs_of main_v33 (by decide) (by decide))).trans (tail_v33 m c), hr.2 c⟩

end Cert.KernelIdeal.Value
end
-- ==== Proof.Ref.lean ====
module

public import proofs.«01_k».proof.Proof.Gen.ReferenceIdeal.Run
public import proofs.«01_k».proof.Proof.Rows
/-!
The reference's result, stage by stage, at an index.
-/
@[expose] public section
set_option maxRecDepth 16384
noncomputable section
namespace Cert.ReferenceIdeal.Value
open Cert.ReferenceIdeal Cert.ReferenceIdeal.Gen Idealize.ShloMosaic Idealize.ShloMosaic.TcCoe Idealize.SL.Sem

def rS (a2 : FVec Ideal S8x8208x256 .f32) (a4 : FVec Ideal S256 .f32) : FVec Ideal S8x8208x256 .f32 :=
  (mulf (mulf a2 (broadcastInDim S8x8208x256 ![0, 1, 2] bcast_S8x8208x1_S8x8208x256_0_1_2 (Host.rsqrt (addf (Host.divf (broadcastInDim S8x8208x1 ![0, 1] bcast_S8x8208_S8x8208x1_0_1 (Host.reduceAdd (mulf a2 a2) (constant S_ .f32 0x00000000#32) reducesTo_S8x8208x256_S8x8208_d2 h_S_)) (broadcastInDim S8x8208x1 ![] bcast_S_S8x8208x1 (constant S_ .f32 0x43800000#32))) (broadcastInDim S8x8208x1 ![] bcast_S_S8x8208x1 (constant S_ .f32 0x358637BD#32)))))) (broadcastInDim S8x8208x256 ![0, 1, 2] bcast_S1x1x256_S8x8208x256_0_1_2 (broadcastInDim S1x1x256 ![2] bcast_S256_S1x1x256_2 a4)))
def rHid (a0 : FVec Ideal S8x8208x1024 .f32) (a1 : FVec Ideal S8x8208x512 .f32) (s2 s3 : FVec Ideal S8x8208x256 .f32) (a6 : FVec Ideal S1024x1024 .f32) : FVec Ideal S8x8208x1024 .f32 :=
  (addf a0 (Host.dotGeneral (φ₁ := FTy.f32) (φ₂ := FTy.f32) dot_S8x8208x1024_S1024x1024_S8x8208x1024_2_0_01_1_n_n none ((concatenate S8x8208x1024 2 [⟨S8x8208x512, (a1 : (⟨S8x8208x512, .f32⟩ : BufTy).Contents (Elt Ideal))⟩, ⟨S8x8208x256, (s2 : (⟨S8x8208x256, .f32⟩ : BufTy).Contents (Elt Ideal))⟩, ⟨S8x8208x256, (s3 : (⟨S8x8208x256, .f32⟩ : BufTy).Contents (Elt Ideal))⟩] concatenates_S8x8208x512_S8x8208x256_S8x8208x256_S8x8208x1024_d2 : (⟨S8x8208x1024, .f32⟩ : BufTy).Contents (Elt Ideal))) a6))
def rXn (h : FVec Ideal S8x8208x1024 .f32) (a7 : FVec Ideal S1024 .f32) : FVec Ideal S8x8208x1024 .f32 :=
  (mulf (mulf h (broadcastInDim S8x8208x1024 ![0, 1, 2] bcast_S8x8208x1_S8x8208x1024_0_1_2 (Host.rsqrt (addf (Host.divf (broadcastInDim S8x8208x1 ![0, 1] bcast_S8x8208_S8x8208x1_0_1 (Host.reduceAdd (mulf h h) (constant S_ .f32 0x00000000#32) reducesTo_S8x8208x1024_S8x8208_d2 h_S_)) (broadcastInDim S8x8208x1 ![] bcast_S_S8x8208x1 (constant S_ .f32 0x44800000#32))) (broadcastInDim S8x8208x1 ![] bcast_S_S8x8208x1 (constant S_ .f32 0x358637BD#32)))))) (broadcastInDim S8x8208x1024 ![0, 1, 2] bcast_S1x1x1024_S8x8208x1024_0_1_2 (broadcastInDim S1x1x1024 ![2] bcast_S1024_S1x1x1024_2 a7)))
def rUp (x : FVec Ideal S8x8208x1024 .f32) (a8 : FVec Ideal S1024x5632 .f32) : FVec Ideal S8x8208x5632 .f32 :=
  (Host.dotGeneral (φ₁ := FTy.f32) (φ₂ := FTy.f32) dot_S8x8208x1024_S1024x5632_S8x8208x5632_2_0_01_1_n_n none x a8)
def rPad (u : FVec Ideal S8x8208x5632 .f32) : FVec Ideal S8x8210x5632 .f32 :=
  (pad S8x8210x5632 ![0, 2, 0] ![0, 0, 0] ![0, 0, 0] u (sitofp (F := Ideal) .f32 (constantI S_ 32 0#32)) pads_S8x8208x5632_S8x8210x5632_000_200_000 h_S_)
def rCnv (p : FVec Ideal S8x8210x5632 .f32) (a9 : FVec Ideal S3x5632 .f32) (a10 : FVec Ideal S5632 .f32) : FVec Ideal S8x8208x5632 .f32 :=
  (addf (addf (addf (mulf (extractStridedSlice S8x8208x5632 ![0, 0, 0] p slices_S8x8210x5632_S8x8208x5632_0_0_0) (broadcastInDim S8x8208x5632 ![0, 1, 2] bcast_S1x1x5632_S8x8208x5632_0_1_2 (broadcastInDim S1x1x5632 ![2] bcast_S5632_S1x1x5632_2 (shapeCast _ (extractStridedSlice S1x5632 ![0, 0] a9 slices_S3x5632_S1x5632_0_0) shapeCasts_S1x5632_S5632)))) (mulf (extractStridedSlice S8x8208x5632 ![0, 1, 0] p slices_S8x8210x5632_S8x8208x5632_0_1_0) (broadcastInDim S8x8208x5632 ![0, 1, 2] bcast_S1x1x5632_S8x8208x5632_0_1_2 (broadcastInDim S1x1x5632 ![2] bcast_S5632_S1x1x5632_2 (shapeCast _ (extractStridedSlice S1x5632 ![1, 0] a9 slices_S3x5632_S1x5632_1_0) shapeCasts_S1x5632_S5632))))) (mulf (extractStridedSlice S8x8208x5632 ![0, 2, 0] p slices_S8x8210x5632_S8x8208x5632_0_2_0) (broadcastInDim S8x8208x5632 ![0, 1, 2] bcast_S1x1x5632_S8x8208x5632_0_1_2 (broadcastInDim S1x1x5632 ![2] bcast_S5632_S1x1x5632_2 (shapeCast _ (extractStridedSlice S1x5632 ![2, 0] a9 slices_S3x5632_S1x5632_2_0) shapeCasts_S1x5632_S5632))))) (broadcastInDim S8x8208x5632 ![0, 1, 2] bcast_S1x1x5632_S8x8208x5632_0_1_2 (broadcastInDim S1x1x5632 ![2] bcast_S5632_S1x1x5632_2 a10)))
def rOut (h : FVec Ideal S8x8208x1024 .f32) (v : FVec Ideal S8x8208x5632 .f32) (a11 : FVec Ideal S2816x1024 .f32) : FVec Ideal S8x8208x1024 .f32 :=
  addf h (Host.dotGeneral (φ₁ := FTy.f32) (φ₂ := FTy.f32) dot_S8x8208x2816_S2816x1024_S8x8208x1024_2_0_01_1_n_n none (mulf (mulf (extractStridedSlice S8x8208x2816 ![0, 0, 0] v slices_S8x8208x5632_S8x8208x2816_0_0_0) (Host.divf (broadcastInDim S8x8208x2816 ![] bcast_S_S8x8208x2816 (constant S_ .f32 0x3F800000#32)) (addf (broadcastInDim S8x8208x2816 ![] bcast_S_S8x8208x2816 (constant S_ .f32 0x3F800000#32)) (Host.exp (Host.negf (extractStridedSlice S8x8208x2816 ![0, 0, 0] v slices_S8x8208x5632_S8x8208x2816_0_0_0)))))) (extractStridedSlice S8x8208x2816 ![0, 0, 2816] v slices_S8x8208x5632_S8x8208x2816_0_0_2816)) a11)

theorem div256 (x : EReal) : Ideal.div x (Ideal.ofBits FTy.f32 1132462080#32) = x * Rows.c256 := by
  have h : Ideal.ofBits FTy.f32 1132462080#32 = ((256 : ℝ) : EReal) := by
    simp [Ideal.ofBits, Ideal.ieee, -EReal.coe_mul]; norm_num
  have h' : Ideal.ofBits FTy.f32 998244352#32 = ((1 / 256 : ℝ) : EReal) := by
    simp [Ideal.ofBits, Ideal.ieee, -EReal.coe_mul]; norm_num
  unfold Rows.c256
  rw [h, h', Ideal.div_coe (by norm_num : (256 : ℝ) ≠ 0)]
theorem div1024 (x : EReal) : Ideal.div x (Ideal.ofBits FTy.f32 1149239296#32) = x * Rows.c1024 := by
  have h : Ideal.ofBits FTy.f32 1149239296#32 = ((1024 : ℝ) : EReal) := by
    simp [Ideal.ofBits, Ideal.ieee, -EReal.coe_mul]; norm_num
  have h' : Ideal.ofBits FTy.f32 981467136#32 = ((1 / 1024 : ℝ) : EReal) := by
    simp [Ideal.ofBits, Ideal.ieee, -EReal.coe_mul]; norm_num
  unfold Rows.c1024
  rw [h, h', Ideal.div_coe (by norm_num : (1024 : ℝ) ≠ 0)]

theorem rS_apply (a2 : FVec Ideal S8x8208x256 .f32) (a4 : FVec Ideal S256 .f32) (b : Fin 8) (p : Fin 8208) (k : Fin 256) :
    rS a2 a4 (ix3 b p k) = Rows.rms Rows.c256 (fun k => a2 (ix3 b p k)) (fun k => a4 (ix1 k)) k := by
  pointwise [rS]
  rw [div256]
  rfl
/-- A sum over 1024 in three ranges. -/
theorem sum_split (f : Fin 1024 → EReal) : ∑ x, f x = ((∑ x : Fin 512, f ⟨x.val, by omega⟩) + ∑ x : Fin 256, f ⟨512 + x.val, by omega⟩)
    + ∑ x : Fin 256, f ⟨768 + x.val, by omega⟩ := by
  have h1 := Fin.sum_univ_add (a := 768) (b := 256) f
  have h2 := Fin.sum_univ_add (a := 512) (b := 256) (fun x : Fin 768 => f ⟨x.val, by omega⟩)
  exact h1.trans (congrArg₂ _ h2 rfl)

theorem rHid_apply (a0 : FVec Ideal S8x8208x1024 .f32) (a1 : FVec Ideal S8x8208x512 .f32) (s2 s3 : FVec Ideal S8x8208x256 .f32) (a6 : FVec Ideal S1024x1024 .f32) (b : Fin 8) (p : Fin 8208) (d : Fin 1024) :
    rHid a0 a1 s2 s3 a6 (ix3 b p d) = a0 (ix3 b p d) + (((∑ x : Fin 512, a1 (ix3 b p x) * a6 (ix2 ⟨x.val, by omega⟩ d))
      + ∑ x : Fin 256, s2 (ix3 b p x) * a6 (ix2 ⟨512 + x.val, by omega⟩ d))
      + ∑ x : Fin 256, s3 (ix3 b p x) * a6 (ix2 ⟨768 + x.val, by omega⟩ d)) := by
  pointwise [rHid]
  refine congrArg _ ?_
  refine (sum_split _).trans ?_
  refine congrArg₂ _ (congrArg₂ _ (Finset.sum_congr rfl fun x _ => ?_) (Finset.sum_congr rfl fun x _ => ?_)) (Finset.sum_congr rfl fun x _ => ?_)
  · beta_reduce
    rw [dif_pos (by show x.val < 512; omega)]
  · beta_reduce
    rw [dif_neg (by show ¬ 512 + x.val < 512; omega), dif_pos (by show 512 + x.val - 512 < 256; omega)]
    have e : (⟨512 + x.val - 512, by omega⟩ : Fin 256) = x := Fin.ext (by show 512 + x.val - 512 = x.val; omega)
    rw [e]
  · beta_reduce
    rw [dif_neg (by show ¬ 768 + x.val < 512; omega), dif_neg (by show ¬ 768 + x.val - 512 < 256; omega)]
    have e : (⟨768 + x.val - 512 - 256, by omega⟩ : Fin 256) = x := Fin.ext (by show 768 + x.val - 512 - 256 = x.val; omega)
    rw [e]
theorem rXn_apply (h : FVec Ideal S8x8208x1024 .f32) (a7 : FVec Ideal S1024 .f32) (b : Fin 8) (p : Fin 8208) (k : Fin 1024) :
    rXn h a7 (ix3 b p k) = Rows.rms Rows.c1024 (fun k => h (ix3 b p k)) (fun k => a7 (ix1 k)) k := by
  pointwise [rXn]
  rw [div1024]
  rfl
theorem rUp_apply (x : FVec Ideal S8x8208x1024 .f32) (a8 : FVec Ideal S1024x5632 .f32) (b : Fin 8) (p : Fin 8208) (j : Fin 5632) :
    rUp x a8 (ix3 b p j) = Rows.up (fun k => x (ix3 b p k)) (fun k e => a8 (ix2 k e)) j := by
  pointwise [rUp]
  rfl
theorem rPad_apply (u : FVec Ideal S8x8208x5632 .f32) (b : Fin 8) (p : Fin 8210) (j : Fin 5632) :
    rPad u (ix3 b p j) = if h : p.val < 2 then 0 else u (ix3 b ⟨p.val - 2, by omega⟩ j) := by
  pointwise [rPad]
  have h0 : (FloatOps.sitofp (F := Ideal) FTy.f32 0#32 : EReal) = 0 := by
    show (((0#32 : BitVec 32).toInt : ℝ) : EReal) = 0
    simp
  by_cases hp : p.val < 2
  · rw [dif_pos hp, dif_neg (by omega)]
    exact h0
  · rw [dif_neg hp, dif_pos (by omega)]
theorem rCnv_apply (p : FVec Ideal S8x8210x5632 .f32) (a9 : FVec Ideal S3x5632 .f32) (a10 : FVec Ideal S5632 .f32) (b : Fin 8) (q : Fin 8208) (j : Fin 5632) :
    rCnv p a9 a10 (ix3 b q j) = Rows.conv (fun t e => a9 (ix2 t e)) (fun e => a10 (ix1 e)) (fun e => p (ix3 b ⟨q.val, by omega⟩ e))
      (fun e => p (ix3 b ⟨1 + q.val, by omega⟩ e)) (fun e => p (ix3 b ⟨2 + q.val, by omega⟩ e)) j := by
  pointwise [rCnv]
  show _ = a10 (ix1 j) + p (ix3 b ⟨2 + q.val, by omega⟩ j) * a9 (ix2 2 j) + p (ix3 b ⟨1 + q.val, by omega⟩ j) * a9 (ix2 1 j) +
    p (ix3 b ⟨q.val, by omega⟩ j) * a9 (ix2 0 j)
  ac_rfl
theorem rOut_apply (h : FVec Ideal S8x8208x1024 .f32) (v : FVec Ideal S8x8208x5632 .f32) (a11 : FVec Ideal S2816x1024 .f32) (b : Fin 8) (p : Fin 8208) (d : Fin 1024) :
    rOut h v a11 (ix3 b p d) = h (ix3 b p d) + ∑ k : Fin 2816, Rows.glu (v (ix3 b p ⟨k.val, by omega⟩)) (v (ix3 b p ⟨2816 + k.val, by omega⟩)) * a11 (ix2 k d) := by
  pointwise [rOut]
  rfl

section
variable (m : (ℓ : Loc nD τ sig) → Buf (Elt Ideal) ℓ) (c : Dev nD)
abbrev A0 : FVec Ideal S8x8208x1024 .f32 := m ((c.tc : Thread nD τ).loc main_arg0)
abbrev A1 : FVec Ideal S8x8208x512 .f32 := m ((c.tc : Thread nD τ).loc main_arg1)
abbrev A2 : FVec Ideal S8x8208x256 .f32 := m ((c.tc : Thread nD τ).loc main_arg2)
abbrev A3 : FVec Ideal S8x8208x256 .f32 := m ((c.tc : Thread nD τ).loc main_arg3)
abbrev A4 : FVec Ideal S256 .f32 := m ((c.tc : Thread nD τ).loc main_arg4)
abbrev A5 : FVec Ideal S256 .f32 := m ((c.tc : Thread nD τ).loc main_arg5)
abbrev A6 : FVec Ideal S1024x1024 .f32 := m ((c.tc : Thread nD τ).loc main_arg6)
abbrev A7 : FVec Ideal S1024 .f32 := m ((c.tc : Thread nD τ).loc main_arg7)
abbrev A8 : FVec Ideal S1024x5632 .f32 := m ((c.tc : Thread nD τ).loc main_arg8)
abbrev A9 : FVec Ideal S3x5632 .f32 := m ((c.tc : Thread nD τ).loc main_arg9)
abbrev A10 : FVec Ideal S5632 .f32 := m ((c.tc : Thread nD τ).loc main_arg10)
abbrev A11 : FVec Ideal S2816x1024 .f32 := m ((c.tc : Thread nD τ).loc main_arg11)

abbrev RHid := rHid (A0 m c) (A1 m c) (rS (A2 m c) (A4 m c)) (rS (A3 m c) (A5 m c)) (A6 m c)
theorem res_eq : (res_main_v72 m c : Vec Ideal S8x8208x1024 .f32) =
    rOut (RHid m c) (rCnv (rPad (rUp (rXn (RHid m c) (A7 m c)) (A8 m c))) (A9 m c) (A10 m c)) (A11 m c) := by
  unfold res_main_v72 rOut rCnv rPad rUp rXn RHid rHid rS
  rfl

abbrev F0 : Fin 8 → Fin 8208 → Fin 1024 → EReal := fun b p k => A0 m c (ix3 b p k)
abbrev F1 : Fin 8 → Fin 8208 → Fin 512 → EReal := fun b p k => A1 m c (ix3 b p k)
abbrev F2 : Fin 8 → Fin 8208 → Fin 256 → EReal := fun b p k => A2 m c (ix3 b p k)
abbrev F3 : Fin 8 → Fin 8208 → Fin 256 → EReal := fun b p k => A3 m c (ix3 b p k)
abbrev F4 : Fin 256 → EReal := fun k => A4 m c (ix1 k)
abbrev F5 : Fin 256 → EReal := fun k => A5 m c (ix1 k)
abbrev F6 : Fin 1024 → Fin 1024 → EReal := fun k d => A6 m c (ix2 k d)
abbrev F7 : Fin 1024 → EReal := fun k => A7 m c (ix1 k)
abbrev F8 : Fin 1024 → Fin 5632 → EReal := fun k d => A8 m c (ix2 k d)
abbrev F9 : Fin 3 → Fin 5632 → EReal := fun k d => A9 m c (ix2 k d)
abbrev F10 : Fin 5632 → EReal := fun k => A10 m c (ix1 k)
abbrev F11 : Fin 2816 → Fin 1024 → EReal := fun k d => A11 m c (ix2 k d)

theorem hid_at (b : Fin 8) (p : Fin 8208) (d : Fin 1024) : RHid m c (ix3 b p d) = Rows.hid (F0 m c) (F1 m c) (F2 m c) (F3 m c) (F4 m c) (F5 m c) (F6 m c) b p d := by
  unfold RHid
  rw [rHid_apply]
  simp only [rS_apply]
  rfl
theorem up_at (b : Fin 8) (p : Fin 8208) (j : Fin 5632) :
    rUp (rXn (RHid m c) (A7 m c)) (A8 m c) (ix3 b p j) = Rows.ups (F0 m c) (F1 m c) (F2 m c) (F3 m c) (F4 m c) (F5 m c) (F6 m c) (F7 m c) (F8 m c) b p j := by
  rw [rUp_apply]
  simp only [rXn_apply, hid_at]
  rfl
theorem past_at (o : ℕ) (ho : o ≤ 2) (b : Fin 8) (p : Fin 8208) (j : Fin 5632) (q : Fin 8210) (hq : q.val = p.val + 2 - o) :
    rPad (rUp (rXn (RHid m c) (A7 m c)) (A8 m c)) (ix3 b q j) = Rows.past (F0 m c) (F1 m c) (F2 m c) (F3 m c) (F4 m c) (F5 m c) (F6 m c) (F7 m c) (F8 m c) o b p j := by
  rw [rPad_apply]
  unfold Rows.past
  by_cases h : p.val < o
  · rw [dif_pos (by omega), if_pos h]
  · rw [dif_neg (by omega), if_neg h, up_at]
    have e : (⟨q.val - 2, by omega⟩ : Fin 8208) = ⟨p.val - o, by omega⟩ := Fin.ext (by show q.val - 2 = p.val - o; omega)
    rw [e]
theorem cnv_at (b : Fin 8) (p : Fin 8208) (j : Fin 5632) :
    rCnv (rPad (rUp (rXn (RHid m c) (A7 m c)) (A8 m c))) (A9 m c) (A10 m c) (ix3 b p j) = Rows.cnv (F0 m c) (F1 m c) (F2 m c) (F3 m c) (F4 m c) (F5 m c) (F6 m c) (F7 m c) (F8 m c) (F9 m c) (F10 m c) b p j := by
  rw [rCnv_apply]
  unfold Rows.cnv Rows.conv
  beta_reduce
  rw [past_at m c 2 (by omega) b p j ⟨p.val, by omega⟩ (by show p.val = p.val + 2 - 2; omega),
    past_at m c 1 (by omega) b p j ⟨1 + p.val, by omega⟩ (by show 1 + p.val = p.val + 2 - 1; omega),
    past_at m c 0 (by omega) b p j ⟨2 + p.val, by omega⟩ (by show 2 + p.val = p.val + 2 - 0; omega)]
/-- The reference's result at an index is the layer's last part there. -/
theorem res_at (b : Fin 8) (p : Fin 8208) (d : Fin 1024) :
    (res_main_v72 m c : Vec Ideal S8x8208x1024 .f32) (ix3 b p d) = Rows.out (F0 m c) (F1 m c) (F2 m c) (F3 m c) (F4 m c) (F5 m c) (F6 m c) (F7 m c) (F8 m c) (F9 m c) (F10 m c) (F11 m c) b p d := by
  rw [res_eq, rOut_apply, hid_at]
  simp only [cnv_at]
  rfl
end
end Cert.ReferenceIdeal.Value
end
-- ==== Proof.InTile.lean ====
module

public import proofs.«01_k».proof.Proof.Gen.Kernel2Ideal.Frame
public import proofs.«01_k».proof.Proof.Rows
public import Idealize.ShloMosaic.Lib.Pipeline.ValueKit
public import Idealize.ShloMosaic.Lib.Pipeline.ReadBack
public import Idealize.ShloMosaic.Lib.Pointwise
/-!
The input projection's tile: the normed rows of a block against the rearranged weights, stored in column ranges.
-/
@[expose] public section
set_option maxRecDepth 16384
noncomputable section
namespace Cert.Kernel2Ideal.Value
open Cert.Kernel2Ideal Cert.Kernel2Ideal.Gen Idealize.ShloMosaic Idealize.ShloMosaic.TcCoe Idealize.SL.Sem
variable (m : (ℓ : Loc nD τ sig) → Buf (Elt Ideal) ℓ) (ρ : Dev nD → PrngReg) (c : Dev nD)

section
variable (x : Vec Ideal S512x1024 .f32) (g : Vec Ideal S1x1024 .f32)
/-- Row `r` of a block, normed. -/
abbrev xn (r : Fin 512) (k : Fin 1024) : EReal := Rows.rms Rows.c1024 (fun k => x (ix2 r k)) (fun k => g (ix2 0 k)) k
theorem pay5_apply (r : Fin 512) (k : Fin 1024) : k0_pay5 x g (ix2 r k) = xn x g r k := by
  pointwise [k0_pay5]
  rfl
theorem pay6_apply (w : Vec Ideal S1024x512 .bf16) (r : Fin 512) (j : Fin 512) : k0_pay6 x g w (ix2 r j) = ∑ k, xn x g r k * w (ix2 k j) := by
  pointwise [k0_pay6, pay5_apply]
theorem pay7_apply (w : Vec Ideal S1024x512 .bf16) (r : Fin 512) (j : Fin 512) : k0_pay7 x g w (ix2 r j) = ∑ k, xn x g r k * w (ix2 k j) := by
  pointwise [k0_pay7, pay5_apply]
theorem pay8_apply (w : Vec Ideal S1024x512 .bf16) (r : Fin 512) (j : Fin 512) : k0_pay8 x g w (ix2 r j) = ∑ k, xn x g r k * w (ix2 k j) := by
  pointwise [k0_pay8, pay5_apply]
theorem pay1_apply (w : Vec Ideal S1024x512 .bf16) (r : Fin 512) (j : Fin 512) : k0_pay1 (k0_pay5 x g) w (ix2 r j) = ∑ k, xn x g r k * w (ix2 k j) := by
  pointwise [k0_pay1, pay5_apply]
theorem pay2_apply (w : Vec Ideal S1024x512 .bf16) (r : Fin 512) (j : Fin 512) : k0_pay2 (k0_pay5 x g) w (ix2 r j) = ∑ k, xn x g r k * w (ix2 k j) := by
  pointwise [k0_pay2, pay5_apply]
theorem pay3_apply (w : Vec Ideal S1024x384 .bf16) (r : Fin 512) (j : Fin 384) : k0_pay3 (k0_pay5 x g) w (ix2 r j) = ∑ k, xn x g r k * w (ix2 k j) := by
  pointwise [k0_pay3, pay5_apply]
theorem pay4_apply (w : Vec Ideal S1024x512 .bf16) (r : Fin 512) (j : Fin 512) : k0_pay4 (k0_pay5 x g) w (ix2 r j) = ∑ k, xn x g r k * w (ix2 k j) := by
  pointwise [k0_pay4, pay5_apply]
end

section
variable (x : Vec Ideal S512x1024 .f32) (g : Vec Ideal S1x1024 .f32) (W : Vec Ideal S1024x3456 .bf16)
/-- A block's normed rows against the rearranged weights' column `j`. -/
def pr (r : Fin 512) (j : Fin 3456) : EReal := ∑ k, xn x g r k * W (ix2 k j)
/-- The tile of the wide output. -/
def tileU : Vec Ideal S512x2944 .bf16 := fun i => pr x g W (i 0) ⟨(i 1).val, by have := (i 1).isLt; change (i 1).val < 2944 at this; omega⟩
/-- The tile of the output holding the step sizes. -/
def tileD : Vec Ideal S512x512 .f32 := fun i => pr x g W (i 0) ⟨2944 + (i 1).val, by have := (i 1).isLt; change (i 1).val < 512 at this; omega⟩
/-- The stores, last first. -/
abbrev pieces : List (View.Piece (Elt Ideal) S512x2944 .bf16) :=
  [⟨Rect.unit (s := S512x2944) ![0, 2560] S512x384.size inb_S512x2944_S512x384_0_2560, k0_pay3 (k0_pay5 x g) (View.ld W (Rect.unit (s := S1024x3456) ![0, 2560] S1024x384.size inb_S1024x3456_S1024x384_0_2560))⟩, ⟨Rect.unit (s := S512x2944) ![0, 2048] S512x512.size inb_S512x2944_S512x512_0_2048, k0_pay2 (k0_pay5 x g) (View.ld W (Rect.unit (s := S1024x3456) ![0, 2048] S1024x512.size inb_S1024x3456_S1024x512_0_2048))⟩, ⟨Rect.unit (s := S512x2944) ![0, 1536] S512x512.size inb_S512x2944_S512x512_0_1536, k0_pay1 (k0_pay5 x g) (View.ld W (Rect.unit (s := S1024x3456) ![0, 1536] S1024x512.size inb_S1024x3456_S1024x512_0_1536))⟩, ⟨Rect.unit (s := S512x2944) ![0, 1024] S512x512.size inb_S512x2944_S512x512_0_1024, k0_pay8 x g (View.ld W (Rect.unit (s := S1024x3456) ![0, 1024] S1024x512.size inb_S1024x3456_S1024x512_0_1024))⟩, ⟨Rect.unit (s := S512x2944) ![0, 512] S512x512.size inb_S512x2944_S512x512_0_512, k0_pay7 x g (View.ld W (Rect.unit (s := S1024x3456) ![0, 512] S1024x512.size inb_S1024x3456_S1024x512_0_512))⟩, ⟨Rect.unit (s := S512x2944) ![0, 0] S512x512.size inb_S512x2944_S512x512_0_0, k0_pay6 x g (View.ld W (Rect.unit (s := S1024x3456) ![0, 0] S1024x512.size inb_S1024x3456_S1024x512_0_0))⟩]

theorem canon_pieces : View.canon (pieces x g W) = tileU x g W := by
  funext y
  refine View.canon_append_of_piecesOf (tileU x g W) [] (pieces x g W) ⟨fun i => ?_, fun i => ?_, fun i => ?_, fun i => ?_, fun i => ?_, fun i => ?_, trivial⟩ y ?_
  · have e0' : (((Rect.unit (s := S512x2944) ![0, 2560] S512x384.size inb_S512x2944_S512x384_0_2560).emb i) 0).val = 0 + (i 0).val := Rect.idx_unit_val _ _ _ i 0
    have e1 : (((Rect.unit (s := S512x2944) ![0, 2560] S512x384.size inb_S512x2944_S512x384_0_2560).emb i) 1).val = 2560 + (i 1).val := Rect.idx_unit_val _ _ _ i 1
    obtain ⟨r, j, rfl⟩ : ∃ (r : Fin 512) (j : Fin 384), i = ix2 r j := ⟨i 0, i 1, eq_ix2 i⟩
    refine (pay3_apply x g _ r j).trans ?_
    have e0 : ((Rect.unit (s := S512x2944) ![0, 2560] S512x384.size inb_S512x2944_S512x384_0_2560).emb (ix2 r j)) 0 = r := Fin.ext (e0'.trans (Nat.zero_add _))
    unfold tileU pr
    refine Finset.sum_congr rfl fun k _ => congrArg₂ (· * ·) (by rw [e0]) ?_
    refine Eq.trans (b := W (ix2 k ⟨2560 + j.val, by omega⟩)) (by pointwise) ?_
    exact congrArg (fun q => W (ix2 k q)) (Fin.ext e1.symm)
  · have e0' : (((Rect.unit (s := S512x2944) ![0, 2048] S512x512.size inb_S512x2944_S512x512_0_2048).emb i) 0).val = 0 + (i 0).val := Rect.idx_unit_val _ _ _ i 0
    have e1 : (((Rect.unit (s := S512x2944) ![0, 2048] S512x512.size inb_S512x2944_S512x512_0_2048).emb i) 1).val = 2048 + (i 1).val := Rect.idx_unit_val _ _ _ i 1
    obtain ⟨r, j, rfl⟩ : ∃ (r : Fin 512) (j : Fin 512), i = ix2 r j := ⟨i 0, i 1, eq_ix2 i⟩
    refine (pay2_apply x g _ r j).trans ?_
    have e0 : ((Rect.unit (s := S512x2944) ![0, 2048] S512x512.size inb_S512x2944_S512x512_0_2048).emb (ix2 r j)) 0 = r := Fin.ext (e0'.trans (Nat.zero_add _))
    unfold tileU pr
    refine Finset.sum_congr rfl fun k _ => congrArg₂ (· * ·) (by rw [e0]) ?_
    refine Eq.trans (b := W (ix2 k ⟨2048 + j.val, by omega⟩)) (by pointwise) ?_
    exact congrArg (fun q => W (ix2 k q)) (Fin.ext e1.symm)
  · have e0' : (((Rect.unit (s := S512x2944) ![0, 1536] S512x512.size inb_S512x2944_S512x512_0_1536).emb i) 0).val = 0 + (i 0).val := Rect.idx_unit_val _ _ _ i 0
    have e1 : (((Rect.unit (s := S512x2944) ![0, 1536] S512x512.size inb_S512x2944_S512x512_0_1536).emb i) 1).val = 1536 + (i 1).val := Rect.idx_unit_val _ _ _ i 1
    obtain ⟨r, j, rfl⟩ : ∃ (r : Fin 512) (j : Fin 512), i = ix2 r j := ⟨i 0, i 1, eq_ix2 i⟩
    refine (pay1_apply x g _ r j).trans ?_
    have e0 : ((Rect.unit (s := S512x2944) ![0, 1536] S512x512.size inb_S512x2944_S512x512_0_1536).emb (ix2 r j)) 0 = r := Fin.ext (e0'.trans (Nat.zero_add _))
    unfold tileU pr
    refine Finset.sum_congr rfl fun k _ => congrArg₂ (· * ·) (by rw [e0]) ?_
    refine Eq.trans (b := W (ix2 k ⟨1536 + j.val, by omega⟩)) (by pointwise) ?_
    exact congrArg (fun q => W (ix2 k q)) (Fin.ext e1.symm)
  · have e0' : (((Rect.unit (s := S512x2944) ![0, 1024] S512x512.size inb_S512x2944_S512x512_0_1024).emb i) 0).val = 0 + (i 0).val := Rect.idx_unit_val _ _ _ i 0
    have e1 : (((Rect.unit (s := S512x2944) ![0, 1024] S512x512.size inb_S512x2944_S512x512_0_1024).emb i) 1).val = 1024 + (i 1).val := Rect.idx_unit_val _ _ _ i 1
    obtain ⟨r, j, rfl⟩ : ∃ (r : Fin 512) (j : Fin 512), i = ix2 r j := ⟨i 0, i 1, eq_ix2 i⟩
    refine (pay8_apply x g _ r j).trans ?_
    have e0 : ((Rect.unit (s := S512x2944) ![0, 1024] S512x512.size inb_S512x2944_S512x512_0_1024).emb (ix2 r j)) 0 = r := Fin.ext (e0'.trans (Nat.zero_add _))
    unfold tileU pr
    refine Finset.sum_congr rfl fun k _ => congrArg₂ (· * ·) (by rw [e0]) ?_
    refine Eq.trans (b := W (ix2 k ⟨1024 + j.val, by omega⟩)) (by pointwise) ?_
    exact congrArg (fun q => W (ix2 k q)) (Fin.ext e1.symm)
  · have e0' : (((Rect.unit (s := S512x2944) ![0, 512] S512x512.size inb_S512x2944_S512x512_0_512).emb i) 0).val = 0 + (i 0).val := Rect.idx_unit_val _ _ _ i 0
    have e1 : (((Rect.unit (s := S512x2944) ![0, 512] S512x512.size inb_S512x2944_S512x512_0_512).emb i) 1).val = 512 + (i 1).val := Rect.idx_unit_val _ _ _ i 1
    obtain ⟨r, j, rfl⟩ : ∃ (r : Fin 512) (j : Fin 512), i = ix2 r j := ⟨i 0, i 1, eq_ix2 i⟩
    refine (pay7_apply x g _ r j).trans ?_
    have e0 : ((Rect.unit (s := S512x2944) ![0, 512] S512x512.size inb_S512x2944_S512x512_0_512).emb (ix2 r j)) 0 = r := Fin.ext (e0'.trans (Nat.zero_add _))
    unfold tileU pr
    refine Finset.sum_congr rfl fun k _ => congrArg₂ (· * ·) (by rw [e0]) ?_
    refine Eq.trans (b := W (ix2 k ⟨512 + j.val, by omega⟩)) (by pointwise) ?_
    exact congrArg (fun q => W (ix2 k q)) (Fin.ext e1.symm)
  · have e0' : (((Rect.unit (s := S512x2944) ![0, 0] S512x512.size inb_S512x2944_S512x512_0_0).emb i) 0).val = 0 + (i 0).val := Rect.idx_unit_val _ _ _ i 0
    have e1 : (((Rect.unit (s := S512x2944) ![0, 0] S512x512.size inb_S512x2944_S512x512_0_0).emb i) 1).val = 0 + (i 1).val := Rect.idx_unit_val _ _ _ i 1
    obtain ⟨r, j, rfl⟩ : ∃ (r : Fin 512) (j : Fin 512), i = ix2 r j := ⟨i 0, i 1, eq_ix2 i⟩
    refine (pay6_apply x g _ r j).trans ?_
    have e0 : ((Rect.unit (s := S512x2944) ![0, 0] S512x512.size inb_S512x2944_S512x512_0_0).emb (ix2 r j)) 0 = r := Fin.ext (e0'.trans (Nat.zero_add _))
    unfold tileU pr
    refine Finset.sum_congr rfl fun k _ => congrArg₂ (· * ·) (by rw [e0]) ?_
    refine Eq.trans (b := W (ix2 k ⟨0 + j.val, by omega⟩)) (by pointwise) ?_
    exact congrArg (fun q => W (ix2 k q)) (Fin.ext e1.symm)
  · have b0 : (y 0).val < 512 := (y 0).isLt
    have b1 : (y 1).val < 2944 := (y 1).isLt
    rcases (by omega : 2560 ≤ (y 1).val ∨ (2048 ≤ (y 1).val ∧ (y 1).val < 2560) ∨ (1536 ≤ (y 1).val ∧ (y 1).val < 2048) ∨
      (1024 ≤ (y 1).val ∧ (y 1).val < 1536) ∨ (512 ≤ (y 1).val ∧ (y 1).val < 1024) ∨ (y 1).val < 512) with h | h | h | h | h | h
    · exact ⟨_, List.mem_cons_self .., by
        show y ∈ (Rect.unit (s := S512x2944) ![0, 2560] S512x384.size inb_S512x2944_S512x384_0_2560).set
        refine Rect.mem_set_unit.mpr fun a => ?_
        exact match a with
        | ⟨0, _⟩ => (⟨Nat.zero_le _, by omega⟩ : 0 ≤ (y 0).val ∧ (y 0).val < 0 + 512)
        | ⟨1, _⟩ => (⟨by omega, by omega⟩ : 2560 ≤ (y 1).val ∧ (y 1).val < 2560 + 384)⟩
    · exact ⟨_, List.mem_cons_of_mem _ (List.mem_cons_self ..), by
        show y ∈ (Rect.unit (s := S512x2944) ![0, 2048] S512x512.size inb_S512x2944_S512x512_0_2048).set
        refine Rect.mem_set_unit.mpr fun a => ?_
        exact match a with
        | ⟨0, _⟩ => (⟨Nat.zero_le _, by omega⟩ : 0 ≤ (y 0).val ∧ (y 0).val < 0 + 512)
        | ⟨1, _⟩ => (⟨by omega, by omega⟩ : 2048 ≤ (y 1).val ∧ (y 1).val < 2048 + 512)⟩
    · exact ⟨_, List.mem_cons_of_mem _ (List.mem_cons_of_mem _ (List.mem_cons_self ..)), by
        show y ∈ (Rect.unit (s := S512x2944) ![0, 1536] S512x512.size inb_S512x2944_S512x512_0_1536).set
        refine Rect.mem_set_unit.mpr fun a => ?_
        exact match a with
        | ⟨0, _⟩ => (⟨Nat.zero_le _, by omega⟩ : 0 ≤ (y 0).val ∧ (y 0).val < 0 + 512)
        | ⟨1, _⟩ => (⟨by omega, by omega⟩ : 1536 ≤ (y 1).val ∧ (y 1).val < 1536 + 512)⟩
    · exact ⟨_, List.mem_cons_of_mem _ (List.mem_cons_of_mem _ (List.mem_cons_of_mem _ (List.mem_cons_self ..))), by
        show y ∈ (Rect.unit (s := S512x2944) ![0, 1024] S512x512.size inb_S512x2944_S512x512_0_1024).set
        refine Rect.mem_set_unit.mpr fun a => ?_
        exact match a with
        | ⟨0, _⟩ => (⟨Nat.zero_le _, by omega⟩ : 0 ≤ (y 0).val ∧ (y 0).val < 0 + 512)
        | ⟨1, _⟩ => (⟨by omega, by omega⟩ : 1024 ≤ (y 1).val ∧ (y 1).val < 1024 + 512)⟩
    · exact ⟨_, List.mem_cons_of_mem _ (List.mem_cons_of_mem _ (List.mem_cons_of_mem _ (List.mem_cons_of_mem _ (List.mem_cons_self ..)))), by
        show y ∈ (Rect.unit (s := S512x2944) ![0, 512] S512x512.size inb_S512x2944_S512x512_0_512).set
        refine Rect.mem_set_unit.mpr fun a => ?_
        exact match a with
        | ⟨0, _⟩ => (⟨Nat.zero_le _, by omega⟩ : 0 ≤ (y 0).val ∧ (y 0).val < 0 + 512)
        | ⟨1, _⟩ => (⟨by omega, by omega⟩ : 512 ≤ (y 1).val ∧ (y 1).val < 512 + 512)⟩
    · exact ⟨_, List.mem_cons_of_mem _ (List.mem_cons_of_mem _ (List.mem_cons_of_mem _ (List.mem_cons_of_mem _ (List.mem_cons_of_mem _ (List.mem_cons_self ..))))), by
        show y ∈ (Rect.unit (s := S512x2944) ![0, 0] S512x512.size inb_S512x2944_S512x512_0_0).set
        refine Rect.mem_set_unit.mpr fun a => ?_
        exact match a with
        | ⟨0, _⟩ => (⟨Nat.zero_le _, by omega⟩ : 0 ≤ (y 0).val ∧ (y 0).val < 0 + 512)
        | ⟨1, _⟩ => (⟨by omega, by omega⟩ : 0 ≤ (y 1).val ∧ (y 1).val < 0 + 512)⟩
end

theorem tile_u (t : Fin cfg0.N) : ((outsAt0 m c t).1 : Vec Ideal S512x2944 .bf16) = tileU (iblk m c 0 t) (iblk m c 1 t) (iblk m c 2 t) := by
  unfold outsAt0 out0_A_3 kernelRun0_A kernelRun0_A.sl.r
  dsimp only
  simp (disch := decide) only [View.read_writes_junk_eq_canon]
  simp (disch := decide) only [View.readAt_eq_ld, Memref.IsWhole.read_unread, View.ld_unit_lit']
  exact canon_pieces _ _ _

theorem tile_d (t : Fin cfg0.N) : ((outsAt0 m c t).2 : Vec Ideal S512x512 .f32) = tileD (iblk m c 0 t) (iblk m c 1 t) (iblk m c 2 t) := by
  unfold outsAt0 out0_A_4 kernelRun0_A kernelRun0_A.sl.r
  dsimp only
  simp (disch := decide) only [View.read_writes_junk_eq_canon, View.readAt_eq_ld, Memref.IsWhole.read_unread, View.ld_unit_lit', View.canon_cons_unit_lit', View.readCov_unit_lit', View.readCov_cons_unit_lit']
  funext i
  obtain ⟨r, j, rfl⟩ : ∃ (r : Fin 512) (j : Fin 512), i = ix2 r j := ⟨i 0, i 1, eq_ix2 i⟩
  refine (pay4_apply _ _ _ r j).trans ?_
  unfold tileD pr
  refine Finset.sum_congr rfl fun k _ => congrArg₂ (· * ·) rfl ?_
  pointwise

end Cert.Kernel2Ideal.Value
end
-- ==== Proof.InArrays.lean ====
module

public import proofs.«01_k».proof.Proof.Gen.Kernel2Ideal.Frame
public import proofs.«01_k».proof.Proof.Rows
public import Idealize.ShloMosaic.Lib.Pipeline.ValueKit
public import Idealize.ShloMosaic.Lib.Pipeline.ReadBack
public import Idealize.ShloMosaic.Lib.Pointwise
/-!
The input projection's weights as the kernel lays them out, column range by column range, and the arrays the grid finds.
-/
@[expose] public section
set_option maxRecDepth 16384
noncomputable section
namespace Cert.Kernel2Ideal.Value
open Cert.Kernel2Ideal Cert.Kernel2Ideal.Gen Idealize.ShloMosaic Idealize.ShloMosaic.TcCoe Idealize.SL.Sem
variable (m : (ℓ : Loc nD τ sig) → Buf (Elt Ideal) ℓ) (ρ : Dev nD → PrngReg) (c : Dev nD)

/-- The query columns, scaled. -/
def wq (a2 : FVec Ideal S1024x2664 .f32) : FVec Ideal S1024x256 .f32 := (mulf (extractStridedSlice S1024x256 ![0, 1544] a2 slices_S1024x2664_S1024x256_0_1544) (broadcastInDim S1024x256 ![] bcast_S_S1024x256 (constant (F := Ideal) S_ .f32 0x3E000000#32)))
/-- The rotary key columns between zero columns. -/
def wkr (a2 : FVec Ideal S1024x2664 .f32) : FVec Ideal S1024x128 .f32 := (concatenate S1024x128 1 [⟨S1024x64, ((broadcastInDim S1024x64 ![] bcast_S_S1024x64 (constant (F := Ideal) S_ .f32 0x00000000#32)) : (⟨S1024x64, .f32⟩ : BufTy).Contents (Elt Ideal))⟩, ⟨S1024x32, ((extractStridedSlice S1024x32 ![0, 2632] a2 slices_S1024x2664_S1024x32_0_2632) : (⟨S1024x32, .f32⟩ : BufTy).Contents (Elt Ideal))⟩, ⟨S1024x32, ((broadcastInDim S1024x32 ![] bcast_S_S1024x32 (constant (F := Ideal) S_ .f32 0x00000000#32)) : (⟨S1024x32, .f32⟩ : BufTy).Contents (Elt Ideal))⟩] concatenates_S1024x64_S1024x32_S1024x32_S1024x128_d1)
/-- The same with the halves exchanged and one negated. -/
def wkr2 (a2 : FVec Ideal S1024x2664 .f32) : FVec Ideal S1024x128 .f32 := (concatenate S1024x128 1 [⟨S1024x64, ((broadcastInDim S1024x64 ![] bcast_S_S1024x64 (constant (F := Ideal) S_ .f32 0x00000000#32)) : (⟨S1024x64, .f32⟩ : BufTy).Contents (Elt Ideal))⟩, ⟨S1024x32, ((concatenate S1024x32 1 [⟨S1024x16, (Host.negf (F := Ideal) (φ := .f32) (extractStridedSlice S1024x16 ![0, 16] (extractStridedSlice S1024x32 ![0, 2632] a2 slices_S1024x2664_S1024x32_0_2632) slices_S1024x32_S1024x16_0_16) : (⟨S1024x16, .f32⟩ : BufTy).Contents (Elt Ideal))⟩, ⟨S1024x16, ((extractStridedSlice S1024x16 ![0, 0] (extractStridedSlice S1024x32 ![0, 2632] a2 slices_S1024x2664_S1024x32_0_2632) slices_S1024x32_S1024x16_0_0) : (⟨S1024x16, .f32⟩ : BufTy).Contents (Elt Ideal))⟩] concatenates_S1024x16_S1024x16_S1024x32_d1) : (⟨S1024x32, .f32⟩ : BufTy).Contents (Elt Ideal))⟩, ⟨S1024x32, ((broadcastInDim S1024x32 ![] bcast_S_S1024x32 (constant (F := Ideal) S_ .f32 0x00000000#32)) : (⟨S1024x32, .f32⟩ : BufTy).Contents (Elt Ideal))⟩] concatenates_S1024x64_S1024x32_S1024x32_S1024x128_d1)
/-- The step-size columns, each 64 times. -/
def wdt (a2 : FVec Ideal S1024x2664 .f32) : FVec Ideal S1024x512 .f32 := (shapeCast S1024x512 (broadcastInDim S1024x8x64 ![0, 1] bcast_S1024x8_S1024x8x64_0_1 (extractStridedSlice S1024x8 ![0, 1536] a2 slices_S1024x2664_S1024x8_0_1536)) shapeCasts_S1024x8x64_S1024x512)
/-- The weights as the kernel lays them out. -/
def WK (a2 : FVec Ideal S1024x2664 .f32) : FVec Ideal S1024x3456 .f32 :=
  concatenate S1024x3456 1 [⟨S1024x1024, ((extractStridedSlice S1024x1024 ![0, 512] a2 slices_S1024x2664_S1024x1024_0_512) : (⟨S1024x1024, .f32⟩ : BufTy).Contents (Elt Ideal))⟩, ⟨S1024x512, ((extractStridedSlice S1024x512 ![0, 0] a2 slices_S1024x2664_S1024x512_0_0) : (⟨S1024x512, .f32⟩ : BufTy).Contents (Elt Ideal))⟩, ⟨S1024x256, (wq a2 : (⟨S1024x256, .f32⟩ : BufTy).Contents (Elt Ideal))⟩, ⟨S1024x256, ((extractStridedSlice S1024x256 ![0, 1800] a2 slices_S1024x2664_S1024x256_0_1800) : (⟨S1024x256, .f32⟩ : BufTy).Contents (Elt Ideal))⟩, ⟨S1024x256, ((extractStridedSlice S1024x256 ![0, 2056] a2 slices_S1024x2664_S1024x256_0_2056) : (⟨S1024x256, .f32⟩ : BufTy).Contents (Elt Ideal))⟩, ⟨S1024x192, ((extractStridedSlice S1024x192 ![0, 2312] a2 slices_S1024x2664_S1024x192_0_2312) : (⟨S1024x192, .f32⟩ : BufTy).Contents (Elt Ideal))⟩, ⟨S1024x64, ((broadcastInDim S1024x64 ![] bcast_S_S1024x64 (constant (F := Ideal) S_ .f32 0x00000000#32)) : (⟨S1024x64, .f32⟩ : BufTy).Contents (Elt Ideal))⟩, ⟨S1024x128, ((extractStridedSlice S1024x128 ![0, 2504] a2 slices_S1024x2664_S1024x128_0_2504) : (⟨S1024x128, .f32⟩ : BufTy).Contents (Elt Ideal))⟩, ⟨S1024x128, (wkr a2 : (⟨S1024x128, .f32⟩ : BufTy).Contents (Elt Ideal))⟩, ⟨S1024x128, (wkr2 a2 : (⟨S1024x128, .f32⟩ : BufTy).Contents (Elt Ideal))⟩, ⟨S1024x512, (wdt a2 : (⟨S1024x512, .f32⟩ : BufTy).Contents (Elt Ideal))⟩] concatenates_S1024x1024_S1024x512_S1024x256_S1024x256_S1024x256_S1024x192_S1024x64_S1024x128_S1024x128_S1024x128_S1024x512_S1024x3456_d1

abbrev A0 : Vec Ideal S8x8208x1024 .f32 := m ((c.tc : Thread nD τ).loc main_arg0)
abbrev A1 : Vec Ideal S1024 .f32 := m ((c.tc : Thread nD τ).loc main_arg1)
abbrev A2 : Vec Ideal S1024x2664 .f32 := m ((c.tc : Thread nD τ).loc main_arg2)

theorem V_v28 : (V m c main_v28 : Vec Ideal S1024x3456 .bf16) = truncf .bf16 (WK (A2 m c)) bitsLt_bf16_f32 := by
  show StableHlo.after _ _ _ = _
  simp only [hostOps0, hostOps0_1, hostOps0_2, List.flatten_cons,
    List.flatten_nil, List.append_nil, List.cons_append, List.nil_append]
  after_results <;> rfl
theorem V_v1 : (V m c main_v1 : Vec Ideal S67584x1024 .f32) = shapeCast S67584x1024 (pad S8x8448x1024 ![0, 0, 0] ![0, 240, 0] ![0, 0, 0] (A0 m c) (sitofp (F := Ideal) .f32 (constantI S_ 32 0#32)) pads_S8x8208x1024_S8x8448x1024_000_02400_000 h_S_ : Vec Ideal S8x8448x1024 .f32) shapeCasts_S8x8448x1024_S67584x1024 := by
  show StableHlo.after _ _ _ = _
  simp only [hostOps0, hostOps0_1, hostOps0_2, List.flatten_cons,
    List.flatten_nil, List.append_nil, List.cons_append, List.nil_append]
  after_results <;> rfl
theorem V_v2 : (V m c main_v2 : Vec Ideal S1x1024 .f32) = shapeCast S1x1024 (A1 m c) shapeCasts_S1024_S1x1024 := by
  show StableHlo.after _ _ _ = _
  simp only [hostOps0, hostOps0_1, hostOps0_2, List.flatten_cons,
    List.flatten_nil, List.append_nil, List.cons_append, List.nil_append]
  after_results <;> rfl
section
variable (a2 : FVec Ideal S1024x2664 .f32)
theorem WK_xbc (k : Fin 1024) (j : Fin 1024) : WK a2 (ix2 k ⟨j.val, by omega⟩) = a2 (ix2 k ⟨512 + j.val, by omega⟩) := by
  pointwise [WK]
theorem WK_z (k : Fin 1024) (j : Fin 512) : WK a2 (ix2 k ⟨1024 + j.val, by omega⟩) = a2 (ix2 k ⟨j.val, by omega⟩) := by
  pointwise [WK]
theorem WK_q' (k : Fin 1024) (j : Fin 256) : WK a2 (ix2 k ⟨1536 + j.val, by omega⟩) = wq a2 (ix2 k j) := by
  pointwise [WK]
  rw [dif_neg (by omega)]
  rw [dif_neg (by omega)]
  rw [dif_pos (by omega)]
  exact congrArg (fun q => wq a2 (ix2 k q)) (Fin.ext (by simp only []; omega))
theorem WK_k (k : Fin 1024) (j : Fin 256) : WK a2 (ix2 k ⟨1792 + j.val, by omega⟩) = a2 (ix2 k ⟨1800 + j.val, by omega⟩) := by
  pointwise [WK]
  rw [dif_neg (by omega)]
  rw [dif_neg (by omega)]
  rw [dif_neg (by omega)]
  rw [dif_pos (by omega)]
  exact congrArg (fun q => a2 (ix2 k q)) (Fin.ext (by simp only []; omega))
theorem WK_v (k : Fin 1024) (j : Fin 256) : WK a2 (ix2 k ⟨2048 + j.val, by omega⟩) = a2 (ix2 k ⟨2056 + j.val, by omega⟩) := by
  pointwise [WK]
  rw [dif_neg (by omega)]
  rw [dif_neg (by omega)]
  rw [dif_neg (by omega)]
  rw [dif_neg (by omega)]
  rw [dif_pos (by omega)]
  exact congrArg (fun q => a2 (ix2 k q)) (Fin.ext (by simp only []; omega))
theorem WK_qa (k : Fin 1024) (j : Fin 192) : WK a2 (ix2 k ⟨2304 + j.val, by omega⟩) = a2 (ix2 k ⟨2312 + j.val, by omega⟩) := by
  pointwise [WK]
  rw [dif_neg (by omega)]
  rw [dif_neg (by omega)]
  rw [dif_neg (by omega)]
  rw [dif_neg (by omega)]
  rw [dif_neg (by omega)]
  rw [dif_pos (by omega)]
  exact congrArg (fun q => a2 (ix2 k q)) (Fin.ext (by simp only []; omega))
theorem WK_c (k : Fin 1024) (j : Fin 128) : WK a2 (ix2 k ⟨2560 + j.val, by omega⟩) = a2 (ix2 k ⟨2504 + j.val, by omega⟩) := by
  pointwise [WK]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg (fun q => a2 (ix2 k q)) (Fin.ext (by simp only []; omega))
theorem WK_kr' (k : Fin 1024) (j : Fin 128) : WK a2 (ix2 k ⟨2688 + j.val, by omega⟩) = wkr a2 (ix2 k j) := by
  pointwise [WK]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg (fun q => wkr a2 (ix2 k q)) (Fin.ext (by simp only []; omega))
theorem WK_dt' (k : Fin 1024) (j : Fin 512) : WK a2 (ix2 k ⟨2944 + j.val, by omega⟩) = wdt a2 (ix2 k j) := by
  pointwise [WK]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  rw [dif_neg (by omega)]
  exact congrArg (fun q => wdt a2 (ix2 k q)) (Fin.ext (by simp only []; omega))
/-- The query scale. -/
def c8 : EReal := Ideal.ofBits FTy.f32 1040187392#32
theorem WK_q (k : Fin 1024) (j : Fin 256) : WK a2 (ix2 k ⟨1536 + j.val, by omega⟩) = a2 (ix2 k ⟨1544 + j.val, by omega⟩) * c8 := by
  refine (WK_q' a2 k j).trans ?_
  pointwise [wq]
  rfl
theorem WK_dt (k : Fin 1024) (j : Fin 8) : WK a2 (ix2 k ⟨2944 + 64 * j.val, by omega⟩) = a2 (ix2 k ⟨1536 + j.val, by omega⟩) := by
  refine (WK_dt' a2 k ⟨64 * j.val, by omega⟩).trans ?_
  pointwise [wdt]
theorem WK_kr (k : Fin 1024) (j : Fin 32) : WK a2 (ix2 k ⟨2752 + j.val, by omega⟩) = a2 (ix2 k ⟨2632 + j.val, by omega⟩) := by
  refine Eq.trans ?_ ((WK_kr' a2 k ⟨64 + j.val, by omega⟩).trans ?_)
  · exact congrArg (fun q => WK a2 (ix2 k q)) (Fin.ext (by simp only []; omega))
  · pointwise [wkr]
end

theorem idxs : ∀ t : Fin cfg0.N, win0_0.index t = ![t.val, 0] ∧ win0_1.index t = ![0, 0] ∧
    win0_2.index t = ![0, 0] ∧ win0_3.index t = ![t.val, 0] ∧ win0_4.index t = ![t.val, 0] := by
  decide +kernel

theorem V_v1_at (b : Fin 8) (p : Fin 8208) (k : Fin 1024) : (V m c main_v1 : Vec Ideal S67584x1024 .f32) (ix2 ⟨b.val * 8448 + p.val, by omega⟩ k) = A0 m c (ix3 b p k) := by
  rw [V_v1]
  generalize A0 m c = X
  pointwise
  rw [dif_pos (by omega)]
  exact congrArg (fun q => X (ix3 b q k)) (Fin.ext (by simp only []; omega))
theorem blk0 (t : Fin cfg0.N) (r : Fin 512) (b : Fin 8) (p : Fin 8208) (h : t.val * 512 + r.val = b.val * 8448 + p.val) (k : Fin 1024) :
    (iblk m c 0 t : Vec Ideal S512x1024 .f32) (ix2 r k) = A0 m c (ix3 b p k) := by
  refine Eq.trans ?_ (V_v1_at m c b p k)
  have e : (iblk m c 0 t : Vec Ideal S512x1024 .f32) (ix2 r k) = (V m c main_v1 : Vec Ideal S67584x1024 .f32) (ix2 ⟨t.val * 512 + r.val, by omega⟩ k) := by
    obtain ⟨e0, e1, e2, e3, e4⟩ := idxs t
    blk_ext [iblk, e0]
  rw [e]
  exact congrArg (fun q => (V m c main_v1 : Vec Ideal S67584x1024 .f32) (ix2 q k)) (Fin.ext h)
theorem blk1 (t : Fin cfg0.N) (k : Fin 1024) : (iblk m c 1 t : Vec Ideal S1x1024 .f32) (ix2 0 k) = A1 m c (ix1 k) := by
  have h : (iblk m c 1 t : Vec Ideal S1x1024 .f32) (ix2 0 k) = (V m c main_v2 : Vec Ideal S1x1024 .f32) (ix2 0 k) := by
    obtain ⟨e0, e1, e2, e3, e4⟩ := idxs t
    blk_ext [iblk, e1]
  rw [h, V_v2]
  pointwise
theorem blk2 (t : Fin cfg0.N) (k : Fin 1024) (j : Fin 3456) : (iblk m c 2 t : Vec Ideal S1024x3456 .bf16) (ix2 k j) = WK (A2 m c) (ix2 k j) := by
  have h : (iblk m c 2 t : Vec Ideal S1024x3456 .bf16) (ix2 k j) = (V m c main_v28 : Vec Ideal S1024x3456 .bf16) (ix2 k j) := by
    obtain ⟨e0, e1, e2, e3, e4⟩ := idxs t
    blk_ext [iblk, e2]
  rw [h, V_v28]
  pointwise
end Cert.Kernel2Ideal.Value
end
-- ==== Proof.InFinal.lean ====
module

public import proofs.«01_k».proof.Proof.InTile
public import proofs.«01_k».proof.Proof.InArrays
/-!
The input projection's run: its nine results are the normed rows against the weights' columns, the queries scaled.
-/
@[expose] public section
set_option maxRecDepth 16384
noncomputable section
namespace Cert.Kernel2Ideal.Value
open Cert.Kernel2Ideal Cert.Kernel2Ideal.Gen Idealize.ShloMosaic Idealize.ShloMosaic.TcCoe Idealize.SL.Sem
variable (m : (ℓ : Loc nD τ sig) → Buf (Elt Ideal) ℓ) (ρ : Dev nD → PrngReg) (c : Dev nD)

/-- Position `p`'s normed row against column `j` of the weights. -/
abbrev Pr (b : Fin 8) (p : Fin 8208) (j : Fin 2664) : EReal :=
  ∑ k : Fin 1024, Rows.rms Rows.c1024 (fun k => A0 m c (ix3 b p k)) (fun k => A1 m c (ix1 k)) k * A2 m c (ix2 k j)
/-- The same against column `j` of the weights as the kernel lays them out. -/
def PrK (b : Fin 8) (p : Fin 8208) (j : Fin 3456) : EReal :=
  ∑ k : Fin 1024, Rows.rms Rows.c1024 (fun k => A0 m c (ix3 b p k)) (fun k => A1 m c (ix1 k)) k * WK (A2 m c) (ix2 k j)

theorem pr_at (t : Fin cfg0.N) (r : Fin 512) (b : Fin 8) (p : Fin 8208) (h : t.val * 512 + r.val = b.val * 8448 + p.val) (j : Fin 3456) :
    pr (iblk m c 0 t) (iblk m c 1 t) (iblk m c 2 t) r j = PrK m c b p j := by
  unfold pr PrK xn
  simp only [blk0 m c t r b p h, blk1 m c t, blk2 m c t]

theorem idx_inj3 : ∀ t t' : Fin cfg0.N, (cfg0.win 3).flush t = true → (cfg0.win 3).flush t' = true →
    (cfg0.win 3).index t = (cfg0.win 3).index t' → t = t' := by
  intro t t' _ _ h
  have e : win0_3.index t = win0_3.index t' := h
  rw [(idxs t).2.2.2.1, (idxs t').2.2.2.1] at e
  exact Fin.ext (congrFun e 0)

theorem arr_u (b : Fin 8) (p : Fin 8208) (j : Fin 2944) :
    ((dats m 0 c).arrAt 3 cfg0.N : Vec Ideal S67584x2944 .bf16) (ix2 ⟨b.val * 8448 + p.val, by omega⟩ j) = PrK m c b p ⟨j.val, by omega⟩ := by
  have hN : cfg0.N = 132 := N_0
  let t : Fin cfg0.N := ⟨(b.val * 8448 + p.val) / 512, by omega⟩
  have hv : t.val = (b.val * 8448 + p.val) / 512 := rfl
  have h := (dats m 0 c).arrAt_emb_eq_flushed 3 ((cfg0.win 3).hdisj_of_index_inj idx_inj3) t (flush0_3 t)
    (ix2 ⟨(b.val * 8448 + p.val) % 512, by omega⟩ j : S512x2944.Idx)
  have e : ((cfg0.win 3).blk t).view.emb (ix2 ⟨(b.val * 8448 + p.val) % 512, by omega⟩ j : S512x2944.Idx) = (ix2 ⟨b.val * 8448 + p.val, by omega⟩ j : S67584x2944.Idx) := by
    obtain ⟨e0, e1, e2, e3, e4⟩ := idxs t
    blk_ext [e3]
  rw [e] at h
  refine Eq.trans h ?_
  blk_simp
  rw [after0_3]
  rw [tile_u]
  exact pr_at m c t ⟨(b.val * 8448 + p.val) % 512, by omega⟩ b p (by show (b.val * 8448 + p.val) / 512 * 512 + (b.val * 8448 + p.val) % 512 = _; omega) _

theorem idx_inj4 : ∀ t t' : Fin cfg0.N, (cfg0.win 4).flush t = true → (cfg0.win 4).flush t' = true →
    (cfg0.win 4).index t = (cfg0.win 4).index t' → t = t' := by
  intro t t' _ _ h
  have e : win0_4.index t = win0_4.index t' := h
  rw [(idxs t).2.2.2.2, (idxs t').2.2.2.2] at e
  exact Fin.ext (congrFun e 0)

theorem arr_d (b : Fin 8) (p : Fin 8208) (j : Fin 512) :
    ((dats m 0 c).arrAt 4 cfg0.N : Vec Ideal S67584x512 .f32) (ix2 ⟨b.val * 8448 + p.val, by omega⟩ j) = PrK m c b p ⟨2944 + j.val, by omega⟩ := by
  have hN : cfg0.N = 132 := N_0
  let t : Fin cfg0.N := ⟨(b.val * 8448 + p.val) / 512, by omega⟩
  have hv : t.val = (b.val * 8448 + p.val) / 512 := rfl
  have h := (dats m 0 c).arrAt_emb_eq_flushed 4 ((cfg0.win 4).hdisj_of_index_inj idx_inj4) t (flush0_4 t)
    (ix2 ⟨(b.val * 8448 + p.val) % 512, by omega⟩ j : S512x512.Idx)
  have e : ((cfg0.win 4).blk t).view.emb (ix2 ⟨(b.val * 8448 + p.val) % 512, by omega⟩ j : S512x512.Idx) = (ix2 ⟨b.val * 8448 + p.val, by omega⟩ j : S67584x512.Idx) := by
    obtain ⟨e0, e1, e2, e3, e4⟩ := idxs t
    blk_ext [e4]
  rw [e] at h
  refine Eq.trans h ?_
  blk_simp
  rw [after0_4]
  rw [tile_d]
  exact pr_at m c t ⟨(b.val * 8448 + p.val) % 512, by omega⟩ b p (by show (b.val * 8448 + p.val) / 512 * 512 + (b.val * 8448 + p.val) % 512 = _; omega) _

abbrev AU : Vec Ideal S67584x2944 .bf16 := (dats m 0 c).arrAt 3 cfg0.N
abbrev AD : Vec Ideal S67584x512 .f32 := (dats m 0 c).arrAt 4 cfg0.N
theorem arrs_AU : Pipeline.withArrays (cfgs 0).spec c (V0 m c) (fun w => (dats m 0 c).arrAt w (cfgs 0).N) (Proc.tc.devRef main_v29_0) = AU m c :=
  Pipeline.withArrays_arr spec0 launch0.win.arr_inj c (V0 m c) (fun w => (dats m 0 c).arrAt w cfg0.N) 3
theorem arrs_AD : Pipeline.withArrays (cfgs 0).spec c (V0 m c) (fun w => (dats m 0 c).arrAt w (cfgs 0).N) (Proc.tc.devRef main_v29_1) = AD m c :=
  Pipeline.withArrays_arr spec0 launch0.win.arr_inj c (V0 m c) (fun w => (dats m 0 c).arrAt w cfg0.N) 4
/-- A sum of products with a nonnegative finite factor. -/
theorem sum_mul_scale {n : ℕ} (f : Fin n → EReal) (s : EReal) (h0 : 0 ≤ s) (h1 : s ≠ ⊤) : (∑ k, f k) * s = ∑ k, f k * s := by
  classical
  refine Finset.induction_on (motive := fun t => (∑ k ∈ t, f k) * s = ∑ k ∈ t, f k * s) Finset.univ (by simp) ?_
  intro a t ha ih
  rw [Finset.sum_insert ha, Finset.sum_insert ha, EReal.right_distrib_of_nonneg_of_ne_top h0 h1, ih]
theorem c8_eq : c8 = ((1 / 8 : ℝ) : EReal) := by
  unfold c8
  simp [Ideal.ofBits, Ideal.ieee, -EReal.coe_mul]; norm_num

theorem prk_z (b : Fin 8) (p : Fin 8208) (j : Fin 512) : PrK m c b p ⟨1024 + j.val, by omega⟩ = Pr m c b p ⟨j.val, by omega⟩ := by
  unfold PrK
  refine Finset.sum_congr rfl fun k _ => ?_
  rw [WK_z]
/-- Result `z`. -/
def G_z : Vec Ideal S8x8208x512 .f32 := fun i => Pr m c (i 0) (i 1) ⟨(i 2).val, by have := (i 2).isLt; change (i 2).val < 512 at this; omega⟩
theorem tail_z : (Pipeline.afterTail₀ cfgs (dats m) 0 (V0 m) [hostOps1] c main_v36 : Vec Ideal S8x8208x512 .f32) = G_z m c := by
  have h : (Pipeline.afterTail₀ cfgs (dats m) 0 (V0 m) [hostOps1] c main_v36 : Vec Ideal S8x8208x512 .f32) =
      extractStridedSlice S8x8208x512 ![0, 0, 1024] (extf .f32 (extractStridedSlice S8x8208x2944 ![0, 0, 0] (shapeCast S8x8448x2944 (AU m c) shapeCasts_S67584x2944_S8x8448x2944 : Vec Ideal S8x8448x2944 .bf16) slices_S8x8448x2944_S8x8208x2944_0_0_0 : FVec Ideal S8x8208x2944 .bf16) bitsLt_bf16_f32) slices_S8x8208x2944_S8x8208x512_0_0_1024 := by
    unfold Pipeline.afterTail₀
    simp only [hostOps1, List.flatten_cons, List.flatten_nil, List.append_nil]
    after_results
    rw [arrs_AU]
    rfl
  rw [h]
  funext i
  obtain ⟨b, p, j, rfl⟩ : ∃ (b : Fin 8) (p : Fin 8208) (j : Fin 512), i = ix3 b p j := ⟨i 0, i 1, i 2, eq_ix3 i⟩
  refine Eq.trans ?_ ((arr_u m c b p ⟨1024 + j.val, by omega⟩).trans (prk_z m c b p j))
  unfold AU
  generalize ((dats m 0 c).arrAt 3 cfg0.N : Vec Ideal S67584x2944 .bf16) = X
  pointwise

theorem prk_xbc (b : Fin 8) (p : Fin 8208) (j : Fin 1024) : PrK m c b p ⟨j.val, by omega⟩ = Pr m c b p ⟨512 + j.val, by omega⟩ := by
  unfold PrK
  refine Finset.sum_congr rfl fun k _ => ?_
  rw [WK_xbc]
/-- Result `xbc`. -/
def G_xbc : Vec Ideal S8x8208x1024 .f32 := fun i => Pr m c (i 0) (i 1) ⟨512 + (i 2).val, by have := (i 2).isLt; change (i 2).val < 1024 at this; omega⟩
theorem tail_xbc : (Pipeline.afterTail₀ cfgs (dats m) 0 (V0 m) [hostOps1] c main_v37 : Vec Ideal S8x8208x1024 .f32) = G_xbc m c := by
  have h : (Pipeline.afterTail₀ cfgs (dats m) 0 (V0 m) [hostOps1] c main_v37 : Vec Ideal S8x8208x1024 .f32) =
      extractStridedSlice S8x8208x1024 ![0, 0, 0] (extf .f32 (extractStridedSlice S8x8208x2944 ![0, 0, 0] (shapeCast S8x8448x2944 (AU m c) shapeCasts_S67584x2944_S8x8448x2944 : Vec Ideal S8x8448x2944 .bf16) slices_S8x8448x2944_S8x8208x2944_0_0_0 : FVec Ideal S8x8208x2944 .bf16) bitsLt_bf16_f32) slices_S8x8208x2944_S8x8208x1024_0_0_0 := by
    unfold Pipeline.afterTail₀
    simp only [hostOps1, List.flatten_cons, List.flatten_nil, List.append_nil]
    after_results
    rw [arrs_AU]
    rfl
  rw [h]
  funext i
  obtain ⟨b, p, j, rfl⟩ : ∃ (b : Fin 8) (p : Fin 8208) (j : Fin 1024), i = ix3 b p j := ⟨i 0, i 1, i 2, eq_ix3 i⟩
  refine Eq.trans ?_ ((arr_u m c b p ⟨j.val, by omega⟩).trans (prk_xbc m c b p j))
  unfold AU
  generalize ((dats m 0 c).arrAt 3 cfg0.N : Vec Ideal S67584x2944 .bf16) = X
  pointwise

theorem prk_dt (b : Fin 8) (p : Fin 8208) (j : Fin 8) : PrK m c b p ⟨2944 + 64 * j.val, by omega⟩ = Pr m c b p ⟨1536 + j.val, by omega⟩ := by
  unfold PrK
  refine Finset.sum_congr rfl fun k _ => ?_
  rw [WK_dt]
/-- Result `dt`. -/
def G_dt : Vec Ideal S8x8208x8 .f32 := fun i => Pr m c (i 0) (i 1) ⟨1536 + (i 2).val, by have := (i 2).isLt; change (i 2).val < 8 at this; omega⟩
theorem tail_dt : (Pipeline.afterTail₀ cfgs (dats m) 0 (V0 m) [hostOps1] c main_v35 : Vec Ideal S8x8208x8 .f32) = G_dt m c := by
  have h : (Pipeline.afterTail₀ cfgs (dats m) 0 (V0 m) [hostOps1] c main_v35 : Vec Ideal S8x8208x8 .f32) =
      shapeCast S8x8208x8 (extractStridedSlice S8x8208x8x1 ![0, 0, 0, 0] (shapeCast S8x8448x8x64 (AD m c) shapeCasts_S67584x512_S8x8448x8x64 : Vec Ideal S8x8448x8x64 .f32) slices_S8x8448x8x64_S8x8208x8x1_0_0_0_0) shapeCasts_S8x8208x8x1_S8x8208x8 := by
    unfold Pipeline.afterTail₀
    simp only [hostOps1, List.flatten_cons, List.flatten_nil, List.append_nil]
    after_results
    rw [arrs_AD]
    rfl
  rw [h]
  funext i
  obtain ⟨b, p, j, rfl⟩ : ∃ (b : Fin 8) (p : Fin 8208) (j : Fin 8), i = ix3 b p j := ⟨i 0, i 1, i 2, eq_ix3 i⟩
  refine Eq.trans ?_ ((arr_d m c b p ⟨64 * j.val, by omega⟩).trans (prk_dt m c b p j))
  unfold AD
  generalize ((dats m 0 c).arrAt 4 cfg0.N : Vec Ideal S67584x512 .f32) = X
  pointwise
  exact congrArg (fun q => X (ix2 _ q)) (Fin.ext (by simp only []; omega))

theorem prk_q (b : Fin 8) (p : Fin 8208) (j : Fin 256) : PrK m c b p ⟨1536 + j.val, by omega⟩ = Pr m c b p ⟨1544 + j.val, by omega⟩ * c8 := by
  unfold PrK
  rw [sum_mul_scale _ c8 (by rw [c8_eq]; exact_mod_cast (by norm_num : (0 : ℝ) ≤ 1 / 8)) (by rw [c8_eq]; exact EReal.coe_ne_top _)]
  refine Finset.sum_congr rfl fun k _ => ?_
  rw [WK_q, mul_assoc]
/-- Result `q`. -/
def G_q : Vec Ideal S8x8208x256 .f32 := fun i => Pr m c (i 0) (i 1) ⟨1544 + (i 2).val, by have := (i 2).isLt; change (i 2).val < 256 at this; omega⟩ * c8
theorem tail_q : (Pipeline.afterTail₀ cfgs (dats m) 0 (V0 m) [hostOps1] c main_v38 : Vec Ideal S8x8208x256 .f32) = G_q m c := by
  have h : (Pipeline.afterTail₀ cfgs (dats m) 0 (V0 m) [hostOps1] c main_v38 : Vec Ideal S8x8208x256 .f32) =
      extractStridedSlice S8x8208x256 ![0, 0, 1536] (extf .f32 (extractStridedSlice S8x8208x2944 ![0, 0, 0] (shapeCast S8x8448x2944 (AU m c) shapeCasts_S67584x2944_S8x8448x2944 : Vec Ideal S8x8448x2944 .bf16) slices_S8x8448x2944_S8x8208x2944_0_0_0 : FVec Ideal S8x8208x2944 .bf16) bitsLt_bf16_f32) slices_S8x8208x2944_S8x8208x256_0_0_1536 := by
    unfold Pipeline.afterTail₀
    simp only [hostOps1, List.flatten_cons, List.flatten_nil, List.append_nil]
    after_results
    rw [arrs_AU]
    rfl
  rw [h]
  funext i
  obtain ⟨b, p, j, rfl⟩ : ∃ (b : Fin 8) (p : Fin 8208) (j : Fin 256), i = ix3 b p j := ⟨i 0, i 1, i 2, eq_ix3 i⟩
  refine Eq.trans ?_ ((arr_u m c b p ⟨1536 + j.val, by omega⟩).trans (prk_q m c b p j))
  unfold AU
  generalize ((dats m 0 c).arrAt 3 cfg0.N : Vec Ideal S67584x2944 .bf16) = X
  pointwise

theorem prk_k (b : Fin 8) (p : Fin 8208) (j : Fin 256) : PrK m c b p ⟨1792 + j.val, by omega⟩ = Pr m c b p ⟨1800 + j.val, by omega⟩ := by
  unfold PrK
  refine Finset.sum_congr rfl fun k _ => ?_
  rw [WK_k]
/-- Result `k`. -/
def G_k : Vec Ideal S8x8208x256 .f32 := fun i => Pr m c (i 0) (i 1) ⟨1800 + (i 2).val, by have := (i 2).isLt; change (i 2).val < 256 at this; omega⟩
theorem tail_k : (Pipeline.afterTail₀ cfgs (dats m) 0 (V0 m) [hostOps1] c main_v39 : Vec Ideal S8x8208x256 .f32) = G_k m c := by
  have h : (Pipeline.afterTail₀ cfgs (dats m) 0 (V0 m) [hostOps1] c main_v39 : Vec Ideal S8x8208x256 .f32) =
      extractStridedSlice S8x8208x256 ![0, 0, 1792] (extf .f32 (extractStridedSlice S8x8208x2944 ![0, 0, 0] (shapeCast S8x8448x2944 (AU m c) shapeCasts_S67584x2944_S8x8448x2944 : Vec Ideal S8x8448x2944 .bf16) slices_S8x8448x2944_S8x8208x2944_0_0_0 : FVec Ideal S8x8208x2944 .bf16) bitsLt_bf16_f32) slices_S8x8208x2944_S8x8208x256_0_0_1792 := by
    unfold Pipeline.afterTail₀
    simp only [hostOps1, List.flatten_cons, List.flatten_nil, List.append_nil]
    after_results
    rw [arrs_AU]
    rfl
  rw [h]
  funext i
  obtain ⟨b, p, j, rfl⟩ : ∃ (b : Fin 8) (p : Fin 8208) (j : Fin 256), i = ix3 b p j := ⟨i 0, i 1, i 2, eq_ix3 i⟩
  refine Eq.trans ?_ ((arr_u m c b p ⟨1792 + j.val, by omega⟩).trans (prk_k m c b p j))
  unfold AU
  generalize ((dats m 0 c).arrAt 3 cfg0.N : Vec Ideal S67584x2944 .bf16) = X
  pointwise

theorem prk_v (b : Fin 8) (p : Fin 8208) (j : Fin 256) : PrK m c b p ⟨2048 + j.val, by omega⟩ = Pr m c b p ⟨2056 + j.val, by omega⟩ := by
  unfold PrK
  refine Finset.sum_congr rfl fun k _ => ?_
  rw [WK_v]
/-- Result `v`. -/
def G_v : Vec Ideal S8x8208x256 .f32 := fun i => Pr m c (i 0) (i 1) ⟨2056 + (i 2).val, by have := (i 2).isLt; change (i 2).val < 256 at this; omega⟩
theorem tail_v : (Pipeline.afterTail₀ cfgs (dats m) 0 (V0 m) [hostOps1] c main_v40 : Vec Ideal S8x8208x256 .f32) = G_v m c := by
  have h : (Pipeline.afterTail₀ cfgs (dats m) 0 (V0 m) [hostOps1] c main_v40 : Vec Ideal S8x8208x256 .f32) =
      extractStridedSlice S8x8208x256 ![0, 0, 2048] (extf .f32 (extractStridedSlice S8x8208x2944 ![0, 0, 0] (shapeCast S8x8448x2944 (AU m c) shapeCasts_S67584x2944_S8x8448x2944 : Vec Ideal S8x8448x2944 .bf16) slices_S8x8448x2944_S8x8208x2944_0_0_0 : FVec Ideal S8x8208x2944 .bf16) bitsLt_bf16_f32) slices_S8x8208x2944_S8x8208x256_0_0_2048 := by
    unfold Pipeline.afterTail₀
    simp only [hostOps1, List.flatten_cons, List.flatten_nil, List.append_nil]
    after_results
    rw [arrs_AU]
    rfl
  rw [h]
  funext i
  obtain ⟨b, p, j, rfl⟩ : ∃ (b : Fin 8) (p : Fin 8208) (j : Fin 256), i = ix3 b p j := ⟨i 0, i 1, i 2, eq_ix3 i⟩
  refine Eq.trans ?_ ((arr_u m c b p ⟨2048 + j.val, by omega⟩).trans (prk_v m c b p j))
  unfold AU
  generalize ((dats m 0 c).arrAt 3 cfg0.N : Vec Ideal S67584x2944 .bf16) = X
  pointwise

theorem prk_qa (b : Fin 8) (p : Fin 8208) (j : Fin 192) : PrK m c b p ⟨2304 + j.val, by omega⟩ = Pr m c b p ⟨2312 + j.val, by omega⟩ := by
  unfold PrK
  refine Finset.sum_congr rfl fun k _ => ?_
  rw [WK_qa]
/-- Result `qa`. -/
def G_qa : Vec Ideal S8x8208x192 .f32 := fun i => Pr m c (i 0) (i 1) ⟨2312 + (i 2).val, by have := (i 2).isLt; change (i 2).val < 192 at this; omega⟩
theorem tail_qa : (Pipeline.afterTail₀ cfgs (dats m) 0 (V0 m) [hostOps1] c main_v41 : Vec Ideal S8x8208x192 .f32) = G_qa m c := by
  have h : (Pipeline.afterTail₀ cfgs (dats m) 0 (V0 m) [hostOps1] c main_v41 : Vec Ideal S8x8208x192 .f32) =
      extractStridedSlice S8x8208x192 ![0, 0, 2304] (extf .f32 (extractStridedSlice S8x8208x2944 ![0, 0, 0] (shapeCast S8x8448x2944 (AU m c) shapeCasts_S67584x2944_S8x8448x2944 : Vec Ideal S8x8448x2944 .bf16) slices_S8x8448x2944_S8x8208x2944_0_0_0 : FVec Ideal S8x8208x2944 .bf16) bitsLt_bf16_f32) slices_S8x8208x2944_S8x8208x192_0_0_2304 := by
    unfold Pipeline.afterTail₀
    simp only [hostOps1, List.flatten_cons, List.flatten_nil, List.append_nil]
    after_results
    rw [arrs_AU]
    rfl
  rw [h]
  funext i
  obtain ⟨b, p, j, rfl⟩ : ∃ (b : Fin 8) (p : Fin 8208) (j : Fin 192), i = ix3 b p j := ⟨i 0, i 1, i 2, eq_ix3 i⟩
  refine Eq.trans ?_ ((arr_u m c b p ⟨2304 + j.val, by omega⟩).trans (prk_qa m c b p j))
  unfold AU
  generalize ((dats m 0 c).arrAt 3 cfg0.N : Vec Ideal S67584x2944 .bf16) = X
  pointwise

theorem prk_c (b : Fin 8) (p : Fin 8208) (j : Fin 128) : PrK m c b p ⟨2560 + j.val, by omega⟩ = Pr m c b p ⟨2504 + j.val, by omega⟩ := by
  unfold PrK
  refine Finset.sum_congr rfl fun k _ => ?_
  rw [WK_c]
/-- Result `c`. -/
def G_c : Vec Ideal S8x8208x128 .f32 := fun i => Pr m c (i 0) (i 1) ⟨2504 + (i 2).val, by have := (i 2).isLt; change (i 2).val < 128 at this; omega⟩
theorem tail_c : (Pipeline.afterTail₀ cfgs (dats m) 0 (V0 m) [hostOps1] c main_v42 : Vec Ideal S8x8208x128 .f32) = G_c m c := by
  have h : (Pipeline.afterTail₀ cfgs (dats m) 0 (V0 m) [hostOps1] c main_v42 : Vec Ideal S8x8208x128 .f32) =
      extractStridedSlice S8x8208x128 ![0, 0, 2560] (extf .f32 (extractStridedSlice S8x8208x2944 ![0, 0, 0] (shapeCast S8x8448x2944 (AU m c) shapeCasts_S67584x2944_S8x8448x2944 : Vec Ideal S8x8448x2944 .bf16) slices_S8x8448x2944_S8x8208x2944_0_0_0 : FVec Ideal S8x8208x2944 .bf16) bitsLt_bf16_f32) slices_S8x8208x2944_S8x8208x128_0_0_2560 := by
    unfold Pipeline.afterTail₀
    simp only [hostOps1, List.flatten_cons, List.flatten_nil, List.append_nil]
    after_results
    rw [arrs_AU]
    rfl
  rw [h]
  funext i
  obtain ⟨b, p, j, rfl⟩ : ∃ (b : Fin 8) (p : Fin 8208) (j : Fin 128), i = ix3 b p j := ⟨i 0, i 1, i 2, eq_ix3 i⟩
  refine Eq.trans ?_ ((arr_u m c b p ⟨2560 + j.val, by omega⟩).trans (prk_c m c b p j))
  unfold AU
  generalize ((dats m 0 c).arrAt 3 cfg0.N : Vec Ideal S67584x2944 .bf16) = X
  pointwise

theorem prk_kr (b : Fin 8) (p : Fin 8208) (j : Fin 32) : PrK m c b p ⟨2752 + j.val, by omega⟩ = Pr m c b p ⟨2632 + j.val, by omega⟩ := by
  unfold PrK
  refine Finset.sum_congr rfl fun k _ => ?_
  rw [WK_kr]
/-- Result `kr`. -/
def G_kr : Vec Ideal S8x8208x32 .f32 := fun i => Pr m c (i 0) (i 1) ⟨2632 + (i 2).val, by have := (i 2).isLt; change (i 2).val < 32 at this; omega⟩
theorem tail_kr : (Pipeline.afterTail₀ cfgs (dats m) 0 (V0 m) [hostOps1] c main_v43 : Vec Ideal S8x8208x32 .f32) = G_kr m c := by
  have h : (Pipeline.afterTail₀ cfgs (dats m) 0 (V0 m) [hostOps1] c main_v43 : Vec Ideal S8x8208x32 .f32) =
      extractStridedSlice S8x8208x32 ![0, 0, 2752] (extf .f32 (extractStridedSlice S8x8208x2944 ![0, 0, 0] (shapeCast S8x8448x2944 (AU m c) shapeCasts_S67584x2944_S8x8448x2944 : Vec Ideal S8x8448x2944 .bf16) slices_S8x8448x2944_S8x8208x2944_0_0_0 : FVec Ideal S8x8208x2944 .bf16) bitsLt_bf16_f32) slices_S8x8208x2944_S8x8208x32_0_0_2752 := by
    unfold Pipeline.afterTail₀
    simp only [hostOps1, List.flatten_cons, List.flatten_nil, List.append_nil]
    after_results
    rw [arrs_AU]
    rfl
  rw [h]
  funext i
  obtain ⟨b, p, j, rfl⟩ : ∃ (b : Fin 8) (p : Fin 8208) (j : Fin 32), i = ix3 b p j := ⟨i 0, i 1, i 2, eq_ix3 i⟩
  refine Eq.trans ?_ ((arr_u m c b p ⟨2752 + j.val, by omega⟩).trans (prk_kr m c b p j))
  unfold AU
  generalize ((dats m 0 c).arrAt 3 cfg0.N : Vec Ideal S67584x2944 .bf16) = X
  pointwise

theorem run : θ_run defs (onTc (τ := τ) (main (F := Ideal))) ⟨m, fun _ => 0, ρ⟩ (fun r => ∀ c : Dev nD,
      r.2.mem ((c.tc : Thread nD τ).loc main_v36) = G_z m c
      ∧ r.2.mem ((c.tc : Thread nD τ).loc main_v37) = G_xbc m c
      ∧ r.2.mem ((c.tc : Thread nD τ).loc main_v35) = G_dt m c
      ∧ r.2.mem ((c.tc : Thread nD τ).loc main_v38) = G_q m c
      ∧ r.2.mem ((c.tc : Thread nD τ).loc main_v39) = G_k m c
      ∧ r.2.mem ((c.tc : Thread nD τ).loc main_v40) = G_v m c
      ∧ r.2.mem ((c.tc : Thread nD τ).loc main_v41) = G_qa m c
      ∧ r.2.mem ((c.tc : Thread nD τ).loc main_v42) = G_c m c
      ∧ r.2.mem ((c.tc : Thread nD τ).loc main_v43) = G_kr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have h := θ_run_and (run_main m ρ) (unchanged m ρ)
  refine (θ_run defs _ _).mono (fun r hr c => ?_) h
  exact ⟨((hr.1 c).2 main_v36 (Pipeline.mem_restRefs_of main_v36 (by decide) (by decide))).trans (tail_z m c),
    ((hr.1 c).2 main_v37 (Pipeline.mem_restRefs_of main_v37 (by decide) (by decide))).trans (tail_xbc m c),
    ((hr.1 c).2 main_v35 (Pipeline.mem_restRefs_of main_v35 (by decide) (by decide))).trans (tail_dt m c),
    ((hr.1 c).2 main_v38 (Pipeline.mem_restRefs_of main_v38 (by decide) (by decide))).trans (tail_q m c),
    ((hr.1 c).2 main_v39 (Pipeline.mem_restRefs_of main_v39 (by decide) (by decide))).trans (tail_k m c),
    ((hr.1 c).2 main_v40 (Pipeline.mem_restRefs_of main_v40 (by decide) (by decide))).trans (tail_v m c),
    ((hr.1 c).2 main_v41 (Pipeline.mem_restRefs_of main_v41 (by decide) (by decide))).trans (tail_qa m c),
    ((hr.1 c).2 main_v42 (Pipeline.mem_restRefs_of main_v42 (by decide) (by decide))).trans (tail_c m c),
    ((hr.1 c).2 main_v43 (Pipeline.mem_restRefs_of main_v43 (by decide) (by decide))).trans (tail_kr m c), hr.2 c⟩

end Cert.Kernel2Ideal.Value
end
-- ==== Proof.InRef.lean ====
module

public import proofs.«01_k».proof.Proof.Gen.Reference2Ideal.Run
public import proofs.«01_k».proof.Proof.InFinal
public import proofs.«01_k».proof.Proof.Ref
public import proofs.«01_k».proof.Defs
/-!
The input projection's reference at an index, and the input projection's value claim.
-/
@[expose] public section
set_option maxRecDepth 16384
noncomputable section
namespace Cert.Reference2Ideal.Value
open Cert.Reference2Ideal Cert.Reference2Ideal.Gen Idealize.ShloMosaic Idealize.ShloMosaic.TcCoe Idealize.SL.Sem

/-- The normed input. -/
def rXn (a0 : FVec Ideal S8x8208x1024 .f32) (a1 : FVec Ideal S1024 .f32) : FVec Ideal S8x8208x1024 .f32 :=
  (mulf (mulf a0 (broadcastInDim S8x8208x1024 ![0, 1, 2] bcast_S8x8208x1_S8x8208x1024_0_1_2 (Host.rsqrt (addf (Host.divf (broadcastInDim S8x8208x1 ![0, 1] bcast_S8x8208_S8x8208x1_0_1 (Host.reduceAdd (mulf a0 a0) (constant S_ .f32 0x00000000#32) reducesTo_S8x8208x1024_S8x8208_d2 h_S_)) (broadcastInDim S8x8208x1 ![] bcast_S_S8x8208x1 (constant S_ .f32 0x44800000#32))) (broadcastInDim S8x8208x1 ![] bcast_S_S8x8208x1 (constant S_ .f32 0x358637BD#32)))))) (broadcastInDim S8x8208x1024 ![0, 1, 2] bcast_S1x1x1024_S8x8208x1024_0_1_2 (broadcastInDim S1x1x1024 ![2] bcast_S1024_S1x1x1024_2 a1)))
theorem rXn_apply (a0 : FVec Ideal S8x8208x1024 .f32) (a1 : FVec Ideal S1024 .f32) (b : Fin 8) (p : Fin 8208) (k : Fin 1024) :
    rXn a0 a1 (ix3 b p k) = Rows.rms Rows.c1024 (fun k => a0 (ix3 b p k)) (fun k => a1 (ix1 k)) k := by
  pointwise [rXn]
  rw [Cert.ReferenceIdeal.Value.div1024]
  rfl

/-- The projection. -/
def rU (a0 : FVec Ideal S8x8208x1024 .f32) (a1 : FVec Ideal S1024 .f32) (a2 : FVec Ideal S1024x2664 .f32) : FVec Ideal S8x8208x2664 .f32 :=
  (Host.dotGeneral (φ₁ := FTy.f32) (φ₂ := FTy.f32) dot_S8x8208x1024_S1024x2664_S8x8208x2664_2_0_01_1_n_n none (rXn a0 a1) a2)
theorem rU_apply (a0 : FVec Ideal S8x8208x1024 .f32) (a1 : FVec Ideal S1024 .f32) (a2 : FVec Ideal S1024x2664 .f32) (b : Fin 8) (p : Fin 8208) (j : Fin 2664) :
    rU a0 a1 a2 (ix3 b p j) = ∑ k : Fin 1024, Rows.rms Rows.c1024 (fun k => a0 (ix3 b p k)) (fun k => a1 (ix1 k)) k * a2 (ix2 k j) := by
  pointwise [rU, rXn_apply]
/-- Result `z`. -/
def r_z (u : FVec Ideal S8x8208x2664 .f32) : FVec Ideal S8x8208x512 .f32 := (extractStridedSlice S8x8208x512 ![0, 0, 0] u slices_S8x8208x2664_S8x8208x512_0_0_0)
theorem r_z_apply (u : FVec Ideal S8x8208x2664 .f32) (b : Fin 8) (p : Fin 8208) (j : Fin 512) :
    r_z u (ix3 b p j) = u (ix3 b p ⟨j.val, by omega⟩) := by
  pointwise [r_z]
/-- Result `xbc`. -/
def r_xbc (u : FVec Ideal S8x8208x2664 .f32) : FVec Ideal S8x8208x1024 .f32 := (extractStridedSlice S8x8208x1024 ![0, 0, 512] u slices_S8x8208x2664_S8x8208x1024_0_0_512)
theorem r_xbc_apply (u : FVec Ideal S8x8208x2664 .f32) (b : Fin 8) (p : Fin 8208) (j : Fin 1024) :
    r_xbc u (ix3 b p j) = u (ix3 b p ⟨512 + j.val, by omega⟩) := by
  pointwise [r_xbc]
/-- Result `dt`. -/
def r_dt (u : FVec Ideal S8x8208x2664 .f32) : FVec Ideal S8x8208x8 .f32 := (extractStridedSlice S8x8208x8 ![0, 0, 1536] u slices_S8x8208x2664_S8x8208x8_0_0_1536)
theorem r_dt_apply (u : FVec Ideal S8x8208x2664 .f32) (b : Fin 8) (p : Fin 8208) (j : Fin 8) :
    r_dt u (ix3 b p j) = u (ix3 b p ⟨1536 + j.val, by omega⟩) := by
  pointwise [r_dt]
/-- Result `q`. -/
def r_q (u : FVec Ideal S8x8208x2664 .f32) : FVec Ideal S8x8208x256 .f32 := (mulf (extractStridedSlice S8x8208x256 ![0, 0, 1544] u slices_S8x8208x2664_S8x8208x256_0_0_1544) (broadcastInDim S8x8208x256 ![] bcast_S_S8x8208x256 (constant S_ .f32 0x3E000000#32)))
theorem r_q_apply (u : FVec Ideal S8x8208x2664 .f32) (b : Fin 8) (p : Fin 8208) (j : Fin 256) :
    r_q u (ix3 b p j) = u (ix3 b p ⟨1544 + j.val, by omega⟩) * Cert.Kernel2Ideal.Value.c8 := by
  pointwise [r_q]
  rfl
/-- Result `k`. -/
def r_k (u : FVec Ideal S8x8208x2664 .f32) : FVec Ideal S8x8208x256 .f32 := (extractStridedSlice S8x8208x256 ![0, 0, 1800] u slices_S8x8208x2664_S8x8208x256_0_0_1800)
theorem r_k_apply (u : FVec Ideal S8x8208x2664 .f32) (b : Fin 8) (p : Fin 8208) (j : Fin 256) :
    r_k u (ix3 b p j) = u (ix3 b p ⟨1800 + j.val, by omega⟩) := by
  pointwise [r_k]
/-- Result `v`. -/
def r_v (u : FVec Ideal S8x8208x2664 .f32) : FVec Ideal S8x8208x256 .f32 := (extractStridedSlice S8x8208x256 ![0, 0, 2056] u slices_S8x8208x2664_S8x8208x256_0_0_2056)
theorem r_v_apply (u : FVec Ideal S8x8208x2664 .f32) (b : Fin 8) (p : Fin 8208) (j : Fin 256) :
    r_v u (ix3 b p j) = u (ix3 b p ⟨2056 + j.val, by omega⟩) := by
  pointwise [r_v]
/-- Result `qa`. -/
def r_qa (u : FVec Ideal S8x8208x2664 .f32) : FVec Ideal S8x8208x192 .f32 := (extractStridedSlice S8x8208x192 ![0, 0, 2312] u slices_S8x8208x2664_S8x8208x192_0_0_2312)
theorem r_qa_apply (u : FVec Ideal S8x8208x2664 .f32) (b : Fin 8) (p : Fin 8208) (j : Fin 192) :
    r_qa u (ix3 b p j) = u (ix3 b p ⟨2312 + j.val, by omega⟩) := by
  pointwise [r_qa]
/-- Result `c`. -/
def r_c (u : FVec Ideal S8x8208x2664 .f32) : FVec Ideal S8x8208x128 .f32 := (extractStridedSlice S8x8208x128 ![0, 0, 2504] u slices_S8x8208x2664_S8x8208x128_0_0_2504)
theorem r_c_apply (u : FVec Ideal S8x8208x2664 .f32) (b : Fin 8) (p : Fin 8208) (j : Fin 128) :
    r_c u (ix3 b p j) = u (ix3 b p ⟨2504 + j.val, by omega⟩) := by
  pointwise [r_c]
/-- Result `kr`. -/
def r_kr (u : FVec Ideal S8x8208x2664 .f32) : FVec Ideal S8x8208x32 .f32 := (extractStridedSlice S8x8208x32 ![0, 0, 2632] u slices_S8x8208x2664_S8x8208x32_0_0_2632)
theorem r_kr_apply (u : FVec Ideal S8x8208x2664 .f32) (b : Fin 8) (p : Fin 8208) (j : Fin 32) :
    r_kr u (ix3 b p j) = u (ix3 b p ⟨2632 + j.val, by omega⟩) := by
  pointwise [r_kr]

end Cert.Reference2Ideal.Value

namespace Cert.Proof
open Idealize.ShloMosaic Idealize.ShloMosaic.TcCoe Idealize.SL.Sem

/-- The input projection's reference runs, leaves its arguments as they were and has no counters. -/
theorem frame_ref2 : Cert.quiescent_Reference2Ideal (hReference2Ideal := Cert.Reference2Ideal.Gen.facts) := fun m ρ _ =>
  (θ_run Cert.Reference2Ideal.defs _ _).mono (fun r h => ⟨fun c => (h c).2.2.2.2.2.2.2.2.2, Idealize.ShloMosaic.sem_eq_zero_of_no_sems (by decide) r.2⟩)
    (Cert.Reference2Ideal.Value.run (F := Ideal) m ρ)

section
variable (m : (ℓ : Loc Cert.Kernel2Ideal.nD Cert.Kernel2Ideal.τ Cert.Kernel2Ideal.sig) → Buf (Elt Ideal) ℓ) (c : Dev Cert.Kernel2Ideal.nD)
  (a0 : FVec Ideal Cert.Reference2Ideal.S8x8208x1024 .f32) (a1 : FVec Ideal Cert.Reference2Ideal.S1024 .f32) (a2 : FVec Ideal Cert.Reference2Ideal.S1024x2664 .f32)
  (e0 : a0 = Cert.Kernel2Ideal.Value.A0 m c) (e1 : a1 = Cert.Kernel2Ideal.Value.A1 m c) (e2 : a2 = Cert.Kernel2Ideal.Value.A2 m c)
include e0 e1 e2
theorem val2_z : Cert.Reference2Ideal.Value.r_z (Cert.Reference2Ideal.Value.rU a0 a1 a2) = (Cert.Kernel2Ideal.Value.G_z m c : Vec Ideal Cert.Kernel2Ideal.S8x8208x512 .f32) := by
  subst e0 e1 e2
  funext i
  obtain ⟨b, p, j, rfl⟩ : ∃ (b : Fin 8) (p : Fin 8208) (j : Fin 512), i = ix3 b p j := ⟨i 0, i 1, i 2, eq_ix3 i⟩
  refine (Cert.Reference2Ideal.Value.r_z_apply _ b p j).trans ?_
  rw [Cert.Reference2Ideal.Value.rU_apply]
  rfl
theorem val2_xbc : Cert.Reference2Ideal.Value.r_xbc (Cert.Reference2Ideal.Value.rU a0 a1 a2) = (Cert.Kernel2Ideal.Value.G_xbc m c : Vec Ideal Cert.Kernel2Ideal.S8x8208x1024 .f32) := by
  subst e0 e1 e2
  funext i
  obtain ⟨b, p, j, rfl⟩ : ∃ (b : Fin 8) (p : Fin 8208) (j : Fin 1024), i = ix3 b p j := ⟨i 0, i 1, i 2, eq_ix3 i⟩
  refine (Cert.Reference2Ideal.Value.r_xbc_apply _ b p j).trans ?_
  rw [Cert.Reference2Ideal.Value.rU_apply]
  rfl
theorem val2_dt : Cert.Reference2Ideal.Value.r_dt (Cert.Reference2Ideal.Value.rU a0 a1 a2) = (Cert.Kernel2Ideal.Value.G_dt m c : Vec Ideal Cert.Kernel2Ideal.S8x8208x8 .f32) := by
  subst e0 e1 e2
  funext i
  obtain ⟨b, p, j, rfl⟩ : ∃ (b : Fin 8) (p : Fin 8208) (j : Fin 8), i = ix3 b p j := ⟨i 0, i 1, i 2, eq_ix3 i⟩
  refine (Cert.Reference2Ideal.Value.r_dt_apply _ b p j).trans ?_
  rw [Cert.Reference2Ideal.Value.rU_apply]
  rfl
theorem val2_q : Cert.Reference2Ideal.Value.r_q (Cert.Reference2Ideal.Value.rU a0 a1 a2) = (Cert.Kernel2Ideal.Value.G_q m c : Vec Ideal Cert.Kernel2Ideal.S8x8208x256 .f32) := by
  subst e0 e1 e2
  funext i
  obtain ⟨b, p, j, rfl⟩ : ∃ (b : Fin 8) (p : Fin 8208) (j : Fin 256), i = ix3 b p j := ⟨i 0, i 1, i 2, eq_ix3 i⟩
  refine (Cert.Reference2Ideal.Value.r_q_apply _ b p j).trans ?_
  rw [Cert.Reference2Ideal.Value.rU_apply]
  rfl
theorem val2_k : Cert.Reference2Ideal.Value.r_k (Cert.Reference2Ideal.Value.rU a0 a1 a2) = (Cert.Kernel2Ideal.Value.G_k m c : Vec Ideal Cert.Kernel2Ideal.S8x8208x256 .f32) := by
  subst e0 e1 e2
  funext i
  obtain ⟨b, p, j, rfl⟩ : ∃ (b : Fin 8) (p : Fin 8208) (j : Fin 256), i = ix3 b p j := ⟨i 0, i 1, i 2, eq_ix3 i⟩
  refine (Cert.Reference2Ideal.Value.r_k_apply _ b p j).trans ?_
  rw [Cert.Reference2Ideal.Value.rU_apply]
  rfl
theorem val2_v : Cert.Reference2Ideal.Value.r_v (Cert.Reference2Ideal.Value.rU a0 a1 a2) = (Cert.Kernel2Ideal.Value.G_v m c : Vec Ideal Cert.Kernel2Ideal.S8x8208x256 .f32) := by
  subst e0 e1 e2
  funext i
  obtain ⟨b, p, j, rfl⟩ : ∃ (b : Fin 8) (p : Fin 8208) (j : Fin 256), i = ix3 b p j := ⟨i 0, i 1, i 2, eq_ix3 i⟩
  refine (Cert.Reference2Ideal.Value.r_v_apply _ b p j).trans ?_
  rw [Cert.Reference2Ideal.Value.rU_apply]
  rfl
theorem val2_qa : Cert.Reference2Ideal.Value.r_qa (Cert.Reference2Ideal.Value.rU a0 a1 a2) = (Cert.Kernel2Ideal.Value.G_qa m c : Vec Ideal Cert.Kernel2Ideal.S8x8208x192 .f32) := by
  subst e0 e1 e2
  funext i
  obtain ⟨b, p, j, rfl⟩ : ∃ (b : Fin 8) (p : Fin 8208) (j : Fin 192), i = ix3 b p j := ⟨i 0, i 1, i 2, eq_ix3 i⟩
  refine (Cert.Reference2Ideal.Value.r_qa_apply _ b p j).trans ?_
  rw [Cert.Reference2Ideal.Value.rU_apply]
  rfl
theorem val2_c : Cert.Reference2Ideal.Value.r_c (Cert.Reference2Ideal.Value.rU a0 a1 a2) = (Cert.Kernel2Ideal.Value.G_c m c : Vec Ideal Cert.Kernel2Ideal.S8x8208x128 .f32) := by
  subst e0 e1 e2
  funext i
  obtain ⟨b, p, j, rfl⟩ : ∃ (b : Fin 8) (p : Fin 8208) (j : Fin 128), i = ix3 b p j := ⟨i 0, i 1, i 2, eq_ix3 i⟩
  refine (Cert.Reference2Ideal.Value.r_c_apply _ b p j).trans ?_
  rw [Cert.Reference2Ideal.Value.rU_apply]
  rfl
theorem val2_kr : Cert.Reference2Ideal.Value.r_kr (Cert.Reference2Ideal.Value.rU a0 a1 a2) = (Cert.Kernel2Ideal.Value.G_kr m c : Vec Ideal Cert.Kernel2Ideal.S8x8208x32 .f32) := by
  subst e0 e1 e2
  funext i
  obtain ⟨b, p, j, rfl⟩ : ∃ (b : Fin 8) (p : Fin 8208) (j : Fin 32), i = ix3 b p j := ⟨i 0, i 1, i 2, eq_ix3 i⟩
  refine (Cert.Reference2Ideal.Value.r_kr_apply _ b p j).trans ?_
  rw [Cert.Reference2Ideal.Value.rU_apply]
  rfl
end

/-- On equal arguments the input projection's kernel and its reference give the same nine arrays. -/
theorem algebraic2 : Cert.algebraic_Kernel2Ideal_Reference2Ideal (hKernel2Ideal := Cert.Kernel2Ideal.Gen.facts)
    (hReference2Ideal := Cert.Reference2Ideal.Gen.facts) := by
  intro m ρ m' ρ' _ hag
  refine ⟨fun c => Cert.Kernel2Ideal.Value.G_z m c, fun c => Cert.Kernel2Ideal.Value.G_xbc m c, fun c => Cert.Kernel2Ideal.Value.G_dt m c, fun c => Cert.Kernel2Ideal.Value.G_q m c, fun c => Cert.Kernel2Ideal.Value.G_k m c, fun c => Cert.Kernel2Ideal.Value.G_v m c, fun c => Cert.Kernel2Ideal.Value.G_qa m c, fun c => Cert.Kernel2Ideal.Value.G_c m c, fun c => Cert.Kernel2Ideal.Value.G_kr m c, Cert.Kernel2Ideal.Value.run m ρ,
    (θ_run Cert.Reference2Ideal.defs _ _).mono (fun r h c => ?_) (Cert.Reference2Ideal.Value.run (F := Ideal) m' ρ')⟩
  obtain ⟨h0, h1, h2⟩ := hag c
  obtain ⟨k0, k1, k2, k3, k4, k5, k6, k7, k8, hk⟩ := h c
  exact ⟨k0.trans (val2_z m c _ _ _ h0 h1 h2),
    k1.trans (val2_xbc m c _ _ _ h0 h1 h2),
    k2.trans (val2_dt m c _ _ _ h0 h1 h2),
    k3.trans (val2_q m c _ _ _ h0 h1 h2),
    k4.trans (val2_k m c _ _ _ h0 h1 h2),
    k5.trans (val2_v m c _ _ _ h0 h1 h2),
    k6.trans (val2_qa m c _ _ _ h0 h1 h2),
    k7.trans (val2_c m c _ _ _ h0 h1 h2),
    k8.trans (val2_kr m c _ _ _ h0 h1 h2), hk⟩

end Cert.Proof
end
-- ==== Proof.Norm.lean ====
module

public import proofs.«01_k».proof.Proof.Gen.Kernel3Ideal.Value
public import proofs.«01_k».proof.Proof.Rows
public import Idealize.ShloMosaic.Lib.Pipeline.ValueKit
public import Idealize.ShloMosaic.Lib.Pipeline.ReadBack
public import Idealize.ShloMosaic.Lib.Pointwise
/-!
The final norm: the kernel's tiles, each made of 496 rows of one block and 16 rows of the next, are the normed rows from position 16 on.
-/
@[expose] public section
set_option maxRecDepth 16384
noncomputable section
namespace Cert.Kernel3Ideal.Value
open Cert.Kernel3Ideal Cert.Kernel3Ideal.Gen Idealize.ShloMosaic Idealize.ShloMosaic.TcCoe Idealize.SL.Sem
variable (m : (ℓ : Loc nD τ sig) → Buf (Elt Ideal) ℓ) (ρ : Dev nD → PrngReg) (c : Dev nD)

abbrev A0 : Vec Ideal S8x8208x1024 .f32 := m ((c.tc : Thread nD τ).loc main_arg0)
abbrev A1 : Vec Ideal S1024 .f32 := m ((c.tc : Thread nD τ).loc main_arg1)

theorem pay2_apply (g : Vec Ideal S1x1024 .f32) (x : Vec Ideal S1x496x1024 .f32) (r : Fin 496) (d : Fin 1024) :
    k0_pay2 g x (ix3 0 r d) = Rows.rms Rows.c1024 (fun k => x (ix3 0 r k)) (fun k => g (ix2 0 k)) d := by
  pointwise [k0_pay2, k0_pay1]
  rfl
theorem pay3_apply (g : Vec Ideal S1x1024 .f32) (x : Vec Ideal S1x16x1024 .f32) (r : Fin 16) (d : Fin 1024) :
    k0_pay3 g x (ix3 0 r d) = Rows.rms Rows.c1024 (fun k => x (ix3 0 r k)) (fun k => g (ix2 0 k)) d := by
  pointwise [k0_pay3, k0_pay1]
  rfl
/-- The tile: 496 rows of one array, then 16 of another. -/
def tileOf (P : Vec Ideal S1x496x1024 .f32) (Q : Vec Ideal S1x16x1024 .f32) : Vec Ideal S1x512x1024 .f32 :=
  fun i => if h : (i 1).val < 496 then P (ix3 0 ⟨(i 1).val, h⟩ (i 2))
    else Q (ix3 0 ⟨(i 1).val - 496, by have := (i 1).isLt; change (i 1).val < 512 at this; omega⟩ (i 2))

theorem canon_tile (P : Vec Ideal S1x496x1024 .f32) (Q : Vec Ideal S1x16x1024 .f32) :
    View.canon ([⟨Rect.unit (s := S1x512x1024) ![0, 496, 0] S1x16x1024.size inb_S1x512x1024_S1x16x1024_0_496_0, Q⟩, ⟨Rect.unit (s := S1x512x1024) ![0, 0, 0] S1x496x1024.size inb_S1x512x1024_S1x496x1024_0_0_0, P⟩] : List (View.Piece (Elt Ideal) S1x512x1024 .f32)) = tileOf P Q := by
  funext y
  refine View.canon_append_of_piecesOf (tileOf P Q) []
    [⟨Rect.unit (s := S1x512x1024) ![0, 496, 0] S1x16x1024.size inb_S1x512x1024_S1x16x1024_0_496_0, Q⟩, ⟨Rect.unit (s := S1x512x1024) ![0, 0, 0] S1x496x1024.size inb_S1x512x1024_S1x496x1024_0_0_0, P⟩] ⟨fun x => ?_, fun x => ?_, trivial⟩ y ?_
  · have e0 : (((Rect.unit (s := S1x512x1024) ![0, 496, 0] S1x16x1024.size inb_S1x512x1024_S1x16x1024_0_496_0).emb x) 0).val = 0 + (x 0).val := Rect.idx_unit_val _ _ _ x 0
    have e1 : (((Rect.unit (s := S1x512x1024) ![0, 496, 0] S1x16x1024.size inb_S1x512x1024_S1x16x1024_0_496_0).emb x) 1).val = 496 + (x 1).val := Rect.idx_unit_val _ _ _ x 1
    have e2 : (((Rect.unit (s := S1x512x1024) ![0, 496, 0] S1x16x1024.size inb_S1x512x1024_S1x16x1024_0_496_0).emb x) 2).val = 0 + (x 2).val := Rect.idx_unit_val _ _ _ x 2
    have hx : (x 0).val < 1 := (x 0).isLt
    have hn : ¬ (((Rect.unit (s := S1x512x1024) ![0, 496, 0] S1x16x1024.size inb_S1x512x1024_S1x16x1024_0_496_0).emb x) 1).val < 496 := by omega
    unfold tileOf
    rw [dif_neg hn]
    refine congrArg Q (funext fun a => Fin.ext ?_)
    match a with
    | ⟨0, _⟩ => exact (by omega : (x 0).val = 0)
    | ⟨1, _⟩ => exact (by omega : (x 1).val = (((Rect.unit (s := S1x512x1024) ![0, 496, 0] S1x16x1024.size inb_S1x512x1024_S1x16x1024_0_496_0).emb x) 1).val - 496)
    | ⟨2, _⟩ => exact (by omega : (x 2).val = (((Rect.unit (s := S1x512x1024) ![0, 496, 0] S1x16x1024.size inb_S1x512x1024_S1x16x1024_0_496_0).emb x) 2).val)
  · have e0 : (((Rect.unit (s := S1x512x1024) ![0, 0, 0] S1x496x1024.size inb_S1x512x1024_S1x496x1024_0_0_0).emb x) 0).val = 0 + (x 0).val := Rect.idx_unit_val _ _ _ x 0
    have e1 : (((Rect.unit (s := S1x512x1024) ![0, 0, 0] S1x496x1024.size inb_S1x512x1024_S1x496x1024_0_0_0).emb x) 1).val = 0 + (x 1).val := Rect.idx_unit_val _ _ _ x 1
    have e2 : (((Rect.unit (s := S1x512x1024) ![0, 0, 0] S1x496x1024.size inb_S1x512x1024_S1x496x1024_0_0_0).emb x) 2).val = 0 + (x 2).val := Rect.idx_unit_val _ _ _ x 2
    have hx : (x 0).val < 1 := (x 0).isLt
    have hx1 : (x 1).val < 496 := (x 1).isLt
    have hn : (((Rect.unit (s := S1x512x1024) ![0, 0, 0] S1x496x1024.size inb_S1x512x1024_S1x496x1024_0_0_0).emb x) 1).val < 496 := by omega
    unfold tileOf
    rw [dif_pos hn]
    refine congrArg P (funext fun a => Fin.ext ?_)
    match a with
    | ⟨0, _⟩ => exact (by omega : (x 0).val = 0)
    | ⟨1, _⟩ => exact (by omega : (x 1).val = (((Rect.unit (s := S1x512x1024) ![0, 0, 0] S1x496x1024.size inb_S1x512x1024_S1x496x1024_0_0_0).emb x) 1).val)
    | ⟨2, _⟩ => exact (by omega : (x 2).val = (((Rect.unit (s := S1x512x1024) ![0, 0, 0] S1x496x1024.size inb_S1x512x1024_S1x496x1024_0_0_0).emb x) 2).val)
  · have b0 : (y 0).val < 1 := (y 0).isLt
    have b1 : (y 1).val < 512 := (y 1).isLt
    have b2 : (y 2).val < 1024 := (y 2).isLt
    by_cases h : (y 1).val < 496
    · exact ⟨_, List.mem_cons_of_mem _ (List.mem_cons_self ..), by
        show y ∈ (Rect.unit (s := S1x512x1024) ![0, 0, 0] S1x496x1024.size inb_S1x512x1024_S1x496x1024_0_0_0).set
        refine Rect.mem_set_unit.mpr fun a => ?_
        exact match a with
        | ⟨0, _⟩ => (⟨Nat.zero_le _, by omega⟩ : 0 ≤ (y 0).val ∧ (y 0).val < 0 + 1)
        | ⟨1, _⟩ => (⟨Nat.zero_le _, by omega⟩ : 0 ≤ (y 1).val ∧ (y 1).val < 0 + 496)
        | ⟨2, _⟩ => (⟨Nat.zero_le _, by omega⟩ : 0 ≤ (y 2).val ∧ (y 2).val < 0 + 1024)⟩
    · exact ⟨_, List.mem_cons_self .., by
        show y ∈ (Rect.unit (s := S1x512x1024) ![0, 496, 0] S1x16x1024.size inb_S1x512x1024_S1x16x1024_0_496_0).set
        refine Rect.mem_set_unit.mpr fun a => ?_
        exact match a with
        | ⟨0, _⟩ => (⟨Nat.zero_le _, by omega⟩ : 0 ≤ (y 0).val ∧ (y 0).val < 0 + 1)
        | ⟨1, _⟩ => (⟨by omega, by omega⟩ : 496 ≤ (y 1).val ∧ (y 1).val < 496 + 16)
        | ⟨2, _⟩ => (⟨Nat.zero_le _, by omega⟩ : 0 ≤ (y 2).val ∧ (y 2).val < 0 + 1024)⟩

theorem tile_eq (t : Fin cfg0.N) : (outsAt0 m c t : Vec Ideal S1x512x1024 .f32) =
    tileOf (k0_pay2 (iblk m c 2 t) (View.ld (X0_0 m c t) (Rect.unit (s := S1x512x1024) ![0, 16, 0] ![1, 496, 1024] inb_S1x512x1024_S1x496x1024_0_16_0)))
      (k0_pay3 (iblk m c 2 t) (iblk m c 1 t)) := by
  unfold outsAt0 out0_A_3 kernelRun0_A
  dsimp only
  simp (disch := decide) only [View.read_writes_junk_eq_canon, View.readAt_eq_ld, Memref.IsWhole.read_unread, View.ld_unit_lit', View.canon_cons_unit_lit', View.readCov_unit_lit', View.readCov_cons_unit_lit']
  exact canon_tile _ _

theorem V_v0 : (V m c main_v0 : Vec Ideal S8x8448x1024 .f32) = (pad S8x8448x1024 ![0, 0, 0] ![0, 240, 0] ![0, 0, 0] (A0 m c) (sitofp (F := Ideal) .f32 (constantI S_ 32 0#32)) pads_S8x8208x1024_S8x8448x1024_000_02400_000 h_S_ : Vec Ideal S8x8448x1024 .f32) := by
  show StableHlo.after _ _ _ = _
  simp only [hostOps0, hostOps0_1, hostOps0_2, List.flatten_cons,
    List.flatten_nil, List.append_nil, List.cons_append, List.nil_append]
  after_results <;> rfl
theorem V_v1 : (V m c main_v1 : Vec Ideal S1x1024 .f32) = shapeCast S1x1024 (A1 m c) shapeCasts_S1024_S1x1024 := by
  show StableHlo.after _ _ _ = _
  simp only [hostOps0, hostOps0_1, hostOps0_2, List.flatten_cons,
    List.flatten_nil, List.append_nil, List.cons_append, List.nil_append]
  after_results <;> rfl
theorem idxs : ∀ t : Fin cfg0.N, win0_0.index t = ![t.val / 16, t.val % 16, 0] ∧ win0_1.index t = ![t.val / 16, (t.val % 16 + 1) * 32, 0] ∧
    win0_2.index t = ![0, 0] ∧ win0_3.index t = ![t.val / 16, t.val % 16, 0] := by
  decide +kernel

theorem blk0 (t : Fin cfg0.N) (ht : t.val < 128) (r : Fin 512) (d : Fin 1024) :
    (X0_0 m c t : Vec Ideal S1x512x1024 .f32) (ix3 0 r d) = A0 m c (ix3 ⟨t.val / 16, by omega⟩ ⟨t.val % 16 * 512 + r.val, by omega⟩ d) := by
  have h : (X0_0 m c t : Vec Ideal S1x512x1024 .f32) (ix3 0 r d) =
      (V m c main_v0 : Vec Ideal S8x8448x1024 .f32) (ix3 ⟨t.val / 16, by omega⟩ ⟨t.val % 16 * 512 + r.val, by omega⟩ d) := by
    obtain ⟨e0, e1, e2, e3⟩ := idxs t
    unfold X0_0 Pipeline.Window.fill
    rw [dif_pos (moved0_0 t _)]
    blk_ext [iblk, e0]
  rw [h, V_v0]
  pointwise
  rw [dif_pos (by omega)]
theorem blk1 (t : Fin cfg0.N) (ht : t.val < 128) (r : Fin 16) (d : Fin 1024) :
    (iblk m c 1 t : Vec Ideal S1x16x1024 .f32) (ix3 0 r d) = A0 m c (ix3 ⟨t.val / 16, by omega⟩ ⟨(t.val % 16 + 1) * 32 * 16 + r.val, by omega⟩ d) := by
  have h : (iblk m c 1 t : Vec Ideal S1x16x1024 .f32) (ix3 0 r d) =
      (V m c main_v0 : Vec Ideal S8x8448x1024 .f32) (ix3 ⟨t.val / 16, by omega⟩ ⟨(t.val % 16 + 1) * 32 * 16 + r.val, by omega⟩ d) := by
    obtain ⟨e0, e1, e2, e3⟩ := idxs t
    blk_ext [iblk, e1]
  rw [h, V_v0]
  pointwise
  rw [dif_pos (by omega)]
theorem blk2 (t : Fin cfg0.N) (d : Fin 1024) : (iblk m c 2 t : Vec Ideal S1x1024 .f32) (ix2 0 d) = A1 m c (ix1 d) := by
  have h : (iblk m c 2 t : Vec Ideal S1x1024 .f32) (ix2 0 d) = (V m c main_v1 : Vec Ideal S1x1024 .f32) (ix2 0 d) := by
    obtain ⟨e0, e1, e2, e3⟩ := idxs t
    blk_ext [iblk, e2]
  rw [h, V_v1]
  pointwise

/-- Row `p` of the result. -/
abbrev Nrm (b : Fin 8) (p : Fin 8192) (d : Fin 1024) : EReal :=
  Rows.rms Rows.c1024 (fun k => A0 m c (ix3 b ⟨16 + p.val, by omega⟩ k)) (fun k => A1 m c (ix1 k)) d

theorem tile_at (t : Fin cfg0.N) (ht : t.val < 128) (r : Fin 512) (d : Fin 1024) :
    (outsAt0 m c t : Vec Ideal S1x512x1024 .f32) (ix3 0 r d) = Nrm m c ⟨t.val / 16, by omega⟩ ⟨t.val % 16 * 512 + r.val, by omega⟩ d := by
  rw [tile_eq]
  unfold tileOf Nrm
  by_cases h : r.val < 496
  · rw [dif_pos (show ((ix3 0 r d : S1x512x1024.Idx) 1).val < 496 from h)]
    refine (pay2_apply _ _ ⟨r.val, h⟩ d).trans ?_
    have e : ∀ k : Fin 1024, View.ld (X0_0 m c t) (Rect.unit (s := S1x512x1024) ![0, 16, 0] ![1, 496, 1024] inb_S1x512x1024_S1x496x1024_0_16_0) (ix3 0 ⟨r.val, h⟩ k) =
        A0 m c (ix3 ⟨t.val / 16, by omega⟩ ⟨16 + (t.val % 16 * 512 + r.val), by omega⟩ k) := by
      intro k
      refine Eq.trans ?_ ((blk0 m c t ht ⟨16 + r.val, by omega⟩ k).trans ?_)
      · pointwise
      · exact congrArg (fun q => A0 m c (ix3 ⟨t.val / 16, by omega⟩ q k)) (Fin.ext (by show t.val % 16 * 512 + (16 + r.val) = 16 + (t.val % 16 * 512 + r.val); omega))
    simp only [e, blk2 m c t]
  · rw [dif_neg (show ¬ ((ix3 0 r d : S1x512x1024.Idx) 1).val < 496 from h)]
    refine (pay3_apply _ _ ⟨r.val - 496, by omega⟩ d).trans ?_
    have e : ∀ k : Fin 1024, (iblk m c 1 t : Vec Ideal S1x16x1024 .f32) (ix3 0 ⟨r.val - 496, by omega⟩ k) =
        A0 m c (ix3 ⟨t.val / 16, by omega⟩ ⟨16 + (t.val % 16 * 512 + r.val), by omega⟩ k) := by
      intro k
      refine (blk1 m c t ht ⟨r.val - 496, by omega⟩ k).trans ?_
      exact congrArg (fun q => A0 m c (ix3 ⟨t.val / 16, by omega⟩ q k)) (Fin.ext (by show (t.val % 16 + 1) * 32 * 16 + (r.val - 496) = 16 + (t.val % 16 * 512 + r.val); omega))
    simp only [e, blk2 m c t]

/-- The result. -/
def G : Vec Ideal S8x8192x1024 .f32 := fun i => Nrm m c (i 0) (i 1) (i 2)

theorem arr_eq : ((dats m 0 c).arrAt 3 cfg0.N : Vec Ideal S8x8192x1024 .f32) = G m c := by
  funext i
  obtain ⟨b, p, d, rfl⟩ : ∃ (b : Fin 8) (p : Fin 8192) (d : Fin 1024), i = ix3 b p d := ⟨i 0, i 1, i 2, eq_ix3 i⟩
  have hN : cfg0.N = 128 := N_0
  have ht : b.val * 16 + p.val / 512 < 128 := by omega
  let t : Fin cfg0.N := ⟨b.val * 16 + p.val / 512, by omega⟩
  have hv : t.val = b.val * 16 + p.val / 512 := rfl
  have h := (dats m 0 c).arrAt_emb_eq_flushed 3 disjoint3 t (flush0_3 t) (ix3 0 ⟨p.val % 512, by omega⟩ d : S1x512x1024.Idx)
  have e : ((cfg0.win 3).blk t).view.emb (ix3 0 ⟨p.val % 512, by omega⟩ d : S1x512x1024.Idx) = (ix3 b p d : S8x8192x1024.Idx) := by
    have e4 := (idxs t).2.2.2
    blk_ext [e4]
  rw [e] at h
  refine Eq.trans h ?_
  blk_simp
  rw [after0_3]
  refine (tile_at m c t ht ⟨p.val % 512, by omega⟩ d).trans ?_
  have e1 : (⟨t.val / 16, by omega⟩ : Fin 8) = b := Fin.ext (by show t.val / 16 = b.val; omega)
  have e2 : (⟨t.val % 16 * 512 + p.val % 512, by omega⟩ : Fin 8192) = p := Fin.ext (by show t.val % 16 * 512 + p.val % 512 = p.val; omega)
  exact congrArg₂ (fun b p => Nrm m c b p d) e1 e2

theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr_eq m c), (h c).2⟩) (run_blocks m ρ)

end Cert.Kernel3Ideal.Value
end
-- ==== Proof.NormRef.lean ====
module

public import proofs.«01_k».proof.Proof.Gen.Reference3Ideal.Run
public import proofs.«01_k».proof.Proof.Norm
public import proofs.«01_k».proof.Proof.Ref
public import proofs.«01_k».proof.Defs
/-!
The final norm's reference at an index, and the final norm's value claim.
-/
@[expose] public section
set_option maxRecDepth 16384
noncomputable section
namespace Cert.Reference3Ideal.Value
open Cert.Reference3Ideal Cert.Reference3Ideal.Gen Idealize.ShloMosaic Idealize.ShloMosaic.TcCoe Idealize.SL.Sem

/-- The reference's result. -/
def rFin (a0 : FVec Ideal S8x8208x1024 .f32) (a1 : FVec Ideal S1024 .f32) : FVec Ideal S8x8192x1024 .f32 :=
  extractStridedSlice S8x8192x1024 ![0, 16, 0] (mulf (mulf a0 (broadcastInDim S8x8208x1024 ![0, 1, 2] bcast_S8x8208x1_S8x8208x1024_0_1_2 (Host.rsqrt (addf (Host.divf (broadcastInDim S8x8208x1 ![0, 1] bcast_S8x8208_S8x8208x1_0_1 (Host.reduceAdd (mulf a0 a0) (constant S_ .f32 0x00000000#32) reducesTo_S8x8208x1024_S8x8208_d2 h_S_)) (broadcastInDim S8x8208x1 ![] bcast_S_S8x8208x1 (constant S_ .f32 0x44800000#32))) (broadcastInDim S8x8208x1 ![] bcast_S_S8x8208x1 (constant S_ .f32 0x358637BD#32)))))) (broadcastInDim S8x8208x1024 ![0, 1, 2] bcast_S1x1x1024_S8x8208x1024_0_1_2 (broadcastInDim S1x1x1024 ![2] bcast_S1024_S1x1x1024_2 a1))) slices_S8x8208x1024_S8x8192x1024_0_16_0

theorem rFin_apply (a0 : FVec Ideal S8x8208x1024 .f32) (a1 : FVec Ideal S1024 .f32) (b : Fin 8) (p : Fin 8192) (d : Fin 1024) :
    rFin a0 a1 (ix3 b p d) = Rows.rms Rows.c1024 (fun k => a0 (ix3 b ⟨16 + p.val, by omega⟩ k)) (fun k => a1 (ix1 k)) d := by
  pointwise [rFin]
  rw [Cert.ReferenceIdeal.Value.div1024]
  rfl

end Cert.Reference3Ideal.Value

namespace Cert.Proof
open Idealize.ShloMosaic Idealize.ShloMosaic.TcCoe Idealize.SL.Sem

/-- The final norm's reference runs, leaves its arguments as they were and has no counters. -/
theorem frame_ref3 : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- On equal arguments the final norm's kernel and its reference give the same array. -/
theorem algebraic3 : Cert.algebraic_Kernel3Ideal_Reference3Ideal (hKernel3Ideal := Cert.Kernel3Ideal.Gen.facts)
    (hReference3Ideal := Cert.Reference3Ideal.Gen.facts) := by
  intro m ρ m' ρ' _ hag
  refine ⟨fun c => Cert.Kernel3Ideal.Value.G m c, Cert.Kernel3Ideal.Value.run m ρ,
    (θ_run Cert.Reference3Ideal.defs _ _).mono (fun r h c => ⟨(h c).1.trans ?_, (h c).2⟩) (Cert.Reference3Ideal.Value.run (F := Ideal) m' ρ')⟩
  obtain ⟨h0, h1⟩ := hag c
  refine Eq.trans (b := ((Cert.Reference3Ideal.Value.rFin (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) : Vec Ideal Cert.Reference3Ideal.S8x8192x1024 .f32))) rfl ?_
  funext i
  obtain ⟨b, p, d, rfl⟩ : ∃ (b : Fin 8) (p : Fin 8192) (d : Fin 1024), i = ix3 b p d := ⟨i 0, i 1, i 2, eq_ix3 i⟩
  refine (Cert.Reference3Ideal.Value.rFin_apply _ _ b p d).trans ?_
  have e0 : (m' ((c.tc : Thread Cert.Reference3Ideal.nD Cert.Reference3Ideal.τ).loc Cert.Reference3Ideal.main_arg0) : Vec Ideal Cert.Reference3Ideal.S8x8208x1024 .f32) = m ((c.tc : Thread Cert.Kernel3Ideal.nD Cert.Kernel3Ideal.τ).loc Cert.Kernel3Ideal.main_arg0) := h0
  have e1 : (m' ((c.tc : Thread Cert.Reference3Ideal.nD Cert.Reference3Ideal.τ).loc Cert.Reference3Ideal.main_arg1) : Vec Ideal Cert.Reference3Ideal.S1024 .f32) = m ((c.tc : Thread Cert.Kernel3Ideal.nD Cert.Kernel3Ideal.τ).loc Cert.Kernel3Ideal.main_arg1) := h1
  rw [e0, e1]
  rfl

end Cert.Proof
end
-- ==== Proof.SsdTile.lean ====
module

public import proofs.«01_k».proof.Proof.Gen.Kernel4Ideal.Frame
public import Idealize.ShloMosaic.Lib.Pipeline.ValueKit
public import Idealize.ShloMosaic.Lib.Pipeline.ReadBack
public import Idealize.ShloMosaic.Lib.Pointwise
public import Idealize.ShloMosaic.Lib.WritesUnit

/-! What one grid point of the scan kernel computes, as a function of its input blocks, of the halo rows and of the state
    that the point before left. -/

@[expose] public section

set_option maxRecDepth 16384

noncomputable section

namespace Cert.Kernel4Ideal.Value

open Cert.Kernel4Ideal Cert.Kernel4Ideal.Gen Idealize.ShloMosaic Idealize.ShloMosaic.TcCoe Idealize.SL.Sem

variable {F : FTy → Type} [FloatOps F] [Named F]

/-- The tile's scratch after its two stores: eight halo rows, then the tile's 128 rows. -/
def extOf (H : Vec F S8x1024 .f32) (U : Vec F S128x1024 .f32) : Vec F S136x1024 .f32 :=
  fun i => if h : (i 0).val < 8 then H (ix2 ⟨(i 0).val, h⟩ (i 1))
    else U (ix2 ⟨(i 0).val - 8, by have := (i 0).isLt; change (i 0).val < 136 at this; omega⟩ (i 1))

theorem canon_ext (H : Vec F S8x1024 .f32) (U : Vec F S128x1024 .f32) (L : List (View.Piece (Elt F) S136x1024 .f32)) :
    View.canon (⟨Rect.unit (s := S136x1024) ![8, 0] S128x1024.size inb_S136x1024_S128x1024_8_0, U⟩ ::
      ⟨Rect.unit (s := S136x1024) ![0, 0] S8x1024.size inb_S136x1024_S8x1024_0_0, H⟩ :: L) = extOf H U := by
  funext y
  refine View.canon_append_of_piecesOf (extOf H U) L
    [⟨Rect.unit (s := S136x1024) ![8, 0] S128x1024.size inb_S136x1024_S128x1024_8_0, U⟩,
      ⟨Rect.unit (s := S136x1024) ![0, 0] S8x1024.size inb_S136x1024_S8x1024_0_0, H⟩] ⟨fun x => ?_, fun x => ?_, trivial⟩ y ?_
  · have e0 : (((Rect.unit (s := S136x1024) ![8, 0] S128x1024.size inb_S136x1024_S128x1024_8_0).emb x) 0).val = 8 + (x 0).val :=
      Rect.idx_unit_val _ _ _ x 0
    have e1 : (((Rect.unit (s := S136x1024) ![8, 0] S128x1024.size inb_S136x1024_S128x1024_8_0).emb x) 1).val = 0 + (x 1).val :=
      Rect.idx_unit_val _ _ _ x 1
    have hn : ¬ (((Rect.unit (s := S136x1024) ![8, 0] S128x1024.size inb_S136x1024_S128x1024_8_0).emb x) 0).val < 8 := by omega
    unfold extOf
    rw [dif_neg hn]
    refine congrArg U (funext fun a => Fin.ext ?_)
    match a with
    | ⟨0, _⟩ => exact (by omega : (x 0).val = (((Rect.unit (s := S136x1024) ![8, 0] S128x1024.size inb_S136x1024_S128x1024_8_0).emb x) 0).val - 8)
    | ⟨1, _⟩ => exact (by omega : (x 1).val = (((Rect.unit (s := S136x1024) ![8, 0] S128x1024.size inb_S136x1024_S128x1024_8_0).emb x) 1).val)
  · have e0 : (((Rect.unit (s := S136x1024) ![0, 0] S8x1024.size inb_S136x1024_S8x1024_0_0).emb x) 0).val = 0 + (x 0).val :=
      Rect.idx_unit_val _ _ _ x 0
    have e1 : (((Rect.unit (s := S136x1024) ![0, 0] S8x1024.size inb_S136x1024_S8x1024_0_0).emb x) 1).val = 0 + (x 1).val :=
      Rect.idx_unit_val _ _ _ x 1
    have hx : (x 0).val < 8 := (x 0).isLt
    have hn : (((Rect.unit (s := S136x1024) ![0, 0] S8x1024.size inb_S136x1024_S8x1024_0_0).emb x) 0).val < 8 := by omega
    unfold extOf
    rw [dif_pos hn]
    refine congrArg H (funext fun a => Fin.ext ?_)
    match a with
    | ⟨0, _⟩ => exact (by omega : (x 0).val = (((Rect.unit (s := S136x1024) ![0, 0] S8x1024.size inb_S136x1024_S8x1024_0_0).emb x) 0).val)
    | ⟨1, _⟩ => exact (by omega : (x 1).val = (((Rect.unit (s := S136x1024) ![0, 0] S8x1024.size inb_S136x1024_S8x1024_0_0).emb x) 1).val)
  · have b0 : (y 0).val < 136 := (y 0).isLt
    have b1 : (y 1).val < 1024 := (y 1).isLt
    by_cases h : (y 0).val < 8
    · exact ⟨_, List.mem_cons_of_mem _ (List.mem_cons_self ..), by
        show y ∈ (Rect.unit (s := S136x1024) ![0, 0] S8x1024.size inb_S136x1024_S8x1024_0_0).set
        refine Rect.mem_set_unit.mpr fun a => ?_
        exact match a with
        | ⟨0, _⟩ => (⟨Nat.zero_le _, by show (y 0).val < 0 + 8; omega⟩ : 0 ≤ (y 0).val ∧ (y 0).val < 0 + 8)
        | ⟨1, _⟩ => (⟨Nat.zero_le _, by show (y 1).val < 0 + 1024; omega⟩ : 0 ≤ (y 1).val ∧ (y 1).val < 0 + 1024)⟩
    · exact ⟨_, List.mem_cons_self .., by
        show y ∈ (Rect.unit (s := S136x1024) ![8, 0] S128x1024.size inb_S136x1024_S128x1024_8_0).set
        refine Rect.mem_set_unit.mpr fun a => ?_
        exact match a with
        | ⟨0, _⟩ => (⟨by omega, by omega⟩ : 8 ≤ (y 0).val ∧ (y 0).val < 8 + 128)
        | ⟨1, _⟩ => (⟨Nat.zero_le _, by omega⟩ : 0 ≤ (y 1).val ∧ (y 1).val < 0 + 1024)⟩

/-- A load of the tile's scratch reads that array, whatever the scratch held before. -/
theorem readCov_ext {sig' : RefSig} {κ : Kind} {sp : Space} (v : View sig' κ sp S136x1024 .f32) (H : Vec F S8x1024 .f32) (U : Vec F S128x1024 .f32)
    (L : List (View.Piece (Elt F) S136x1024 .f32)) (r : Rect S136x1024) :
    v.readCov (⟨Rect.unit (s := S136x1024) ![8, 0] (no_index ![128, 1024]) inb_S136x1024_S128x1024_8_0, U⟩ ::
      ⟨Rect.unit (s := S136x1024) ![0, 0] (no_index ![8, 1024]) inb_S136x1024_S8x1024_0_0, H⟩ :: L) r.toLoadRect = View.ld (extOf H U) r := by
  rw [View.readCov_eq_canon']
  exact funext fun j => congrFun (canon_ext H U L) _

/-- Writes that lie under a covering list of later writes do not show. -/
theorem canon_append_cover {s : Shape} {e : EltTy} (L' : List (View.Piece (Elt F) s e)) (y : s.Idx) :
    ∀ (L : List (View.Piece (Elt F) s e)) (_ : ∃ p ∈ L, y ∈ p.1.set), View.canon (L ++ L') y = View.canon L y
  | [], h => by obtain ⟨p, hp, _⟩ := h; simp at hp
  | p :: L, h => by
    by_cases hm : y ∈ p.1.set
    · obtain ⟨x, rfl⟩ := p.1.exists_idx_of_mem hm
      rw [show p.1.idx x = p.1.emb x from rfl, List.cons_append]
      exact (View.canon_cons_emb p.1 p.2 _ x).trans (View.canon_cons_emb p.1 p.2 _ x).symm
    · rw [List.cons_append, View.canon_cons_of_not_mem _ _ hm, View.canon_cons_of_not_mem _ _ hm]
      refine canon_append_cover L' y L ?_
      obtain ⟨q, hq, hy⟩ := h
      rcases List.mem_cons.mp hq with rfl | hq
      · exact absurd hy hm
      · exact ⟨q, hq, hy⟩

/-- A load of the scratch's last rows reads the tile's. -/
theorem readCov_tail {sig' : RefSig} {κ : Kind} {sp : Space} (v : View sig' κ sp S136x1024 .f32) (H : Vec F S8x1024 .f32) (U : Vec F S128x1024 .f32) :
    v.readCov [⟨Rect.unit (s := S136x1024) ![8, 0] ![128, 1024] inb_S136x1024_S128x1024_8_0, U⟩]
      (Rect.unit (s := S136x1024) ![128, 0] ![8, 1024] inb_S136x1024_S8x1024_128_0).toLoadRect =
      View.ld (extOf H U) (Rect.unit (s := S136x1024) ![128, 0] S8x1024.size inb_S136x1024_S8x1024_128_0) := by
  rw [View.readCov_eq_canon']
  funext j
  refine (canon_append_cover [⟨Rect.unit (s := S136x1024) ![0, 0] S8x1024.size inb_S136x1024_S8x1024_0_0, H⟩] _ _
    ⟨_, List.mem_cons_self .., ?_⟩).symm.trans (congrFun (canon_ext H U []) _)
  show (Rect.unit (s := S136x1024) ![128, 0] S8x1024.size inb_S136x1024_S8x1024_128_0).idx j ∈ (Rect.unit (s := S136x1024) ![8, 0] S128x1024.size inb_S136x1024_S128x1024_8_0).set
  refine Rect.mem_set_unit.mpr fun a => ?_
  have e0 : ((Rect.unit (s := S136x1024) ![128, 0] S8x1024.size inb_S136x1024_S8x1024_128_0).idx j 0).val = 128 + (j 0).val := Rect.idx_unit_val _ _ _ j 0
  have e1 : ((Rect.unit (s := S136x1024) ![128, 0] S8x1024.size inb_S136x1024_S8x1024_128_0).idx j 1).val = 0 + (j 1).val := Rect.idx_unit_val _ _ _ j 1
  have h0 : (j 0).val < 8 := (j 0).isLt
  have h1 : (j 1).val < 1024 := (j 1).isLt
  exact match a with
  | ⟨0, _⟩ => (⟨by omega, by omega⟩ : 8 ≤ ((Rect.unit (s := S136x1024) ![128, 0] S8x1024.size inb_S136x1024_S8x1024_128_0).idx j 0).val ∧
      ((Rect.unit (s := S136x1024) ![128, 0] S8x1024.size inb_S136x1024_S8x1024_128_0).idx j 0).val < 8 + 128)
  | ⟨1, _⟩ => (⟨Nat.zero_le _, by omega⟩ : 0 ≤ ((Rect.unit (s := S136x1024) ![128, 0] S8x1024.size inb_S136x1024_S8x1024_128_0).idx j 1).val ∧
      ((Rect.unit (s := S136x1024) ![128, 0] S8x1024.size inb_S136x1024_S8x1024_128_0).idx j 1).val < 0 + 1024)

/-- The same with the halo rows stored last. -/
theorem canon_ext' (H : Vec F S8x1024 .f32) (U : Vec F S128x1024 .f32) (L : List (View.Piece (Elt F) S136x1024 .f32)) :
    View.canon (⟨Rect.unit (s := S136x1024) ![0, 0] S8x1024.size inb_S136x1024_S8x1024_0_0, H⟩ ::
      ⟨Rect.unit (s := S136x1024) ![8, 0] S128x1024.size inb_S136x1024_S128x1024_8_0, U⟩ :: L) = extOf H U := by
  funext y
  refine View.canon_append_of_piecesOf (extOf H U) L
    [⟨Rect.unit (s := S136x1024) ![0, 0] S8x1024.size inb_S136x1024_S8x1024_0_0, H⟩,
      ⟨Rect.unit (s := S136x1024) ![8, 0] S128x1024.size inb_S136x1024_S128x1024_8_0, U⟩] ⟨fun x => ?_, fun x => ?_, trivial⟩ y ?_
  · have e0 : (((Rect.unit (s := S136x1024) ![0, 0] S8x1024.size inb_S136x1024_S8x1024_0_0).emb x) 0).val = 0 + (x 0).val :=
      Rect.idx_unit_val _ _ _ x 0
    have e1 : (((Rect.unit (s := S136x1024) ![0, 0] S8x1024.size inb_S136x1024_S8x1024_0_0).emb x) 1).val = 0 + (x 1).val :=
      Rect.idx_unit_val _ _ _ x 1
    have hx : (x 0).val < 8 := (x 0).isLt
    have hn : (((Rect.unit (s := S136x1024) ![0, 0] S8x1024.size inb_S136x1024_S8x1024_0_0).emb x) 0).val < 8 := by omega
    unfold extOf
    rw [dif_pos hn]
    refine congrArg H (funext fun a => Fin.ext ?_)
    match a with
    | ⟨0, _⟩ => exact (by omega : (x 0).val = (((Rect.unit (s := S136x1024) ![0, 0] S8x1024.size inb_S136x1024_S8x1024_0_0).emb x) 0).val)
    | ⟨1, _⟩ => exact (by omega : (x 1).val = (((Rect.unit (s := S136x1024) ![0, 0] S8x1024.size inb_S136x1024_S8x1024_0_0).emb x) 1).val)
  · have e0 : (((Rect.unit (s := S136x1024) ![8, 0] S128x1024.size inb_S136x1024_S128x1024_8_0).emb x) 0).val = 8 + (x 0).val :=
      Rect.idx_unit_val _ _ _ x 0
    have e1 : (((Rect.unit (s := S136x1024) ![8, 0] S128x1024.size inb_S136x1024_S128x1024_8_0).emb x) 1).val = 0 + (x 1).val :=
      Rect.idx_unit_val _ _ _ x 1
    have hn : ¬ (((Rect.unit (s := S136x1024) ![8, 0] S128x1024.size inb_S136x1024_S128x1024_8_0).emb x) 0).val < 8 := by omega
    unfold extOf
    rw [dif_neg hn]
    refine congrArg U (funext fun a => Fin.ext ?_)
    match a with
    | ⟨0, _⟩ => exact (by omega : (x 0).val = (((Rect.unit (s := S136x1024) ![8, 0] S128x1024.size inb_S136x1024_S128x1024_8_0).emb x) 0).val - 8)
    | ⟨1, _⟩ => exact (by omega : (x 1).val = (((Rect.unit (s := S136x1024) ![8, 0] S128x1024.size inb_S136x1024_S128x1024_8_0).emb x) 1).val)
  · have b0 : (y 0).val < 136 := (y 0).isLt
    have b1 : (y 1).val < 1024 := (y 1).isLt
    by_cases h : (y 0).val < 8
    · exact ⟨_, List.mem_cons_self .., by
        show y ∈ (Rect.unit (s := S136x1024) ![0, 0] S8x1024.size inb_S136x1024_S8x1024_0_0).set
        refine Rect.mem_set_unit.mpr fun a => ?_
        exact match a with
        | ⟨0, _⟩ => (⟨Nat.zero_le _, by show (y 0).val < 0 + 8; omega⟩ : 0 ≤ (y 0).val ∧ (y 0).val < 0 + 8)
        | ⟨1, _⟩ => (⟨Nat.zero_le _, by show (y 1).val < 0 + 1024; omega⟩ : 0 ≤ (y 1).val ∧ (y 1).val < 0 + 1024)⟩
    · exact ⟨_, List.mem_cons_of_mem _ (List.mem_cons_self ..), by
        show y ∈ (Rect.unit (s := S136x1024) ![8, 0] S128x1024.size inb_S136x1024_S128x1024_8_0).set
        refine Rect.mem_set_unit.mpr fun a => ?_
        exact match a with
        | ⟨0, _⟩ => (⟨by omega, by omega⟩ : 8 ≤ (y 0).val ∧ (y 0).val < 8 + 128)
        | ⟨1, _⟩ => (⟨Nat.zero_le _, by omega⟩ : 0 ≤ (y 1).val ∧ (y 1).val < 0 + 1024)⟩

/-- The same array when the eight halo rows are what the scratch already held. -/
theorem read_ext {sig' : RefSig} {κ : Kind} {sp : Space} (v : View sig' κ sp S136x1024 .f32) (f : v.ty.Contents (Elt F)) (U : Vec F S128x1024 .f32) :
    v.read (Elt F) (v.writes (Elt F) f [⟨Rect.unit (s := S136x1024) ![8, 0] (no_index ![128, 1024]) inb_S136x1024_S128x1024_8_0, U⟩]) =
      extOf (View.ld (v.read (Elt F) f) (Rect.unit (s := S136x1024) ![0, 0] S8x1024.size inb_S136x1024_S8x1024_0_0)) U := by
  funext y
  have b0 : (y 0).val < 136 := (y 0).isLt
  unfold extOf
  by_cases h : (y 0).val < 8
  · rw [dif_pos h]
    refine (View.read_writes_cons_rows_of_not_mem v f (o := 8) (W := 128) _ U [] y rfl rfl (Or.inl h)).trans ?_
    refine (show v.read (Elt F) f y = v.read (Elt F) f ((Rect.unit (s := S136x1024) ![0, 0] S8x1024.size inb_S136x1024_S8x1024_0_0).idx (ix2 ⟨(y 0).val, h⟩ (y 1))) from
      congrArg _ (funext fun a => Fin.ext ?_))
    match a with
    | ⟨0, _⟩ => exact ((Rect.idx_unit_val _ _ _ _ 0).trans (Nat.zero_add _)).symm
    | ⟨1, _⟩ => exact ((Rect.idx_unit_val _ _ _ _ 1).trans (Nat.zero_add _)).symm
  · rw [dif_neg h]
    exact View.read_writes_cons_rows_of_mem v f (o := 8) _ U [] y _ rfl (show (y 0).val = 8 + ((y 0).val - 8) by omega) rfl

/-- The state scratch: one 128 by 256 array for each group. -/
def stOf (P Q : Vec F S1x128x256 .f32) : Vec F S2x128x256 .f32 :=
  fun i => if (i 0).val = 0 then P (ix3 0 (i 1) (i 2)) else Q (ix3 0 (i 1) (i 2))

theorem canon_st (P Q : Vec F S1x128x256 .f32) (L : List (View.Piece (Elt F) S2x128x256 .f32)) :
    View.canon (⟨Rect.unit (s := S2x128x256) ![1, 0, 0] S1x128x256.size inb_S2x128x256_S1x128x256_1_0_0, Q⟩ ::
      ⟨Rect.unit (s := S2x128x256) ![0, 0, 0] S1x128x256.size inb_S2x128x256_S1x128x256_0_0_0, P⟩ :: L) = stOf P Q := by
  funext y
  refine View.canon_append_of_piecesOf (stOf P Q) L
    [⟨Rect.unit (s := S2x128x256) ![1, 0, 0] S1x128x256.size inb_S2x128x256_S1x128x256_1_0_0, Q⟩,
      ⟨Rect.unit (s := S2x128x256) ![0, 0, 0] S1x128x256.size inb_S2x128x256_S1x128x256_0_0_0, P⟩] ⟨fun x => ?_, fun x => ?_, trivial⟩ y ?_
  · have e0 : (((Rect.unit (s := S2x128x256) ![1, 0, 0] S1x128x256.size inb_S2x128x256_S1x128x256_1_0_0).emb x) 0).val = 1 + (x 0).val :=
      Rect.idx_unit_val _ _ _ x 0
    have e1 : (((Rect.unit (s := S2x128x256) ![1, 0, 0] S1x128x256.size inb_S2x128x256_S1x128x256_1_0_0).emb x) 1).val = 0 + (x 1).val :=
      Rect.idx_unit_val _ _ _ x 1
    have e2 : (((Rect.unit (s := S2x128x256) ![1, 0, 0] S1x128x256.size inb_S2x128x256_S1x128x256_1_0_0).emb x) 2).val = 0 + (x 2).val :=
      Rect.idx_unit_val _ _ _ x 2
    have hn : ¬ (((Rect.unit (s := S2x128x256) ![1, 0, 0] S1x128x256.size inb_S2x128x256_S1x128x256_1_0_0).emb x) 0).val = 0 := by omega
    have hx : (x 0).val < 1 := (x 0).isLt
    unfold stOf
    rw [if_neg hn]
    refine congrArg Q (funext fun a => Fin.ext ?_)
    match a with
    | ⟨0, _⟩ => exact (by omega : (x 0).val = 0)
    | ⟨1, _⟩ => exact (by omega : (x 1).val = (((Rect.unit (s := S2x128x256) ![1, 0, 0] S1x128x256.size inb_S2x128x256_S1x128x256_1_0_0).emb x) 1).val)
    | ⟨2, _⟩ => exact (by omega : (x 2).val = (((Rect.unit (s := S2x128x256) ![1, 0, 0] S1x128x256.size inb_S2x128x256_S1x128x256_1_0_0).emb x) 2).val)
  · have e0 : (((Rect.unit (s := S2x128x256) ![0, 0, 0] S1x128x256.size inb_S2x128x256_S1x128x256_0_0_0).emb x) 0).val = 0 + (x 0).val :=
      Rect.idx_unit_val _ _ _ x 0
    have e1 : (((Rect.unit (s := S2x128x256) ![0, 0, 0] S1x128x256.size inb_S2x128x256_S1x128x256_0_0_0).emb x) 1).val = 0 + (x 1).val :=
      Rect.idx_unit_val _ _ _ x 1
    have e2 : (((Rect.unit (s := S2x128x256) ![0, 0, 0] S1x128x256.size inb_S2x128x256_S1x128x256_0_0_0).emb x) 2).val = 0 + (x 2).val :=
      Rect.idx_unit_val _ _ _ x 2
    have hx : (x 0).val < 1 := (x 0).isLt
    have hn : (((Rect.unit (s := S2x128x256) ![0, 0, 0] S1x128x256.size inb_S2x128x256_S1x128x256_0_0_0).emb x) 0).val = 0 := by omega
    unfold stOf
    rw [if_pos hn]
    refine congrArg P (funext fun a => Fin.ext ?_)
    match a with
    | ⟨0, _⟩ => exact (by omega : (x 0).val = 0)
    | ⟨1, _⟩ => exact (by omega : (x 1).val = (((Rect.unit (s := S2x128x256) ![0, 0, 0] S1x128x256.size inb_S2x128x256_S1x128x256_0_0_0).emb x) 1).val)
    | ⟨2, _⟩ => exact (by omega : (x 2).val = (((Rect.unit (s := S2x128x256) ![0, 0, 0] S1x128x256.size inb_S2x128x256_S1x128x256_0_0_0).emb x) 2).val)
  · have b0 : (y 0).val < 2 := (y 0).isLt
    have b1 : (y 1).val < 128 := (y 1).isLt
    have b2 : (y 2).val < 256 := (y 2).isLt
    by_cases h : (y 0).val = 0
    · exact ⟨_, List.mem_cons_of_mem _ (List.mem_cons_self ..), by
        show y ∈ (Rect.unit (s := S2x128x256) ![0, 0, 0] S1x128x256.size inb_S2x128x256_S1x128x256_0_0_0).set
        refine Rect.mem_set_unit.mpr fun a => ?_
        exact match a with
        | ⟨0, _⟩ => (⟨Nat.zero_le _, by omega⟩ : 0 ≤ (y 0).val ∧ (y 0).val < 0 + 1)
        | ⟨1, _⟩ => (⟨Nat.zero_le _, by omega⟩ : 0 ≤ (y 1).val ∧ (y 1).val < 0 + 128)
        | ⟨2, _⟩ => (⟨Nat.zero_le _, by omega⟩ : 0 ≤ (y 2).val ∧ (y 2).val < 0 + 256)⟩
    · exact ⟨_, List.mem_cons_self .., by
        show y ∈ (Rect.unit (s := S2x128x256) ![1, 0, 0] S1x128x256.size inb_S2x128x256_S1x128x256_1_0_0).set
        refine Rect.mem_set_unit.mpr fun a => ?_
        exact match a with
        | ⟨0, _⟩ => (⟨by omega, by omega⟩ : 1 ≤ (y 0).val ∧ (y 0).val < 1 + 1)
        | ⟨1, _⟩ => (⟨Nat.zero_le _, by omega⟩ : 0 ≤ (y 1).val ∧ (y 1).val < 0 + 128)
        | ⟨2, _⟩ => (⟨Nat.zero_le _, by omega⟩ : 0 ≤ (y 2).val ∧ (y 2).val < 0 + 256)⟩

section
variable (E : Vec F S136x1024 .f32) (cw : Vec F S4x1024 .f32) (cb : Vec F S1x1024 .f32)
/-- The convolution of the tile, from the scratch that holds its rows and the halo. -/
def convOf : FVec F S128x1024 .f32 :=
  k0_pay6 cw cb (View.ld E (Rect.unit (s := S136x1024) ![8, 0] S128x1024.size inb_S136x1024_S128x1024_8_0))
    (View.ld E (Rect.unit (s := S136x1024) ![5, 0] S128x1024.size inb_S136x1024_S128x1024_5_0))
    (View.ld E (Rect.unit (s := S136x1024) ![6, 0] S128x1024.size inb_S136x1024_S128x1024_6_0))
    (View.ld E (Rect.unit (s := S136x1024) ![7, 0] S128x1024.size inb_S136x1024_S128x1024_7_0))
end

section
variable (v : FVec F S128x1024 .f32) (x2 : Vec F S1x128x512 .f32) (x5 x6 : Vec F S1x512 .f32)
/-- The running sums of the tile's decay exponents. -/
def acsOf : FVec F S128x512 .f32 :=
  k0_pay16 (iota Kind.tc S128x512 32 [0] iota_S128x512_d0_w32) (k0_pay13 x2 x5 x6) k0_pay14 (k0_pay15 x2 x5 x6) (FloatOps.ofBits FTy.f32 0#32)
/-- Their last row. -/
def lastOf : FVec F S1x512 .f32 :=
  k0_pay17 (iota Kind.tc S128x512 32 [0] iota_S128x512_d0_w32) (k0_pay13 x2 x5 x6) k0_pay14 (k0_pay15 x2 x5 x6) (FloatOps.ofBits FTy.f32 0#32)
/-- The weighted inputs, decayed to the end of the tile. -/
def xdOf : FVec F S128x512 .bf16 :=
  k0_pay20 (k0_pay9 v) (k0_pay12 x2 x5) (iota Kind.tc S128x512 32 [0] iota_S128x512_d0_w32) (k0_pay13 x2 x5 x6) k0_pay14 (k0_pay15 x2 x5 x6) (FloatOps.ofBits FTy.f32 0#32)
/-- The exponentials of the running sums. -/
def eaOf : FVec F S128x512 .f32 :=
  k0_pay21 (iota Kind.tc S128x512 32 [0] iota_S128x512_d0_w32) (k0_pay13 x2 x5 x6) k0_pay14 (k0_pay15 x2 x5 x6) (FloatOps.ofBits FTy.f32 0#32)
/-- The running sums, transposed. -/
def atOf : FVec F S512x128 .f32 :=
  k0_pay22 (iota Kind.tc S128x512 32 [0] iota_S128x512_d0_w32) (k0_pay13 x2 x5 x6) k0_pay14 (k0_pay15 x2 x5 x6) (FloatOps.ofBits FTy.f32 0#32)
/-- The row mask of the lower triangle. -/
def trilOf : IVec S128x128 1 := k0_pay23 (iota Kind.tc S128x128 32 [0] iota_S128x128_d0_w32) (iota Kind.tc S128x128 32 [1] iota_S128x128_d1_w32)
/-- The state after the tile, first group. -/
def st0 (s : Vec F S1x128x256 .f32) : Vec F S1x128x256 .f32 := k0_pay33 (lastOf x2 x5 x6) (xdOf v x2 x5 x6) (k0_pay25 (k0_pay10 v)) s
/-- The state after the tile, second group. -/
def st1 (s : Vec F S1x128x256 .f32) : Vec F S1x128x256 .f32 := k0_pay1 (k0_pay45 (lastOf x2 x5 x6) (xdOf v x2 x5 x6) (k0_pay35 (k0_pay10 v)) s)
/-- The state after the tile. -/
def stT (s : Vec F S2x128x256 .f32) : Vec F S2x128x256 .f32 :=
  stOf (st0 v x2 x5 x6 (View.ld s (Rect.unit (s := S2x128x256) ![0, 0, 0] S1x128x256.size inb_S2x128x256_S1x128x256_0_0_0)))
    (st1 v x2 x5 x6 (View.ld s (Rect.unit (s := S2x128x256) ![1, 0, 0] S1x128x256.size inb_S2x128x256_S1x128x256_1_0_0)))
/-- The scan's output on the first group's columns. -/
def y0Of (s : Vec F S1x128x256 .f32) : FVec F S128x256 .f32 :=
  k0_pay34 (eaOf x2 x5 x6) trilOf k0_pay24 (k0_pay26 (k0_pay11 v)) (k0_pay27 (k0_pay10 v) (k0_pay11 v))
    (k0_pay28 (k0_pay10 v) (k0_pay11 v) (acsOf x2 x5 x6) (k0_pay19 (k0_pay9 v) (k0_pay12 x2 x5)) (atOf x2 x5 x6)
      (iota Kind.tc S128x128 32 [0] iota_S128x128_d0_w32) (iota Kind.tc S128x128 32 [1] iota_S128x128_d1_w32))
    (k0_pay29 (k0_pay19 (k0_pay9 v) (k0_pay12 x2 x5)))
    (k0_pay30 (k0_pay10 v) (k0_pay11 v) (acsOf x2 x5 x6) (k0_pay19 (k0_pay9 v) (k0_pay12 x2 x5)) (atOf x2 x5 x6)
      (iota Kind.tc S128x128 32 [0] iota_S128x128_d0_w32) (iota Kind.tc S128x128 32 [1] iota_S128x128_d1_w32))
    (k0_pay31 (acsOf x2 x5 x6) (atOf x2 x5 x6)) (FloatOps.ofBits FTy.f32 0#32) s
/-- The part of the scan's output inside the tile, second group's columns. -/
def y1Of : FVec F S128x256 .f32 :=
  k0_pay42 (acsOf x2 x5 x6) (k0_pay19 (k0_pay9 v) (k0_pay12 x2 x5)) (atOf x2 x5 x6) trilOf k0_pay24 (k0_pay37 (k0_pay10 v) (k0_pay11 v))
    (k0_pay38 (k0_pay19 (k0_pay9 v) (k0_pay12 x2 x5)))
    (k0_pay39 (k0_pay10 v) (k0_pay11 v) (acsOf x2 x5 x6) (k0_pay19 (k0_pay9 v) (k0_pay12 x2 x5)) (atOf x2 x5 x6) trilOf)
    (k0_pay40 (acsOf x2 x5 x6)) (k0_pay41 (atOf x2 x5 x6))
/-- The part of the scan's output from the state, second group's columns. -/
def y2Of (s : Vec F S1x128x256 .f32) : FVec F S128x256 .f32 := k0_pay44 (eaOf x2 x5 x6) (k0_pay36 (k0_pay11 v)) s
/-- The stored tile. -/
def outT (x0 : Vec F S1x128x512 .bf16) (x7 x8 : Vec F S1x512 .f32) (s : Vec F S2x128x256 .f32) : Vec F S1x128x512 .bf16 :=
  k0_pay2 (k0_pay9 v)
    (y0Of v x2 x5 x6 (View.ld s (Rect.unit (s := S2x128x256) ![0, 0, 0] S1x128x256.size inb_S2x128x256_S1x128x256_0_0_0)))
    (y1Of v x2 x5 x6)
    (y2Of v x2 x5 x6 (View.ld s (Rect.unit (s := S2x128x256) ![1, 0, 0] S1x128x256.size inb_S2x128x256_S1x128x256_1_0_0))) x7 x0 x8
end

/-- The tile's own rows of the scratch. -/
theorem ld_ext (H : Vec F S8x1024 .f32) (U : Vec F S128x1024 .f32) :
    View.ld (extOf H U) (Rect.unit (s := S136x1024) ![8, 0] S128x1024.size inb_S136x1024_S128x1024_8_0) = U := by
  funext j
  have e0 : ((Rect.unit (s := S136x1024) ![8, 0] S128x1024.size inb_S136x1024_S128x1024_8_0).idx j 0).val = 8 + (j 0).val := Rect.idx_unit_val _ _ _ j 0
  have e1 : ((Rect.unit (s := S136x1024) ![8, 0] S128x1024.size inb_S136x1024_S128x1024_8_0).idx j 1).val = 0 + (j 1).val := Rect.idx_unit_val _ _ _ j 1
  show extOf H U ((Rect.unit (s := S136x1024) ![8, 0] S128x1024.size inb_S136x1024_S128x1024_8_0).idx j) = U j
  unfold extOf
  rw [dif_neg (by omega)]
  refine congrArg U (funext fun a => Fin.ext ?_)
  match a with
  | ⟨0, _⟩ => exact (by omega : ((Rect.unit (s := S136x1024) ![8, 0] S128x1024.size inb_S136x1024_S128x1024_8_0).idx j 0).val - 8 = (j 0).val)
  | ⟨1, _⟩ => exact (by omega : ((Rect.unit (s := S136x1024) ![8, 0] S128x1024.size inb_S136x1024_S128x1024_8_0).idx j 1).val = (j 1).val)

theorem conv_read (c : Dev nD) (arg3 : Memref sig .tc .vmem S1x128x1024 .bf16) (harg3 : arg3.IsWhole) (arg5 : Memref sig .tc .vmem S4x1024 .f32)
    (harg5 : arg5.IsWhole) (arg6 : Memref sig .tc .vmem S1x1024 .f32) (harg6 : arg6.IsWhole) (arg12 : Memref sig .tc .vmem S136x1024 .f32)
    (harg12 : arg12.IsWhole) (x1 : Vec F S1x128x1024 .bf16) (x3 : Vec F S4x1024 .f32) (x4 : Vec F S1x1024 .f32) (xs0 : Vec F S136x1024 .f32) :
    kernelRun0_B.sl.r c arg3 harg3 arg5 harg5 arg6 harg6 arg12 harg12 x1 x3 x4 xs0 =
      convOf (extOf (View.ld xs0 (Rect.unit (s := S136x1024) ![0, 0] S8x1024.size inb_S136x1024_S8x1024_0_0)) (k0_pay5 x1)) x3 x4 := by
  unfold kernelRun0_B.sl.r kernelRun0_B.sl.v12 kernelRun0_B.sl.HS0_1 convOf
  rw [ld_ext]
  simp (disch := decide) only [View.readAt_eq_ld, Memref.IsWhole.read_unread, View.ld_unit_lit', ↓ View.readCov_cons_toLoadRect, View.readCov_unit_lit', View.readCov_cons_unit_lit']
  have e := read_ext arg12.view (harg12.unread xs0) (k0_pay5 x1)
  rw [Memref.IsWhole.read_unread] at e
  rw [← e]

variable (m : (ℓ : Loc nD τ sig) → Buf (Elt F) ℓ)

/-- The scratch of a tile, after what the point before left. -/
def extB (c : Dev nD) (t : Fin cfg0.N) : Vec F S136x1024 .f32 :=
  extOf (View.ld (outsAt0 m c (t.val - 1) (Nat.lt_of_le_of_lt (Nat.sub_le _ _) t.isLt)).2.1
    (Rect.unit (s := S136x1024) ![0, 0] S8x1024.size inb_S136x1024_S8x1024_0_0)) (k0_pay5 (X0_1 m c t))
/-- The scratch of a sequence's first tile. -/
def extA (c : Dev nD) (t : Fin cfg0.N) : Vec F S136x1024 .f32 := extOf k0_pay3 (k0_pay5 (X0_1 m c t))

set_option maxHeartbeats 800000 in
theorem outB (c : Dev nD) (t : Fin cfg0.N) (h0 : ¬ t.val % 66 = 0) :
    (outsAt0 m c t.val t.isLt).1 = outT (convOf (extB m c t) (iblk m c 3 t) (iblk m c 4 t)) (iblk m c 2 t) (iblk m c 5 t) (iblk m c 6 t) (X0_0 m c t) (iblk m c 7 t) (iblk m c 8 t) (outsAt0 m c (t.val - 1) (Nat.lt_of_le_of_lt (Nat.sub_le _ _) t.isLt)).2.2 := by
  rw [outsAt0_B m c t h0]
  unfold out0_B_9 kernelRun0_B
  dsimp only
  simp (disch := decide) only [kernelRun0_B.sl.HS0_1, kernelRun0_B.sl.cst_29, conv_read, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_4, kernelRun0_B.sl.r_5, kernelRun0_B.sl.r_6, kernelRun0_B.sl.r_7, kernelRun0_B.sl.r_8, kernelRun0_B.sl.r_9, kernelRun0_B.sl.v0, kernelRun0_B.sl.v1, kernelRun0_B.sl.v118, kernelRun0_B.sl.v119, kernelRun0_B.sl.v12, kernelRun0_B.sl.v2, kernelRun0_B.sl.v251, kernelRun0_B.sl.v33, kernelRun0_B.sl.v65, View.read_writes_junk_eq_canon, readCov_ext, View.readAt_eq_ld, Memref.IsWhole.read_unread, read_unread_whole,
    View.canon_cons_unit_lit', View.ld_unit_lit', View.readCov_unit_lit', View.readCov_cons_unit_lit',
    ↓ View.readCov_skip, ↓ View.readCov_cons_toLoadRect, ↓ View.readCov_fill]
  rfl

set_option maxHeartbeats 800000 in
theorem haloB (c : Dev nD) (t : Fin cfg0.N) (h0 : ¬ t.val % 66 = 0) :
    (outsAt0 m c t.val t.isLt).2.1 = extOf (View.ld (extB m c t) (Rect.unit (s := S136x1024) ![128, 0] S8x1024.size inb_S136x1024_S8x1024_128_0)) (k0_pay5 (X0_1 m c t)) := by
  rw [outsAt0_B m c t h0]
  unfold sout0_B_0 kernelRun0_B
  dsimp only
  simp (disch := decide) only [kernelRun0_B.sl.HS0_1, kernelRun0_B.sl.cst_29, conv_read, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_4, kernelRun0_B.sl.r_5, kernelRun0_B.sl.r_6, kernelRun0_B.sl.r_7, kernelRun0_B.sl.r_8, kernelRun0_B.sl.r_9, kernelRun0_B.sl.v0, kernelRun0_B.sl.v1, kernelRun0_B.sl.v118, kernelRun0_B.sl.v119, kernelRun0_B.sl.v12, kernelRun0_B.sl.v2, kernelRun0_B.sl.v251, kernelRun0_B.sl.v33, kernelRun0_B.sl.v65, View.read_writes_junk_eq_canon, readCov_ext, View.readAt_eq_ld, Memref.IsWhole.read_unread, read_unread_whole,
    View.canon_cons_unit_lit', View.ld_unit_lit', View.readCov_unit_lit', View.readCov_cons_unit_lit',
    ↓ View.readCov_skip, ↓ View.readCov_cons_toLoadRect, ↓ View.readCov_fill]
  refine (canon_ext' (F := F) _ _ _).trans (congrArg (fun H => extOf H _) ((shapeCast_self _ _).trans (readCov_tail _ _ _)))

set_option maxHeartbeats 800000 in
theorem stateB (c : Dev nD) (t : Fin cfg0.N) (h0 : ¬ t.val % 66 = 0) :
    (outsAt0 m c t.val t.isLt).2.2 = stT (convOf (extB m c t) (iblk m c 3 t) (iblk m c 4 t)) (iblk m c 2 t) (iblk m c 5 t) (iblk m c 6 t) (outsAt0 m c (t.val - 1) (Nat.lt_of_le_of_lt (Nat.sub_le _ _) t.isLt)).2.2 := by
  rw [outsAt0_B m c t h0]
  unfold sout0_B_1 kernelRun0_B
  dsimp only
  simp (disch := decide) only [kernelRun0_B.sl.HS0_1, kernelRun0_B.sl.cst_29, conv_read, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_4, kernelRun0_B.sl.r_5, kernelRun0_B.sl.r_6, kernelRun0_B.sl.r_7, kernelRun0_B.sl.r_8, kernelRun0_B.sl.r_9, kernelRun0_B.sl.v0, kernelRun0_B.sl.v1, kernelRun0_B.sl.v118, kernelRun0_B.sl.v119, kernelRun0_B.sl.v12, kernelRun0_B.sl.v2, kernelRun0_B.sl.v251, kernelRun0_B.sl.v33, kernelRun0_B.sl.v65, View.read_writes_junk_eq_canon, readCov_ext, View.readAt_eq_ld, Memref.IsWhole.read_unread, read_unread_whole,
    View.canon_cons_unit_lit', View.ld_unit_lit', View.readCov_unit_lit', View.readCov_cons_unit_lit',
    ↓ View.readCov_skip, ↓ View.readCov_cons_toLoadRect, ↓ View.readCov_fill]
  exact canon_st (F := F) _ _ _

set_option maxHeartbeats 800000 in
theorem outA (c : Dev nD) (t : Fin cfg0.N) (h0 : t.val % 66 = 0) :
    (outsAt0 m c t.val t.isLt).1 = outT (convOf (extA m c t) (iblk m c 3 t) (iblk m c 4 t)) (iblk m c 2 t) (iblk m c 5 t) (iblk m c 6 t) (X0_0 m c t) (iblk m c 7 t) (iblk m c 8 t) k0_pay4 := by
  rw [outsAt0_A m c t h0]
  unfold out0_A_9 kernelRun0_A
  dsimp only
  simp (disch := decide) only [kernelRun0_A.sl.HS0_2, kernelRun0_A.sl.HS1_1, kernelRun0_A.sl.HS1_2, kernelRun0_A.sl.cst_29, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_4, kernelRun0_A.sl.r_5, kernelRun0_A.sl.r_6, kernelRun0_A.sl.r_7, kernelRun0_A.sl.r_8, kernelRun0_A.sl.r_9, kernelRun0_A.sl.v0, kernelRun0_A.sl.v1, kernelRun0_A.sl.v118, kernelRun0_A.sl.v119, kernelRun0_A.sl.v12, kernelRun0_A.sl.v178, kernelRun0_A.sl.v18, kernelRun0_A.sl.v2, kernelRun0_A.sl.v23, kernelRun0_A.sl.v251, kernelRun0_A.sl.v28, kernelRun0_A.sl.v33, kernelRun0_A.sl.v65, View.read_writes_junk_eq_canon, readCov_ext, View.readAt_eq_ld, Memref.IsWhole.read_unread, read_unread_whole,
    View.canon_cons_unit_lit', View.ld_unit_lit', View.readCov_unit_lit', View.readCov_cons_unit_lit',
    ↓ View.readCov_skip, ↓ View.readCov_cons_toLoadRect, ↓ View.readCov_fill]
  rfl

set_option maxHeartbeats 800000 in
theorem haloA (c : Dev nD) (t : Fin cfg0.N) (h0 : t.val % 66 = 0) :
    (outsAt0 m c t.val t.isLt).2.1 = extOf (View.ld (extA m c t) (Rect.unit (s := S136x1024) ![128, 0] S8x1024.size inb_S136x1024_S8x1024_128_0)) (k0_pay5 (X0_1 m c t)) := by
  rw [outsAt0_A m c t h0]
  unfold sout0_A_0 kernelRun0_A
  dsimp only
  simp (disch := decide) only [kernelRun0_A.sl.HS0_2, kernelRun0_A.sl.HS1_1, kernelRun0_A.sl.HS1_2, kernelRun0_A.sl.cst_29, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_4, kernelRun0_A.sl.r_5, kernelRun0_A.sl.r_6, kernelRun0_A.sl.r_7, kernelRun0_A.sl.r_8, kernelRun0_A.sl.r_9, kernelRun0_A.sl.v0, kernelRun0_A.sl.v1, kernelRun0_A.sl.v118, kernelRun0_A.sl.v119, kernelRun0_A.sl.v12, kernelRun0_A.sl.v178, kernelRun0_A.sl.v18, kernelRun0_A.sl.v2, kernelRun0_A.sl.v23, kernelRun0_A.sl.v251, kernelRun0_A.sl.v28, kernelRun0_A.sl.v33, kernelRun0_A.sl.v65, View.read_writes_junk_eq_canon, readCov_ext, View.readAt_eq_ld, Memref.IsWhole.read_unread, read_unread_whole,
    View.canon_cons_unit_lit', View.ld_unit_lit', View.readCov_unit_lit', View.readCov_cons_unit_lit',
    ↓ View.readCov_skip, ↓ View.readCov_cons_toLoadRect, ↓ View.readCov_fill]
  exact (canon_ext' (F := F) _ _ _).trans (congrArg (fun H => extOf H _) (shapeCast_self _ _))

set_option maxHeartbeats 800000 in
theorem stateA (c : Dev nD) (t : Fin cfg0.N) (h0 : t.val % 66 = 0) :
    (outsAt0 m c t.val t.isLt).2.2 = stT (convOf (extA m c t) (iblk m c 3 t) (iblk m c 4 t)) (iblk m c 2 t) (iblk m c 5 t) (iblk m c 6 t) k0_pay4 := by
  rw [outsAt0_A m c t h0]
  unfold sout0_A_1 kernelRun0_A
  dsimp only
  simp (disch := decide) only [kernelRun0_A.sl.HS0_2, kernelRun0_A.sl.HS1_1, kernelRun0_A.sl.HS1_2, kernelRun0_A.sl.cst_29, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_4, kernelRun0_A.sl.r_5, kernelRun0_A.sl.r_6, kernelRun0_A.sl.r_7, kernelRun0_A.sl.r_8, kernelRun0_A.sl.r_9, kernelRun0_A.sl.v0, kernelRun0_A.sl.v1, kernelRun0_A.sl.v118, kernelRun0_A.sl.v119, kernelRun0_A.sl.v12, kernelRun0_A.sl.v178, kernelRun0_A.sl.v18, kernelRun0_A.sl.v2, kernelRun0_A.sl.v23, kernelRun0_A.sl.v251, kernelRun0_A.sl.v28, kernelRun0_A.sl.v33, kernelRun0_A.sl.v65, View.read_writes_junk_eq_canon, readCov_ext, View.readAt_eq_ld, Memref.IsWhole.read_unread, read_unread_whole,
    View.canon_cons_unit_lit', View.ld_unit_lit', View.readCov_unit_lit', View.readCov_cons_unit_lit',
    ↓ View.readCov_skip, ↓ View.readCov_cons_toLoadRect, ↓ View.readCov_fill]
  exact canon_st (F := F) _ _ _

end Cert.Kernel4Ideal.Value

end
-- ==== Proof.SsdMath.lean ====
module

public import Idealize.ShloMosaic.Lib.Pointwise

/-! The mathematics of the chunked scan, over the reals: running sums taken in doubling steps, the state that carries one
    chunk to the next, and the split of a position's sum into the part before its chunk and the part inside. -/

@[expose] public section

noncomputable section

namespace Ssd

open Finset

/-- A prefix sum. -/
def pre (d : ℕ → ℝ) (n : ℕ) : ℝ := ∑ s ∈ range n, d s

theorem pre_add (d : ℕ → ℝ) (n k : ℕ) : pre d (n + k) = pre d n + pre (fun s => d (n + s)) k := sum_range_add d n k

/-- One doubling step of the running sum: each entry takes the one `m` places before it. -/
def stp (v : ℕ → ℝ) (m i : ℕ) : ℝ := v i + if m ≤ i then v (i - m) else 0

theorem stp_win (d v : ℕ → ℝ) (m : ℕ) (h : ∀ i, v i = pre d (i + 1) - pre d (i + 1 - m)) (i : ℕ) :
    stp v m i = pre d (i + 1) - pre d (i + 1 - (m + m)) := by
  unfold stp
  split
  · rename_i hm
    rw [h, h, show i - m + 1 = i + 1 - m by omega, show i + 1 - m - m = i + 1 - (m + m) by omega]
    ring
  · rename_i hm
    rw [h, show i + 1 - m = 0 by omega, show i + 1 - (m + m) = 0 by omega, add_zero]

/-- Seven doubling steps sum 128 entries. -/
theorem scan (d : ℕ → ℝ) (i : ℕ) (hi : i < 128) :
    stp (stp (stp (stp (stp (stp (stp d 1) 2) 4) 8) 16) 32) 64 i = pre d (i + 1) := by
  have h0 : ∀ i, d i = pre d (i + 1) - pre d (i + 1 - 1) := fun i => by
    rw [Nat.add_sub_cancel]; unfold pre; rw [sum_range_succ]; ring
  have h := stp_win d _ _ (stp_win d _ _ (stp_win d _ _ (stp_win d _ _ (stp_win d _ _ (stp_win d _ _ (stp_win d _ _ h0)))))) i
  rw [h, show i + 1 - (64 + 64) = 0 by omega]
  simp [pre]

/-- The exponential of a decay: zero where the decay rate is infinite. -/
def ex (w : Bool) (x : ℝ) : ℝ := if w then 0 else Real.exp x
theorem ex_add (w : Bool) (x y : ℝ) : ex w (x + y) = ex w x * ex w y := by
  cases w
  · exact Real.exp_add x y
  · exact (mul_zero _).symm

/-- The state that enters a chunk: what every earlier position leaves, decayed to the chunk's start. -/
def st (w : Bool) (d b x : ℕ → ℝ) (k : ℕ) : ℝ := ∑ s ∈ range (128 * k), b s * x s * ex w (pre d (128 * k) - pre d (s + 1))

theorem st_zero (w : Bool) (d b x : ℕ → ℝ) : st w d b x 0 = 0 := by simp [st]

theorem st_succ (w : Bool) (d b x : ℕ → ℝ) (k : ℕ) :
    st w d b x k * ex w (pre (fun s => d (128 * k + s)) 128) +
      ∑ i : Fin 128, b (128 * k + i.val) * (x (128 * k + i.val) *
        ex w (pre (fun s => d (128 * k + s)) 128 - pre (fun s => d (128 * k + s)) (i.val + 1))) = st w d b x (k + 1) := by
  unfold st
  rw [Nat.mul_succ, sum_range_add, Finset.sum_mul]
  congr 1
  · refine Finset.sum_congr rfl fun s _ => ?_
    rw [mul_assoc, ← ex_add, pre_add d (128 * k) 128]
    congr 2; ring
  · rw [Fin.sum_univ_eq_sum_range (fun i => b (128 * k + i) * (x (128 * k + i) *
        ex w (pre (fun s => d (128 * k + s)) 128 - pre (fun s => d (128 * k + s)) (i + 1)))) 128]
    refine Finset.sum_congr rfl fun s _ => ?_
    rw [add_assoc, pre_add d (128 * k) 128, pre_add d (128 * k) (s + 1), ← mul_assoc]
    congr 2; ring

/-- What the scan gives at a position: every position up to it, decayed. -/
def out (w : Bool) (d x c : ℕ → ℝ) (t : ℕ) : ℝ := ∑ s ∈ range (t + 1), c s * ex w (pre d (t + 1) - pre d (s + 1)) * x s

theorem out_chunk (w : Bool) (d x : ℕ → ℝ) (B : ℕ → Fin 128 → ℝ) (C : Fin 128 → ℝ) (k i : ℕ) (hi : i < 128) :
    (∑ s : Fin 128, (∑ n, C n * B (128 * k + s.val) n) *
        (if s.val ≤ i then ex w (pre (fun s => d (128 * k + s)) (i + 1) - pre (fun s => d (128 * k + s)) (s.val + 1)) else 0) *
        x (128 * k + s.val)) +
      (∑ n, C n * st w d (fun s => B s n) x k) * ex w (pre (fun s => d (128 * k + s)) (i + 1)) =
    out w d x (fun s => ∑ n, C n * B s n) (128 * k + i) := by
  unfold out
  rw [add_assoc, sum_range_add, add_comm]
  congr 1
  · unfold st
    rw [Finset.sum_mul]
    simp only [Finset.mul_sum, Finset.sum_mul]
    rw [Finset.sum_comm]
    refine Finset.sum_congr rfl fun s _ => Finset.sum_congr rfl fun n _ => ?_
    rw [pre_add d (128 * k) (i + 1), show pre d (128 * k) + pre (fun s => d (128 * k + s)) (i + 1) - pre d (s + 1) =
      (pre d (128 * k) - pre d (s + 1)) + pre (fun s => d (128 * k + s)) (i + 1) by ring, ex_add]
    ring
  · rw [Fin.sum_univ_eq_sum_range (fun s => (∑ n, C n * B (128 * k + s) n) *
        (if s ≤ i then ex w (pre (fun s => d (128 * k + s)) (i + 1) - pre (fun s => d (128 * k + s)) (s + 1)) else 0) *
        x (128 * k + s)) 128]
    symm
    refine (Finset.sum_congr rfl fun s hs => ?_).trans (Finset.sum_subset (Finset.range_subset_range.mpr (by omega : i + 1 ≤ 128)) fun s _ hs => ?_)
    · rw [if_pos (by have := Finset.mem_range.mp hs; omega), add_assoc, pre_add d (128 * k) (i + 1), pre_add d (128 * k) (s + 1)]
      congr 3; ring
    · rw [if_neg (fun h => hs (Finset.mem_range.mpr (by omega))), mul_zero, zero_mul]

/-- The same as one sum over all positions, those after it masked out. -/
theorem out_masked (w : Bool) (N : ℕ) (d x : ℕ → ℝ) (c : ℕ → ℝ) (t : ℕ) (ht : t < N) :
    ∑ s : Fin N, x s.val * (c s.val * (if s.val ≤ t then ex w (pre d (t + 1) - pre d (s.val + 1)) else 0)) = out w d x c t := by
  unfold out
  rw [Fin.sum_univ_eq_sum_range (fun s => x s * (c s * (if s ≤ t then ex w (pre d (t + 1) - pre d (s + 1)) else 0))) N]
  symm
  refine (Finset.sum_congr rfl fun s hs => ?_).trans (Finset.sum_subset (Finset.range_subset_range.mpr (by omega : t + 1 ≤ N)) fun s _ hs => ?_)
  · rw [if_pos (by have := Finset.mem_range.mp hs; omega)]; ring
  · rw [if_neg (fun h => hs (Finset.mem_range.mpr (by omega))), mul_zero, mul_zero]

/-- Softplus. -/
def sp (x : ℝ) : ℝ := max x 0 + Real.log (1 + Real.exp (-|x|))
/-- The gate `x` times its logistic. -/
def sil (x : ℝ) : ℝ := x * (1 + Real.exp (-x))⁻¹

theorem rpow_scaled (x : ℝ) : Real.rpow 2 (|x| * -(Real.log 2)⁻¹) = Real.exp (-|x|) := by
  show (2 : ℝ) ^ (|x| * -(Real.log 2)⁻¹) = _
  rw [Real.rpow_def_of_pos (by norm_num)]
  congr 1
  have : Real.log 2 ≠ 0 := (Real.log_pos (by norm_num)).ne'
  field_simp

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) := (EReal.coe_strictMono.monotone.map_max).symm

end Ssd

end
-- ==== Proof.SsdAt.lean ====
module

public import proofs.«01_k».proof.Proof.SsdTile
public import proofs.«01_k».proof.Proof.SsdMath
public import proofs.«01_k».proof.Proof.Rows
public import Idealize.ShloMosaic.Lib.WordCmp

/-! The scan kernel's tile at an index, when its inputs are reals. -/

@[expose] public section

set_option maxRecDepth 16384

noncomputable section

namespace Cert.Kernel4Ideal.Value

open Cert.Kernel4Ideal Cert.Kernel4Ideal.Gen Idealize.ShloMosaic Idealize.ShloMosaic.TcCoe Idealize.SL.Sem

theorem neg_log2e : Named.named (F := Ideal) Cert.Kernel4Ideal.κ "neg_log2e" (φ := .f32) 0xBFB8AA3B#32 = ((-((Real.log 2)⁻¹) : ℝ) : EReal) :=
  IdealRules.named_const.ideal_named_scalar _ _ _ _ rfl

theorem sel_sge {α : Type} (a b : ℕ) (ha : a < 2147483648) (hb : b < 2147483648) (x y : α) :
    Scalar.select (IntOp.cmpi CmpIPredicate.sge (BitVec.ofNat 32 a) (BitVec.ofNat 32 b)) x y = if b ≤ a then x else y := by
  rw [WordCmp.cmpi_sge_ofNat (w := 32) ha hb, WordCmp.select_ofBool]
  simp
theorem sel_slt {α : Type} (a b : ℕ) (ha : a < 2147483648) (hb : b < 2147483648) (x y : α) :
    Scalar.select (IntOp.cmpi CmpIPredicate.slt (BitVec.ofNat 32 a) (BitVec.ofNat 32 b)) x y = if a < b then x else y := by
  rw [WordCmp.cmpi_slt_ofNat (w := 32) ha hb, WordCmp.select_ofBool]
  simp

theorem sil_coe (x : ℝ) : (x : EReal) * Ideal.logistic x = ((Ssd.sil x : ℝ) : EReal) := by
  rw [Ideal.logistic_coe, ← EReal.coe_mul]; rfl

theorem abs_coe (x : ℝ) : max (x : EReal) (-(x : EReal)) = ((|x| : ℝ) : EReal) := by
  rw [← EReal.coe_neg, Ssd.coe_max]; rfl

theorem log_one_add (y : ℝ) : Ideal.log (1 + ((Real.exp y : ℝ) : EReal)) = ((Real.log (1 + Real.exp y) : ℝ) : EReal) := by
  rw [← EReal.coe_one, ← EReal.coe_add, Ideal.log_coe, if_neg (by have := Real.exp_pos y; linarith)]

theorem sp_coe (x : ℝ) : max (x : EReal) 0 + Ideal.log (1 + FloatOps.exp2 (F := Ideal) (φ := .f32)
    (FloatOps.absf (F := Ideal) (φ := .f32) (x : EReal) * Named.named (F := Ideal) Cert.Kernel4Ideal.κ "neg_log2e" (φ := .f32) 0xBFB8AA3B#32)) =
    ((Ssd.sp x : ℝ) : EReal) := by
  have e : FloatOps.exp2 (F := Ideal) (φ := .f32) (FloatOps.absf (F := Ideal) (φ := .f32) (x : EReal) * Named.named (F := Ideal) Cert.Kernel4Ideal.κ "neg_log2e" (φ := .f32) 0xBFB8AA3B#32) =
      ((Real.exp (-|x|) : ℝ) : EReal) := by
    show Ideal.exp2 (max (x : EReal) (-(x : EReal)) * Named.named (F := Ideal) Cert.Kernel4Ideal.κ "neg_log2e" (φ := .f32) 0xBFB8AA3B#32) = _
    rw [neg_log2e, abs_coe, ← EReal.coe_mul, Ideal.exp2_coe, Ssd.rpow_scaled]
  rw [e, log_one_add, ← EReal.coe_zero, Ssd.coe_max, ← EReal.coe_add]
  rfl

/-- A decay's exponent: minus infinity where the decay rate is infinite. -/
def lv (w : Bool) (x : ℝ) : EReal := if w then ⊥ else (x : EReal)
/-- A decay rate. -/
def rt (w : Bool) (x : ℝ) : EReal := if w then ⊤ else (x : EReal)
theorem exp_lv (w : Bool) (x : ℝ) : Ideal.exp (lv w x) = ((Ssd.ex w x : ℝ) : EReal) := by
  cases w
  · exact Ideal.exp_coe x
  · exact Ideal.exp_bot
theorem exp_lv_sub (w : Bool) (x y : ℝ) : Ideal.exp (lv w x - lv w y) = ((Ssd.ex w (x - y) : ℝ) : EReal) := by
  cases w
  · exact (congrArg Ideal.exp (EReal.coe_sub x y).symm).trans (Ideal.exp_coe _)
  · exact Ideal.exp_bot
theorem sp_pos (x : ℝ) : 0 < Ssd.sp x :=
  add_pos_of_nonneg_of_pos (le_max_right _ _) (Real.log_pos (by have := Real.exp_pos (-|x|); linarith))
theorem mul_neg_rt (w : Bool) (x a : ℝ) : ((Ssd.sp x : ℝ) : EReal) * -(rt w a) = lv w (Ssd.sp x * -a) := by
  cases w
  · show ((Ssd.sp x : ℝ) : EReal) * -((a : ℝ) : EReal) = _
    rw [← EReal.coe_neg, ← EReal.coe_mul]
    rfl
  · show ((Ssd.sp x : ℝ) : EReal) * -(⊤ : EReal) = ⊥
    rw [EReal.neg_top, EReal.coe_mul_bot_of_pos (sp_pos x)]

/-- One doubling step at an index. -/
theorem step_at (n : ℕ) (h0 : 0 < n) (hn : n < 128) (d : Bool) (y : FVec Ideal S128x512 .f32) (j : Fin 512) (f : ℕ → ℝ)
    (hy : ∀ r : Fin 128, y (ix2 r j) = lv d (f r.val)) (r : Fin 128) :
    (addf y (select (cmpi .sge (iota .tc S128x512 32 [0] iota_S128x512_d0_w32) (broadcast S128x512 (BitVec.ofNat 32 n)))
      (dynamicRotate 0 (BitVec.ofNat 32 n) none y rotates_S128x512_d0) (broadcast S128x512 (Scalar.ofBits .f32 0#32)))) (ix2 r j) =
    lv d (Ssd.stp f n r.val) := by
  pointwise [hy]
  rw [sel_sge _ _ (by omega) (by omega)]
  unfold Ssd.stp
  cases d
  case true => exact EReal.bot_add _
  show ((f r.val : ℝ) : EReal) + (if n ≤ r.val then ((f _ : ℝ) : EReal) else 0) = ((f r.val + (if n ≤ r.val then f (r.val - n) else 0) : ℝ) : EReal)
  split
  · rw [← EReal.coe_add, BitVec.toNat_ofNat, show (r.val + 128 - n % 2 ^ 32 % 128) % 128 = r.val - n by omega]
  · rw [← EReal.coe_zero, ← EReal.coe_add]

section
variable (v : FVec Ideal S128x1024 .f32) (x2 : Vec Ideal S1x128x512 .f32) (x5 x6 : Vec Ideal S1x512 .f32)
  (cv dr : ℕ → ℕ → ℝ) (db al : ℕ → ℝ) (w : ℕ → Bool)
/-- A head's decay exponents. -/
def da (h s : ℕ) : ℝ := Ssd.sp (dr s h + db h) * -(al h)
/-- The inputs weighted by their step sizes. -/
def xr (j s : ℕ) : ℝ := Ssd.sil (cv s j) * Ssd.sp (dr s (j / 64) + db (j / 64))
/-- A group's input projections. -/
def br (g s : ℕ) (n : Fin 128) : ℝ := Ssd.sil (cv s (512 + 128 * g + n.val))
/-- A group's output projections. -/
def cr (g s : ℕ) (n : Fin 128) : ℝ := Ssd.sil (cv s (768 + 128 * g + n.val))
/-- A head's sum inside the tile. -/
def hd (g h j r : ℕ) : ℝ := ∑ s : Fin 128, (∑ n, cr cv g r n * br cv g s.val n) *
  (if s.val ≤ r then Ssd.ex (w h) (Ssd.pre (da dr db al h) (r + 1) - Ssd.pre (da dr db al h) (s.val + 1)) else 0) * xr cv dr db j s.val

theorem cr1 (s : ℕ) (n : Fin 128) : cr cv 1 s n = Ssd.sil (cv s (768 + (128 + n.val))) := by
  rw [cr, show 768 + 128 * 1 + n.val = 768 + (128 + n.val) by omega]
theorem br1 (s : ℕ) (n : Fin 128) : br cv 1 s n = Ssd.sil (cv s (512 + (128 + n.val))) := by
  rw [br, show 512 + 128 * 1 + n.val = 512 + (128 + n.val) by omega]

variable (hv : ∀ (r : Fin 128) (k : Fin 1024), v (ix2 r k) = ((cv r.val k.val : ℝ) : EReal))
  (h2 : ∀ (r : Fin 128) (j : Fin 512), x2 (ix3 0 r j) = ((dr r.val (j.val / 64) : ℝ) : EReal))
  (h5 : ∀ j : Fin 512, x5 (ix2 0 j) = ((db (j.val / 64) : ℝ) : EReal))
  (h6 : ∀ j : Fin 512, Ideal.exp (x6 (ix2 0 j)) = rt (w (j.val / 64)) (al (j.val / 64)))

include hv in
theorem pay9_at (r : Fin 128) (j : Fin 512) : k0_pay9 v (ix2 r j) = ((Ssd.sil (cv r.val j.val) : ℝ) : EReal) := by
  pointwise [k0_pay9, k0_pay8, hv]
  exact sil_coe _
include hv in
theorem pay10_at (r : Fin 128) (j : Fin 256) : k0_pay10 v (ix2 r j) = ((Ssd.sil (cv r.val (512 + j.val)) : ℝ) : EReal) := by
  pointwise [k0_pay10, k0_pay8, hv]
  exact sil_coe _
include hv in
theorem pay11_at (r : Fin 128) (j : Fin 256) : k0_pay11 v (ix2 r j) = ((Ssd.sil (cv r.val (768 + j.val)) : ℝ) : EReal) := by
  pointwise [k0_pay11, k0_pay8, hv]
  exact sil_coe _
include h2 h5 in
theorem pay12_at (r : Fin 128) (j : Fin 512) : k0_pay12 x2 x5 (ix2 r j) = ((Ssd.sp (dr r.val (j.val / 64) + db (j.val / 64)) : ℝ) : EReal) := by
  pointwise [k0_pay12, h2, h5]
  rw [← EReal.coe_add]
  exact sp_coe _
include h2 h5 h6 in
theorem dA_at (r : Fin 128) (j : Fin 512) : (mulf (k0_pay12 x2 x5) (broadcastTo S128x512 (subf (broadcast S1x512 (Scalar.ofBits .f32 0x00000000#32)) (exp (shapeCast S1x512 x6 shapeCasts_S1x512_S1x512))) broadcasts_S1x512_S128x512)) (ix2 r j) =
    lv (w (j.val / 64)) (da dr db al (j.val / 64) r.val) := by
  pointwise [pay12_at _ _ _ _ h2 h5, h6]
  rw [zero_sub]
  exact mul_neg_rt _ _ _
include h2 h5 h6 in
theorem acs_at (r : Fin 128) (j : Fin 512) : acsOf x2 x5 x6 (ix2 r j) = lv (w (j.val / 64)) (Ssd.pre (da dr db al (j.val / 64)) (r.val + 1)) := by
  rw [← Ssd.scan _ _ r.isLt]
  exact step_at 64 (by decide) (by decide) _ _ j _ (step_at 32 (by decide) (by decide) _ _ j _ (step_at 16 (by decide) (by decide) _ _ j _
    (step_at 8 (by decide) (by decide) _ _ j _ (step_at 4 (by decide) (by decide) _ _ j _ (step_at 2 (by decide) (by decide) _ _ j _
    (step_at 1 (by decide) (by decide) _ _ j _ (fun r => dA_at x2 x5 x6 dr db al w h2 h5 h6 r j))))))) r
include h2 h5 h6 in
theorem at_at (r : Fin 128) (j : Fin 512) : atOf x2 x5 x6 (ix2 j r) = lv (w (j.val / 64)) (Ssd.pre (da dr db al (j.val / 64)) (r.val + 1)) := by
  refine Eq.trans ?_ (acs_at x2 x5 x6 dr db al w h2 h5 h6 r j)
  show transpose S512x128 [1, 0] (acsOf x2 x5 x6) transposes_S128x512_p1_0_S512x128 (ix2 j r) = _
  pointwise
include h2 h5 h6 in
theorem ea_at (r : Fin 128) (j : Fin 512) : eaOf x2 x5 x6 (ix2 r j) = ((Ssd.ex (w (j.val / 64)) (Ssd.pre (da dr db al (j.val / 64)) (r.val + 1)) : ℝ) : EReal) := by
  show exp (acsOf x2 x5 x6) (ix2 r j) = _
  pointwise [acs_at _ _ _ _ _ _ _ h2 h5 h6]
  exact exp_lv _ _
include h2 h5 h6 in
theorem last_at (j : Fin 512) : lastOf x2 x5 x6 (ix2 0 j) = lv (w (j.val / 64)) (Ssd.pre (da dr db al (j.val / 64)) 128) := by
  show extractStridedSlice S1x512 ![127, 0] (acsOf x2 x5 x6) slices_S128x512_o127_0_S1x512 (ix2 0 j) = _
  pointwise [acs_at _ _ _ _ _ _ _ h2 h5 h6]
include hv h2 h5 in
theorem pay19_at (r : Fin 128) (j : Fin 512) : k0_pay19 (k0_pay9 v) (k0_pay12 x2 x5) (ix2 r j) = ((xr cv dr db j.val r.val : ℝ) : EReal) := by
  pointwise [k0_pay19, k0_pay18, pay9_at _ _ hv, pay12_at _ _ _ _ h2 h5]
  rw [← EReal.coe_mul]
  rfl
include hv h2 h5 h6 in
theorem xd_at (r : Fin 128) (j : Fin 512) : xdOf v x2 x5 x6 (ix2 r j) = ((xr cv dr db j.val r.val *
    Ssd.ex (w (j.val / 64)) (Ssd.pre (da dr db al (j.val / 64)) 128 - Ssd.pre (da dr db al (j.val / 64)) (r.val + 1)) : ℝ) : EReal) := by
  show truncf .bf16 (mulf (mulf (k0_pay9 v) (k0_pay12 x2 x5)) (exp (subf (broadcastTo S128x512 (lastOf x2 x5 x6) broadcasts_S1x512_S128x512) (acsOf x2 x5 x6)))) bitsLt_bf16_f32 (ix2 r j) = _
  pointwise [pay9_at _ _ hv, pay12_at _ _ _ _ h2 h5, last_at _ _ _ _ _ _ _ h2 h5 h6, acs_at _ _ _ _ _ _ _ h2 h5 h6]
  rw [exp_lv_sub, ← EReal.coe_mul, ← EReal.coe_mul]
  rfl
include hv in
theorem pay27_at (r k : Fin 128) : k0_pay27 (k0_pay10 v) (k0_pay11 v) (ix2 r k) = ((∑ n, cr cv 0 r.val n * br cv 0 k.val n : ℝ) : EReal) := by
  pointwise [k0_pay27, k0_pay26, k0_pay25, pay10_at _ _ hv, pay11_at _ _ hv]
  simp only [← EReal.coe_mul, Ssd.coe_sum]
  rfl
include hv in
theorem pay37_at (r k : Fin 128) : k0_pay37 (k0_pay10 v) (k0_pay11 v) (ix2 r k) = ((∑ n, cr cv 1 r.val n * br cv 1 k.val n : ℝ) : EReal) := by
  pointwise [k0_pay37, k0_pay36, k0_pay35, pay10_at _ _ hv, pay11_at _ _ hv]
  simp only [← EReal.coe_mul, Ssd.coe_sum, cr1, br1]
theorem csum (r j : ℕ) (S : Fin 128 → ℕ → ℝ) :
    (∑ n : Fin 128, ((Ssd.sil (cv r (768 + n.val)) : ℝ) : EReal) * ((S n j : ℝ) : EReal)) = ((∑ n, cr cv 0 r n * S n j : ℝ) : EReal) := by
  simp only [← EReal.coe_mul, Ssd.coe_sum]
  rfl
theorem hsum (d : Bool) (r : Fin 128) (c q x : Fin 128 → ℝ) (a : ℝ) :
    (∑ s : Fin 128, Scalar.select (IntOp.cmpi CmpIPredicate.sge (BitVec.ofNat 32 r.val) (BitVec.ofNat 32 s.val))
      ((c s : EReal) * Ideal.exp (lv d a - lv d (q s)) * (x s : EReal)) 0) =
    ((∑ s : Fin 128, c s * (if s.val ≤ r.val then Ssd.ex d (a - q s) else 0) * x s : ℝ) : EReal) := by
  rw [← Ssd.coe_sum]
  refine Finset.sum_congr rfl fun s _ => ?_
  rw [sel_sge _ _ (by omega) (by omega), exp_lv_sub, ← EReal.coe_mul, ← EReal.coe_mul]
  split
  · rfl
  · rw [mul_zero, zero_mul]; rfl
include hv h2 h5 h6 in
theorem pay28_at (r k : Fin 128) :
    k0_pay28 (k0_pay10 v) (k0_pay11 v) (acsOf x2 x5 x6) (k0_pay19 (k0_pay9 v) (k0_pay12 x2 x5)) (atOf x2 x5 x6)
      (iota Kind.tc S128x128 32 [0] iota_S128x128_d0_w32) (iota Kind.tc S128x128 32 [1] iota_S128x128_d1_w32) (ix2 r k) =
    ((hd cv dr db al w 0 (k.val / 64) k.val r.val : ℝ) : EReal) := by
  pointwise [k0_pay28, k0_pay24, k0_pay23, pay27_at _ _ hv, acs_at _ _ _ _ _ _ _ h2 h5 h6, at_at _ _ _ _ _ _ _ h2 h5 h6, pay19_at _ _ _ _ _ _ hv h2 h5]
  rw [sel_slt _ _ (by omega) (by omega)]
  split
  · rw [show k.val / 64 = 0 by omega]; exact hsum _ r _ _ _ _
  · rw [show k.val / 64 = 1 by omega]; exact hsum _ r _ _ _ _
include hv h2 h5 h6 in
theorem pay30_at (r k : Fin 128) :
    k0_pay30 (k0_pay10 v) (k0_pay11 v) (acsOf x2 x5 x6) (k0_pay19 (k0_pay9 v) (k0_pay12 x2 x5)) (atOf x2 x5 x6)
      (iota Kind.tc S128x128 32 [0] iota_S128x128_d0_w32) (iota Kind.tc S128x128 32 [1] iota_S128x128_d1_w32) (ix2 r k) =
    ((hd cv dr db al w 0 2 (128 + k.val) r.val : ℝ) : EReal) := by
  pointwise [k0_pay30, k0_pay29, k0_pay23, pay27_at _ _ hv, acs_at _ _ _ _ _ _ _ h2 h5 h6, at_at _ _ _ _ _ _ _ h2 h5 h6, pay19_at _ _ _ _ _ _ hv h2 h5]
  exact hsum _ r _ _ _ _
include hv h2 h5 h6 in
theorem pay39_at (r k : Fin 128) :
    k0_pay39 (k0_pay10 v) (k0_pay11 v) (acsOf x2 x5 x6) (k0_pay19 (k0_pay9 v) (k0_pay12 x2 x5)) (atOf x2 x5 x6)
      (cmpi CmpIPredicate.sge (iota Kind.tc S128x128 32 [0] iota_S128x128_d0_w32) (iota Kind.tc S128x128 32 [1] iota_S128x128_d1_w32)) (ix2 r k) =
    ((hd cv dr db al w 1 4 (256 + k.val) r.val : ℝ) : EReal) := by
  pointwise [k0_pay39, k0_pay38, pay37_at _ _ hv, acs_at _ _ _ _ _ _ _ h2 h5 h6, at_at _ _ _ _ _ _ _ h2 h5 h6, pay19_at _ _ _ _ _ _ hv h2 h5]
  exact hsum _ r _ _ _ _
include hv h2 h5 h6 in
theorem y0_at (s : Vec Ideal S1x128x256 .f32) (S : Fin 128 → ℕ → ℝ) (hs : ∀ (n : Fin 128) (j : Fin 256), s (ix3 0 n j) = ((S n j.val : ℝ) : EReal))
    (r : Fin 128) (j : Fin 256) : y0Of v x2 x5 x6 s (ix2 r j) = ((hd cv dr db al w 0 (j.val / 64) j.val r.val +
      (∑ n, cr cv 0 r.val n * S n j.val) * Ssd.ex (w (j.val / 64)) (Ssd.pre (da dr db al (j.val / 64)) (r.val + 1)) : ℝ) : EReal) := by
  pointwise [y0Of, k0_pay34, k0_pay32, k0_pay31, k0_pay29, k0_pay26, k0_pay24, trilOf, k0_pay23, pay27_at _ _ hv, pay28_at _ _ _ _ _ _ _ _ _ hv h2 h5 h6,
    pay30_at _ _ _ _ _ _ _ _ _ hv h2 h5 h6, acs_at _ _ _ _ _ _ _ h2 h5 h6,
    at_at _ _ _ _ _ _ _ h2 h5 h6, pay19_at _ _ _ _ _ _ hv h2 h5, ea_at _ _ _ _ _ _ _ h2 h5 h6, pay11_at _ _ hv, hs]
  have e := csum cv r.val j.val S
  rw [e, ← EReal.coe_mul, EReal.coe_add]
  refine congrArg (· + _) ?_
  split
  · rfl
  · rw [sel_slt _ _ (by omega) (by omega)]
    split
    · rw [show j.val / 64 = 2 by omega, show 128 + (j.val - 128) = j.val by omega]
    · rw [show j.val / 64 = 3 by omega, hsum _ r, show 128 + (j.val - 128) = j.val by omega]
      rfl
include hv h2 h5 h6 in
theorem y1_at (r : Fin 128) (j : Fin 256) : y1Of v x2 x5 x6 (ix2 r j) = ((hd cv dr db al w 1 ((256 + j.val) / 64) (256 + j.val) r.val : ℝ) : EReal) := by
  pointwise [y1Of, k0_pay42, k0_pay40, k0_pay41, k0_pay38, k0_pay24, trilOf, k0_pay23, pay37_at _ _ hv, pay39_at _ _ _ _ _ _ _ _ _ hv h2 h5 h6,
    acs_at _ _ _ _ _ _ _ h2 h5 h6,
    at_at _ _ _ _ _ _ _ h2 h5 h6, pay19_at _ _ _ _ _ _ hv h2 h5]
  split
  · rw [sel_slt _ _ (by omega) (by omega)]
    split
    · rw [show (256 + j.val) / 64 = 4 by omega]
    · rw [show (256 + j.val) / 64 = 5 by omega]
      exact hsum _ r _ _ _ _
  · rw [sel_slt _ _ (by omega) (by omega), show 384 + (j.val - 128) = 256 + j.val by omega]
    split
    · rw [show (256 + j.val) / 64 = 6 by omega]
      exact hsum _ r _ _ _ _
    · rw [show (256 + j.val) / 64 = 7 by omega]
      exact hsum _ r _ _ _ _
include hv h2 h5 h6 in
theorem y2_at (s : Vec Ideal S1x128x256 .f32) (S : Fin 128 → ℕ → ℝ) (hs : ∀ (n : Fin 128) (j : Fin 256), s (ix3 0 n j) = ((S n j.val : ℝ) : EReal))
    (r : Fin 128) (j : Fin 256) : y2Of v x2 x5 x6 s (ix2 r j) =
      (((∑ n, cr cv 1 r.val n * S n j.val) * Ssd.ex (w ((256 + j.val) / 64)) (Ssd.pre (da dr db al ((256 + j.val) / 64)) (r.val + 1)) : ℝ) : EReal) := by
  pointwise [y2Of, k0_pay44, k0_pay43, k0_pay36, ea_at _ _ _ _ _ _ _ h2 h5 h6, pay11_at _ _ hv, hs]
  simp only [← EReal.coe_mul, Ssd.coe_sum, cr1]
include hv h2 h5 h6 in
theorem st0_at (s : Vec Ideal S1x128x256 .f32) (S : Fin 128 → ℕ → ℝ) (hs : ∀ (n : Fin 128) (j : Fin 256), s (ix3 0 n j) = ((S n j.val : ℝ) : EReal))
    (n : Fin 128) (j : Fin 256) : st0 v x2 x5 x6 s (ix3 0 n j) = ((S n j.val * Ssd.ex (w (j.val / 64)) (Ssd.pre (da dr db al (j.val / 64)) 128) +
      ∑ i : Fin 128, br cv 0 i.val n * (xr cv dr db j.val i.val * Ssd.ex (w (j.val / 64)) (Ssd.pre (da dr db al (j.val / 64)) 128 - Ssd.pre (da dr db al (j.val / 64)) (i.val + 1))) : ℝ) : EReal) := by
  pointwise [st0, k0_pay33, k0_pay32, k0_pay25, pay10_at _ _ hv, last_at _ _ _ _ _ _ _ h2 h5 h6, xd_at _ _ _ _ _ _ _ _ _ hv h2 h5 h6, hs]
  rw [exp_lv]
  simp only [← EReal.coe_mul, Ssd.coe_sum, ← EReal.coe_add]
  rfl
include hv h2 h5 h6 in
theorem st1_at (s : Vec Ideal S1x128x256 .f32) (S : Fin 128 → ℕ → ℝ) (hs : ∀ (n : Fin 128) (j : Fin 256), s (ix3 0 n j) = ((S n j.val : ℝ) : EReal))
    (n : Fin 128) (j : Fin 256) : st1 v x2 x5 x6 s (ix3 0 n j) = ((S n j.val * Ssd.ex (w ((256 + j.val) / 64)) (Ssd.pre (da dr db al ((256 + j.val) / 64)) 128) +
      ∑ i : Fin 128, br cv 1 i.val n * (xr cv dr db (256 + j.val) i.val * Ssd.ex (w ((256 + j.val) / 64)) (Ssd.pre (da dr db al ((256 + j.val) / 64)) 128 - Ssd.pre (da dr db al ((256 + j.val) / 64)) (i.val + 1))) : ℝ) : EReal) := by
  pointwise [st1, k0_pay1, k0_pay45, k0_pay43, k0_pay35, pay10_at _ _ hv, last_at _ _ _ _ _ _ _ h2 h5 h6, xd_at _ _ _ _ _ _ _ _ _ hv h2 h5 h6, hs]
  rw [exp_lv]
  simp only [← EReal.coe_mul, Ssd.coe_sum, ← EReal.coe_add, br1]

/-- A position's sums before the skip term. -/
def yr (S : Fin 128 → ℕ → ℝ) (r j : ℕ) : ℝ := hd cv dr db al w (j / 256) (j / 64) j r +
  (∑ n, cr cv (j / 256) r n * S n j) * Ssd.ex (w (j / 64)) (Ssd.pre (da dr db al (j / 64)) (r + 1))
/-- The state after the tile. -/
def sn (S : Fin 128 → ℕ → ℝ) (n : Fin 128) (j : ℕ) : ℝ := S n j * Ssd.ex (w (j / 64)) (Ssd.pre (da dr db al (j / 64)) 128) +
  ∑ i : Fin 128, br cv (j / 256) i.val n * (xr cv dr db j i.val *
    Ssd.ex (w (j / 64)) (Ssd.pre (da dr db al (j / 64)) 128 - Ssd.pre (da dr db al (j / 64)) (i.val + 1)))
/-- A position's gated row. -/
def ur (S : Fin 128 → ℕ → ℝ) (D z : Fin 512 → EReal) (r : ℕ) (j : Fin 512) : EReal :=
  (((yr cv dr db al w S r j.val : ℝ) : EReal) + ((Ssd.sil (cv r j.val) : ℝ) : EReal) * D j) * (z j * Ideal.logistic (z j))

section
variable (s : Vec Ideal S2x128x256 .f32) (S : Fin 128 → ℕ → ℝ)
  (hs0 : ∀ (n : Fin 128) (j : Fin 256), s (ix3 0 n j) = ((S n j.val : ℝ) : EReal))
  (hs1 : ∀ (n : Fin 128) (j : Fin 256), s (ix3 1 n j) = ((S n (256 + j.val) : ℝ) : EReal))
theorem ld0_at (n : Fin 128) (j : Fin 256) : (View.ld s (Rect.unit (s := S2x128x256) ![0, 0, 0] S1x128x256.size inb_S2x128x256_S1x128x256_0_0_0)) (ix3 0 n j) = s (ix3 0 n j) := by
  refine congrArg s (funext fun a => Fin.ext ((Rect.idx_unit_val _ _ _ _ a).trans ?_))
  match a with
  | ⟨0, _⟩ => rfl
  | ⟨1, _⟩ => exact Nat.zero_add _
  | ⟨2, _⟩ => exact Nat.zero_add _
theorem ld1_at (n : Fin 128) (j : Fin 256) : (View.ld s (Rect.unit (s := S2x128x256) ![1, 0, 0] S1x128x256.size inb_S2x128x256_S1x128x256_1_0_0)) (ix3 0 n j) = s (ix3 1 n j) := by
  refine congrArg s (funext fun a => Fin.ext ((Rect.idx_unit_val _ _ _ _ a).trans ?_))
  match a with
  | ⟨0, _⟩ => rfl
  | ⟨1, _⟩ => exact Nat.zero_add _
  | ⟨2, _⟩ => exact Nat.zero_add _
include hv h2 h5 h6 hs0 hs1
theorem cat_at : concatenate S128x512 1 [⟨S128x256, y0Of v x2 x5 x6 (View.ld s (Rect.unit (s := S2x128x256) ![0, 0, 0] S1x128x256.size inb_S2x128x256_S1x128x256_0_0_0))⟩,
      ⟨S128x256, addf (y1Of v x2 x5 x6) (y2Of v x2 x5 x6 (View.ld s (Rect.unit (s := S2x128x256) ![1, 0, 0] S1x128x256.size inb_S2x128x256_S1x128x256_1_0_0)))⟩]
      concatenates_S128x256_S128x256_S128x512_d1 = fun i => ((yr cv dr db al w S (i 0).val (i 1).val : ℝ) : EReal) := by
  funext i
  rw [eq_ix2 i]
  pointwise [y1_at _ _ _ _ _ _ _ _ _ hv h2 h5 h6]
  have hj : (i 1).val < 512 := (i 1).isLt
  unfold yr
  split
  · rename_i h
    rw [show (i 1).val / 256 = 0 by omega]
    exact y0_at v x2 x5 x6 cv dr db al w hv h2 h5 h6 (View.ld s (Rect.unit (s := S2x128x256) ![0, 0, 0] S1x128x256.size inb_S2x128x256_S1x128x256_0_0_0)) S (fun n j => (ld0_at s n j).trans (hs0 n j)) (i 0) ⟨(i 1).val, h⟩
  · rename_i h
    have e := y2_at v x2 x5 x6 cv dr db al w hv h2 h5 h6 (View.ld s (Rect.unit (s := S2x128x256) ![1, 0, 0] S1x128x256.size inb_S2x128x256_S1x128x256_1_0_0)) (fun n j => S n (256 + j)) (fun n j => (ld1_at s n j).trans (hs1 n j)) (i 0) ⟨(i 1).val - 256, by omega⟩
    rw [show (i 1).val / 256 = 1 by omega, EReal.coe_add]
    dsimp only at e
    rw [show 256 + ((i 1).val - 256) = (i 1).val by omega] at e ⊢
    exact congrArg (_ + ·) e
theorem outT_at (x0 : Vec Ideal S1x128x512 .bf16) (x7 x8 : Vec Ideal S1x512 .f32) (r : Fin 128) (j : Fin 512) :
    outT v x2 x5 x6 x0 x7 x8 s (ix3 0 r j) =
      Cert.Rows.rms (Ideal.ofBits .f32 0x3B000000#32) (ur cv dr db al w S (fun k => x7 (ix2 0 k)) (fun k => x0 (ix3 0 r k)) r.val) (fun k => x8 (ix2 0 k)) j := by
  unfold outT k0_pay2
  dsimp only
  rw [cat_at v x2 x5 x6 cv dr db al w hv h2 h5 h6 s S hs0 hs1]
  pointwise [pay9_at _ _ hv]
  rfl
theorem stT_at0 (n : Fin 128) (j : Fin 256) : stT v x2 x5 x6 s (ix3 0 n j) = ((sn cv dr db al w S n j.val : ℝ) : EReal) := by
  have e0 := st0_at v x2 x5 x6 cv dr db al w hv h2 h5 h6 (View.ld s (Rect.unit (s := S2x128x256) ![0, 0, 0] S1x128x256.size inb_S2x128x256_S1x128x256_0_0_0)) S (fun n j => (ld0_at s n j).trans (hs0 n j)) n j
  refine Eq.trans (show _ = st0 v x2 x5 x6 _ (ix3 0 n j) from rfl) (e0.trans ?_)
  unfold sn
  rw [show j.val / 256 = 0 by omega]
theorem stT_at1 (n : Fin 128) (j : Fin 256) : stT v x2 x5 x6 s (ix3 1 n j) = ((sn cv dr db al w S n (256 + j.val) : ℝ) : EReal) := by
  have e1 := st1_at v x2 x5 x6 cv dr db al w hv h2 h5 h6 (View.ld s (Rect.unit (s := S2x128x256) ![1, 0, 0] S1x128x256.size inb_S2x128x256_S1x128x256_1_0_0)) (fun n j => S n (256 + j)) (fun n j => (ld1_at s n j).trans (hs1 n j)) n j
  refine Eq.trans (show _ = st1 v x2 x5 x6 _ (ix3 0 n j) from rfl) (e1.trans ?_)
  unfold sn
  rw [show (256 + j.val) / 256 = 1 by omega]
end
end
end Cert.Kernel4Ideal.Value
end
-- ==== Proof.SsdBlocks.lean ====
module

public import proofs.«01_k».proof.Proof.SsdAt
public import Idealize.ShloMosaic.Lib.Pipeline.ValueKit
public import Idealize.ShloMosaic.Lib.Pipeline.ReadBack
/-!
The blocks the scan's points read, at an index, in terms of the arguments, and the causal convolution of a tile.
-/
@[expose] public section
set_option maxRecDepth 16384
noncomputable section
namespace Ssd
/-- An array's row of reals by natural indices, zero outside the array. -/
def ar3 {n : ℕ} (X : Fin 8 → Fin 8208 → Fin n → EReal) (b : Fin 8) (t k : ℕ) : ℝ :=
  if h : t < 8208 ∧ k < n then (X b ⟨t, h.1⟩ ⟨k, h.2⟩).toReal else 0
/-- The same for two indices. -/
def ar2 {a n : ℕ} (X : Fin a → Fin n → EReal) (t k : ℕ) : ℝ := if h : t < a ∧ k < n then (X ⟨t, h.1⟩ ⟨k, h.2⟩).toReal else 0
/-- The same for one index. -/
def ar1 {n : ℕ} (X : Fin n → EReal) (k : ℕ) : ℝ := if h : k < n then (X ⟨k, h⟩).toReal else 0
theorem ar3_lt {n : ℕ} (X : Fin 8 → Fin 8208 → Fin n → EReal) (hX : ∀ b p k, ((X b p k).toReal : EReal) = X b p k) (b : Fin 8) (p : Fin 8208) (k : Fin n) :
    ((ar3 X b p.val k.val : ℝ) : EReal) = X b p k := by
  unfold ar3; rw [dif_pos ⟨p.isLt, k.isLt⟩]; exact hX b p k
theorem ar3_ge {n : ℕ} (X : Fin 8 → Fin 8208 → Fin n → EReal) (b : Fin 8) (p k : ℕ) (hp : ¬ p < 8208) : ar3 X b p k = 0 := by
  unfold ar3; rw [dif_neg (fun h => hp h.1)]
theorem ar2_lt {a n : ℕ} (X : Fin a → Fin n → EReal) (hX : ∀ p k, ((X p k).toReal : EReal) = X p k) (p : Fin a) (k : Fin n) :
    ((ar2 X p.val k.val : ℝ) : EReal) = X p k := by
  unfold ar2; rw [dif_pos ⟨p.isLt, k.isLt⟩]; exact hX p k
theorem ar1_lt {n : ℕ} (X : Fin n → EReal) (hX : ∀ k, ((X k).toReal : EReal) = X k) (k : Fin n) : ((ar1 X k.val : ℝ) : EReal) = X k := by
  unfold ar1; rw [dif_pos k.isLt]; exact hX k
/-- The row `o` positions back, zero before the sequence starts. -/
def past (u : ℕ → ℕ → ℝ) (o t k : ℕ) : ℝ := if t < o then 0 else u (t - o) k
/-- The causal convolution with four taps. -/
def conv (u w : ℕ → ℕ → ℝ) (bi : ℕ → ℝ) (t k : ℕ) : ℝ :=
  bi k + u t k * w 3 k + past u 3 t k * w 0 k + past u 2 t k * w 1 k + past u 1 t k * w 2 k
end Ssd
namespace Cert.Kernel4Ideal.Value
open Cert.Kernel4Ideal Cert.Kernel4Ideal.Gen Idealize.ShloMosaic Idealize.ShloMosaic.TcCoe Idealize.SL.Sem
variable (m : (ℓ : Loc nD τ sig) → Buf (Elt Ideal) ℓ) (c : Dev nD)
abbrev A0 : Vec Ideal S8x8208x512 .f32 := m ((c.tc : Thread nD τ).loc main_arg0)
abbrev A1 : Vec Ideal S8x8208x1024 .f32 := m ((c.tc : Thread nD τ).loc main_arg1)
abbrev A2 : Vec Ideal S8x8208x8 .f32 := m ((c.tc : Thread nD τ).loc main_arg2)
abbrev A3 : Vec Ideal S4x1024 .f32 := m ((c.tc : Thread nD τ).loc main_arg3)
abbrev A4 : Vec Ideal S1024 .f32 := m ((c.tc : Thread nD τ).loc main_arg4)
abbrev A5 : Vec Ideal S8 .f32 := m ((c.tc : Thread nD τ).loc main_arg5)
abbrev A6 : Vec Ideal S8 .f32 := m ((c.tc : Thread nD τ).loc main_arg6)
abbrev A7 : Vec Ideal S8 .f32 := m ((c.tc : Thread nD τ).loc main_arg7)
abbrev A8 : Vec Ideal S512 .f32 := m ((c.tc : Thread nD τ).loc main_arg8)

/-- The convolution's input. -/
abbrev U (b : Fin 8) : ℕ → ℕ → ℝ := Ssd.ar3 (fun b p k => A1 m c (ix3 b p k)) b
/-- The step sizes' input. -/
abbrev DR (b : Fin 8) : ℕ → ℕ → ℝ := Ssd.ar3 (fun b p k => A2 m c (ix3 b p k)) b
/-- The taps. -/
abbrev W : ℕ → ℕ → ℝ := Ssd.ar2 (fun p k => A3 m c (ix2 p k))
/-- The convolution's bias. -/
abbrev BI : ℕ → ℝ := Ssd.ar1 (fun k => A4 m c (ix1 k))
/-- The step sizes' bias. -/
abbrev DB : ℕ → ℝ := Ssd.ar1 (fun k => A5 m c (ix1 k))
/-- The decay rates. -/
abbrev AL : ℕ → ℝ := Ssd.ar1 (fun k => Ideal.exp (A6 m c (ix1 k)))
/-- Where a decay rate is infinite. -/
def WD (h : ℕ) : Bool := if k : h < 8 then decide (A6 m c (ix1 ⟨h, k⟩) = ⊤) else false
theorem rate_at (h : Fin 8) : Ideal.exp (A6 m c (ix1 h)) = rt (WD m c h.val) (AL m c h.val) := by
  have e : WD m c h.val = decide (A6 m c (ix1 h) = ⊤) := dif_pos h.isLt
  have e' : AL m c h.val = (Ideal.exp (A6 m c (ix1 h))).toReal := dif_pos h.isLt
  rw [e, e']
  generalize A6 m c (ix1 h) = x
  induction x using EReal.rec with
  | bot => rw [decide_eq_false bot_ne_top, Ideal.exp_bot]; rfl
  | coe x => rw [decide_eq_false (EReal.coe_ne_top x), Ideal.exp_coe]; rfl
  | top => rw [decide_eq_true rfl]; rfl
/-- The convolved rows. -/
abbrev CV (b : Fin 8) : ℕ → ℕ → ℝ := Ssd.conv (U m c b) (W m c) (BI m c)
/-- The five inputs of the exponents and of the sums hold reals. -/
structure Reals : Prop where
  h1 : ∀ b p k, ((A1 m c (ix3 b p k)).toReal : EReal) = A1 m c (ix3 b p k)
  h2 : ∀ b p k, ((A2 m c (ix3 b p k)).toReal : EReal) = A2 m c (ix3 b p k)
  h3 : ∀ p k, ((A3 m c (ix2 p k)).toReal : EReal) = A3 m c (ix2 p k)
  h4 : ∀ k, ((A4 m c (ix1 k)).toReal : EReal) = A4 m c (ix1 k)
  h5 : ∀ k, ((A5 m c (ix1 k)).toReal : EReal) = A5 m c (ix1 k)

theorem idxs : ∀ t : Fin cfg0.N, win0_0.index t = ![t.val / 66, t.val % 66, 2] ∧ win0_1.index t = ![t.val / 66, t.val % 66, 0] ∧
    win0_2.index t = ![t.val / 66, t.val % 66, 0] ∧ win0_9.index t = ![t.val / 66, t.val % 66, 0] := by
  decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
/-- The convolution's input and the gate's side by side, before the padding. -/
def cat0 (x : FVec Ideal S8x8208x1024 .f32) (z : FVec Ideal S8x8208x512 .f32) : FVec Ideal S8x8208x2944 .f32 :=
  concatenate S8x8208x2944 2 [⟨S8x8208x1024, (x : (⟨S8x8208x1024, .f32⟩ : BufTy).Contents (Elt Ideal))⟩, ⟨S8x8208x512, (z : (⟨S8x8208x512, .f32⟩ : BufTy).Contents (Elt Ideal))⟩, ⟨S8x8208x1408, (broadcastInDim S8x8208x1408 ![] bcast_S_S8x8208x1408 (constant (F := Ideal) S_ .f32 0x00000000#32) : (⟨S8x8208x1408, .f32⟩ : BufTy).Contents (Elt Ideal))⟩] concatenates_S8x8208x1024_S8x8208x512_S8x8208x1408_S8x8208x2944_d2
theorem V_v3 : (V m c main_v3 : Vec Ideal S8x8448x2944 .bf16) = (truncf (F := Ideal) .bf16 (pad S8x8448x2944 ![0, 0, 0] ![0, 240, 0] ![0, 0, 0] (cat0 (A1 m c) (A0 m c)) (sitofp (F := Ideal) .f32 (constantI S_ 32 0#32)) pads_S8x8208x2944_S8x8448x2944_000_02400_000 h_S_) bitsLt_bf16_f32 : Vec Ideal S8x8448x2944 .bf16) := by
  show StableHlo.after _ _ _ = _
  simp only [hostOps0, hostOps0_1, hostOps0_2, hostOps0_3, hostOps0_4, List.flatten_cons,
    List.flatten_nil, List.append_nil, List.cons_append, List.nil_append]
  after_results <;> rfl
theorem V_v6 : (V m c main_v6 : Vec Ideal S8x8448x512 .f32) = (pad S8x8448x512 ![0, 0, 0] ![0, 240, 0] ![0, 0, 0] (shapeCast S8x8208x512 (broadcastInDim S8x8208x8x64 ![0, 1, 2] bcast_S8x8208x8_S8x8208x8x64_0_1_2 (A2 m c) : FVec Ideal S8x8208x8x64 .f32) shapeCasts_S8x8208x8x64_S8x8208x512 : FVec Ideal S8x8208x512 .f32) (sitofp (F := Ideal) .f32 (constantI S_ 32 0#32)) pads_S8x8208x512_S8x8448x512_000_02400_000 h_S_ : Vec Ideal S8x8448x512 .f32) := by
  show StableHlo.after _ _ _ = _
  simp only [hostOps0, hostOps0_1, hostOps0_2, hostOps0_3, hostOps0_4, List.flatten_cons,
    List.flatten_nil, List.append_nil, List.cons_append, List.nil_append]
  after_results <;> rfl
theorem V_v7 : (V m c main_v7 : Vec Ideal S1x1024 .f32) = (shapeCast S1x1024 (A4 m c) shapeCasts_S1024_S1x1024 : Vec Ideal S1x1024 .f32) := by
  show StableHlo.after _ _ _ = _
  simp only [hostOps0, hostOps0_1, hostOps0_2, hostOps0_3, hostOps0_4, List.flatten_cons,
    List.flatten_nil, List.append_nil, List.cons_append, List.nil_append]
  after_results <;> rfl
theorem V_v10 : (V m c main_v10 : Vec Ideal S1x512 .f32) = (shapeCast S1x512 (shapeCast S512 (broadcastInDim S8x64 ![0] bcast_S8_S8x64_0 (A5 m c) : FVec Ideal S8x64 .f32) shapeCasts_S8x64_S512 : FVec Ideal S512 .f32) shapeCasts_S512_S1x512 : Vec Ideal S1x512 .f32) := by
  show StableHlo.after _ _ _ = _
  simp only [hostOps0, hostOps0_1, hostOps0_2, hostOps0_3, hostOps0_4, List.flatten_cons,
    List.flatten_nil, List.append_nil, List.cons_append, List.nil_append]
  after_results <;> rfl
theorem V_v13 : (V m c main_v13 : Vec Ideal S1x512 .f32) = (shapeCast S1x512 (shapeCast S512 (broadcastInDim S8x64 ![0] bcast_S8_S8x64_0 (A6 m c) : FVec Ideal S8x64 .f32) shapeCasts_S8x64_S512 : FVec Ideal S512 .f32) shapeCasts_S512_S1x512 : Vec Ideal S1x512 .f32) := by
  show StableHlo.after _ _ _ = _
  simp only [hostOps0, hostOps0_1, hostOps0_2, hostOps0_3, hostOps0_4, List.flatten_cons,
    List.flatten_nil, List.append_nil, List.cons_append, List.nil_append]
  after_results <;> rfl
theorem V_v16 : (V m c main_v16 : Vec Ideal S1x512 .f32) = (shapeCast S1x512 (shapeCast S512 (broadcastInDim S8x64 ![0] bcast_S8_S8x64_0 (A7 m c) : FVec Ideal S8x64 .f32) shapeCasts_S8x64_S512 : FVec Ideal S512 .f32) shapeCasts_S512_S1x512 : Vec Ideal S1x512 .f32) := by
  show StableHlo.after _ _ _ = _
  simp only [hostOps0, hostOps0_1, hostOps0_2, hostOps0_3, hostOps0_4, List.flatten_cons,
    List.flatten_nil, List.append_nil, List.cons_append, List.nil_append]
  after_results <;> rfl
theorem V_v17 : (V m c main_v17 : Vec Ideal S1x512 .f32) = (shapeCast S1x512 (A8 m c) shapeCasts_S512_S1x512 : Vec Ideal S1x512 .f32) := by
  show StableHlo.after _ _ _ = _
  simp only [hostOps0, hostOps0_1, hostOps0_2, hostOps0_3, hostOps0_4, List.flatten_cons,
    List.flatten_nil, List.append_nil, List.cons_append, List.nil_append]
  after_results <;> rfl
theorem V_arg3 : (V m c main_arg3 : Vec Ideal S4x1024 .f32) = (A3 m c : Vec Ideal S4x1024 .f32) := by
  show StableHlo.after _ _ _ = _
  simp only [hostOps0, hostOps0_1, hostOps0_2, hostOps0_3, hostOps0_4, List.flatten_cons,
    List.flatten_nil, List.append_nil, List.cons_append, List.nil_append]
  after_results <;> rfl

theorem sitofp0 : (FloatOps.sitofp (F := Ideal) FTy.f32 0#32 : EReal) = 0 := by
  show (((0#32 : BitVec 32).toInt : ℝ) : EReal) = 0
  simp
theorem x1_at (H : Reals m c) (t : Fin cfg0.N) (b : Fin 8) (hb : t.val / 66 = b.val) (r : Fin 128) (k : Fin 1024) :
    (X0_1 m c t : Vec Ideal S1x128x1024 .bf16) (ix3 0 r k) = ((U m c b (128 * (t.val % 66) + r.val) k.val : ℝ) : EReal) := by
  have h : (X0_1 m c t : Vec Ideal S1x128x1024 .bf16) (ix3 0 r k) =
      (V m c main_v3 : Vec Ideal S8x8448x2944 .bf16) (ix3 b ⟨128 * (t.val % 66) + r.val, by omega⟩ ⟨k.val, by omega⟩) := by
    obtain ⟨e0, e1, e2, e3⟩ := idxs t
    unfold X0_1 Pipeline.Window.fill
    rw [dif_pos (moved0_1 t _)]
    blk_ext [iblk, e1]
  rw [h, V_v3]
  pointwise [cat0]
  split
  · rename_i hp
    exact (Ssd.ar3_lt _ H.h1 b ⟨128 * (t.val % 66) + r.val, hp.1⟩ k).symm
  · rename_i hp
    rw [U, Ssd.ar3_ge _ _ _ _ (by omega), sitofp0]
    rfl
theorem x0_at (t : Fin cfg0.N) (b : Fin 8) (hb : t.val / 66 = b.val) (r : Fin 128) (j : Fin 512) (hp : 128 * (t.val % 66) + r.val < 8208) :
    (X0_0 m c t : Vec Ideal S1x128x512 .bf16) (ix3 0 r j) = A0 m c (ix3 b ⟨128 * (t.val % 66) + r.val, hp⟩ j) := by
  have h : (X0_0 m c t : Vec Ideal S1x128x512 .bf16) (ix3 0 r j) =
      (V m c main_v3 : Vec Ideal S8x8448x2944 .bf16) (ix3 b ⟨128 * (t.val % 66) + r.val, by omega⟩ ⟨1024 + j.val, by omega⟩) := by
    obtain ⟨e0, e1, e2, e3⟩ := idxs t
    unfold X0_0 Pipeline.Window.fill
    rw [dif_pos (moved0_0 t _)]
    blk_ext [iblk, e0]
  rw [h, V_v3]
  pointwise [cat0]
  rw [dif_pos (by omega)]
theorem x2_at (H : Reals m c) (t : Fin cfg0.N) (b : Fin 8) (hb : t.val / 66 = b.val) (r : Fin 128) (j : Fin 512) :
    (iblk m c 2 t : Vec Ideal S1x128x512 .f32) (ix3 0 r j) = ((DR m c b (128 * (t.val % 66) + r.val) (j.val / 64) : ℝ) : EReal) := by
  have h : (iblk m c 2 t : Vec Ideal S1x128x512 .f32) (ix3 0 r j) =
      (V m c main_v6 : Vec Ideal S8x8448x512 .f32) (ix3 b ⟨128 * (t.val % 66) + r.val, by omega⟩ j) := by
    obtain ⟨e0, e1, e2, e3⟩ := idxs t
    blk_ext [iblk, e2]
  rw [h, V_v6]
  pointwise
  split
  · rename_i hp
    exact (Ssd.ar3_lt _ H.h2 b ⟨128 * (t.val % 66) + r.val, hp⟩ ⟨j.val / 64, by omega⟩).symm
  · rename_i hp
    rw [DR, Ssd.ar3_ge _ _ _ _ (by omega), sitofp0]
    rfl
theorem x3_at (H : Reals m c) (t : Fin cfg0.N) (a : Fin 4) (k : Fin 1024) :
    (iblk m c 3 t : Vec Ideal S4x1024 .f32) (ix2 a k) = ((W m c a.val k.val : ℝ) : EReal) := by
  have h : (iblk m c 3 t : Vec Ideal S4x1024 .f32) (ix2 a k) = (V m c main_arg3 : Vec Ideal S4x1024 .f32) (ix2 a k) := by
    blk_ext [iblk, idx3 t]
  rw [h, V_arg3]
  exact (Ssd.ar2_lt _ H.h3 a k).symm
theorem x4_at (H : Reals m c) (t : Fin cfg0.N) (k : Fin 1024) :
    (iblk m c 4 t : Vec Ideal S1x1024 .f32) (ix2 0 k) = ((BI m c k.val : ℝ) : EReal) := by
  have h : (iblk m c 4 t : Vec Ideal S1x1024 .f32) (ix2 0 k) = (V m c main_v7 : Vec Ideal S1x1024 .f32) (ix2 0 k) := by
    blk_ext [iblk, idx4 t]
  rw [h, V_v7]
  pointwise
  exact (Ssd.ar1_lt _ H.h4 k).symm
theorem x5_at (H : Reals m c) (t : Fin cfg0.N) (j : Fin 512) :
    (iblk m c 5 t : Vec Ideal S1x512 .f32) (ix2 0 j) = ((DB m c (j.val / 64) : ℝ) : EReal) := by
  have h : (iblk m c 5 t : Vec Ideal S1x512 .f32) (ix2 0 j) = (V m c main_v10 : Vec Ideal S1x512 .f32) (ix2 0 j) := by
    blk_ext [iblk, idx5 t]
  rw [h, V_v10]
  pointwise
  exact (Ssd.ar1_lt _ H.h5 ⟨j.val / 64, by omega⟩).symm
theorem x6_at (t : Fin cfg0.N) (j : Fin 512) :
    Ideal.exp ((iblk m c 6 t : Vec Ideal S1x512 .f32) (ix2 0 j)) = rt (WD m c (j.val / 64)) (AL m c (j.val / 64)) := by
  have h : (iblk m c 6 t : Vec Ideal S1x512 .f32) (ix2 0 j) = (V m c main_v13 : Vec Ideal S1x512 .f32) (ix2 0 j) := by
    blk_ext [iblk, idx6 t]
  have h' : (V m c main_v13 : Vec Ideal S1x512 .f32) (ix2 0 j) = A6 m c (ix1 ⟨j.val / 64, by omega⟩) := by
    rw [V_v13]
    pointwise
  rw [h, h']
  exact rate_at m c ⟨j.val / 64, by omega⟩
theorem x7_at (t : Fin cfg0.N) (j : Fin 512) :
    (iblk m c 7 t : Vec Ideal S1x512 .f32) (ix2 0 j) = A7 m c (ix1 ⟨j.val / 64, by omega⟩) := by
  have h : (iblk m c 7 t : Vec Ideal S1x512 .f32) (ix2 0 j) = (V m c main_v16 : Vec Ideal S1x512 .f32) (ix2 0 j) := by
    blk_ext [iblk, idx7 t]
  rw [h, V_v16]
  pointwise
theorem x8_at (t : Fin cfg0.N) (j : Fin 512) :
    (iblk m c 8 t : Vec Ideal S1x512 .f32) (ix2 0 j) = A8 m c (ix1 j) := by
  have h : (iblk m c 8 t : Vec Ideal S1x512 .f32) (ix2 0 j) = (V m c main_v17 : Vec Ideal S1x512 .f32) (ix2 0 j) := by
    blk_ext [iblk, idx8 t]
  rw [h, V_v17]
  pointwise

/-- A load of the tile's scratch from row `o` on. -/
theorem lde_at (E : Vec Ideal S136x1024 .f32) (o n : ℕ) (h : ∀ a, (![o, 0] : Fin 2 → Nat) a + (![n, 1024] : Fin 2 → Nat) a ≤ S136x1024.size a) (r : Fin n) (k : Fin 1024) (hr : o + r.val < 136) :
    View.ld E (Rect.unit (s := S136x1024) ![o, 0] ![n, 1024] h) (ix2 r k) = E (ix2 ⟨o + r.val, hr⟩ k) := by
  refine congrArg E (funext fun a => Fin.ext ((Rect.idx_unit_val _ _ _ _ a).trans ?_))
  match a with
  | ⟨0, _⟩ => rfl
  | ⟨1, _⟩ => exact Nat.zero_add _
theorem ext_lo (Hh : Vec Ideal S8x1024 .f32) (V : Vec Ideal S128x1024 .f32) (i : Fin 136) (k : Fin 1024) (h : i.val < 8) :
    extOf Hh V (ix2 i k) = Hh (ix2 ⟨i.val, h⟩ k) := by
  unfold extOf
  exact dif_pos h
theorem ext_hi (Hh : Vec Ideal S8x1024 .f32) (V : Vec Ideal S128x1024 .f32) (i : Fin 136) (k : Fin 1024) (h : ¬ i.val < 8) :
    extOf Hh V (ix2 i k) = V (ix2 ⟨i.val - 8, by omega⟩ k) := by
  unfold extOf
  exact dif_neg h
theorem p5_at (H : Reals m c) (t : Fin cfg0.N) (b : Fin 8) (hb : t.val / 66 = b.val) (r : Fin 128) (k : Fin 1024) :
    k0_pay5 (X0_1 m c t) (ix2 r k) = ((U m c b (128 * (t.val % 66) + r.val) k.val : ℝ) : EReal) := by
  refine Eq.trans ?_ (x1_at m c H t b hb r k)
  pointwise [k0_pay5]
/-- The scratch's rows: eight before the tile, zero before the sequence starts, then the tile's. -/
def EX (b : Fin 8) (q : ℕ) (i k : ℕ) : ℝ := if 128 * q + i < 8 then 0 else U m c b (128 * q + i - 8) k
theorem ext_at (H : Reals m c) (t : Fin cfg0.N) (b : Fin 8) (hb : t.val / 66 = b.val) (Hh : Vec Ideal S8x1024 .f32)
    (hh : ∀ (i : Fin 8) (k : Fin 1024), Hh (ix2 i k) = ((EX m c b (t.val % 66) i.val k.val : ℝ) : EReal)) (i : Fin 136) (k : Fin 1024) :
    extOf Hh (k0_pay5 (X0_1 m c t)) (ix2 i k) = ((EX m c b (t.val % 66) i.val k.val : ℝ) : EReal) := by
  by_cases h : i.val < 8
  · rw [ext_lo _ _ _ _ h, hh]
  · rw [ext_hi _ _ _ _ h, p5_at m c H t b hb]
    unfold EX
    rw [if_neg (by omega), show 128 * (t.val % 66) + i.val - 8 = 128 * (t.val % 66) + (i.val - 8) by omega]
theorem extA_at (H : Reals m c) (t : Fin cfg0.N) (h0 : t.val % 66 = 0) (b : Fin 8) (hb : t.val / 66 = b.val) (i : Fin 136) (k : Fin 1024) :
    extA m c t (ix2 i k) = ((EX m c b (t.val % 66) i.val k.val : ℝ) : EReal) := by
  refine ext_at m c H t b hb _ (fun i k => ?_) i k
  unfold EX
  rw [if_pos (by omega)]
  pointwise [k0_pay3]
  rfl
theorem halo_at (H : Reals m c) (t : Fin cfg0.N) (b : Fin 8) (hb : t.val / 66 = b.val) (i : Fin 136) (k : Fin 1024) (hi : i.val < 8) :
    (outsAt0 m c t.val t.isLt).2.1 (ix2 i k) = ((U m c b (128 * (t.val % 66) + 120 + i.val) k.val : ℝ) : EReal) := by
  by_cases h0 : t.val % 66 = 0
  · rw [haloA m c t h0, ext_lo _ _ _ _ hi]
    refine (lde_at _ 128 8 inb_S136x1024_S8x1024_128_0 ⟨i.val, hi⟩ k (by omega)).trans ?_
    unfold extA
    rw [ext_hi _ _ _ _ (by simp only []; omega), p5_at m c H t b hb]
    rw [show 128 * (t.val % 66) + (128 + i.val - 8) = 128 * (t.val % 66) + 120 + i.val by omega]
  · rw [haloB m c t h0, ext_lo _ _ _ _ hi]
    refine (lde_at _ 128 8 inb_S136x1024_S8x1024_128_0 ⟨i.val, hi⟩ k (by omega)).trans ?_
    unfold extB
    rw [ext_hi _ _ _ _ (by simp only []; omega), p5_at m c H t b hb]
    rw [show 128 * (t.val % 66) + (128 + i.val - 8) = 128 * (t.val % 66) + 120 + i.val by omega]
theorem extB_at (H : Reals m c) (t : Fin cfg0.N) (h0 : ¬ t.val % 66 = 0) (b : Fin 8) (hb : t.val / 66 = b.val) (i : Fin 136) (k : Fin 1024) :
    extB m c t (ix2 i k) = ((EX m c b (t.val % 66) i.val k.val : ℝ) : EReal) := by
  refine ext_at m c H t b hb _ (fun i k => ?_) i k
  refine (lde_at _ 0 8 inb_S136x1024_S8x1024_0_0 i k (by omega)).trans ?_
  refine (halo_at m c H ⟨t.val - 1, Nat.lt_of_le_of_lt (Nat.sub_le _ _) t.isLt⟩ b (by show (t.val - 1) / 66 = _; omega) ⟨0 + i.val, by omega⟩ k (by show 0 + i.val < 8; omega)).trans ?_
  unfold EX
  rw [if_neg (by omega)]
  show ((U m c b (128 * ((t.val - 1) % 66) + 120 + (0 + i.val)) k.val : ℝ) : EReal) = _
  rw [show 128 * ((t.val - 1) % 66) + 120 + (0 + i.val) = 128 * (t.val % 66) + i.val - 8 by omega]

theorem conv_at (H : Reals m c) (t : Fin cfg0.N) (b : Fin 8) (E : Vec Ideal S136x1024 .f32)
    (hE : ∀ (i : Fin 136) (k : Fin 1024), E (ix2 i k) = ((EX m c b (t.val % 66) i.val k.val : ℝ) : EReal)) (r : Fin 128) (k : Fin 1024) :
    convOf E (iblk m c 3 t) (iblk m c 4 t) (ix2 r k) = ((CV m c b (128 * (t.val % 66) + r.val) k.val : ℝ) : EReal) := by
  have e8 := (lde_at E 8 128 inb_S136x1024_S128x1024_8_0 r k (by omega)).trans (hE _ _)
  have e5 := (lde_at E 5 128 inb_S136x1024_S128x1024_5_0 r k (by omega)).trans (hE _ _)
  have e6 := (lde_at E 6 128 inb_S136x1024_S128x1024_6_0 r k (by omega)).trans (hE _ _)
  have e7 := (lde_at E 7 128 inb_S136x1024_S128x1024_7_0 r k (by omega)).trans (hE _ _)
  have x3 := fun a => x3_at m c H t a k
  have x4 := x4_at m c H t k
  have f8 : EX m c b (t.val % 66) (8 + r.val) k.val = U m c b (128 * (t.val % 66) + r.val) k.val := by
    unfold EX; rw [if_neg (by omega), show 128 * (t.val % 66) + (8 + r.val) - 8 = 128 * (t.val % 66) + r.val by omega]
  have f5 : EX m c b (t.val % 66) (5 + r.val) k.val = Ssd.past (U m c b) 3 (128 * (t.val % 66) + r.val) k.val := by
    unfold EX Ssd.past; exact if_congr (by omega) rfl (by rw [show 128 * (t.val % 66) + (5 + r.val) - 8 = 128 * (t.val % 66) + r.val - 3 by omega])
  have f6 : EX m c b (t.val % 66) (6 + r.val) k.val = Ssd.past (U m c b) 2 (128 * (t.val % 66) + r.val) k.val := by
    unfold EX Ssd.past; exact if_congr (by omega) rfl (by rw [show 128 * (t.val % 66) + (6 + r.val) - 8 = 128 * (t.val % 66) + r.val - 2 by omega])
  have f7 : EX m c b (t.val % 66) (7 + r.val) k.val = Ssd.past (U m c b) 1 (128 * (t.val % 66) + r.val) k.val := by
    unfold EX Ssd.past; exact if_congr (by omega) rfl (by rw [show 128 * (t.val % 66) + (7 + r.val) - 8 = 128 * (t.val % 66) + r.val - 1 by omega])
  dsimp only at e8 e5 e6 e7
  rw [f8] at e8
  rw [f5] at e5
  rw [f6] at e6
  rw [f7] at e7
  unfold convOf
  generalize View.ld E (Rect.unit (s := S136x1024) ![8, 0] S128x1024.size inb_S136x1024_S128x1024_8_0) = E8 at e8 ⊢
  generalize View.ld E (Rect.unit (s := S136x1024) ![5, 0] S128x1024.size inb_S136x1024_S128x1024_5_0) = E5 at e5 ⊢
  generalize View.ld E (Rect.unit (s := S136x1024) ![6, 0] S128x1024.size inb_S136x1024_S128x1024_6_0) = E6 at e6 ⊢
  generalize View.ld E (Rect.unit (s := S136x1024) ![7, 0] S128x1024.size inb_S136x1024_S128x1024_7_0) = E7 at e7 ⊢
  pointwise [k0_pay6]
  rw [e8, e5, e6, e7, x4, x3, x3, x3, x3]
  simp only [← EReal.coe_mul, ← EReal.coe_add]
  rfl
end Cert.Kernel4Ideal.Value
end
-- ==== Proof.SsdFinal.lean ====
module

public import proofs.«01_k».proof.Proof.SsdBlocks
/-!
The scan's run: its result is the gated and normed sum over the positions before, with the skip term.
-/
@[expose] public section
set_option maxRecDepth 16384
noncomputable section
namespace Cert.Kernel4Ideal.Value
open Cert.Kernel4Ideal Cert.Kernel4Ideal.Gen Idealize.ShloMosaic Idealize.ShloMosaic.TcCoe Idealize.SL.Sem
variable (m : (ℓ : Loc nD τ sig) → Buf (Elt Ideal) ℓ) (ρ : Dev nD → PrngReg) (c : Dev nD)

/-- The state before tile `q`. -/
def ST (b : Fin 8) (q : ℕ) (n : Fin 128) (j : ℕ) : ℝ :=
  Ssd.st (WD m c (j / 64)) (da (DR m c b) (DB m c) (AL m c) (j / 64)) (fun s => br (CV m c b) (j / 256) s n) (fun s => xr (CV m c b) (DR m c b) (DB m c) j s) q
/-- A position's sum over the positions up to it. -/
def OUT (b : Fin 8) (p j : ℕ) : ℝ :=
  Ssd.out (WD m c (j / 64)) (da (DR m c b) (DB m c) (AL m c) (j / 64)) (fun s => xr (CV m c b) (DR m c b) (DB m c) j s)
    (fun s => ∑ n, cr (CV m c b) (j / 256) p n * br (CV m c b) (j / 256) s n) p

theorem sn_eq (b : Fin 8) (q : ℕ) (n : Fin 128) (j : ℕ) :
    sn (fun r k => CV m c b (128 * q + r) k) (fun r h => DR m c b (128 * q + r) h) (DB m c) (AL m c) (WD m c) (ST m c b q) n j = ST m c b (q + 1) n j :=
  Ssd.st_succ (WD m c (j / 64)) (da (DR m c b) (DB m c) (AL m c) (j / 64)) (fun s => br (CV m c b) (j / 256) s n) (fun s => xr (CV m c b) (DR m c b) (DB m c) j s) q
theorem yr_eq (b : Fin 8) (q r : ℕ) (hr : r < 128) (j : ℕ) :
    yr (fun r k => CV m c b (128 * q + r) k) (fun r h => DR m c b (128 * q + r) h) (DB m c) (AL m c) (WD m c) (ST m c b q) r j = OUT m c b (128 * q + r) j :=
  Ssd.out_chunk (WD m c (j / 64)) (da (DR m c b) (DB m c) (AL m c) (j / 64)) (fun s => xr (CV m c b) (DR m c b) (DB m c) j s)
    (fun s n => br (CV m c b) (j / 256) s n) (fun n => cr (CV m c b) (j / 256) (128 * q + r) n) q r hr

/-- A state holds the sums before tile `q`. -/
structure Holds (b : Fin 8) (q : ℕ) (s : Vec Ideal S2x128x256 .f32) : Prop where
  h0 : ∀ (n : Fin 128) (j : Fin 256), s (ix3 0 n j) = ((ST m c b q n j.val : ℝ) : EReal)
  h1 : ∀ (n : Fin 128) (j : Fin 256), s (ix3 1 n j) = ((ST m c b q n (256 + j.val) : ℝ) : EReal)

theorem holds_zero (b : Fin 8) : Holds m c b 0 (k0_pay4 (F := Ideal)) := by
  constructor
  · intro n j
    unfold ST
    rw [Ssd.st_zero]
    pointwise [k0_pay4]
    rfl
  · intro n j
    unfold ST
    rw [Ssd.st_zero]
    pointwise [k0_pay4]
    rfl

section
variable (H : Reals m c) (t : Fin cfg0.N) (b : Fin 8) (hb : t.val / 66 = b.val) (E : Vec Ideal S136x1024 .f32)
    (hE : ∀ (i : Fin 136) (k : Fin 1024), E (ix2 i k) = ((EX m c b (t.val % 66) i.val k.val : ℝ) : EReal))
    (s : Vec Ideal S2x128x256 .f32) (hs : Holds m c b (t.val % 66) s)
include H hb hE hs
theorem st_step : Holds m c b (t.val % 66 + 1) (stT (convOf E (iblk m c 3 t) (iblk m c 4 t)) (iblk m c 2 t) (iblk m c 5 t) (iblk m c 6 t) s) := by
  constructor
  · intro n j
    rw [← sn_eq]
    exact stT_at0 _ _ _ _ (fun r k => CV m c b (128 * (t.val % 66) + r) k) (fun r h => DR m c b (128 * (t.val % 66) + r) h) (DB m c) (AL m c) (WD m c)
      (fun r k => conv_at m c H t b E hE r k) (fun r j => x2_at m c H t b hb r j) (fun j => x5_at m c H t j) (fun j => x6_at m c t j) s
      (ST m c b (t.val % 66)) hs.h0 hs.h1 n j
  · intro n j
    rw [← sn_eq]
    exact stT_at1 _ _ _ _ (fun r k => CV m c b (128 * (t.val % 66) + r) k) (fun r h => DR m c b (128 * (t.val % 66) + r) h) (DB m c) (AL m c) (WD m c)
      (fun r k => conv_at m c H t b E hE r k) (fun r j => x2_at m c H t b hb r j) (fun j => x5_at m c H t j) (fun j => x6_at m c t j) s
      (ST m c b (t.val % 66)) hs.h0 hs.h1 n j
end

/-- A position's gated row. -/
def GU (b : Fin 8) (p : Fin 8208) (j : Fin 512) : EReal :=
  (((OUT m c b p.val j.val : ℝ) : EReal) + ((Ssd.sil (CV m c b p.val j.val) : ℝ) : EReal) * A7 m c (ix1 ⟨j.val / 64, by omega⟩)) *
    (A0 m c (ix3 b p j) * Ideal.logistic (A0 m c (ix3 b p j)))
/-- The result. -/
def GY (b : Fin 8) (p : Fin 8208) (j : Fin 512) : EReal :=
  Cert.Rows.rms (Ideal.ofBits .f32 0x3B000000#32) (GU m c b p) (fun k => A8 m c (ix1 k)) j

theorem out_step (H : Reals m c) (t : Fin cfg0.N) (b : Fin 8) (hb : t.val / 66 = b.val) (E : Vec Ideal S136x1024 .f32)
    (hE : ∀ (i : Fin 136) (k : Fin 1024), E (ix2 i k) = ((EX m c b (t.val % 66) i.val k.val : ℝ) : EReal))
    (s : Vec Ideal S2x128x256 .f32) (hs : Holds m c b (t.val % 66) s) (r : Fin 128) (hp : 128 * (t.val % 66) + r.val < 8208) (j : Fin 512) :
    outT (convOf E (iblk m c 3 t) (iblk m c 4 t)) (iblk m c 2 t) (iblk m c 5 t) (iblk m c 6 t) (X0_0 m c t) (iblk m c 7 t) (iblk m c 8 t) s (ix3 0 r j) =
      GY m c b ⟨128 * (t.val % 66) + r.val, hp⟩ j := by
  refine (outT_at _ _ _ _ (fun r k => CV m c b (128 * (t.val % 66) + r) k) (fun r h => DR m c b (128 * (t.val % 66) + r) h) (DB m c) (AL m c) (WD m c)
      (fun r k => conv_at m c H t b E hE r k) (fun r j => x2_at m c H t b hb r j) (fun j => x5_at m c H t j) (fun j => x6_at m c t j) s
      (ST m c b (t.val % 66)) hs.h0 hs.h1 _ _ _ r j).trans ?_
  unfold GY
  have e1 : (fun k => (iblk m c 8 t : Vec Ideal S1x512 .f32) (ix2 0 k)) = fun k => A8 m c (ix1 k) := funext fun k => x8_at m c t k
  have e2 : (ur (fun r k => CV m c b (128 * (t.val % 66) + r) k) (fun r h => DR m c b (128 * (t.val % 66) + r) h) (DB m c) (AL m c) (WD m c) (ST m c b (t.val % 66))
      (fun k => (iblk m c 7 t : Vec Ideal S1x512 .f32) (ix2 0 k)) (fun k => (X0_0 m c t : Vec Ideal S1x128x512 .bf16) (ix3 0 r k)) r.val) =
      GU m c b ⟨128 * (t.val % 66) + r.val, hp⟩ := by
    funext k
    unfold ur GU
    dsimp only
    rw [yr_eq m c b _ _ r.isLt, x7_at m c t k, x0_at m c t b hb r k hp]
  rw [e1, e2]

theorem state_at (H : Reals m c) (b : Fin 8) : ∀ (q : ℕ) (hq : q < 66) (t : Fin cfg0.N) (ht : t.val = 66 * b.val + q),
    Holds m c b (q + 1) (outsAt0 m c t.val t.isLt).2.2 := by
  intro q
  induction q with
  | zero =>
    intro hq t ht
    have h0 : t.val % 66 = 0 := by omega
    have hb : t.val / 66 = b.val := by omega
    rw [stateA m c t h0]
    have h := st_step m c H t b hb _ (extA_at m c H t h0 b hb) (k0_pay4 (F := Ideal)) (by rw [h0]; exact holds_zero m c b)
    rw [h0] at h
    exact h
  | succ q ih =>
    intro hq t ht
    have h0 : t.val % 66 = q + 1 := by omega
    have hb : t.val / 66 = b.val := by omega
    rw [stateB m c t (by omega)]
    have hi := ih (by omega) ⟨t.val - 1, Nat.lt_of_le_of_lt (Nat.sub_le _ _) t.isLt⟩ (by show t.val - 1 = _; omega)
    have h := st_step m c H t b hb _ (extB_at m c H t (by omega) b hb) _ (by rw [h0]; exact hi)
    rw [h0] at h
    exact h

theorem out_at (H : Reals m c) (t : Fin cfg0.N) (b : Fin 8) (hb : t.val / 66 = b.val) (r : Fin 128) (hp : 128 * (t.val % 66) + r.val < 8208) (j : Fin 512) :
    (outsAt0 m c t.val t.isLt).1 (ix3 0 r j) = GY m c b ⟨128 * (t.val % 66) + r.val, hp⟩ j := by
  by_cases h0 : t.val % 66 = 0
  · refine (congrFun (outA m c t h0) (ix3 0 r j)).trans ?_
    exact out_step m c H t b hb _ (extA_at m c H t h0 b hb) (k0_pay4 (F := Ideal)) (by rw [h0]; exact holds_zero m c b) r hp j
  · refine (congrFun (outB m c t h0) (ix3 0 r j)).trans ?_
    have hi := state_at m c H b (t.val % 66 - 1) (by omega) ⟨t.val - 1, Nat.lt_of_le_of_lt (Nat.sub_le _ _) t.isLt⟩ (by show t.val - 1 = _; omega)
    exact out_step m c H t b hb _ (extB_at m c H t h0 b hb) _ (by rw [show t.val % 66 - 1 + 1 = t.val % 66 by omega] at hi; exact hi) r hp j

theorem idx_inj9 : ∀ t t' : Fin cfg0.N, (cfg0.win 9).flush t = true → (cfg0.win 9).flush t' = true →
    (cfg0.win 9).index t = (cfg0.win 9).index t' → t = t' := by
  intro t t' _ _ h
  have e : win0_9.index t = win0_9.index t' := h
  rw [(idxs t).2.2.2, (idxs t').2.2.2] at e
  have e0 : t.val / 66 = t'.val / 66 := congrFun e 0
  have e1 : t.val % 66 = t'.val % 66 := congrFun e 1
  exact Fin.ext (by omega)

theorem arr_at (H : Reals m c) (b : Fin 8) (p : Fin 8208) (j : Fin 512) :
    ((dats m 0 c).arrAt 9 cfg0.N : Vec Ideal S8x8448x512 .bf16) (ix3 b ⟨p.val, by omega⟩ j) = GY m c b p j := by
  have hN : cfg0.N = 528 := N_0
  let t : Fin cfg0.N := ⟨66 * b.val + p.val / 128, by omega⟩
  have hv : t.val = 66 * b.val + p.val / 128 := rfl
  have h := (dats m 0 c).arrAt_emb_eq_flushed 9 ((cfg0.win 9).hdisj_of_index_inj idx_inj9) t (flush0_9 t)
    (ix3 0 ⟨p.val % 128, by omega⟩ j : S1x128x512.Idx)
  have hb : t.val / 66 = b.val := by omega
  have hq : t.val % 66 = p.val / 128 := by omega
  have e : ((cfg0.win 9).blk t).view.emb (ix3 0 ⟨p.val % 128, by omega⟩ j : S1x128x512.Idx) = (ix3 b ⟨p.val, by omega⟩ j : S8x8448x512.Idx) := by
    obtain ⟨e0, e1, e2, e3⟩ := idxs t
    blk_ext [e3]
  rw [e] at h
  refine Eq.trans h ?_
  blk_simp
  rw [after0_9]
  refine (out_at m c H t b hb ⟨p.val % 128, by omega⟩ (by show 128 * (t.val % 66) + p.val % 128 < 8208; omega) j).trans ?_
  exact congrArg (fun q => GY m c b q j) (Fin.ext (by show 128 * (t.val % 66) + p.val % 128 = p.val; omega))

abbrev AY : Vec Ideal S8x8448x512 .bf16 := (dats m 0 c).arrAt 9 cfg0.N
theorem arrs_AY : Pipeline.withArrays (cfgs 0).spec c (V0 m c) (fun w => (dats m 0 c).arrAt w (cfgs 0).N) (Proc.tc.devRef main_v18) = AY m c :=
  (dats m 0 c).withArrays_arrAt launch₀0.sharedIn (V0 m c) (A_eq m c) 9
/-- The result array. -/
def G_y : Vec Ideal S8x8208x512 .f32 := fun i => GY m c (i 0) (i 1) (i 2)
theorem tail_y (H : Reals m c) : (Pipeline.afterTail₀ cfgs (dats m) 0 (V0 m) [hostOps1] c main_v20 : Vec Ideal S8x8208x512 .f32) = G_y m c := by
  have h : (Pipeline.afterTail₀ cfgs (dats m) 0 (V0 m) [hostOps1] c main_v20 : Vec Ideal S8x8208x512 .f32) =
      extf .f32 (extractStridedSlice S8x8208x512 ![0, 0, 0] (AY m c) slices_S8x8448x512_S8x8208x512_0_0_0 : FVec Ideal S8x8208x512 .bf16) bitsLt_bf16_f32 := by
    unfold Pipeline.afterTail₀
    simp only [hostOps1, List.flatten_cons, List.flatten_nil, List.append_nil]
    after_results
    rw [arrs_AY]
  rw [h]
  funext i
  obtain ⟨b, p, j, rfl⟩ : ∃ (b : Fin 8) (p : Fin 8208) (j : Fin 512), i = ix3 b p j := ⟨i 0, i 1, i 2, eq_ix3 i⟩
  refine Eq.trans ?_ (arr_at m c H b p j)
  unfold AY
  generalize ((dats m 0 c).arrAt 9 cfg0.N : Vec Ideal S8x8448x512 .bf16) = X
  pointwise

theorem run (H : ∀ c, Reals m c) : θ_run defs (onTc (τ := τ) (main (F := Ideal))) ⟨m, fun _ => 0, ρ⟩ (fun r => ∀ c : Dev nD,
      r.2.mem ((c.tc : Thread nD τ).loc main_v20) = G_y m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have h := θ_run_and (run_main m ρ) (unchanged m ρ)
  refine (θ_run defs _ _).mono (fun r hr c => ?_) h
  exact ⟨((hr.1 c).2 main_v20 (Pipeline.mem_restRefs_of main_v20 (by decide) (by decide))).trans (tail_y m c (H c)), hr.2 c⟩

end Cert.Kernel4Ideal.Value
end
-- ==== Proof.SsdRef.lean ====
module

public import proofs.«01_k».proof.Proof.Gen.Reference4Ideal.Run
public import proofs.«01_k».proof.Proof.SsdFinal
public import proofs.«01_k».proof.Proof.Ref
/-!
The scan's reference, stage by stage, at an index.
-/
@[expose] public section
set_option maxRecDepth 16384
noncomputable section
namespace Ssd
open Idealize.ShloMosaic
open Cert.Kernel4Ideal.Value (lv)

theorem foldl_add {ι : Type} (l : List ι) (g : ι → EReal) (f : ι → ℝ) (hg : ∀ a, g a = ((f a : ℝ) : EReal)) (v : EReal) (z : ℝ) (hv : v = ((z : ℝ) : EReal)) :
    l.foldl (fun r a => r + g a) v = ((z + (l.map f).sum : ℝ) : EReal) := by
  induction l generalizing v z with
  | nil => simpa using hv
  | cons a l ih =>
    rw [List.foldl_cons, ih _ (z + f a) (by rw [hv, hg a, EReal.coe_add]), List.map_cons, List.sum_cons, add_assoc]

theorem sum_window (f : ℕ → ℝ) (k j : ℕ) (hj : j ≤ k) : ∑ w ∈ Finset.range (k + 1), (if k ≤ j + w then f (j + w - k) else 0) = pre f (j + 1) := by
  obtain ⟨d, rfl⟩ : ∃ d, k = j + d := ⟨k - j, by omega⟩
  unfold pre
  rw [show j + d + 1 = d + (j + 1) by omega, Finset.sum_range_add, Finset.sum_eq_zero (fun w hw => if_neg (by have := Finset.mem_range.mp hw; omega)), zero_add]
  refine Finset.sum_congr rfl fun w _ => ?_
  rw [if_pos (by omega), show j + (d + w) - (j + d) = w by omega]

theorem numel4 (N : ℕ) : (⟨4, ![1, N, 1, 1]⟩ : Shape).numel = N := by
  show ∏ a : Fin 4, (![1, N, 1, 1] : Fin 4 → Nat) a = N
  rw [Fin.prod_univ_four]
  show 1 * N * 1 * 1 = N
  omega

theorem symm4 {N : ℕ} (n : Fin (⟨4, ![1, N, 1, 1]⟩ : Shape).numel) :
    (⟨4, ![1, N, 1, 1]⟩ : Shape).rowMajor.symm n = ix4 (0 : Fin 1) (n.cast (numel4 N)) (0 : Fin 1) (0 : Fin 1) :=
  ((⟨4, ![1, N, 1, 1]⟩ : Shape).rowMajor.symm_apply_eq).2 (Fin.ext (by
    rw [Shape.rowMajor_val_four]
    show n.val = _
    simp))

/-- A sum of terms that are all minus infinity, or all real, where a condition holds and zero elsewhere. -/
theorem foldl_lv {ι : Type} (v : Bool) (l : List ι) (g : ι → EReal) (q : ι → Prop) [DecidablePred q] (f : ι → ℝ) (hg : ∀ a, g a = if q a then lv v (f a) else 0)
    (z : EReal) (hz : z = 0) (hq : ∃ a, a ∈ l ∧ q a) : l.foldl (fun r a => r + g a) z = lv v ((l.map (fun a => if q a then f a else 0)).sum) := by
  cases v
  · refine (foldl_add l g (fun a => if q a then f a else 0) (fun a => ?_) z 0 hz).trans ?_
    · rw [hg a]
      split
      · rfl
      · rfl
    · rw [zero_add]
      rfl
  · have hb : ∀ (l : List ι) (z : EReal), z = ⊥ → l.foldl (fun r a => r + g a) z = ⊥ := by
      intro l
      induction l with
      | nil => intro z hz; exact hz
      | cons a l ih => intro z hz; exact ih _ (by show z + g a = ⊥; rw [hz, EReal.bot_add])
    have hl : ∀ (l : List ι) (z : EReal), (∃ a, a ∈ l ∧ q a) → l.foldl (fun r a => r + g a) z = ⊥ := by
      intro l
      induction l with
      | nil => intro z h; obtain ⟨a, h, _⟩ := h; exact absurd h List.not_mem_nil
      | cons a l ih =>
        intro z h
        by_cases ha : q a
        · refine hb l _ ?_
          show z + g a = ⊥
          rw [hg a, if_pos ha]
          exact EReal.add_bot z
        · obtain ⟨c, hc, hqc⟩ := h
          refine ih _ ⟨c, ?_, hqc⟩
          rcases List.mem_cons.mp hc with e | e
          · exact absurd (e ▸ hqc) ha
          · exact e
    exact hl l z hq

/-- The running sum along the second axis: a window of the whole length over the array padded in front by one less. -/
theorem cumsum4 {N k B G H : ℕ} (hN : k + 1 = N) (x : FVec Ideal ⟨4, ![B, N, G, H]⟩ .f32) (b : Fin B) (g : Fin G) (e : Fin H) (v : Bool) (d : ℕ → ℝ)
    (hx : ∀ s : Fin N, x (ix4 b s g e) = lv v (d s.val)) {u : Shape} (init : u.Idx → EReal) (hinit : ∀ i, init i = 0)
    (h : (⟨4, ![B, N, G, H]⟩ : Shape).ReduceWindows (![1, N, 1, 1] : Fin 4 → Nat) ![1, 1, 1, 1] ![0, k, 0, 0] ![0, 0, 0, 0] ⟨4, ![B, N, G, H]⟩)
    (hu : 0 < u.numel) (j : Fin N) :
    Host.reduceWindow (fun a b : EReal => a + b) (![1, N, 1, 1] : Fin 4 → Nat) ![1, 1, 1, 1] ![0, k, 0, 0] ![0, 0, 0, 0] x init h hu (ix4 b j g e)
      = lv v (pre d (j.val + 1)) := by
  subst hN
  have hj := j.isLt
  unfold Host.reduceWindow
  refine (foldl_lv v _ _ (fun n => k ≤ j.val + n.val) (fun n => d (j.val + n.val - k)) (fun n => ?_) _ (hinit _)
    ⟨Fin.cast (numel4 _).symm ⟨k, by omega⟩, List.mem_finRange _, by show k ≤ j.val + k; omega⟩).trans ?_
  · have hw0 : ((⟨4, ![1, k + 1, 1, 1]⟩ : Shape).rowMajor.symm n 0).val = 0 := by rw [symm4]; rfl
    have hw1 : ((⟨4, ![1, k + 1, 1, 1]⟩ : Shape).rowMajor.symm n 1).val = n.val := by rw [symm4]; rfl
    have hw2 : ((⟨4, ![1, k + 1, 1, 1]⟩ : Shape).rowMajor.symm n 2).val = 0 := by rw [symm4]; rfl
    have hw3 : ((⟨4, ![1, k + 1, 1, 1]⟩ : Shape).rowMajor.symm n 3).val = 0 := by rw [symm4]; rfl
    have hn : n.val < k + 1 := (n.cast (numel4 _)).isLt
    dsimp only
    split
    · next hin =>
      have h1 := hin 1
      change k ≤ j.val * 1 + ((⟨4, ![1, k + 1, 1, 1]⟩ : Shape).rowMajor.symm n 1).val
        ∧ j.val * 1 + ((⟨4, ![1, k + 1, 1, 1]⟩ : Shape).rowMajor.symm n 1).val - k < k + 1 at h1
      rw [hw1] at h1
      rw [if_pos (by omega)]
      refine (congrArg x (funext fun a => Fin.ext ?_)).trans (hx ⟨j.val + n.val - k, by omega⟩)
      match a with
      | ⟨0, _⟩ =>
        show b.val * 1 + ((⟨4, ![1, k + 1, 1, 1]⟩ : Shape).rowMajor.symm n 0).val - 0 = b.val
        rw [hw0]; omega
      | ⟨1, _⟩ =>
        show j.val * 1 + ((⟨4, ![1, k + 1, 1, 1]⟩ : Shape).rowMajor.symm n 1).val - k = j.val + n.val - k
        rw [hw1, Nat.mul_one]
      | ⟨2, _⟩ =>
        show g.val * 1 + ((⟨4, ![1, k + 1, 1, 1]⟩ : Shape).rowMajor.symm n 2).val - 0 = g.val
        rw [hw2]; omega
      | ⟨3, _⟩ =>
        show e.val * 1 + ((⟨4, ![1, k + 1, 1, 1]⟩ : Shape).rowMajor.symm n 3).val - 0 = e.val
        rw [hw3]; omega
    · next hin =>
      rw [if_neg fun hle => hin fun a => by
        match a with
        | ⟨0, _⟩ =>
          show 0 ≤ b.val * 1 + ((⟨4, ![1, k + 1, 1, 1]⟩ : Shape).rowMajor.symm n 0).val ∧ b.val * 1 + ((⟨4, ![1, k + 1, 1, 1]⟩ : Shape).rowMajor.symm n 0).val - 0 < B
          rw [hw0]; have := b.isLt; omega
        | ⟨1, _⟩ =>
          show k ≤ j.val * 1 + ((⟨4, ![1, k + 1, 1, 1]⟩ : Shape).rowMajor.symm n 1).val
            ∧ j.val * 1 + ((⟨4, ![1, k + 1, 1, 1]⟩ : Shape).rowMajor.symm n 1).val - k < k + 1
          rw [hw1]; omega
        | ⟨2, _⟩ =>
          show 0 ≤ g.val * 1 + ((⟨4, ![1, k + 1, 1, 1]⟩ : Shape).rowMajor.symm n 2).val ∧ g.val * 1 + ((⟨4, ![1, k + 1, 1, 1]⟩ : Shape).rowMajor.symm n 2).val - 0 < G
          rw [hw2]; have := g.isLt; omega
        | ⟨3, _⟩ =>
          show 0 ≤ e.val * 1 + ((⟨4, ![1, k + 1, 1, 1]⟩ : Shape).rowMajor.symm n 3).val ∧ e.val * 1 + ((⟨4, ![1, k + 1, 1, 1]⟩ : Shape).rowMajor.symm n 3).val - 0 < H
          rw [hw3]; have := e.isLt; omega]
      exact hinit _
  · rw [← Fin.sum_univ_def, Fin.sum_univ_eq_sum_range (fun w => if k ≤ j.val + w then d (j.val + w - k) else 0), numel4]
    exact congrArg _ (sum_window d k j.val (by omega))
/-- The same for the host's window sum. -/
theorem cumsum4A {N k B G H : ℕ} (hN : k + 1 = N) (x : FVec Ideal ⟨4, ![B, N, G, H]⟩ .f32) (b : Fin B) (g : Fin G) (e : Fin H) (v : Bool) (d : ℕ → ℝ)
    (hx : ∀ s : Fin N, x (ix4 b s g e) = lv v (d s.val)) {u : Shape} (init : FVec Ideal u .f32)
    (h : (⟨4, ![B, N, G, H]⟩ : Shape).ReduceWindows (![1, N, 1, 1] : Fin 4 → Nat) ![1, 1, 1, 1] ![0, k, 0, 0] ![0, 0, 0, 0] ⟨4, ![B, N, G, H]⟩)
    (hu : 0 < u.numel) (hinit : init (Shape.Idx.first hu) = (0 : EReal)) (j : Fin N) :
    Host.reduceWindowAdd (![1, N, 1, 1] : Fin 4 → Nat) ![1, 1, 1, 1] ![0, k, 0, 0] ![0, 0, 0, 0] x init h hu (ix4 b j g e)
      = lv v (pre d (j.val + 1)) :=
  cumsum4 hN x b g e v d hx (u := (⟨0, ![]⟩ : Shape)) (fun _ => init (Shape.Idx.first hu)) (fun _ => hinit) h (by decide) j
end Ssd
namespace Cert.Reference4Ideal.Value
open Cert.Reference4Ideal Cert.Reference4Ideal.Gen Idealize.ShloMosaic Idealize.ShloMosaic.TcCoe Idealize.SL.Sem
open Cert.Kernel4Ideal.Value (lv rt exp_lv exp_lv_sub mul_neg_rt da xr br cr sil_coe abs_coe log_one_add sel_sge sitofp0)

/-- The input with three zero rows before it. -/
def rPad (a1 : FVec Ideal S8x8208x1024 .f32) : FVec Ideal S8x8211x1024 .f32 :=
  pad S8x8211x1024 ![0, 3, 0] ![0, 0, 0] ![0, 0, 0] a1 (sitofp (F := Ideal) .f32 (constantI S_ 32 0#32)) pads_S8x8208x1024_S8x8211x1024_000_300_000 h_S_
/-- The convolution. -/
def rCv (p : FVec Ideal S8x8211x1024 .f32) (a3 : FVec Ideal S4x1024 .f32) (a4 : FVec Ideal S1024 .f32) : FVec Ideal S8x8208x1024 .f32 :=
  (addf (addf (addf (addf (mulf (extractStridedSlice S8x8208x1024 ![0, 0, 0] p slices_S8x8211x1024_S8x8208x1024_0_0_0) (broadcastInDim S8x8208x1024 ![0, 1, 2] bcast_S1x1x1024_S8x8208x1024_0_1_2 (broadcastInDim S1x1x1024 ![2] bcast_S1024_S1x1x1024_2 (shapeCast _ (extractStridedSlice S1x1024 ![0, 0] a3 slices_S4x1024_S1x1024_0_0) shapeCasts_S1x1024_S1024)))) (mulf (extractStridedSlice S8x8208x1024 ![0, 1, 0] p slices_S8x8211x1024_S8x8208x1024_0_1_0) (broadcastInDim S8x8208x1024 ![0, 1, 2] bcast_S1x1x1024_S8x8208x1024_0_1_2 (broadcastInDim S1x1x1024 ![2] bcast_S1024_S1x1x1024_2 (shapeCast _ (extractStridedSlice S1x1024 ![1, 0] a3 slices_S4x1024_S1x1024_1_0) shapeCasts_S1x1024_S1024))))) (mulf (extractStridedSlice S8x8208x1024 ![0, 2, 0] p slices_S8x8211x1024_S8x8208x1024_0_2_0) (broadcastInDim S8x8208x1024 ![0, 1, 2] bcast_S1x1x1024_S8x8208x1024_0_1_2 (broadcastInDim S1x1x1024 ![2] bcast_S1024_S1x1x1024_2 (shapeCast _ (extractStridedSlice S1x1024 ![2, 0] a3 slices_S4x1024_S1x1024_2_0) shapeCasts_S1x1024_S1024))))) (mulf (extractStridedSlice S8x8208x1024 ![0, 3, 0] p slices_S8x8211x1024_S8x8208x1024_0_3_0) (broadcastInDim S8x8208x1024 ![0, 1, 2] bcast_S1x1x1024_S8x8208x1024_0_1_2 (broadcastInDim S1x1x1024 ![2] bcast_S1024_S1x1x1024_2 (shapeCast _ (extractStridedSlice S1x1024 ![3, 0] a3 slices_S4x1024_S1x1024_3_0) shapeCasts_S1x1024_S1024))))) (broadcastInDim S8x8208x1024 ![0, 1, 2] bcast_S1x1x1024_S8x8208x1024_0_1_2 (broadcastInDim S1x1x1024 ![2] bcast_S1024_S1x1x1024_2 a4)))
/-- Each entry times its logistic. -/
def rSil (v : FVec Ideal S8x8208x1024 .f32) : FVec Ideal S8x8208x1024 .f32 :=
  (mulf v (Host.divf (broadcastInDim S8x8208x1024 ![] bcast_S_S8x8208x1024 (constant S_ .f32 0x3F800000#32)) (addf (broadcastInDim S8x8208x1024 ![] bcast_S_S8x8208x1024 (constant S_ .f32 0x3F800000#32)) (Host.exp (Host.negf v)))))
/-- The step sizes' argument. -/
def rDx (a2 : FVec Ideal S8x8208x8 .f32) (a5 : FVec Ideal S8 .f32) : FVec Ideal S8x8208x8 .f32 :=
  (addf a2 (broadcastInDim S8x8208x8 ![0, 1, 2] bcast_S1x1x8_S8x8208x8_0_1_2 (broadcastInDim S1x1x8 ![2] bcast_S8_S1x1x8_2 a5)))
/-- The step sizes. -/
def rDt (x : FVec Ideal S8x8208x8 .f32) : FVec Ideal S8x8208x8 .f32 :=
  (select (cmpf .une (subf x (broadcastInDim S8x8208x8 ![] bcast_S_S8x8208x8 (constant S_ .f32 0x00000000#32))) (subf x (broadcastInDim S8x8208x8 ![] bcast_S_S8x8208x8 (constant S_ .f32 0x00000000#32)))) (addf x (broadcastInDim S8x8208x8 ![] bcast_S_S8x8208x8 (constant S_ .f32 0x00000000#32))) (addf (maximumf x (broadcastInDim S8x8208x8 ![] bcast_S_S8x8208x8 (constant S_ .f32 0x00000000#32))) (Host.log1p (Host.exp (Host.negf (Host.absf (subf x (broadcastInDim S8x8208x8 ![] bcast_S_S8x8208x8 (constant S_ .f32 0x00000000#32)))))))))
/-- The logarithms of the decays. -/
def rDa (dt : FVec Ideal S8x8208x8 .f32) (a6 : FVec Ideal S8 .f32) : FVec Ideal S8x8208x2x4 .f32 :=
  shapeCast _ (mulf dt (broadcastInDim S8x8208x8 ![0, 1, 2] bcast_S1x1x8_S8x8208x8_0_1_2 (broadcastInDim S1x1x8 ![2] bcast_S8_S1x1x8_2 (Host.negf (Host.exp a6))))) shapeCasts_S8x8208x8_S8x8208x2x4
/-- Their running sums. -/
def rCum (x : FVec Ideal S8x8208x2x4 .f32) : FVec Ideal S8x8208x2x4 .f32 :=
  Host.reduceWindowAdd ![1, 8208, 1, 1] ![1, 1, 1, 1] ![0, 8207, 0, 0] ![0, 0, 0, 0] x (broadcastInDim S_ ![] bcast_S_S_ (constant S_ .f32 0x00000000#32)) reduceWindows_S8x8208x2x4_S8x8208x2x4_w1s1p0_0_w8208s1p8207_0_w1s1p0_0_w1s1p0_0 h_S_
/-- The decay from one position to another. -/
def rDec (s : FVec Ideal S8x8208x2x4 .f32) : FVec Ideal S8x8208x8208x2x4 .f32 :=
  (Host.exp (select (broadcastInDim S8x8208x8208x2x4 ![1, 2, 3, 4] bcast_S8208x8208x1x1_S8x8208x8208x2x4_1_2_3_4 (broadcastInDim S8208x8208x1x1 ![0, 1] bcast_S8208x8208_S8208x8208x1x1_0_1 (select (cmpi .sge (addi (iotaInDim S8208x8208 32 0) (broadcastInDim S8208x8208 ![] bcast_S_S8208x8208 (constantI S_ 32 0#32))) (iotaInDim S8208x8208 32 1)) (broadcastInDim S8208x8208 ![] bcast_S_S8208x8208 (constantI S_ 1 1#1)) (broadcastInDim S8208x8208 ![] bcast_S_S8208x8208 (constantI S_ 1 0#1))))) (subf (broadcastInDim S8x8208x8208x2x4 ![0, 1, 2, 3, 4] bcast_S8x8208x1x2x4_S8x8208x8208x2x4_0_1_2_3_4 (broadcastInDim S8x8208x1x2x4 ![0, 1, 3, 4] bcast_S8x8208x2x4_S8x8208x1x2x4_0_1_3_4 s)) (broadcastInDim S8x8208x8208x2x4 ![0, 1, 2, 3, 4] bcast_S8x1x8208x2x4_S8x8208x8208x2x4_0_1_2_3_4 (broadcastInDim S8x1x8208x2x4 ![0, 2, 3, 4] bcast_S8x8208x2x4_S8x1x8208x2x4_0_2_3_4 s))) (broadcastInDim S8x8208x8208x2x4 ![] bcast_S_S8x8208x8208x2x4 (id (constant S_ .f32 0xFF800000#32)))))
/-- The products of one position's row with another's. -/
def rCb (v : FVec Ideal S8x8208x1024 .f32) : FVec Ideal S8x8208x8208x2 .f32 :=
  (transpose S8x8208x8208x2 [0, 3, 2, 1] (Host.dotGeneral (φ₁ := FTy.f32) (φ₂ := FTy.f32) dot_S8x8208x2x128_S8x8208x2x128_S8x2x8208x8208_3_3_1_1_02_02 none (shapeCast _ (extractStridedSlice S8x8208x256 ![0, 0, 512] v slices_S8x8208x1024_S8x8208x256_0_0_512) shapeCasts_S8x8208x256_S8x8208x2x128) (shapeCast _ (extractStridedSlice S8x8208x256 ![0, 0, 768] v slices_S8x8208x1024_S8x8208x256_0_0_768) shapeCasts_S8x8208x256_S8x8208x2x128)) transposes_S8x2x8208x8208_S8x8208x8208x2_0_3_2_1)
/-- The first columns, in heads. -/
def rXs (v : FVec Ideal S8x8208x1024 .f32) : FVec Ideal S8x8208x8x64 .f32 :=
  (shapeCast _ (extractStridedSlice S8x8208x512 ![0, 0, 0] v slices_S8x8208x1024_S8x8208x512_0_0_0) shapeCasts_S8x8208x512_S8x8208x8x64)
/-- The same times the step sizes. -/
def rX (xs : FVec Ideal S8x8208x8x64 .f32) (dt : FVec Ideal S8x8208x8 .f32) : FVec Ideal S8x8208x2x4x64 .f32 :=
  (shapeCast _ (mulf xs (broadcastInDim S8x8208x8x64 ![0, 1, 2, 3] bcast_S8x8208x8x1_S8x8208x8x64_0_1_2_3 (broadcastInDim S8x8208x8x1 ![0, 1, 2] bcast_S8x8208x8_S8x8208x8x1_0_1_2 dt))) shapeCasts_S8x8208x8x64_S8x8208x2x4x64)
/-- The products, decayed. -/
def rM (cb : FVec Ideal S8x8208x8208x2 .f32) (dec : FVec Ideal S8x8208x8208x2x4 .f32) : FVec Ideal S8x8208x8208x2x4 .f32 :=
  (mulf (broadcastInDim S8x8208x8208x2x4 ![0, 1, 2, 3, 4] bcast_S8x8208x8208x2x1_S8x8208x8208x2x4_0_1_2_3_4 (broadcastInDim S8x8208x8208x2x1 ![0, 1, 2, 3] bcast_S8x8208x8208x2_S8x8208x8208x2x1_0_1_2_3 cb)) dec)
/-- Each position's sum. -/
def rY (x : FVec Ideal S8x8208x2x4x64 .f32) (w : FVec Ideal S8x8208x8208x2x4 .f32) : FVec Ideal S8x8208x512 .f32 :=
  (shapeCast _ (transpose S8x8208x2x4x64 [0, 4, 1, 2, 3] (Host.dotGeneral (φ₁ := FTy.f32) (φ₂ := FTy.f32) dot_S8x8208x2x4x64_S8x8208x8208x2x4_S8x2x4x64x8208_1_2_4_1_023_034 none x w) transposes_S8x2x4x64x8208_S8x8208x2x4x64_0_4_1_2_3) shapeCasts_S8x8208x2x4x64_S8x8208x512)
/-- With the skip term, gated. -/
def rU (y : FVec Ideal S8x8208x512 .f32) (xs : FVec Ideal S8x8208x8x64 .f32) (a7 : FVec Ideal S8 .f32) (a0 : FVec Ideal S8x8208x512 .f32) : FVec Ideal S8x8208x512 .f32 :=
  (mulf (addf y (shapeCast _ (mulf xs (broadcastInDim S8x8208x8x64 ![0, 1, 2, 3] bcast_S1x1x8x1_S8x8208x8x64_0_1_2_3 (broadcastInDim S1x1x8x1 ![2, 3] bcast_S8x1_S1x1x8x1_2_3 (broadcastInDim S8x1 ![0] bcast_S8_S8x1_0 a7)))) shapeCasts_S8x8208x8x64_S8x8208x512)) (mulf a0 (Host.divf (broadcastInDim S8x8208x512 ![] bcast_S_S8x8208x512 (constant S_ .f32 0x3F800000#32)) (addf (broadcastInDim S8x8208x512 ![] bcast_S_S8x8208x512 (constant S_ .f32 0x3F800000#32)) (Host.exp (Host.negf a0))))))
/-- Normed. -/
def rFin (u : FVec Ideal S8x8208x512 .f32) (a8 : FVec Ideal S512 .f32) : FVec Ideal S8x8208x512 .f32 :=
  mulf (mulf u (broadcastInDim S8x8208x512 ![0, 1, 2] bcast_S8x8208x1_S8x8208x512_0_1_2 (Host.rsqrt (addf (Host.divf (broadcastInDim S8x8208x1 ![0, 1] bcast_S8x8208_S8x8208x1_0_1 (Host.reduceAdd (mulf u u) (constant S_ .f32 0x00000000#32) reducesTo_S8x8208x512_S8x8208_d2 h_S_)) (broadcastInDim S8x8208x1 ![] bcast_S_S8x8208x1 (constant S_ .f32 0x44000000#32))) (broadcastInDim S8x8208x1 ![] bcast_S_S8x8208x1 (constant S_ .f32 0x358637BD#32)))))) (broadcastInDim S8x8208x512 ![0, 1, 2] bcast_S1x1x512_S8x8208x512_0_1_2 (broadcastInDim S1x1x512 ![2] bcast_S512_S1x1x512_2 a8))

theorem div512 (x : EReal) : Ideal.div x (Ideal.ofBits FTy.f32 1140850688#32) = x * Ideal.ofBits FTy.f32 989855744#32 := by
  have h : Ideal.ofBits FTy.f32 1140850688#32 = ((512 : ℝ) : EReal) := by
    simp [Ideal.ofBits, Ideal.ieee, -EReal.coe_mul]; norm_num
  have h' : Ideal.ofBits FTy.f32 989855744#32 = ((1 / 512 : ℝ) : EReal) := by
    simp [Ideal.ofBits, Ideal.ieee, -EReal.coe_mul]; norm_num
  rw [h, h', Ideal.div_coe (by norm_num : (512 : ℝ) ≠ 0)]

section
variable (b : Fin 8) (p q : Fin 8208)
theorem rPad_apply (a1 : FVec Ideal S8x8208x1024 .f32) (H : ∀ b p k, ((a1 (ix3 b p k)).toReal : EReal) = a1 (ix3 b p k)) (o : ℕ) (i : Fin 8211) (k : Fin 1024)
    (ho : o ≤ 3) (hi : i.val + o = 3 + p.val) :
    rPad a1 (ix3 b i k) = ((Ssd.past (Ssd.ar3 (fun b p k => a1 (ix3 b p k)) b) o p.val k.val : ℝ) : EReal) := by
  pointwise [rPad]
  unfold Ssd.past
  by_cases hp : p.val < o
  · rw [if_pos hp, dif_neg (by omega), sitofp0]
    rfl
  · rw [if_neg hp, dif_pos (by omega)]
    have e : (⟨i.val - 3, by omega⟩ : Fin 8208) = ⟨p.val - o, by omega⟩ := Fin.ext (by show i.val - 3 = p.val - o; omega)
    rw [e]
    exact (Ssd.ar3_lt _ H b ⟨p.val - o, by omega⟩ k).symm
theorem rCv_apply (a1 : FVec Ideal S8x8208x1024 .f32) (H : ∀ b p k, ((a1 (ix3 b p k)).toReal : EReal) = a1 (ix3 b p k))
    (a3 : FVec Ideal S4x1024 .f32) (H3 : ∀ p k, ((a3 (ix2 p k)).toReal : EReal) = a3 (ix2 p k))
    (a4 : FVec Ideal S1024 .f32) (H4 : ∀ k, ((a4 (ix1 k)).toReal : EReal) = a4 (ix1 k)) (k : Fin 1024) :
    rCv (rPad a1) a3 a4 (ix3 b p k) = ((Ssd.conv (Ssd.ar3 (fun b p k => a1 (ix3 b p k)) b) (Ssd.ar2 (fun p k => a3 (ix2 p k))) (Ssd.ar1 (fun k => a4 (ix1 k))) p.val k.val : ℝ) : EReal) := by
  have e : rCv (rPad a1) a3 a4 (ix3 b p k) = rPad a1 (ix3 b ⟨p.val, by omega⟩ k) * a3 (ix2 0 k) + rPad a1 (ix3 b ⟨1 + p.val, by omega⟩ k) * a3 (ix2 1 k) + rPad a1 (ix3 b ⟨2 + p.val, by omega⟩ k) * a3 (ix2 2 k) +
        rPad a1 (ix3 b ⟨3 + p.val, by omega⟩ k) * a3 (ix2 3 k) + a4 (ix1 k) := by
    generalize rPad a1 = x
    pointwise [rCv]
  rw [e, rPad_apply b p a1 H 3 ⟨p.val, by omega⟩ k (by omega) (by show p.val + 3 = 3 + p.val; omega),
    rPad_apply b p a1 H 2 ⟨1 + p.val, by omega⟩ k (by omega) (by show 1 + p.val + 2 = 3 + p.val; omega),
    rPad_apply b p a1 H 1 ⟨2 + p.val, by omega⟩ k (by omega) (by show 2 + p.val + 1 = 3 + p.val; omega),
    rPad_apply b p a1 H 0 ⟨3 + p.val, by omega⟩ k (by omega) (by show 3 + p.val + 0 = 3 + p.val; omega),
    ← Ssd.ar2_lt _ H3 0 k, ← Ssd.ar2_lt _ H3 1 k, ← Ssd.ar2_lt _ H3 2 k, ← Ssd.ar2_lt _ H3 3 k, ← Ssd.ar1_lt _ H4 k]
  have e0 : Ssd.past (Ssd.ar3 (fun b p k => a1 (ix3 b p k)) b) 0 p.val k.val = Ssd.ar3 (fun b p k => a1 (ix3 b p k)) b p.val k.val := by
    unfold Ssd.past
    rw [if_neg (by omega)]
    rfl
  rw [e0]
  simp only [← EReal.coe_add, ← EReal.coe_mul]
  refine congrArg _ ?_
  show _ = Ssd.ar1 _ k.val + _ * Ssd.ar2 _ 3 k.val + _ * Ssd.ar2 _ 0 k.val + _ * Ssd.ar2 _ 1 k.val + _ * Ssd.ar2 _ 2 k.val
  show _ * Ssd.ar2 _ 0 k.val + _ * Ssd.ar2 _ 1 k.val + _ * Ssd.ar2 _ 2 k.val + _ * Ssd.ar2 _ 3 k.val + _ = _
  ring
theorem rSil_apply (v : FVec Ideal S8x8208x1024 .f32) (k : Fin 1024) (r : ℝ) (hv : v (ix3 b p k) = ((r : ℝ) : EReal)) :
    rSil v (ix3 b p k) = ((Ssd.sil r : ℝ) : EReal) := by
  pointwise [rSil]
  rw [hv]
  exact sil_coe r
theorem rDx_apply (a2 : FVec Ideal S8x8208x8 .f32) (H : ∀ b p k, ((a2 (ix3 b p k)).toReal : EReal) = a2 (ix3 b p k))
    (a5 : FVec Ideal S8 .f32) (H5 : ∀ k, ((a5 (ix1 k)).toReal : EReal) = a5 (ix1 k)) (k : Fin 8) :
    rDx a2 a5 (ix3 b p k) = ((Ssd.ar3 (fun b p k => a2 (ix3 b p k)) b p.val k.val + Ssd.ar1 (fun k => a5 (ix1 k)) k.val : ℝ) : EReal) := by
  pointwise [rDx]
  rw [EReal.coe_add, Ssd.ar3_lt _ H b p k, Ssd.ar1_lt _ H5 k]
theorem rDt_apply (x : FVec Ideal S8x8208x8 .f32) (k : Fin 8) (r : ℝ) (hx : x (ix3 b p k) = ((r : ℝ) : EReal)) :
    rDt x (ix3 b p k) = ((Ssd.sp r : ℝ) : EReal) := by
  pointwise [rDt]
  rw [if_neg (fun h => h rfl), hx]
  show max (r : EReal) 0 + Ideal.log (1 + Ideal.exp (-(max (r : EReal) (-(r : EReal))))) = _
  rw [abs_coe, ← EReal.coe_neg, Ideal.exp_coe, log_one_add, ← EReal.coe_zero, Ssd.coe_max, ← EReal.coe_add]
  rfl
theorem rCum_apply (x : FVec Ideal S8x8208x2x4 .f32) (g : Fin 2) (h : Fin 4) (v : Bool) (d : ℕ → ℝ) (hx : ∀ s : Fin 8208, x (ix4 b s g h) = lv v (d s.val)) :
    rCum x (ix4 b p g h) = lv v (Ssd.pre d (p.val + 1)) := by
  have hi : broadcastInDim S_ ![] bcast_S_S_ (constant (F := Ideal) S_ .f32 0x00000000#32) (Shape.Idx.first h_S_) = (0 : EReal) :=
    Ideal.ofBits_zero_f32
  exact Ssd.cumsum4A (by norm_num) x b g h v d hx _ _ _ hi p
theorem rDec_apply (s : FVec Ideal S8x8208x2x4 .f32) (g : Fin 2) (h : Fin 4) (v : Bool) (a : ℕ → ℝ) (hs : ∀ p : Fin 8208, s (ix4 b p g h) = lv v (a (p.val + 1))) :
    rDec s (ix5 b p q g h) = ((if q.val ≤ p.val then Ssd.ex v (a (p.val + 1) - a (q.val + 1)) else 0 : ℝ) : EReal) := by
  pointwise [rDec]
  have e : IntOp.addi (BitVec.ofNat 32 p.val) 0#32 = BitVec.ofNat 32 p.val := BitVec.add_zero _
  have e' : (id (constant (F := Ideal) S_ FTy.f32 4286578688#32) ix0 : EReal) = ⊥ := by
    show Ideal.ofBits FTy.f32 4286578688#32 = ⊥
    simp [Ideal.ofBits, Ideal.ieee]
  rw [e, e', sel_sge _ _ (by omega) (by omega), hs p, hs q]
  by_cases hq : q.val ≤ p.val
  · rw [if_pos hq, if_pos hq]
    exact exp_lv_sub _ _ _
  · rw [if_neg hq, if_neg hq]
    exact Ideal.exp_bot
theorem rCb_apply (v : FVec Ideal S8x8208x1024 .f32) (cv : ℕ → ℕ → ℝ) (hv : ∀ p k, v (ix3 b p k) = ((Ssd.sil (cv p.val k.val) : ℝ) : EReal)) (g : Fin 2) :
    rCb v (ix4 b p q g) = ((∑ n, cr cv g.val p.val n * br cv g.val q.val n : ℝ) : EReal) := by
  pointwise [rCb]
  rw [← Ssd.coe_sum]
  refine Finset.sum_congr rfl fun n _ => ?_
  rw [hv, hv, ← EReal.coe_mul]
  refine congrArg _ ?_
  show Ssd.sil (cv q.val (512 + (g.val * 128 + n.val))) * Ssd.sil (cv p.val (768 + (g.val * 128 + n.val))) = Ssd.sil (cv p.val (768 + 128 * g.val + n.val)) * Ssd.sil (cv q.val (512 + 128 * g.val + n.val))
  rw [mul_comm, show 512 + (g.val * 128 + n.val) = 512 + 128 * g.val + n.val by omega, show 768 + (g.val * 128 + n.val) = 768 + 128 * g.val + n.val by omega]
theorem rXs_apply (v : FVec Ideal S8x8208x1024 .f32) (h : Fin 8) (k : Fin 64) : rXs v (ix4 b p h k) = v (ix3 b p ⟨h.val * 64 + k.val, by omega⟩) := by
  pointwise [rXs]
theorem rY_apply (v : FVec Ideal S8x8208x1024 .f32) (cv : ℕ → ℕ → ℝ) (hv : ∀ p k, v (ix3 b p k) = ((Ssd.sil (cv p.val k.val) : ℝ) : EReal))
    (dt : FVec Ideal S8x8208x8 .f32) (dr : ℕ → ℕ → ℝ) (db al : ℕ → ℝ) (w : ℕ → Bool) (hd : ∀ p k, dt (ix3 b p k) = ((Ssd.sp (dr p.val k.val + db k.val) : ℝ) : EReal))
    (a6 : FVec Ideal S8 .f32) (h6 : ∀ k, Ideal.exp (a6 (ix1 k)) = rt (w k.val) (al k.val)) (j : Fin 512) :
    rY (rX (rXs v) dt) (rM (rCb v) (rDec (rCum (rDa dt a6)))) (ix3 b p j) =
      ((Ssd.out (w (j.val / 64)) (da dr db al (j.val / 64)) (fun s => xr cv dr db j.val s) (fun s => ∑ n, cr cv (j.val / 256) p.val n * br cv (j.val / 256) s n) p.val : ℝ) : EReal) := by
  have hda : ∀ (g : Fin 2) (h : Fin 4) (s : Fin 8208), rDa dt a6 (ix4 b s g h) = lv (w (g.val * 4 + h.val)) (da dr db al (g.val * 4 + h.val) s.val) := by
    intro g h s
    pointwise [rDa]
    rw [hd, h6]
    exact mul_neg_rt _ _ _
  have hx : ∀ (g : Fin 2) (h : Fin 4) (k : Fin 64) (s : Fin 8208), rX (rXs v) dt (ix5 b s g h k) = ((Ssd.sil (cv s.val ((g.val * 4 + h.val) * 64 + k.val)) * Ssd.sp (dr s.val (g.val * 4 + h.val) + db (g.val * 4 + h.val)) : ℝ) : EReal) := by
    intro g h k s
    have e : rX (rXs v) dt (ix5 b s g h k) = rXs v (ix4 b s ⟨g.val * 4 + h.val, by omega⟩ k) * dt (ix3 b s ⟨g.val * 4 + h.val, by omega⟩) := by
      generalize rXs v = y
      pointwise [rX]
    rw [e, rXs_apply, hv, hd, ← EReal.coe_mul]
  have hm : ∀ (g : Fin 2) (h : Fin 4) (s : Fin 8208), rM (rCb v) (rDec (rCum (rDa dt a6))) (ix5 b p s g h) =
      (((∑ n, cr cv g.val p.val n * br cv g.val s.val n) * (if s.val ≤ p.val then Ssd.ex (w (g.val * 4 + h.val)) (Ssd.pre (da dr db al (g.val * 4 + h.val)) (p.val + 1) - Ssd.pre (da dr db al (g.val * 4 + h.val)) (s.val + 1)) else 0) : ℝ) : EReal) := by
    intro g h s
    have e : ∀ (y : FVec Ideal S8x8208x8208x2 .f32) (z : FVec Ideal S8x8208x8208x2x4 .f32), rM y z (ix5 b p s g h) = y (ix4 b p s g) * z (ix5 b p s g h) := by
      intro y z
      pointwise [rM]
    rw [e, rCb_apply b p s v cv hv g, rDec_apply b p s _ g h (w (g.val * 4 + h.val)) (Ssd.pre (da dr db al (g.val * 4 + h.val))) (fun q => rCum_apply b q _ g h _ _ (hda g h)), ← EReal.coe_mul]
  have e : ∀ (y : FVec Ideal S8x8208x2x4x64 .f32) (z : FVec Ideal S8x8208x8208x2x4 .f32), rY y z (ix3 b p j) =
      ∑ s, y (ix5 b s ⟨j.val / 256, by omega⟩ ⟨j.val / 64 % 4, by omega⟩ ⟨j.val % 64, by omega⟩) * z (ix5 b p s ⟨j.val / 256, by omega⟩ ⟨j.val / 64 % 4, by omega⟩) := by
    intro y z
    pointwise [rY]
  rw [e]
  refine (Finset.sum_congr rfl fun s _ => ?_).trans ((Ssd.coe_sum _ _).trans (congrArg _ (Ssd.out_masked (w (j.val / 64)) 8208 (da dr db al (j.val / 64)) (fun s => xr cv dr db j.val s) (fun s => ∑ n, cr cv (j.val / 256) p.val n * br cv (j.val / 256) s n) p.val p.isLt)))
  rw [hx, hm, ← EReal.coe_mul]
  refine congrArg _ ?_
  have e1 : j.val / 256 * 4 + j.val / 64 % 4 = j.val / 64 := by omega
  have e2 : j.val / 64 * 64 + j.val % 64 = j.val := by omega
  dsimp only
  rw [e1, e2]
  rfl
theorem rU_apply (y : FVec Ideal S8x8208x512 .f32) (xs : FVec Ideal S8x8208x8x64 .f32) (a7 : FVec Ideal S8 .f32) (a0 : FVec Ideal S8x8208x512 .f32) (j : Fin 512) :
    rU y xs a7 a0 (ix3 b p j) = (y (ix3 b p j) + xs (ix4 b p ⟨j.val / 64, by omega⟩ ⟨j.val % 64, by omega⟩) * a7 (ix1 ⟨j.val / 64, by omega⟩)) *
      (a0 (ix3 b p j) * Ideal.logistic (a0 (ix3 b p j))) := by
  pointwise [rU]
  rfl
theorem rFin_apply (u : FVec Ideal S8x8208x512 .f32) (a8 : FVec Ideal S512 .f32) (j : Fin 512) :
    rFin u a8 (ix3 b p j) = Cert.Rows.rms (Ideal.ofBits .f32 0x3B000000#32) (fun k => u (ix3 b p k)) (fun k => a8 (ix1 k)) j := by
  pointwise [rFin]
  rw [div512]
  rfl
end

section
variable (m : (ℓ : Loc nD τ sig) → Buf (Elt Ideal) ℓ) (c : Dev nD)
abbrev A0 : FVec Ideal S8x8208x512 .f32 := m ((c.tc : Thread nD τ).loc main_arg0)
abbrev A1 : FVec Ideal S8x8208x1024 .f32 := m ((c.tc : Thread nD τ).loc main_arg1)
abbrev A2 : FVec Ideal S8x8208x8 .f32 := m ((c.tc : Thread nD τ).loc main_arg2)
abbrev A3 : FVec Ideal S4x1024 .f32 := m ((c.tc : Thread nD τ).loc main_arg3)
abbrev A4 : FVec Ideal S1024 .f32 := m ((c.tc : Thread nD τ).loc main_arg4)
abbrev A5 : FVec Ideal S8 .f32 := m ((c.tc : Thread nD τ).loc main_arg5)
abbrev A6 : FVec Ideal S8 .f32 := m ((c.tc : Thread nD τ).loc main_arg6)
abbrev A7 : FVec Ideal S8 .f32 := m ((c.tc : Thread nD τ).loc main_arg7)
abbrev A8 : FVec Ideal S512 .f32 := m ((c.tc : Thread nD τ).loc main_arg8)
abbrev RSil : FVec Ideal S8x8208x1024 .f32 := rSil (rCv (rPad (A1 m c)) (A3 m c) (A4 m c))
abbrev RDt : FVec Ideal S8x8208x8 .f32 := rDt (rDx (A2 m c) (A5 m c))
abbrev RY : FVec Ideal S8x8208x512 .f32 := rY (rX (rXs (RSil m c)) (RDt m c)) (rM (rCb (RSil m c)) (rDec (rCum (rDa (RDt m c) (A6 m c)))))
set_option maxHeartbeats 4000000 in
theorem res_eq : (res_main_v91 m c : Vec Ideal S8x8208x512 .f32) = rFin (rU (RY m c) (rXs (RSil m c)) (A7 m c) (A0 m c)) (A8 m c) := by
  unfold res_main_v91 rFin rU RY rY rM rX rXs rCb rDec rCum rDa RDt rDt rDx RSil rSil rCv rPad
  rfl
end
end Cert.Reference4Ideal.Value
end
-- ==== Proof.SsdClaim.lean ====
module

public import proofs.«01_k».proof.Defs
public import proofs.«01_k».proof.Proof.SsdFinal
public import proofs.«01_k».proof.Proof.SsdRef
/-!
The scan's claims: its reference's frame, its named constant and its value.
-/
@[expose] public section
set_option maxRecDepth 16384
noncomputable section
namespace Cert.Proof
open Idealize.ShloMosaic Idealize.ShloMosaic.TcCoe Idealize.SL.Sem
open Cert.Kernel4Ideal (S8x8208x512 S8x8208x1024 S8x8208x8 S4x1024 S1024 S8 S512)

/-- The shapes the precondition's operations take. -/
theorem pre_facts : Cert.Pre_finite.Facts := ⟨by decide, by decide, by decide, by decide, by decide⟩

/-- A value whose size is under infinity is a real. -/
theorem real_of_lt (x : EReal) (h : max x (-x) < ⊤) : ((x.toReal : ℝ) : EReal) = x := by
  refine EReal.coe_toReal (fun e => ?_) (fun e => ?_)
  · subst e; simp at h
  · subst e; simp at h

/-- An array the precondition's comparison accepts holds reals. -/
theorem reals_of_olt {s : Shape} (x : FVec Ideal s .f32) (hb : Cert.Pre_finite.S_.BroadcastsInDim s (![] : Fin 0 → Fin s.rank))
    (h : cmpf .olt (Host.absf x) (broadcastInDim s ![] hb (constant Cert.Pre_finite.S_ .f32 0x7F800000#32)) = fun _ => 1#1) (i : s.Idx) :
    (((x i).toReal : ℝ) : EReal) = x i := by
  refine real_of_lt _ ?_
  have h' := congrFun h i
  have hc : BitVec.ofBool (decide (max (x i) (-(x i)) < Ideal.ofBits .f32 0x7F800000#32)) = 1#1 := h'
  have ht : Ideal.ofBits FTy.f32 0x7F800000#32 = ⊤ := by simp [Ideal.ofBits, Ideal.ieee]
  rw [ht] at hc
  by_contra hn
  rw [decide_eq_false hn] at hc
  exact absurd hc (by decide)

/-- The precondition says that the five inputs hold reals. -/
theorem reals_of_pre (m : (ℓ : Loc Cert.Kernel4Ideal.nD Cert.Kernel4Ideal.τ Cert.Kernel4Ideal.sig) → Buf (Elt Ideal) ℓ)
    (h : Cert.Pre_Kernel4Ideal_finite (hPre_finite := pre_facts) m) (c : Dev Cert.Kernel4Ideal.nD) : Cert.Kernel4Ideal.Value.Reals m c := by
  obtain ⟨h1, h2, h3, h4, h5⟩ := h c
  exact ⟨fun b p k => reals_of_olt _ _ h1 (ix3 b p k), fun b p k => reals_of_olt _ _ h2 (ix3 b p k), fun p k => reals_of_olt _ _ h3 (ix2 p k),
    fun k => reals_of_olt _ _ h4 (ix1 k), fun k => reals_of_olt _ _ h5 (ix1 k)⟩

/-- The reference's value at an index is the kernel's. -/
theorem ref_at (m : (ℓ : Loc Cert.Kernel4Ideal.nD Cert.Kernel4Ideal.τ Cert.Kernel4Ideal.sig) → Buf (Elt Ideal) ℓ) (c : Dev Cert.Kernel4Ideal.nD)
    (H : Cert.Kernel4Ideal.Value.Reals m c) (a0 : FVec Ideal S8x8208x512 .f32) (a1 : FVec Ideal S8x8208x1024 .f32) (a2 : FVec Ideal S8x8208x8 .f32)
    (a3 : FVec Ideal S4x1024 .f32) (a4 : FVec Ideal S1024 .f32) (a5 : FVec Ideal S8 .f32) (a6 : FVec Ideal S8 .f32) (a7 : FVec Ideal S8 .f32) (a8 : FVec Ideal S512 .f32)
    (e0 : a0 = Cert.Kernel4Ideal.Value.A0 m c) (e1 : a1 = Cert.Kernel4Ideal.Value.A1 m c) (e2 : a2 = Cert.Kernel4Ideal.Value.A2 m c)
    (e3 : a3 = Cert.Kernel4Ideal.Value.A3 m c) (e4 : a4 = Cert.Kernel4Ideal.Value.A4 m c) (e5 : a5 = Cert.Kernel4Ideal.Value.A5 m c)
    (e6 : a6 = Cert.Kernel4Ideal.Value.A6 m c) (e7 : a7 = Cert.Kernel4Ideal.Value.A7 m c) (e8 : a8 = Cert.Kernel4Ideal.Value.A8 m c)
    (b : Fin 8) (p : Fin 8208) (j : Fin 512) :
    Cert.Reference4Ideal.Value.rFin (Cert.Reference4Ideal.Value.rU
      (Cert.Reference4Ideal.Value.rY (Cert.Reference4Ideal.Value.rX (Cert.Reference4Ideal.Value.rXs (Cert.Reference4Ideal.Value.rSil (Cert.Reference4Ideal.Value.rCv (Cert.Reference4Ideal.Value.rPad a1) a3 a4)))
          (Cert.Reference4Ideal.Value.rDt (Cert.Reference4Ideal.Value.rDx a2 a5)))
        (Cert.Reference4Ideal.Value.rM (Cert.Reference4Ideal.Value.rCb (Cert.Reference4Ideal.Value.rSil (Cert.Reference4Ideal.Value.rCv (Cert.Reference4Ideal.Value.rPad a1) a3 a4)))
          (Cert.Reference4Ideal.Value.rDec (Cert.Reference4Ideal.Value.rCum (Cert.Reference4Ideal.Value.rDa (Cert.Reference4Ideal.Value.rDt (Cert.Reference4Ideal.Value.rDx a2 a5)) a6)))))
      (Cert.Reference4Ideal.Value.rXs (Cert.Reference4Ideal.Value.rSil (Cert.Reference4Ideal.Value.rCv (Cert.Reference4Ideal.Value.rPad a1) a3 a4))) a7 a0) a8 (ix3 b p j) =
    Cert.Kernel4Ideal.Value.GY m c b p j := by
  subst e0 e1 e2 e3 e4 e5 e6 e7 e8
  have hs : ∀ p k, Cert.Reference4Ideal.Value.rSil (Cert.Reference4Ideal.Value.rCv (Cert.Reference4Ideal.Value.rPad (Cert.Kernel4Ideal.Value.A1 m c)) (Cert.Kernel4Ideal.Value.A3 m c) (Cert.Kernel4Ideal.Value.A4 m c)) (ix3 b p k) =
      ((Ssd.sil (Cert.Kernel4Ideal.Value.CV m c b p.val k.val) : ℝ) : EReal) := fun p k =>
    Cert.Reference4Ideal.Value.rSil_apply b p _ k _ (Cert.Reference4Ideal.Value.rCv_apply b p _ H.h1 _ H.h3 _ H.h4 k)
  have hd : ∀ p k, Cert.Reference4Ideal.Value.rDt (Cert.Reference4Ideal.Value.rDx (Cert.Kernel4Ideal.Value.A2 m c) (Cert.Kernel4Ideal.Value.A5 m c)) (ix3 b p k) =
      ((Ssd.sp (Cert.Kernel4Ideal.Value.DR m c b p.val k.val + Cert.Kernel4Ideal.Value.DB m c k.val) : ℝ) : EReal) := fun p k =>
    Cert.Reference4Ideal.Value.rDt_apply b p _ k _ (Cert.Reference4Ideal.Value.rDx_apply b p _ H.h2 _ H.h5 k)
  rw [Cert.Reference4Ideal.Value.rFin_apply]
  unfold Cert.Kernel4Ideal.Value.GY
  refine congrArg (fun u => Cert.Rows.rms (Ideal.ofBits .f32 0x3B000000#32) u (fun k => Cert.Kernel4Ideal.Value.A8 m c (ix1 k)) j) (funext fun k => ?_)
  rw [Cert.Reference4Ideal.Value.rU_apply, Cert.Reference4Ideal.Value.rXs_apply, hs,
    Cert.Reference4Ideal.Value.rY_apply b p _ (Cert.Kernel4Ideal.Value.CV m c b) hs _ (Cert.Kernel4Ideal.Value.DR m c b) (Cert.Kernel4Ideal.Value.DB m c) (Cert.Kernel4Ideal.Value.AL m c) (Cert.Kernel4Ideal.Value.WD m c) hd _
      (fun k => Cert.Kernel4Ideal.Value.rate_at m c k) k]
  dsimp only
  rw [show k.val / 64 * 64 + k.val % 64 = k.val by omega]
  rfl

/-- The scan's reference runs, leaves its arguments as they were and has no counters. -/
theorem frame_ref4 : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The same under the precondition. -/
theorem frame_ref4_finite : Cert.quiescent_Reference4Ideal_pre_finite (hReference4Ideal := Cert.Reference4Ideal.Gen.facts) (hPre_finite := pre_facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The named constant's pattern is the nearest one to its value. -/
theorem preserves4 : Cert.preserves_Kernel4_Kernel4Ideal :=
  IdealRules.named_const.statement Cert.Kernel4Ideal.κ "neg_log2e" .f32 0xBFB8AA3B#32 ((-((Real.log 2)⁻¹) : ℝ) : EReal) rfl

/-- On equal arguments, with reals in the five inputs, the scan and its reference give the same array. -/
theorem algebraic4 : Cert.algebraic_Kernel4Ideal_Reference4Ideal_pre_finite (hKernel4Ideal := Cert.Kernel4Ideal.Gen.facts)
    (hReference4Ideal := Cert.Reference4Ideal.Gen.facts) (hPre_finite := pre_facts) := by
  intro m ρ m' ρ' hpre hag
  have H := reals_of_pre m hpre
  refine ⟨fun c => Cert.Kernel4Ideal.Value.G_y m c, Cert.Kernel4Ideal.Value.run m ρ H,
    (θ_run Cert.Reference4Ideal.defs _ _).mono (fun r h c => ⟨(h c).1.trans ?_, (h c).2⟩) (Cert.Reference4Ideal.Value.run (F := Ideal) m' ρ')⟩
  obtain ⟨h0, h1, h2, h3, h4, h5, h6, h7, h8⟩ := hag c
  refine Eq.trans (b := (Cert.Reference4Ideal.Value.res_main_v91 m' c : Vec Ideal Cert.Reference4Ideal.S8x8208x512 .f32)) rfl ?_
  refine (Cert.Reference4Ideal.Value.res_eq m' c).trans ?_
  funext i
  obtain ⟨b, p, d, rfl⟩ : ∃ (b : Fin 8) (p : Fin 8208) (d : Fin 512), i = ix3 b p d := ⟨i 0, i 1, i 2, eq_ix3 i⟩
  exact ref_at m c (H c) _ _ _ _ _ _ _ _ _ h0 h1 h2 h3 h4 h5 h6 h7 h8 b p d

end Cert.Proof
end
-- ==== Proof.Mla.lean ====
module

public import proofs.«01_k».proof.Proof.Rows
public import proofs.«01_k».proof.Proof.SsdMath
/-!
The latent attention's projections, one position at a time: the norms, the rotation and the columns of the queries, keys and
values.
-/
@[expose] public section
noncomputable section
namespace Cert.Mla
open Idealize.ShloMosaic

/-- `1 / 192`. -/
def c192 : EReal := ((192⁻¹ : ℝ) : EReal)
/-- `1 / 128`. -/
def c128 : EReal := Ideal.ofBits FTy.f32 0x3C000000#32
/-- The queries' scale. -/
def scale : EReal := Ideal.ofBits FTy.f32 0x3E16C740#32

theorem div192 (x : EReal) : Ideal.div x (Ideal.ofBits FTy.f32 0x43400000#32) = x * c192 := by
  have h : Ideal.ofBits FTy.f32 0x43400000#32 = ((192 : ℝ) : EReal) := by
    simp [Ideal.ofBits, Ideal.ieee, -EReal.coe_mul]; norm_num
  unfold c192
  rw [h, Ideal.div_coe (by norm_num : (192 : ℝ) ≠ 0)]
  norm_num
theorem div128 (x : EReal) : Ideal.div x (Ideal.ofBits FTy.f32 0x43000000#32) = x * c128 := by
  have h : Ideal.ofBits FTy.f32 0x43000000#32 = ((128 : ℝ) : EReal) := by
    simp [Ideal.ofBits, Ideal.ieee, -EReal.coe_mul]; norm_num
  have h' : Ideal.ofBits FTy.f32 0x3C000000#32 = ((1 / 128 : ℝ) : EReal) := by
    simp [Ideal.ofBits, Ideal.ieee, -EReal.coe_mul]; norm_num
  unfold c128
  rw [h, h', Ideal.div_coe (by norm_num : (128 : ℝ) ≠ 0)]

/-- A sum over 256 whose last 64 terms are zero. -/
theorem sum_192 (f : Fin 256 → EReal) (h : ∀ k : Fin 64, f ⟨192 + k.val, by omega⟩ = 0) : ∑ k, f k = ∑ k : Fin 192, f ⟨k.val, by omega⟩ := by
  have h1 := Fin.sum_univ_add (a := 192) (b := 64) f
  refine h1.trans ?_
  have h2 : (∑ k : Fin 64, f (Fin.natAdd 192 k)) = 0 := Finset.sum_eq_zero fun k _ => h k
  exact (congrArg (_ + ·) h2).trans (add_zero _)

/-- A row of 192 values and then zeros, normed, is the row normed, and zero after it. -/
theorem rms_pad (v g : Fin 192 → EReal) (V G : Fin 256 → EReal) (hV : ∀ k : Fin 192, V ⟨k.val, by omega⟩ = v k) (hV0 : ∀ k : Fin 64, V ⟨192 + k.val, by omega⟩ = 0)
    (hG : ∀ k : Fin 192, G ⟨k.val, by omega⟩ = g k) (k : Fin 192) : Rows.rms c192 V G ⟨k.val, by omega⟩ = Rows.rms c192 v g k := by
  unfold Rows.rms
  rw [hV, hG, sum_192 (fun x => V x * V x) (fun k => by rw [hV0, zero_mul])]
  simp only [hV]

/-- The same against a column. -/
theorem dot_pad (v g w : Fin 192 → EReal) (V G W : Fin 256 → EReal) (hV : ∀ k : Fin 192, V ⟨k.val, by omega⟩ = v k) (hV0 : ∀ k : Fin 64, V ⟨192 + k.val, by omega⟩ = 0)
    (hG : ∀ k : Fin 192, G ⟨k.val, by omega⟩ = g k) (hW : ∀ k : Fin 192, W ⟨k.val, by omega⟩ = w k) (hW0 : ∀ k : Fin 64, W ⟨192 + k.val, by omega⟩ = 0) :
    ∑ k, Rows.rms c192 V G k * W k = ∑ k, Rows.rms c192 v g k * w k := by
  rw [sum_192 (fun k => Rows.rms c192 V G k * W k) (fun k => by rw [hW0, mul_zero])]
  refine Finset.sum_congr rfl fun k _ => ?_
  rw [rms_pad v g V G hV hV0 hG k, hW]

theorem eps_pos : ∃ e : ℝ, 0 < e ∧ Rows.eps = (e : EReal) := by
  refine ⟨8796093 / 2 ^ 43, by norm_num, ?_⟩
  unfold Rows.eps
  simp [Ideal.ofBits, Ideal.ieee, -EReal.coe_mul]; norm_num

/-- A normed row with a real gain holds reals, whatever the row. -/
theorem rms_real (v g : Fin 192 → EReal) (hg : ∀ k, (((g k).toReal : ℝ) : EReal) = g k) (k : Fin 192) : ∃ r : ℝ, Rows.rms c192 v g k = (r : EReal) := by
  obtain ⟨e, he, hE⟩ := eps_pos
  have hS : ∀ x : EReal, 0 ≤ x * x := fun x => by
    induction x using EReal.rec with
    | bot => simp
    | coe x => exact_mod_cast mul_self_nonneg x
    | top => simp
  have h0 : (0 : EReal) ≤ ∑ x, v x * v x := Finset.sum_nonneg fun x _ => hS (v x)
  have hk : v k * v k ≤ ∑ x, v x * v x := Finset.single_le_sum (f := fun x => v x * v x) (fun x _ => hS (v x)) (Finset.mem_univ k)
  unfold Rows.rms
  rw [hE, ← hg k]
  generalize (∑ x, v x * v x) = S at h0 hk
  induction S using EReal.rec with
  | bot => simp at h0
  | top =>
    have : Ideal.rsqrt ((⊤ : EReal) * c192 + (e : EReal)) = 0 := by
      unfold c192
      rw [EReal.top_mul_coe_of_pos (by norm_num), EReal.top_add_coe]; rfl
    exact ⟨0, by rw [this, mul_zero, zero_mul]; rfl⟩
  | coe S =>
    have hS0 : 0 ≤ S := by exact_mod_cast h0
    have hv : ∃ r : ℝ, v k = (r : EReal) := by
      generalize v k = x at hk
      induction x using EReal.rec with
      | bot => simp at hk
      | coe x => exact ⟨x, rfl⟩
      | top => simp at hk
    obtain ⟨r, hr⟩ := hv
    have hp : 0 < S * 192⁻¹ + e := by positivity
    have : Ideal.rsqrt ((S : EReal) * c192 + (e : EReal)) = (((Real.sqrt (S * 192⁻¹ + e))⁻¹ : ℝ) : EReal) := by
      unfold c192
      rw [← EReal.coe_mul, ← EReal.coe_add, Ideal.rsqrt_coe, if_neg (not_lt.2 hp.le), if_neg hp.ne']
    exact ⟨r * (Real.sqrt (S * 192⁻¹ + e))⁻¹ * (g k).toReal, by rw [this, hr, ← EReal.coe_mul, ← EReal.coe_mul]⟩

/-- A normed row against a negated column. -/
theorem dot_neg (v g w : Fin 192 → EReal) (hg : ∀ k, (((g k).toReal : ℝ) : EReal) = g k) (hw : ∀ k, (((w k).toReal : ℝ) : EReal) = w k) :
    ∑ k, Rows.rms c192 v g k * -(w k) = -(∑ k, Rows.rms c192 v g k * w k) := by
  choose x hx using rms_real v g hg
  have h1 : ∀ k, Rows.rms c192 v g k * -(w k) = ((x k * -(w k).toReal : ℝ) : EReal) := fun k => by
    rw [hx, EReal.coe_mul, EReal.coe_neg, hw]
  have h2 : ∀ k, Rows.rms c192 v g k * w k = ((x k * (w k).toReal : ℝ) : EReal) := fun k => by
    rw [hx, EReal.coe_mul, hw]
  simp only [h1, h2, mul_neg]
  rw [Ssd.coe_sum, Ssd.coe_sum, ← EReal.coe_neg, Finset.sum_neg_distrib]

/-- The angle of position `p` in the pair of columns `d`. -/
def ang (p d : ℕ) : EReal :=
  FloatOps.sitofp (F := Ideal) FTy.f32 (BitVec.ofNat 32 p) *
    Ideal.div 1 (Ideal.pow (Ideal.ofBits FTy.f32 1176256512#32)
      (Ideal.div (Ideal.ofBits FTy.f32 1073741824#32 * FloatOps.sitofp (F := Ideal) FTy.f32 (BitVec.ofNat 32 d)) (Ideal.ofBits FTy.f32 1107296256#32)))
/-- The cosine of position `p` in rotary column `d`. -/
def co (p d : ℕ) : EReal := Ideal.cos (ang p (if d < 16 then d else d - 16))
/-- The sine of position `p` in rotary column `d`. -/
def si (p d : ℕ) : EReal := Ideal.sin (ang p (if d < 16 then d else d - 16))

section
variable (qa : Fin 192 → EReal) (ckv : Fin 128 → EReal) (kr : Fin 32 → EReal) (gq : Fin 192 → EReal) (gkv : Fin 128 → EReal)
  (wuq : Fin 192 → Fin 384 → EReal) (wukv : Fin 128 → Fin 512 → EReal) (p : ℕ)
/-- Column `j` of a position's queries before the rotation. -/
def qp (j : Fin 384) : EReal := ∑ k, Rows.rms c192 qa gq k * wuq k j
/-- Column `j` of a position's keys and values. -/
def kv (j : Fin 512) : EReal := ∑ k, Rows.rms c128 ckv gkv k * wukv k j
/-- Head `h`'s query of a position: the rotary columns rotated, all scaled. -/
def q (h : Fin 4) (e : Fin 96) : EReal :=
  (if e.val < 64 then qp qa gq wuq ⟨96 * h.val + e.val, by omega⟩
    else qp qa gq wuq ⟨96 * h.val + e.val, by omega⟩ * co p (e.val - 64) +
      (if d : e.val < 80 then -(qp qa gq wuq ⟨96 * h.val + (e.val + 16), by omega⟩) else qp qa gq wuq ⟨96 * h.val + (e.val - 16), by omega⟩) * si p (e.val - 64)) * scale
/-- The rotary key of a position, rotated: column `e`, counted from 64. -/
def kro (e : Fin 96) : EReal :=
  kr ⟨e.val - 64, by omega⟩ * co p (e.val - 64) + (if d : e.val < 80 then -(kr ⟨e.val + 16 - 64, by omega⟩) else kr ⟨e.val - 16 - 64, by omega⟩) * si p (e.val - 64)
/-- Head `h`'s key of a position. -/
def k (h : Fin 4) (e : Fin 96) : EReal :=
  if e.val < 64 then kv ckv gkv wukv ⟨128 * h.val + e.val, by omega⟩ else kro kr p e
/-- Head `h`'s value of a position. -/
def v (h : Fin 4) (e : Fin 64) : EReal := kv ckv gkv wukv ⟨128 * h.val + (64 + e.val), by omega⟩
end
theorem lt_mid (f : Fin 16) : 64 + f.val < 96 := by omega
theorem lt_hi (f : Fin 16) : 64 + (16 + f.val) < 96 := by omega
/-- A column of the rotary's first half. -/
theorem mid_of (e : Fin 96) (h1 : ¬e.val < 64) (h2 : e.val < 80) : ∃ f : Fin 16, e = ⟨64 + f.val, lt_mid f⟩ :=
  ⟨⟨e.val - 64, by omega⟩, Fin.ext (by simp only []; omega)⟩
/-- A column of its second half. -/
theorem hi_of (e : Fin 96) (h2 : ¬e.val < 80) : ∃ f : Fin 16, e = ⟨64 + (16 + f.val), lt_hi f⟩ :=
  ⟨⟨e.val - 80, by omega⟩, Fin.ext (by simp only []; omega)⟩

end Cert.Mla
end
-- ==== Proof.MlaTile.lean ====
module

public import proofs.«01_k».proof.Proof.Gen.Kernel5Ideal.Frame
public import proofs.«01_k».proof.Proof.Mla
public import Idealize.ShloMosaic.Lib.Pipeline.ValueKit
public import Idealize.ShloMosaic.Lib.Pipeline.ReadBack
public import Idealize.ShloMosaic.Lib.Pointwise
/-!
The latent attention's projections of a tile of positions, at an index.
-/
@[expose] public section
set_option maxRecDepth 16384
noncomputable section
namespace Cert.Kernel5Ideal.Value
open Cert.Kernel5Ideal Cert.Kernel5Ideal.Gen Idealize.ShloMosaic Idealize.ShloMosaic.TcCoe Idealize.SL.Sem
variable (m : (ℓ : Loc nD τ sig) → Buf (Elt Ideal) ℓ) (ρ : Dev nD → PrngReg) (c : Dev nD)

theorem inv_192 : Named.named (F := Ideal) Cert.Kernel5Ideal.κ "inv_192" (φ := .f32) 0x3BAAAAAB#32 = Mla.c192 :=
  IdealRules.named_const.ideal_named_scalar _ _ _ _ rfl

/-- A table four times side by side. -/
def cat4 (x : FVec Ideal S768x128 .f32) : FVec Ideal S768x512 .f32 :=
  concatenate S768x512 1 [⟨S768x128, x⟩, ⟨S768x128, x⟩, ⟨S768x128, x⟩, ⟨S768x128, x⟩] concatenates_S768x128_S768x128_S768x128_S768x128_S768x512_d1
theorem cat4_apply (x : FVec Ideal S768x128 .f32) (r : Fin 768) (h : ℕ) (hh : h < 4) (e : Fin 128) : cat4 x (ix2 r ⟨128 * h + e.val, by omega⟩) = x (ix2 r e) := by
  obtain rfl | rfl | rfl | rfl : h = 0 ∨ h = 1 ∨ h = 2 ∨ h = 3 := by omega
  · pointwise [cat4]
  · pointwise [cat4]
  · pointwise [cat4]
    rw [dif_neg (by omega), dif_neg (by omega), dif_pos (by omega)]
    exact congrArg (fun q => x (ix2 r q)) (Fin.ext (by simp only []; omega))
  · pointwise [cat4]
    rw [dif_neg (by omega), dif_neg (by omega), dif_neg (by omega)]
    exact congrArg (fun q => x (ix2 r q)) (Fin.ext (by simp only []; omega))

section
variable (x : FVec Ideal S768x256 .bf16) (g : FVec Ideal S1x256 .f32) (w w' : FVec Ideal S256x512 .bf16) (C S : FVec Ideal S768x512 .f32)
/-- The normed rows. -/
def nq : FVec Ideal S768x256 .bf16 :=
  truncf .bf16 (mulf (mulf (extf .f32 x bitsLt_bf16_f32) (broadcastTo S768x256 (rsqrt (addf (mulf (shapeCast S768x1 (multiReduction .add [1] S768 (mulf (extf .f32 x bitsLt_bf16_f32) (extf .f32 x bitsLt_bf16_f32) : FVec Ideal S768x256 .f32) 0x00000000#32 reduces_S768x256_S768 (.inl rfl) rfl) shapeCasts_S768_S768x1) (broadcast S768x1 Mla.c192)) (broadcast S768x1 (Scalar.ofBits .f32 0x358637BD#32)))) broadcasts_S768x1_S768x256)) (broadcastTo S768x256 g broadcasts_S1x256_S768x256)) bitsLt_bf16_f32
theorem nq_apply (r : Fin 768) (k : Fin 256) : nq x g (ix2 r k) = Rows.rms Mla.c192 (fun k => x (ix2 r k)) (fun k => g (ix2 0 k)) k := by
  pointwise [nq]
  rfl
/-- The two products, each times its table, summed and scaled. -/
def payQ : FVec Ideal S768x512 .bf16 :=
  truncf .bf16 (mulf (addf (mulf (matmul dot_S768x256_S256x512_S768x512_1_0_0_1_n_n none (nq x g) w (constant S768x512 .f32 0x00000000#32)) C)
    (mulf (matmul dot_S768x256_S256x512_S768x512_1_0_0_1_n_n none (nq x g) w' (constant S768x512 .f32 0x00000000#32)) S)) (broadcast S768x512 (Scalar.ofBits .f32 0x3E16C740#32))) bitsLt_bf16_f32
theorem payQ_apply (r : Fin 768) (j : Fin 512) : payQ x g w w' C S (ix2 r j) =
    ((∑ k, Rows.rms Mla.c192 (fun k => x (ix2 r k)) (fun k => g (ix2 0 k)) k * w (ix2 k j)) * C (ix2 r j) +
      (∑ k, Rows.rms Mla.c192 (fun k => x (ix2 r k)) (fun k => g (ix2 0 k)) k * w' (ix2 k j)) * S (ix2 r j)) * Mla.scale := by
  pointwise [payQ, nq_apply]
  rfl
end
theorem pay4_eq (v0 v2 : FVec Ideal S768x128 .f32) (x : FVec Ideal S768x256 .bf16) (g : FVec Ideal S1x256 .f32) (w w' : FVec Ideal S256x512 .bf16) :
    k0_pay4 v0 v2 x g w w' = payQ x g w w' (cat4 v0) (cat4 v2) := by
  have e : k0_pay4 v0 v2 x g w w' = payQ (shapeCast S768x256 x shapeCasts_S768x256_S768x256) (shapeCast S1x256 g shapeCasts_S1x256_S1x256)
      (shapeCast S256x512 w shapeCasts_S256x512_S256x512) (shapeCast S256x512 w' shapeCasts_S256x512_S256x512) (cat4 (k0_pay2 v0)) (cat4 (k0_pay3 v2)) := by
    unfold k0_pay4 payQ nq cat4
    dsimp only
    rw [inv_192]
  rw [e]
  unfold k0_pay2 k0_pay3
  simp only [shapeCast_self]

section
variable (x : Vec Ideal S768x128 .bf16) (g : Vec Ideal S1x128 .f32)
theorem pay5_apply (r : Fin 768) (k : Fin 128) : (k0_pay5 x g : FVec Ideal S768x128 .bf16) (ix2 r k) = Rows.rms Mla.c128 (fun k => x (ix2 r k)) (fun k => g (ix2 0 k)) k := by
  pointwise [k0_pay5]
  rfl
/-- The keys: the product plus the rotated key under every head. -/
def payK (w : FVec Ideal S128x512 .bf16) (K : FVec Ideal S768x512 .f32) : FVec Ideal S768x512 .bf16 :=
  truncf .bf16 (addf (matmul dot_S768x128_S128x512_S768x512_1_0_0_1_n_n none (k0_pay5 x g) w (constant S768x512 .f32 0x00000000#32)) K) bitsLt_bf16_f32
theorem payK_apply (w : FVec Ideal S128x512 .bf16) (K : FVec Ideal S768x512 .f32) (r : Fin 768) (j : Fin 512) : payK x g w K (ix2 r j) =
    (∑ k, Rows.rms Mla.c128 (fun k => x (ix2 r k)) (fun k => g (ix2 0 k)) k * w (ix2 k j)) + K (ix2 r j) := by
  pointwise [payK, pay5_apply]
/-- The rotated key. -/
def rk (c s : FVec Ideal S768x128 .f32) (a b : FVec Ideal S768x128 .bf16) : FVec Ideal S768x128 .f32 :=
  addf (mulf (extf .f32 a bitsLt_bf16_f32) c) (mulf (extf .f32 b bitsLt_bf16_f32) s)
theorem rk_apply (c s : FVec Ideal S768x128 .f32) (a b : FVec Ideal S768x128 .bf16) (r : Fin 768) (e : Fin 128) :
    rk c s a b (ix2 r e) = a (ix2 r e) * c (ix2 r e) + b (ix2 r e) * s (ix2 r e) := by
  pointwise [rk]
theorem pay6_eq (v0 v2 : FVec Ideal S768x128 .f32) (w : FVec Ideal S128x512 .bf16) (a b : FVec Ideal S768x128 .bf16) :
    k0_pay6 (k0_pay2 v0) (k0_pay3 v2) x g w a b = payK x g w (cat4 (rk v0 v2 a b)) := by
  have e : k0_pay6 (k0_pay2 v0) (k0_pay3 v2) x g w a b = payK x g (shapeCast S128x512 w shapeCasts_S128x512_S128x512)
      (cat4 (rk (k0_pay2 v0) (k0_pay3 v2) (shapeCast S768x128 a shapeCasts_S768x128_S768x128) (shapeCast S768x128 b shapeCasts_S768x128_S768x128))) := by
    unfold k0_pay6 payK rk cat4
    rfl
  rw [e]
  unfold k0_pay2 k0_pay3
  simp only [shapeCast_self]
theorem pay7_apply (w : FVec Ideal S256x128 .bf16) (j : Fin 256) (r : Fin 768) : k0_pay1 (k0_pay7 x g w) (ix3 0 j r) =
    ∑ k, w (ix2 j k) * Rows.rms Mla.c128 (fun k => x (ix2 r k)) (fun k => g (ix2 0 k)) k := by
  pointwise [k0_pay1, k0_pay7, pay5_apply]
end

set_option maxHeartbeats 4000000 in
theorem tile_q (t : Fin cfg0.N) : ((outsAt0 m c t).1 : Vec Ideal S768x512 .bf16) =
    payQ (X0_0 m c t) (iblk m c 6 t) (iblk m c 8 t) (iblk m c 9 t) (cat4 (iblk m c 4 t)) (cat4 (iblk m c 5 t)) := by
  refine Eq.trans ?_ (pay4_eq _ _ _ _ _ _)
  unfold outsAt0 out0_A_12 kernelRun0_A
  dsimp only
  simp (disch := decide) only [View.read_writes_junk_eq_canon, View.readAt_eq_ld, Memref.IsWhole.read_unread, View.ld_unit_lit', View.canon_cons_unit_lit', View.readCov_unit_lit', View.readCov_cons_unit_lit']
set_option maxHeartbeats 4000000 in
theorem tile_k (t : Fin cfg0.N) : ((outsAt0 m c t).2.1 : Vec Ideal S768x512 .bf16) =
    payK (iblk m c 1 t) (iblk m c 7 t) (iblk m c 10 t) (cat4 (rk (iblk m c 4 t) (iblk m c 5 t) (iblk m c 2 t) (iblk m c 3 t))) := by
  refine Eq.trans ?_ (pay6_eq _ _ _ _ _ _ _)
  unfold outsAt0 out0_A_13 kernelRun0_A kernelRun0_A.sl.r kernelRun0_A.sl.r_1
  dsimp only
  simp (disch := decide) only [View.read_writes_junk_eq_canon, View.readAt_eq_ld, Memref.IsWhole.read_unread, View.ld_unit_lit', View.canon_cons_unit_lit', View.readCov_unit_lit', View.readCov_cons_unit_lit']
set_option maxHeartbeats 4000000 in
theorem tile_v (t : Fin cfg0.N) : ((outsAt0 m c t).2.2 : Vec Ideal S1x256x768 .bf16) =
    k0_pay1 (k0_pay7 (iblk m c 1 t) (iblk m c 7 t) (iblk m c 11 t)) := by
  unfold outsAt0 out0_A_14 kernelRun0_A kernelRun0_A.sl.r_2
  dsimp only
  simp (disch := decide) only [View.read_writes_junk_eq_canon, View.readAt_eq_ld, Memref.IsWhole.read_unread, View.ld_unit_lit', View.canon_cons_unit_lit', View.readCov_unit_lit', View.readCov_cons_unit_lit']

end Cert.Kernel5Ideal.Value
end
-- ==== Proof.MlaArrays.lean ====
module

public import proofs.«01_k».proof.Proof.Gen.Kernel5Ideal.Frame
public import proofs.«01_k».proof.Proof.Mla
public import Idealize.ShloMosaic.Lib.Pipeline.ValueKit
public import Idealize.ShloMosaic.Lib.Pipeline.ReadBack
public import Idealize.ShloMosaic.Lib.Pointwise
/-!
The latent attention's projections: the arrays the grid finds, at an index, in terms of the arguments.
-/
@[expose] public section
set_option maxRecDepth 16384
noncomputable section
namespace Cert.Kernel5Ideal.Value
open Cert.Kernel5Ideal Cert.Kernel5Ideal.Gen Idealize.ShloMosaic Idealize.ShloMosaic.TcCoe Idealize.SL.Sem
variable (m : (ℓ : Loc nD τ sig) → Buf (Elt Ideal) ℓ) (ρ : Dev nD → PrngReg) (c : Dev nD)
abbrev A0 : Vec Ideal S8x8208x192 .f32 := m ((c.tc : Thread nD τ).loc main_arg0)
abbrev A1 : Vec Ideal S8x8208x128 .f32 := m ((c.tc : Thread nD τ).loc main_arg1)
abbrev A2 : Vec Ideal S8x8208x32 .f32 := m ((c.tc : Thread nD τ).loc main_arg2)
abbrev A3 : Vec Ideal S192 .f32 := m ((c.tc : Thread nD τ).loc main_arg3)
abbrev A4 : Vec Ideal S128 .f32 := m ((c.tc : Thread nD τ).loc main_arg4)
abbrev A5 : Vec Ideal S192x384 .f32 := m ((c.tc : Thread nD τ).loc main_arg5)
abbrev A6 : Vec Ideal S128x512 .f32 := m ((c.tc : Thread nD τ).loc main_arg6)

/-- The rotary key's halves exchanged, one negated. -/
def rotk (a2 : FVec Ideal S8x8208x32 .f32) : FVec Ideal S8x8208x32 .f32 :=
  concatenate S8x8208x32 2 [⟨S8x8208x16, (Host.negf (F := Ideal) (φ := .f32) (extractStridedSlice S8x8208x16 ![0, 0, 16] a2 slices_S8x8208x32_S8x8208x16_0_0_16) : (⟨S8x8208x16, .f32⟩ : BufTy).Contents (Elt Ideal))⟩, ⟨S8x8208x16, (extractStridedSlice S8x8208x16 ![0, 0, 0] a2 slices_S8x8208x32_S8x8208x16_0_0_0 : (⟨S8x8208x16, .f32⟩ : BufTy).Contents (Elt Ideal))⟩] concatenates_S8x8208x16_S8x8208x16_S8x8208x32_d2
/-- The wide array the kernel reads. -/
def wide (a0 : FVec Ideal S8x8208x192 .f32) (a1 : FVec Ideal S8x8208x128 .f32) (a2 : FVec Ideal S8x8208x32 .f32) : FVec Ideal S8x8208x2944 .f32 :=
  concatenate S8x8208x2944 2 [⟨S8x8208x2304, ((broadcastInDim S8x8208x2304 ![] bcast_S_S8x8208x2304 (constant (F := Ideal) S_ .f32 0x00000000#32)) : (⟨S8x8208x2304, .f32⟩ : BufTy).Contents (Elt Ideal))⟩, ⟨S8x8208x192, (a0 : (⟨S8x8208x192, .f32⟩ : BufTy).Contents (Elt Ideal))⟩, ⟨S8x8208x64, ((broadcastInDim S8x8208x64 ![] bcast_S_S8x8208x64 (constant (F := Ideal) S_ .f32 0x00000000#32)) : (⟨S8x8208x64, .f32⟩ : BufTy).Contents (Elt Ideal))⟩, ⟨S8x8208x128, (a1 : (⟨S8x8208x128, .f32⟩ : BufTy).Contents (Elt Ideal))⟩, ⟨S8x8208x64, ((broadcastInDim S8x8208x64 ![] bcast_S_S8x8208x64 (constant (F := Ideal) S_ .f32 0x00000000#32)) : (⟨S8x8208x64, .f32⟩ : BufTy).Contents (Elt Ideal))⟩, ⟨S8x8208x32, (a2 : (⟨S8x8208x32, .f32⟩ : BufTy).Contents (Elt Ideal))⟩, ⟨S8x8208x96, ((broadcastInDim S8x8208x96 ![] bcast_S_S8x8208x96 (constant (F := Ideal) S_ .f32 0x00000000#32)) : (⟨S8x8208x96, .f32⟩ : BufTy).Contents (Elt Ideal))⟩, ⟨S8x8208x32, (rotk a2 : (⟨S8x8208x32, .f32⟩ : BufTy).Contents (Elt Ideal))⟩, ⟨S8x8208x32, ((broadcastInDim S8x8208x32 ![] bcast_S_S8x8208x32 (constant (F := Ideal) S_ .f32 0x00000000#32)) : (⟨S8x8208x32, .f32⟩ : BufTy).Contents (Elt Ideal))⟩] concatenates_S8x8208x2304_S8x8208x192_S8x8208x64_S8x8208x128_S8x8208x64_S8x8208x32_S8x8208x96_S8x8208x32_S8x8208x32_S8x8208x2944_d2
/-- The angles. -/
def angs : FVec Ideal S8448x16 .f32 := mulf (broadcastInDim S8448x16 ![0, 1] bcast_S8448x1_S8448x16_0_1 (broadcastInDim S8448x1 ![0] bcast_S8448_S8448x1_0 (sitofp .f32 (iotaInDim S8448 32 0))))
  (broadcastInDim S8448x16 ![0, 1] bcast_S1x16_S8448x16_0_1 (broadcastInDim S1x16 ![1] bcast_S16_S1x16_1 (Host.divf (broadcastInDim S16 ![] bcast_S_S16 (constant S_ .f32 0x3F800000#32)) (Host.powf (broadcastInDim S16 ![] bcast_S_S16 (constant S_ .f32 0x461C4000#32)) (Host.divf (addf (broadcastInDim S16 ![] bcast_S_S16 (constant S_ .f32 0x00000000#32)) (mulf (broadcastInDim S16 ![] bcast_S_S16 (constant S_ .f32 0x40000000#32)) (sitofp .f32 (iotaInDim S16 32 0)))) (broadcastInDim S16 ![] bcast_S_S16 (constant S_ .f32 0x42000000#32)))))))
theorem angs_apply (p : Fin 8448) (d : Fin 16) : angs (ix2 p d) = Mla.ang p.val d.val := by
  pointwise [angs]
  rfl
/-- The angles twice. -/
def ang2 : FVec Ideal S8448x32 .f32 := concatenate S8448x32 1 [⟨S8448x16, (angs : (⟨S8448x16, .f32⟩ : BufTy).Contents (Elt Ideal))⟩, ⟨S8448x16, (angs : (⟨S8448x16, .f32⟩ : BufTy).Contents (Elt Ideal))⟩] concatenates_S8448x16_S8448x16_S8448x32_d1
theorem ang2_apply (p : Fin 8448) (d : Fin 32) : ang2 (ix2 p d) = Mla.ang p.val (if d.val < 16 then d.val else d.val - 16) := by
  pointwise [ang2, angs_apply]
  split <;> rfl
/-- The cosine table. -/
def tc : FVec Ideal S8448x128 .f32 := concatenate S8448x128 1 [⟨S8448x64, ((broadcastInDim S8448x64 ![] bcast_S_S8448x64 (constant (F := Ideal) S_ .f32 0x3F800000#32)) : (⟨S8448x64, .f32⟩ : BufTy).Contents (Elt Ideal))⟩, ⟨S8448x32, (Host.cos (F := Ideal) (φ := .f32) ang2 : (⟨S8448x32, .f32⟩ : BufTy).Contents (Elt Ideal))⟩, ⟨S8448x32, ((broadcastInDim S8448x32 ![] bcast_S_S8448x32 (constant (F := Ideal) S_ .f32 0x3F800000#32)) : (⟨S8448x32, .f32⟩ : BufTy).Contents (Elt Ideal))⟩] concatenates_S8448x64_S8448x32_S8448x32_S8448x128_d1
/-- The sine table. -/
def ts : FVec Ideal S8448x128 .f32 := concatenate S8448x128 1 [⟨S8448x64, (mulf (F := Ideal) (φ := .f32) (broadcastInDim S8448x64 ![] bcast_S_S8448x64 (constant (F := Ideal) S_ .f32 0x00000000#32)) (broadcastInDim S8448x64 ![] bcast_S_S8448x64 (constant (F := Ideal) S_ .f32 0x3F800000#32)) : (⟨S8448x64, .f32⟩ : BufTy).Contents (Elt Ideal))⟩, ⟨S8448x32, (Host.sin (F := Ideal) (φ := .f32) ang2 : (⟨S8448x32, .f32⟩ : BufTy).Contents (Elt Ideal))⟩, ⟨S8448x32, ((broadcastInDim S8448x32 ![] bcast_S_S8448x32 (constant (F := Ideal) S_ .f32 0x00000000#32)) : (⟨S8448x32, .f32⟩ : BufTy).Contents (Elt Ideal))⟩] concatenates_S8448x64_S8448x32_S8448x32_S8448x128_d1
/-- The query weights by head. -/
def wh (a5 : FVec Ideal S192x384 .f32) : FVec Ideal S192x4x96 .f32 := shapeCast S192x4x96 a5 shapeCasts_S192x384_S192x4x96
/-- Their rotary columns. -/
def whr (a5 : FVec Ideal S192x384 .f32) : FVec Ideal S192x4x32 .f32 := extractStridedSlice S192x4x32 ![0, 0, 64] (wh a5) slices_S192x4x96_S192x4x32_0_0_64
/-- The query weights, each head's 96 columns and 32 of zeros. -/
def wqh (a5 : FVec Ideal S192x384 .f32) : FVec Ideal S192x4x128 .f32 := concatenate S192x4x128 2 [⟨S192x4x96, (wh a5 : (⟨S192x4x96, .f32⟩ : BufTy).Contents (Elt Ideal))⟩, ⟨S192x4x32, ((broadcastInDim S192x4x32 ![] bcast_S_S192x4x32 (constant (F := Ideal) S_ .f32 0x00000000#32)) : (⟨S192x4x32, .f32⟩ : BufTy).Contents (Elt Ideal))⟩] concatenates_S192x4x96_S192x4x32_S192x4x128_d2
/-- The rotary columns with the halves exchanged, one negated. -/
def whn (a5 : FVec Ideal S192x384 .f32) : FVec Ideal S192x4x32 .f32 := concatenate S192x4x32 2 [⟨S192x4x16, (Host.negf (F := Ideal) (φ := .f32) (extractStridedSlice S192x4x16 ![0, 0, 16] (whr a5) slices_S192x4x32_S192x4x16_0_0_16) : (⟨S192x4x16, .f32⟩ : BufTy).Contents (Elt Ideal))⟩, ⟨S192x4x16, (extractStridedSlice S192x4x16 ![0, 0, 0] (whr a5) slices_S192x4x32_S192x4x16_0_0_0 : (⟨S192x4x16, .f32⟩ : BufTy).Contents (Elt Ideal))⟩] concatenates_S192x4x16_S192x4x16_S192x4x32_d2
/-- The same between zero columns. -/
def wqn (a5 : FVec Ideal S192x384 .f32) : FVec Ideal S192x4x128 .f32 := concatenate S192x4x128 2 [⟨S192x4x64, ((broadcastInDim S192x4x64 ![] bcast_S_S192x4x64 (constant (F := Ideal) S_ .f32 0x00000000#32)) : (⟨S192x4x64, .f32⟩ : BufTy).Contents (Elt Ideal))⟩, ⟨S192x4x32, (whn a5 : (⟨S192x4x32, .f32⟩ : BufTy).Contents (Elt Ideal))⟩, ⟨S192x4x32, ((broadcastInDim S192x4x32 ![] bcast_S_S192x4x32 (constant (F := Ideal) S_ .f32 0x00000000#32)) : (⟨S192x4x32, .f32⟩ : BufTy).Contents (Elt Ideal))⟩] concatenates_S192x4x64_S192x4x32_S192x4x32_S192x4x128_d2
/-- 192 rows of weights and 64 of zeros. -/
def padw (w : FVec Ideal S192x4x128 .f32) : FVec Ideal S256x512 .f32 := concatenate S256x512 0 [⟨S192x512, (shapeCast S192x512 w shapeCasts_S192x4x128_S192x512 : (⟨S192x512, .f32⟩ : BufTy).Contents (Elt Ideal))⟩, ⟨S64x512, ((broadcastInDim S64x512 ![] bcast_S_S64x512 (constant (F := Ideal) S_ .f32 0x00000000#32)) : (⟨S64x512, .f32⟩ : BufTy).Contents (Elt Ideal))⟩] concatenates_S192x512_S64x512_S256x512_d0
/-- The key and value weights by head. -/
def wkv (a6 : FVec Ideal S128x512 .f32) : FVec Ideal S128x4x128 .f32 := shapeCast S128x4x128 a6 shapeCasts_S128x512_S128x4x128
/-- The key weights, each head's 64 columns and 64 of zeros. -/
def wkh (a6 : FVec Ideal S128x512 .f32) : FVec Ideal S128x4x128 .f32 := concatenate S128x4x128 2 [⟨S128x4x64, (extractStridedSlice S128x4x64 ![0, 0, 0] (wkv a6) slices_S128x4x128_S128x4x64_0_0_0 : (⟨S128x4x64, .f32⟩ : BufTy).Contents (Elt Ideal))⟩, ⟨S128x4x64, ((broadcastInDim S128x4x64 ![] bcast_S_S128x4x64 (constant (F := Ideal) S_ .f32 0x00000000#32)) : (⟨S128x4x64, .f32⟩ : BufTy).Contents (Elt Ideal))⟩] concatenates_S128x4x64_S128x4x64_S128x4x128_d2
/-- The key weights. -/
def wk (a6 : FVec Ideal S128x512 .f32) : FVec Ideal S128x512 .f32 := shapeCast S128x512 (wkh a6) shapeCasts_S128x4x128_S128x512
/-- The value weights, transposed. -/
def wvt (a6 : FVec Ideal S128x512 .f32) : FVec Ideal S256x128 .f32 :=
  transpose S256x128 [1, 0] (shapeCast S128x256 (extractStridedSlice S128x4x64 ![0, 0, 64] (wkv a6) slices_S128x4x128_S128x4x64_0_0_64 : FVec Ideal S128x4x64 .f32) shapeCasts_S128x4x64_S128x256) transposes_S128x256_S256x128_1_0
/-- The queries' gain and 64 zeros. -/
def gq (a3 : FVec Ideal S192 .f32) : FVec Ideal S1x256 .f32 := shapeCast S1x256 (concatenate S256 0 [⟨S192, (a3 : (⟨S192, .f32⟩ : BufTy).Contents (Elt Ideal))⟩, ⟨S64, ((broadcastInDim S64 ![] bcast_S_S64 (constant (F := Ideal) S_ .f32 0x00000000#32)) : (⟨S64, .f32⟩ : BufTy).Contents (Elt Ideal))⟩] concatenates_S192_S64_S256_d0 : FVec Ideal S256 .f32) shapeCasts_S256_S1x256

set_option maxHeartbeats 4000000 in
theorem V_v12 : (V m c main_v12 : Vec Ideal S67584x2944 .bf16) = shapeCast S67584x2944 (truncf .bf16 (pad S8x8448x2944 ![0, 0, 0] ![0, 240, 0] ![0, 0, 0] (wide (A0 m c) (A1 m c) (A2 m c)) (sitofp (F := Ideal) .f32 (constantI S_ 32 0#32)) pads_S8x8208x2944_S8x8448x2944_000_02400_000 h_S_ : FVec Ideal S8x8448x2944 .f32) bitsLt_bf16_f32) shapeCasts_S8x8448x2944_S67584x2944 := by
  show StableHlo.after _ _ _ = _
  simp only [hostOps0, hostOps0_1, hostOps0_2, List.flatten_cons,
    List.flatten_nil, List.append_nil, List.cons_append, List.nil_append]
  after_results <;> rfl
set_option maxHeartbeats 4000000 in
theorem V_v34 : (V m c main_v34 : Vec Ideal S8448x128 .f32) = tc := by
  show StableHlo.after _ _ _ = _
  simp only [hostOps0, hostOps0_1, hostOps0_2, List.flatten_cons,
    List.flatten_nil, List.append_nil, List.cons_append, List.nil_append]
  after_results <;> rfl
set_option maxHeartbeats 4000000 in
theorem V_v39 : (V m c main_v39 : Vec Ideal S8448x128 .f32) = ts := by
  show StableHlo.after _ _ _ = _
  simp only [hostOps0, hostOps0_1, hostOps0_2, List.flatten_cons,
    List.flatten_nil, List.append_nil, List.cons_append, List.nil_append]
  after_results <;> rfl
set_option maxHeartbeats 4000000 in
theorem V_v54 : (V m c main_v54 : Vec Ideal S256x512 .bf16) = truncf .bf16 (padw (wqh (A5 m c))) bitsLt_bf16_f32 := by
  show StableHlo.after _ _ _ = _
  simp only [hostOps0, hostOps0_1, hostOps0_2, List.flatten_cons,
    List.flatten_nil, List.append_nil, List.cons_append, List.nil_append]
  after_results <;> rfl
set_option maxHeartbeats 4000000 in
theorem V_v56 : (V m c main_v56 : Vec Ideal S256x512 .bf16) = truncf .bf16 (padw (wqn (A5 m c))) bitsLt_bf16_f32 := by
  show StableHlo.after _ _ _ = _
  simp only [hostOps0, hostOps0_1, hostOps0_2, List.flatten_cons,
    List.flatten_nil, List.append_nil, List.cons_append, List.nil_append]
  after_results <;> rfl
set_option maxHeartbeats 4000000 in
theorem V_v65 : (V m c main_v65 : Vec Ideal S128x512 .bf16) = truncf .bf16 (wk (A6 m c)) bitsLt_bf16_f32 := by
  show StableHlo.after _ _ _ = _
  simp only [hostOps0, hostOps0_1, hostOps0_2, List.flatten_cons,
    List.flatten_nil, List.append_nil, List.cons_append, List.nil_append]
  after_results <;> rfl
set_option maxHeartbeats 4000000 in
theorem V_v66 : (V m c main_v66 : Vec Ideal S256x128 .bf16) = truncf .bf16 (wvt (A6 m c)) bitsLt_bf16_f32 := by
  show StableHlo.after _ _ _ = _
  simp only [hostOps0, hostOps0_1, hostOps0_2, List.flatten_cons,
    List.flatten_nil, List.append_nil, List.cons_append, List.nil_append]
  after_results <;> rfl
set_option maxHeartbeats 4000000 in
theorem V_v69 : (V m c main_v69 : Vec Ideal S1x256 .f32) = gq (A3 m c) := by
  show StableHlo.after _ _ _ = _
  simp only [hostOps0, hostOps0_1, hostOps0_2, List.flatten_cons,
    List.flatten_nil, List.append_nil, List.cons_append, List.nil_append]
  after_results <;> rfl
set_option maxHeartbeats 4000000 in
theorem V_v70 : (V m c main_v70 : Vec Ideal S1x128 .f32) = shapeCast S1x128 (A4 m c) shapeCasts_S128_S1x128 := by
  show StableHlo.after _ _ _ = _
  simp only [hostOps0, hostOps0_1, hostOps0_2, List.flatten_cons,
    List.flatten_nil, List.append_nil, List.cons_append, List.nil_append]
  after_results <;> rfl

end Cert.Kernel5Ideal.Value
end
-- ==== Proof.MlaBlocks.lean ====
module

public import proofs.«01_k».proof.Proof.Gen.Kernel5Ideal.Frame
public import proofs.«01_k».proof.Proof.MlaArrays
public import Idealize.ShloMosaic.Lib.Pipeline.ValueKit
public import Idealize.ShloMosaic.Lib.Pipeline.ReadBack
public import Idealize.ShloMosaic.Lib.Pointwise
/-!
The latent attention's projections: the blocks the points read, at an index.
-/
@[expose] public section
set_option maxRecDepth 16384
noncomputable section
namespace Cert.Kernel5Ideal.Value
open Cert.Kernel5Ideal Cert.Kernel5Ideal.Gen Idealize.ShloMosaic Idealize.ShloMosaic.TcCoe Idealize.SL.Sem
variable (m : (ℓ : Loc nD τ sig) → Buf (Elt Ideal) ℓ) (ρ : Dev nD → PrngReg) (c : Dev nD)
section
variable (a0 : FVec Ideal S8x8208x192 .f32) (a1 : FVec Ideal S8x8208x128 .f32) (a2 : FVec Ideal S8x8208x32 .f32) (a3 : FVec Ideal S192 .f32)
  (a5 : FVec Ideal S192x384 .f32) (a6 : FVec Ideal S128x512 .f32)
theorem padw_hi (w : FVec Ideal S192x4x128 .f32) (k : Fin 64) (j : Fin 512) : padw w (ix2 ⟨192 + k.val, by omega⟩ j) = 0 := by
  pointwise [padw]
theorem padw_lo (w : FVec Ideal S192x4x128 .f32) (k : Fin 192) (h : Fin 4) (e : Fin 128) :
    padw w (ix2 ⟨k.val, by omega⟩ ⟨128 * h.val + e.val, by omega⟩) = w (ix3 k h e) := by
  pointwise [padw]
theorem wqh_at (k : Fin 192) (h : Fin 4) (e : Fin 96) : wqh a5 (ix3 k h ⟨e.val, by omega⟩) = a5 (ix2 k ⟨96 * h.val + e.val, by omega⟩) := by
  pointwise [wqh, wh]
  exact congrArg (fun q => a5 (ix2 k q)) (Fin.ext (by simp only []; omega))
theorem wqn_lo (k : Fin 192) (h : Fin 4) (e : Fin 64) : wqn a5 (ix3 k h ⟨e.val, by omega⟩) = 0 := by
  pointwise [wqn]
theorem wqn_mid (k : Fin 192) (h : Fin 4) (e : Fin 32) : wqn a5 (ix3 k h ⟨64 + e.val, by omega⟩) = whn a5 (ix3 k h e) := by
  pointwise [wqn]
theorem whn_lo (k : Fin 192) (h : Fin 4) (e : Fin 16) : whn a5 (ix3 k h ⟨e.val, by omega⟩) = -(a5 (ix2 k ⟨96 * h.val + (80 + e.val), by omega⟩)) := by
  pointwise [whn, whr, wh]
  exact congrArg (fun q => -(a5 (ix2 k q))) (Fin.ext (by simp only []; omega))
theorem whn_hi (k : Fin 192) (h : Fin 4) (e : Fin 16) : whn a5 (ix3 k h ⟨16 + e.val, by omega⟩) = a5 (ix2 k ⟨96 * h.val + (64 + e.val), by omega⟩) := by
  pointwise [whn, whr, wh]
  exact congrArg (fun q => a5 (ix2 k q)) (Fin.ext (by simp only []; omega))
theorem wk_lo (k : Fin 128) (h : Fin 4) (e : Fin 64) : wk a6 (ix2 k ⟨128 * h.val + e.val, by omega⟩) = a6 (ix2 k ⟨128 * h.val + e.val, by omega⟩) := by
  pointwise [wk, wkh, wkv]
  rw [dif_pos (by omega)]
  exact congrArg (fun q => a6 (ix2 k q)) (Fin.ext (by simp only []; omega))
theorem wk_hi (k : Fin 128) (h : Fin 4) (e : Fin 64) : wk a6 (ix2 k ⟨128 * h.val + (64 + e.val), by omega⟩) = 0 := by
  pointwise [wk, wkh, wkv]
  rw [dif_neg (by omega)]
theorem wvt_at (k : Fin 128) (h : Fin 4) (e : Fin 64) : wvt a6 (ix2 ⟨64 * h.val + e.val, by omega⟩ k) = a6 (ix2 k ⟨128 * h.val + (64 + e.val), by omega⟩) := by
  pointwise [wvt, wkv]
  exact congrArg (fun q => a6 (ix2 k q)) (Fin.ext (by simp only []; omega))
theorem tc_lo (p : Fin 8448) (e : Fin 64) : tc (ix2 p ⟨e.val, by omega⟩) = 1 := by
  pointwise [tc]
theorem tc_mid (p : Fin 8448) (e : Fin 32) : tc (ix2 p ⟨64 + e.val, by omega⟩) = Mla.co p.val e.val := by
  pointwise [tc, ang2_apply]
  rfl
theorem ts_lo (p : Fin 8448) (e : Fin 64) : ts (ix2 p ⟨e.val, by omega⟩) = 0 := by
  pointwise [ts]
theorem ts_mid (p : Fin 8448) (e : Fin 32) : ts (ix2 p ⟨64 + e.val, by omega⟩) = Mla.si p.val e.val := by
  pointwise [ts, ang2_apply]
  rfl
theorem gq_lo (k : Fin 192) : gq a3 (ix2 0 ⟨k.val, by omega⟩) = a3 (ix1 k) := by
  pointwise [gq]
theorem rotk_lo (b : Fin 8) (p : Fin 8208) (e : Fin 16) : rotk a2 (ix3 b p ⟨e.val, by omega⟩) = -(a2 (ix3 b p ⟨16 + e.val, by omega⟩)) := by
  pointwise [rotk]
theorem rotk_hi (b : Fin 8) (p : Fin 8208) (e : Fin 16) : rotk a2 (ix3 b p ⟨16 + e.val, by omega⟩) = a2 (ix3 b p ⟨e.val, by omega⟩) := by
  pointwise [rotk]
theorem wide_q (b : Fin 8) (p : Fin 8208) (k : Fin 192) : wide a0 a1 a2 (ix3 b p ⟨2304 + k.val, by omega⟩) = a0 (ix3 b p k) := by
  pointwise [wide]
theorem wide_q0 (b : Fin 8) (p : Fin 8208) (k : Fin 64) : wide a0 a1 a2 (ix3 b p ⟨2304 + (192 + k.val), by omega⟩) = 0 := by
  pointwise [wide]
theorem wide_c (b : Fin 8) (p : Fin 8208) (k : Fin 128) : wide a0 a1 a2 (ix3 b p ⟨2560 + k.val, by omega⟩) = a1 (ix3 b p k) := by
  pointwise [wide]
  rw [dif_neg (by omega)]
  rw [dif_neg (by omega)]
  rw [dif_neg (by omega)]
  rw [dif_pos (by omega)]
  exact congrArg (fun q => a1 (ix3 b p q)) (Fin.ext (by simp only []; omega))
theorem wide_k0 (b : Fin 8) (p : Fin 8208) (k : Fin 64) : wide a0 a1 a2 (ix3 b p ⟨2688 + k.val, by omega⟩) = 0 := by
  pointwise [wide]
  rw [dif_neg (by omega)]
  rw [dif_neg (by omega)]
  rw [dif_neg (by omega)]
  rw [dif_neg (by omega)]
  rw [dif_pos (by omega)]
theorem wide_k (b : Fin 8) (p : Fin 8208) (k : Fin 32) : wide a0 a1 a2 (ix3 b p ⟨2688 + (64 + k.val), by omega⟩) = a2 (ix3 b p k) := by
  pointwise [wide]
  rw [dif_neg (by omega)]
  rw [dif_neg (by omega)]
  rw [dif_neg (by omega)]
  rw [dif_neg (by omega)]
  rw [dif_neg (by omega)]
  rw [dif_pos (by omega)]
  exact congrArg (fun q => a2 (ix3 b p q)) (Fin.ext (by simp only []; omega))
theorem wide_r0 (b : Fin 8) (p : Fin 8208) (k : Fin 64) : wide a0 a1 a2 (ix3 b p ⟨2816 + k.val, by omega⟩) = 0 := by
  pointwise [wide]
  rw [dif_neg (by omega)]
  rw [dif_neg (by omega)]
  rw [dif_neg (by omega)]
  rw [dif_neg (by omega)]
  rw [dif_neg (by omega)]
  rw [dif_neg (by omega)]
  rw [dif_pos (by omega)]
theorem wide_r (b : Fin 8) (p : Fin 8208) (k : Fin 32) : wide a0 a1 a2 (ix3 b p ⟨2816 + (64 + k.val), by omega⟩) = rotk a2 (ix3 b p k) := by
  pointwise [wide]
  rw [dif_neg (by omega)]
  rw [dif_neg (by omega)]
  rw [dif_neg (by omega)]
  rw [dif_neg (by omega)]
  rw [dif_neg (by omega)]
  rw [dif_neg (by omega)]
  rw [dif_neg (by omega)]
  rw [dif_pos (by omega)]
  exact congrArg (fun q => rotk a2 (ix3 b p q)) (Fin.ext (by simp only []; omega))
end
theorem row_at (b : Fin 8) (p : Fin 8208) (j : Fin 2944) :
    (V m c main_v12 : Vec Ideal S67584x2944 .bf16) (ix2 ⟨8448 * b.val + p.val, by omega⟩ j) = wide (A0 m c) (A1 m c) (A2 m c) (ix3 b p j) := by
  rw [V_v12]
  generalize wide (A0 m c) (A1 m c) (A2 m c) = X
  pointwise
  rw [dif_pos (by omega)]
  exact congrArg (fun q => X (ix3 b q j)) (Fin.ext (by simp only []; omega))

theorem idxs : ∀ t : Fin cfg0.N,
    (cfg0.win 0).index t = ![t.val, 9] ∧ (cfg0.win 1).index t = ![t.val, 20] ∧ (cfg0.win 2).index t = ![t.val, 21] ∧ (cfg0.win 3).index t = ![t.val, 22] ∧
    (cfg0.win 4).index t = ![t.val % 11, 0] ∧ (cfg0.win 5).index t = ![t.val % 11, 0] := by decide +kernel
theorem idxo : ∀ t : Fin cfg0.N, (cfg0.win 12).index t = ![t.val, 0] ∧ (cfg0.win 13).index t = ![t.val, 0] ∧ (cfg0.win 14).index t = ![t.val / 11, 0, t.val % 11] := by decide +kernel
theorem idxw : ∀ t : Fin cfg0.N, (cfg0.win 6).index t = ![0, 0] ∧ (cfg0.win 7).index t = ![0, 0] ∧ (cfg0.win 8).index t = ![0, 0] ∧ (cfg0.win 9).index t = ![0, 0] ∧
    (cfg0.win 10).index t = ![0, 0] ∧ (cfg0.win 11).index t = ![0, 0] := by decide +kernel
section
variable (t : Fin cfg0.N) (b : Fin 8) (p : Fin 8208) (r : Fin 768) (ht : t.val = 11 * b.val + p.val / 768) (hr : r.val = p.val % 768)
include ht hr
theorem x0_at (k : Fin 256) : (X0_0 m c t : Vec Ideal S768x256 .bf16) (ix2 r k) = wide (A0 m c) (A1 m c) (A2 m c) (ix3 b p ⟨2304 + k.val, by omega⟩) := by
  refine Eq.trans ?_ (row_at m c b p _)
  obtain ⟨e0, e1, e2, e3, e4, e5⟩ := idxs t
  unfold X0_0 Pipeline.Window.fill
  rw [dif_pos (moved0_0 t _)]
  blk_ext [iblk, e0]
theorem x1_at (k : Fin 128) : (iblk m c 1 t : Vec Ideal S768x128 .bf16) (ix2 r k) = wide (A0 m c) (A1 m c) (A2 m c) (ix3 b p ⟨2560 + k.val, by omega⟩) := by
  refine Eq.trans ?_ (row_at m c b p _)
  obtain ⟨e0, e1, e2, e3, e4, e5⟩ := idxs t
  blk_ext [iblk, e1]
theorem x2_at (k : Fin 128) : (iblk m c 2 t : Vec Ideal S768x128 .bf16) (ix2 r k) = wide (A0 m c) (A1 m c) (A2 m c) (ix3 b p ⟨2688 + k.val, by omega⟩) := by
  refine Eq.trans ?_ (row_at m c b p _)
  obtain ⟨e0, e1, e2, e3, e4, e5⟩ := idxs t
  blk_ext [iblk, e2]
theorem x3_at (k : Fin 128) : (iblk m c 3 t : Vec Ideal S768x128 .bf16) (ix2 r k) = wide (A0 m c) (A1 m c) (A2 m c) (ix3 b p ⟨2816 + k.val, by omega⟩) := by
  refine Eq.trans ?_ (row_at m c b p _)
  obtain ⟨e0, e1, e2, e3, e4, e5⟩ := idxs t
  blk_ext [iblk, e3]
theorem x4_at (e : Fin 128) : (iblk m c 4 t : Vec Ideal S768x128 .f32) (ix2 r e) = tc (ix2 ⟨p.val, by omega⟩ e) := by
  have h : (iblk m c 4 t : Vec Ideal S768x128 .f32) (ix2 r e) = (V m c main_v34 : Vec Ideal S8448x128 .f32) (ix2 ⟨p.val, by omega⟩ e) := by
    obtain ⟨e0, e1, e2, e3, e4, e5⟩ := idxs t
    blk_ext [iblk, e4]
  rw [h, V_v34]
theorem x5_at (e : Fin 128) : (iblk m c 5 t : Vec Ideal S768x128 .f32) (ix2 r e) = ts (ix2 ⟨p.val, by omega⟩ e) := by
  have h : (iblk m c 5 t : Vec Ideal S768x128 .f32) (ix2 r e) = (V m c main_v39 : Vec Ideal S8448x128 .f32) (ix2 ⟨p.val, by omega⟩ e) := by
    obtain ⟨e0, e1, e2, e3, e4, e5⟩ := idxs t
    blk_ext [iblk, e5]
  rw [h, V_v39]
end
theorem x6_at (t : Fin cfg0.N) (j : Fin 256) : (iblk m c 6 t : Vec Ideal S1x256 .f32) (ix2 0 j) = (gq (A3 m c)) (ix2 0 j) := by
  have h : (iblk m c 6 t : Vec Ideal S1x256 .f32) (ix2 0 j) = (V m c main_v69 : Vec Ideal S1x256 .f32) (ix2 0 j) := by
    obtain ⟨e6, e7, e8, e9, e10, e11⟩ := idxw t
    blk_ext [iblk, e6]
  rw [h, V_v69]
theorem x7_at (t : Fin cfg0.N) (j : Fin 128) : (iblk m c 7 t : Vec Ideal S1x128 .f32) (ix2 0 j) = A4 m c (ix1 j) := by
  have h : (iblk m c 7 t : Vec Ideal S1x128 .f32) (ix2 0 j) = (V m c main_v70 : Vec Ideal S1x128 .f32) (ix2 0 j) := by
    obtain ⟨e6, e7, e8, e9, e10, e11⟩ := idxw t
    blk_ext [iblk, e7]
  rw [h, V_v70]
  pointwise
theorem x8_at (t : Fin cfg0.N) (i : Fin 256) (j : Fin 512) : (iblk m c 8 t : Vec Ideal S256x512 .bf16) (ix2 i j) = (padw (wqh (A5 m c))) (ix2 i j) := by
  have h : (iblk m c 8 t : Vec Ideal S256x512 .bf16) (ix2 i j) = (V m c main_v54 : Vec Ideal S256x512 .bf16) (ix2 i j) := by
    obtain ⟨e6, e7, e8, e9, e10, e11⟩ := idxw t
    blk_ext [iblk, e8]
  rw [h, V_v54]
  rfl
theorem x9_at (t : Fin cfg0.N) (i : Fin 256) (j : Fin 512) : (iblk m c 9 t : Vec Ideal S256x512 .bf16) (ix2 i j) = (padw (wqn (A5 m c))) (ix2 i j) := by
  have h : (iblk m c 9 t : Vec Ideal S256x512 .bf16) (ix2 i j) = (V m c main_v56 : Vec Ideal S256x512 .bf16) (ix2 i j) := by
    obtain ⟨e6, e7, e8, e9, e10, e11⟩ := idxw t
    blk_ext [iblk, e9]
  rw [h, V_v56]
  rfl
theorem x10_at (t : Fin cfg0.N) (i : Fin 128) (j : Fin 512) : (iblk m c 10 t : Vec Ideal S128x512 .bf16) (ix2 i j) = (wk (A6 m c)) (ix2 i j) := by
  have h : (iblk m c 10 t : Vec Ideal S128x512 .bf16) (ix2 i j) = (V m c main_v65 : Vec Ideal S128x512 .bf16) (ix2 i j) := by
    obtain ⟨e6, e7, e8, e9, e10, e11⟩ := idxw t
    blk_ext [iblk, e10]
  rw [h, V_v65]
  rfl
theorem x11_at (t : Fin cfg0.N) (i : Fin 256) (j : Fin 128) : (iblk m c 11 t : Vec Ideal S256x128 .bf16) (ix2 i j) = (wvt (A6 m c)) (ix2 i j) := by
  have h : (iblk m c 11 t : Vec Ideal S256x128 .bf16) (ix2 i j) = (V m c main_v66 : Vec Ideal S256x128 .bf16) (ix2 i j) := by
    obtain ⟨e6, e7, e8, e9, e10, e11⟩ := idxw t
    blk_ext [iblk, e11]
  rw [h, V_v66]
  rfl

end Cert.Kernel5Ideal.Value
end
-- ==== Proof.MlaFinal.lean ====
module

public import proofs.«01_k».proof.Proof.Gen.Kernel5Ideal.Frame
public import proofs.«01_k».proof.Proof.MlaTile
public import proofs.«01_k».proof.Proof.MlaBlocks
public import Idealize.ShloMosaic.Lib.Pipeline.ValueKit
public import Idealize.ShloMosaic.Lib.Pipeline.ReadBack
public import Idealize.ShloMosaic.Lib.Pointwise
/-!
The latent attention's projections' run: its results are the queries, the keys and the values of every position.
-/
@[expose] public section
set_option maxRecDepth 16384
noncomputable section
namespace Cert.Kernel5Ideal.Value
open Cert.Kernel5Ideal Cert.Kernel5Ideal.Gen Idealize.ShloMosaic Idealize.ShloMosaic.TcCoe Idealize.SL.Sem
variable (m : (ℓ : Loc nD τ sig) → Buf (Elt Ideal) ℓ) (ρ : Dev nD → PrngReg) (c : Dev nD)
/-- The gains and the weights of the queries are reals. -/
structure Reals : Prop where
  h3 : ∀ k, (((A3 m c (ix1 k)).toReal : ℝ) : EReal) = A3 m c (ix1 k)
  h5 : ∀ k j, (((A5 m c (ix2 k j)).toReal : ℝ) : EReal) = A5 m c (ix2 k j)
/-- A head's query of a position. -/
def GQ (b : Fin 8) (p : Fin 8208) (h : Fin 4) (e : Fin 96) : EReal :=
  Mla.q (fun k => A0 m c (ix3 b p k)) (fun k => A3 m c (ix1 k)) (fun k j => A5 m c (ix2 k j)) p.val h e
/-- A head's key of a position. -/
def GK (b : Fin 8) (p : Fin 8208) (h : Fin 4) (e : Fin 96) : EReal :=
  Mla.k (fun k => A1 m c (ix3 b p k)) (fun k => A2 m c (ix3 b p k)) (fun k => A4 m c (ix1 k)) (fun k j => A6 m c (ix2 k j)) p.val h e
/-- A head's value of a position. -/
def GV (b : Fin 8) (p : Fin 8208) (h : Fin 4) (e : Fin 64) : EReal :=
  Mla.v (fun k => A1 m c (ix3 b p k)) (fun k => A4 m c (ix1 k)) (fun k j => A6 m c (ix2 k j)) h e

section
variable (t : Fin cfg0.N) (b : Fin 8) (p : Fin 8208) (r : Fin 768) (ht : t.val = 11 * b.val + p.val / 768) (hr : r.val = p.val % 768)
include ht hr
theorem dotQ (W : Fin 256 → EReal) (w : Fin 192 → EReal) (hW : ∀ k : Fin 192, W ⟨k.val, by omega⟩ = w k) (hW0 : ∀ k : Fin 64, W ⟨192 + k.val, by omega⟩ = 0) :
    ∑ k, Rows.rms Mla.c192 (fun k => (X0_0 m c t : Vec Ideal S768x256 .bf16) (ix2 r k)) (fun k => (iblk m c 6 t : Vec Ideal S1x256 .f32) (ix2 0 k)) k * W k =
      ∑ k, Rows.rms Mla.c192 (fun k => A0 m c (ix3 b p k)) (fun k => A3 m c (ix1 k)) k * w k :=
  Mla.dot_pad _ _ _ _ _ _ (fun k => (x0_at m c t b p r ht hr _).trans (wide_q _ _ _ b p k)) (fun k => (x0_at m c t b p r ht hr _).trans (wide_q0 _ _ _ b p k))
    (fun k => (x6_at m c t _).trans (gq_lo _ k)) hW hW0
theorem q_core (j : Fin 512) (C S : EReal) (w w' : Fin 192 → EReal) (hC : cat4 (iblk m c 4 t) (ix2 r j) = C) (hS : cat4 (iblk m c 5 t) (ix2 r j) = S)
    (hw : ∀ k : Fin 192, padw (wqh (A5 m c)) (ix2 ⟨k.val, by omega⟩ j) = w k) (hw' : ∀ k : Fin 192, padw (wqn (A5 m c)) (ix2 ⟨k.val, by omega⟩ j) = w' k) :
    payQ (X0_0 m c t) (iblk m c 6 t) (iblk m c 8 t) (iblk m c 9 t) (cat4 (iblk m c 4 t)) (cat4 (iblk m c 5 t)) (ix2 r j) =
      ((∑ k, Rows.rms Mla.c192 (fun k => A0 m c (ix3 b p k)) (fun k => A3 m c (ix1 k)) k * w k) * C +
        (∑ k, Rows.rms Mla.c192 (fun k => A0 m c (ix3 b p k)) (fun k => A3 m c (ix1 k)) k * w' k) * S) * Mla.scale := by
  rw [payQ_apply, hC, hS]
  have h1 := dotQ m c t b p r ht hr (fun k => (iblk m c 8 t : Vec Ideal S256x512 .bf16) (ix2 k j)) w (fun k => (x8_at m c t _ j).trans (hw k)) (fun k => (x8_at m c t _ j).trans (padw_hi _ k j))
  have h2 := dotQ m c t b p r ht hr (fun k => (iblk m c 9 t : Vec Ideal S256x512 .bf16) (ix2 k j)) w' (fun k => (x9_at m c t _ j).trans (hw' k)) (fun k => (x9_at m c t _ j).trans (padw_hi _ k j))
  exact congrArg₂ (fun x y : EReal => (x * C + y * S) * Mla.scale) h1 h2
theorem cC (h : Fin 4) (e : Fin 128) : cat4 (iblk m c 4 t) (ix2 r ⟨128 * h.val + e.val, by omega⟩) = tc (ix2 ⟨p.val, by omega⟩ e) :=
  (cat4_apply _ r h.val h.isLt e).trans (x4_at m c t b p r ht hr e)
theorem cS (h : Fin 4) (e : Fin 128) : cat4 (iblk m c 5 t) (ix2 r ⟨128 * h.val + e.val, by omega⟩) = ts (ix2 ⟨p.val, by omega⟩ e) :=
  (cat4_apply _ r h.val h.isLt e).trans (x5_at m c t b p r ht hr e)
theorem q_lo (h : Fin 4) (e : Fin 64) :
    payQ (X0_0 m c t) (iblk m c 6 t) (iblk m c 8 t) (iblk m c 9 t) (cat4 (iblk m c 4 t)) (cat4 (iblk m c 5 t)) (ix2 r ⟨128 * h.val + e.val, by omega⟩) = GQ m c b p h ⟨e.val, by omega⟩ := by
  refine (q_core m c t b p r ht hr _ 1 0 (fun k => A5 m c (ix2 k ⟨96 * h.val + e.val, by omega⟩)) (fun _ => 0)
    ((cC m c t b p r ht hr h ⟨e.val, by omega⟩).trans (tc_lo _ e)) ((cS m c t b p r ht hr h ⟨e.val, by omega⟩).trans (ts_lo _ e))
    (fun k => (padw_lo _ k h ⟨e.val, by omega⟩).trans (wqh_at _ k h ⟨e.val, by omega⟩)) (fun k => (padw_lo _ k h ⟨e.val, by omega⟩).trans (wqn_lo _ k h e))).trans ?_
  unfold GQ Mla.q
  rw [if_pos e.isLt, mul_one, mul_zero, add_zero]
  rfl
theorem q_mid (H : Reals m c) (h : Fin 4) (e : Fin 16) :
    payQ (X0_0 m c t) (iblk m c 6 t) (iblk m c 8 t) (iblk m c 9 t) (cat4 (iblk m c 4 t)) (cat4 (iblk m c 5 t)) (ix2 r ⟨128 * h.val + (64 + e.val), by omega⟩) = GQ m c b p h ⟨64 + e.val, by omega⟩ := by
  refine (q_core m c t b p r ht hr _ (Mla.co p.val e.val) (Mla.si p.val e.val) (fun k => A5 m c (ix2 k ⟨96 * h.val + (64 + e.val), by omega⟩)) (fun k => -(A5 m c (ix2 k ⟨96 * h.val + (80 + e.val), by omega⟩)))
    ((cC m c t b p r ht hr h ⟨64 + e.val, by omega⟩).trans (tc_mid _ ⟨e.val, by omega⟩)) ((cS m c t b p r ht hr h ⟨64 + e.val, by omega⟩).trans (ts_mid _ ⟨e.val, by omega⟩))
    (fun k => (padw_lo _ k h ⟨64 + e.val, by omega⟩).trans (wqh_at _ k h ⟨64 + e.val, by omega⟩))
    (fun k => (padw_lo _ k h ⟨64 + e.val, by omega⟩).trans ((wqn_mid _ k h ⟨e.val, by omega⟩).trans (whn_lo _ k h e)))).trans ?_
  rw [Mla.dot_neg _ _ _ H.h3 (fun k => H.h5 k _)]
  unfold GQ Mla.q Mla.qp
  rw [if_neg (by show ¬(64 + e.val < 64); omega), dif_pos (show 64 + e.val < 80 by omega)]
  simp only [show 64 + e.val - 64 = e.val by omega, show 64 + e.val + 16 = 80 + e.val by omega]
theorem q_hi (h : Fin 4) (e : Fin 16) :
    payQ (X0_0 m c t) (iblk m c 6 t) (iblk m c 8 t) (iblk m c 9 t) (cat4 (iblk m c 4 t)) (cat4 (iblk m c 5 t)) (ix2 r ⟨128 * h.val + (64 + (16 + e.val)), by omega⟩) = GQ m c b p h ⟨64 + (16 + e.val), by omega⟩ := by
  refine (q_core m c t b p r ht hr _ (Mla.co p.val (16 + e.val)) (Mla.si p.val (16 + e.val)) (fun k => A5 m c (ix2 k ⟨96 * h.val + (64 + (16 + e.val)), by omega⟩)) (fun k => A5 m c (ix2 k ⟨96 * h.val + (64 + e.val), by omega⟩))
    ((cC m c t b p r ht hr h ⟨64 + (16 + e.val), by omega⟩).trans (tc_mid _ ⟨16 + e.val, by omega⟩)) ((cS m c t b p r ht hr h ⟨64 + (16 + e.val), by omega⟩).trans (ts_mid _ ⟨16 + e.val, by omega⟩))
    (fun k => (padw_lo _ k h ⟨64 + (16 + e.val), by omega⟩).trans (wqh_at _ k h ⟨64 + (16 + e.val), by omega⟩))
    (fun k => (padw_lo _ k h ⟨64 + (16 + e.val), by omega⟩).trans ((wqn_mid _ k h ⟨16 + e.val, by omega⟩).trans (whn_hi _ k h e)))).trans ?_
  unfold GQ Mla.q Mla.qp
  rw [if_neg (by show ¬(64 + (16 + e.val) < 64); omega), dif_neg (show ¬(64 + (16 + e.val) < 80) by omega)]
  simp only [show 64 + (16 + e.val) - 64 = 16 + e.val by omega, show 64 + (16 + e.val) - 16 = 64 + e.val by omega]
theorem q_at (H : Reals m c) (h : Fin 4) (e : Fin 96) :
    payQ (X0_0 m c t) (iblk m c 6 t) (iblk m c 8 t) (iblk m c 9 t) (cat4 (iblk m c 4 t)) (cat4 (iblk m c 5 t)) (ix2 r ⟨128 * h.val + e.val, by omega⟩) = GQ m c b p h e := by
  by_cases h1 : e.val < 64
  · exact q_lo m c t b p r ht hr h ⟨e.val, h1⟩
  · by_cases h2 : e.val < 80
    · obtain ⟨f, rfl⟩ := Mla.mid_of e h1 h2
      exact q_mid m c t b p r ht hr H h f
    · obtain ⟨f, rfl⟩ := Mla.hi_of e h2
      exact q_hi m c t b p r ht hr h f

theorem nrm_at : (fun k => (iblk m c 1 t : Vec Ideal S768x128 .bf16) (ix2 r k)) = fun k => A1 m c (ix3 b p k) :=
  funext fun k => (x1_at m c t b p r ht hr k).trans (wide_c _ _ _ b p k)
omit ht hr in
theorem gkv_at : (fun k => (iblk m c 7 t : Vec Ideal S1x128 .f32) (ix2 0 k)) = fun k => A4 m c (ix1 k) := funext fun k => x7_at m c t k
theorem k_core (j : Fin 512) (K : EReal) (w : Fin 128 → EReal) (hK : cat4 (rk (iblk m c 4 t) (iblk m c 5 t) (iblk m c 2 t) (iblk m c 3 t)) (ix2 r j) = K)
    (hw : ∀ k : Fin 128, wk (A6 m c) (ix2 k j) = w k) :
    payK (iblk m c 1 t) (iblk m c 7 t) (iblk m c 10 t) (cat4 (rk (iblk m c 4 t) (iblk m c 5 t) (iblk m c 2 t) (iblk m c 3 t))) (ix2 r j) =
      (∑ k, Rows.rms Mla.c128 (fun k => A1 m c (ix3 b p k)) (fun k => A4 m c (ix1 k)) k * w k) + K := by
  rw [payK_apply, hK, nrm_at m c t b p r ht hr, gkv_at m c t]
  exact congrArg (· + K) (Finset.sum_congr rfl fun k _ => congrArg (_ * ·) ((x10_at m c t k j).trans (hw k)))
theorem cK (h : Fin 4) (e : Fin 128) (a s : EReal) (ha : wide (A0 m c) (A1 m c) (A2 m c) (ix3 b p ⟨2688 + e.val, by omega⟩) = a)
    (hs : wide (A0 m c) (A1 m c) (A2 m c) (ix3 b p ⟨2816 + e.val, by omega⟩) = s) :
    cat4 (rk (iblk m c 4 t) (iblk m c 5 t) (iblk m c 2 t) (iblk m c 3 t)) (ix2 r ⟨128 * h.val + e.val, by omega⟩) = a * tc (ix2 ⟨p.val, by omega⟩ e) + s * ts (ix2 ⟨p.val, by omega⟩ e) := by
  refine (cat4_apply _ r h.val h.isLt e).trans ?_
  rw [rk_apply, x4_at m c t b p r ht hr e, x5_at m c t b p r ht hr e, x2_at m c t b p r ht hr e, x3_at m c t b p r ht hr e, ha, hs]
theorem k_lo (h : Fin 4) (e : Fin 64) :
    payK (iblk m c 1 t) (iblk m c 7 t) (iblk m c 10 t) (cat4 (rk (iblk m c 4 t) (iblk m c 5 t) (iblk m c 2 t) (iblk m c 3 t))) (ix2 r ⟨128 * h.val + e.val, by omega⟩) = GK m c b p h ⟨e.val, by omega⟩ := by
  refine (k_core m c t b p r ht hr _ 0 (fun k => A6 m c (ix2 k ⟨128 * h.val + e.val, by omega⟩))
    ((cK m c t b p r ht hr h ⟨e.val, by omega⟩ 0 0 (wide_k0 _ _ _ b p e) (wide_r0 _ _ _ b p e)).trans (by rw [zero_mul, zero_mul, add_zero])) (fun k => wk_lo _ k h e)).trans ?_
  unfold GK Mla.k
  rw [if_pos e.isLt, add_zero]
  rfl
theorem k_hi (h : Fin 4) (e : Fin 32) (R : EReal) (hR : rotk (A2 m c) (ix3 b p e) = R) :
    payK (iblk m c 1 t) (iblk m c 7 t) (iblk m c 10 t) (cat4 (rk (iblk m c 4 t) (iblk m c 5 t) (iblk m c 2 t) (iblk m c 3 t))) (ix2 r ⟨128 * h.val + (64 + e.val), by omega⟩) =
      A2 m c (ix3 b p e) * Mla.co p.val e.val + R * Mla.si p.val e.val := by
  refine (k_core m c t b p r ht hr _ _ (fun k => 0)
    (cK m c t b p r ht hr h ⟨64 + e.val, by omega⟩ _ R (wide_k _ _ _ b p e) ((wide_r _ _ _ b p e).trans hR)) (fun k => wk_hi _ k (h) ⟨e.val, by omega⟩)).trans ?_
  rw [tc_mid, ts_mid]
  simp only [mul_zero, Finset.sum_const_zero, zero_add]
theorem k_at (h : Fin 4) (e : Fin 96) :
    payK (iblk m c 1 t) (iblk m c 7 t) (iblk m c 10 t) (cat4 (rk (iblk m c 4 t) (iblk m c 5 t) (iblk m c 2 t) (iblk m c 3 t))) (ix2 r ⟨128 * h.val + e.val, by omega⟩) = GK m c b p h e := by
  by_cases h1 : e.val < 64
  · exact k_lo m c t b p r ht hr h ⟨e.val, h1⟩
  · by_cases h2 : e.val < 80
    · obtain ⟨f, rfl⟩ := Mla.mid_of e h1 h2
      refine (k_hi m c t b p r ht hr h ⟨f.val, by omega⟩ _ (rotk_lo _ b p f)).trans ?_
      unfold GK Mla.k Mla.kro
      rw [if_neg h1, dif_pos h2]
      simp only [show 64 + f.val - 64 = f.val by omega, show 64 + f.val + 16 - 64 = 16 + f.val by omega]
    · obtain ⟨f, rfl⟩ := Mla.hi_of e h2
      refine (k_hi m c t b p r ht hr h ⟨16 + f.val, by omega⟩ _ (rotk_hi _ b p f)).trans ?_
      unfold GK Mla.k Mla.kro
      rw [if_neg h1, dif_neg h2]
      simp only [show 64 + (16 + f.val) - 64 = 16 + f.val by omega, show 64 + (16 + f.val) - 16 - 64 = f.val by omega]
theorem v_at (h : Fin 4) (e : Fin 64) : k0_pay1 (k0_pay7 (iblk m c 1 t) (iblk m c 7 t) (iblk m c 11 t)) (ix3 0 ⟨64 * h.val + e.val, by omega⟩ r) = GV m c b p h e := by
  rw [pay7_apply, nrm_at m c t b p r ht hr, gkv_at m c t]
  unfold GV Mla.v Mla.kv
  refine Finset.sum_congr rfl fun k _ => ?_
  rw [mul_comm]
  exact congrArg (_ * ·) ((x11_at m c t _ k).trans (wvt_at _ k h e))
end

theorem idx_inj12 : ∀ t t' : Fin cfg0.N, (cfg0.win 12).flush t = true → (cfg0.win 12).flush t' = true → (cfg0.win 12).index t = (cfg0.win 12).index t' → t = t' := by
  intro t t' _ _ h
  have e : win0_12.index t = win0_12.index t' := h
  rw [(idxo t).1, (idxo t').1] at e
  exact Fin.ext (congrFun e 0)
theorem idx_inj13 : ∀ t t' : Fin cfg0.N, (cfg0.win 13).flush t = true → (cfg0.win 13).flush t' = true → (cfg0.win 13).index t = (cfg0.win 13).index t' → t = t' := by
  intro t t' _ _ h
  have e : win0_13.index t = win0_13.index t' := h
  rw [(idxo t).2.1, (idxo t').2.1] at e
  exact Fin.ext (congrFun e 0)
theorem idx_inj14 : ∀ t t' : Fin cfg0.N, (cfg0.win 14).flush t = true → (cfg0.win 14).flush t' = true → (cfg0.win 14).index t = (cfg0.win 14).index t' → t = t' := by
  intro t t' _ _ h
  have e : win0_14.index t = win0_14.index t' := h
  rw [(idxo t).2.2, (idxo t').2.2] at e
  have e0 : t.val / 11 = t'.val / 11 := congrFun e 0
  have e2 : t.val % 11 = t'.val % 11 := congrFun e 2
  exact Fin.ext (by omega)

theorem arr_q (H : Reals m c) (b : Fin 8) (p : Fin 8208) (h : Fin 4) (e : Fin 96) :
    ((dats m 0 c).arrAt 12 cfg0.N : Vec Ideal S67584x512 .bf16) (ix2 ⟨8448 * b.val + p.val, by omega⟩ ⟨128 * h.val + e.val, by omega⟩ : S67584x512.Idx) = GQ m c b p h e := by
  have hN : cfg0.N = 88 := N_0
  let t : Fin cfg0.N := ⟨11 * b.val + p.val / 768, by omega⟩
  have hv : t.val = 11 * b.val + p.val / 768 := rfl
  have hf := (dats m 0 c).arrAt_emb_eq_flushed 12 ((cfg0.win 12).hdisj_of_index_inj idx_inj12) t (flush0_12 t)
    (ix2 ⟨p.val % 768, by omega⟩ ⟨128 * h.val + e.val, by omega⟩ : S768x512.Idx)
  have he : ((cfg0.win 12).blk t).view.emb (ix2 ⟨p.val % 768, by omega⟩ ⟨128 * h.val + e.val, by omega⟩ : S768x512.Idx) = (ix2 ⟨8448 * b.val + p.val, by omega⟩ ⟨128 * h.val + e.val, by omega⟩ : S67584x512.Idx) := by
    obtain ⟨e12, e13, e14⟩ := idxo t
    blk_ext [e12]
  rw [he] at hf
  refine Eq.trans hf ?_
  blk_simp
  rw [after0_12, tile_q]
  exact q_at m c t b p ⟨p.val % 768, by omega⟩ rfl rfl H h e
abbrev AR_q : Vec Ideal S67584x512 .bf16 := (dats m 0 c).arrAt 12 cfg0.N
theorem arrs_q : Pipeline.withArrays (cfgs 0).spec c (V0 m c) (fun w => (dats m 0 c).arrAt w (cfgs 0).N) (Proc.tc.devRef main_v71_0) = AR_q m c :=
  (dats m 0 c).withArrays_arrAt launch₀0.sharedIn (V0 m c) (A_eq m c) 12
/-- Result `q`. -/
def G_q : Vec Ideal S8x8208x4x96 .f32 := fun i => GQ m c (i 0) (i 1) (i 2) (i 3)
theorem tail_q (H : Reals m c) : (Pipeline.afterTail₀ cfgs (dats m) 0 (V0 m) [hostOps1] c main_v74 : Vec Ideal S8x8208x4x96 .f32) = G_q m c := by
  have h : (Pipeline.afterTail₀ cfgs (dats m) 0 (V0 m) [hostOps1] c main_v74 : Vec Ideal S8x8208x4x96 .f32) =
      extf .f32 (extractStridedSlice S8x8208x4x96 ![0, 0, 0, 0] (shapeCast S8x8448x4x128 (AR_q m c) shapeCasts_S67584x512_S8x8448x4x128 : Vec Ideal S8x8448x4x128 .bf16) slices_S8x8448x4x128_S8x8208x4x96_0_0_0_0 : FVec Ideal S8x8208x4x96 .bf16) bitsLt_bf16_f32 := by
    unfold Pipeline.afterTail₀
    simp only [hostOps1, List.flatten_cons, List.flatten_nil, List.append_nil]
    after_results
    rw [arrs_q]
    rfl
  rw [h]
  funext i
  obtain ⟨b, p, h, e, rfl⟩ : ∃ (b : Fin 8) (p : Fin 8208) (h : Fin 4) (e : Fin 96), i = ix4 b p h e := ⟨i 0, i 1, i 2, i 3, eq_ix4 i⟩
  refine Eq.trans ?_ (arr_q m c H b p h e)
  unfold AR_q
  generalize ((dats m 0 c).arrAt 12 cfg0.N : Vec Ideal S67584x512 .bf16) = X
  pointwise
  exact congrArg₂ (fun q s => X (ix2 q s)) (Fin.ext (by simp only []; omega)) (Fin.ext (by simp only []; omega))

theorem arr_k (b : Fin 8) (p : Fin 8208) (h : Fin 4) (e : Fin 96) :
    ((dats m 0 c).arrAt 13 cfg0.N : Vec Ideal S67584x512 .bf16) (ix2 ⟨8448 * b.val + p.val, by omega⟩ ⟨128 * h.val + e.val, by omega⟩ : S67584x512.Idx) = GK m c b p h e := by
  have hN : cfg0.N = 88 := N_0
  let t : Fin cfg0.N := ⟨11 * b.val + p.val / 768, by omega⟩
  have hv : t.val = 11 * b.val + p.val / 768 := rfl
  have hf := (dats m 0 c).arrAt_emb_eq_flushed 13 ((cfg0.win 13).hdisj_of_index_inj idx_inj13) t (flush0_13 t)
    (ix2 ⟨p.val % 768, by omega⟩ ⟨128 * h.val + e.val, by omega⟩ : S768x512.Idx)
  have he : ((cfg0.win 13).blk t).view.emb (ix2 ⟨p.val % 768, by omega⟩ ⟨128 * h.val + e.val, by omega⟩ : S768x512.Idx) = (ix2 ⟨8448 * b.val + p.val, by omega⟩ ⟨128 * h.val + e.val, by omega⟩ : S67584x512.Idx) := by
    obtain ⟨e12, e13, e14⟩ := idxo t
    blk_ext [e13]
  rw [he] at hf
  refine Eq.trans hf ?_
  blk_simp
  rw [after0_13, tile_k]
  exact k_at m c t b p ⟨p.val % 768, by omega⟩ rfl rfl h e
abbrev AR_k : Vec Ideal S67584x512 .bf16 := (dats m 0 c).arrAt 13 cfg0.N
theorem arrs_k : Pipeline.withArrays (cfgs 0).spec c (V0 m c) (fun w => (dats m 0 c).arrAt w (cfgs 0).N) (Proc.tc.devRef main_v71_1) = AR_k m c :=
  (dats m 0 c).withArrays_arrAt launch₀0.sharedIn (V0 m c) (A_eq m c) 13
/-- Result `k`. -/
def G_k : Vec Ideal S8x8208x4x96 .f32 := fun i => GK m c (i 0) (i 1) (i 2) (i 3)
theorem tail_k : (Pipeline.afterTail₀ cfgs (dats m) 0 (V0 m) [hostOps1] c main_v77 : Vec Ideal S8x8208x4x96 .f32) = G_k m c := by
  have h : (Pipeline.afterTail₀ cfgs (dats m) 0 (V0 m) [hostOps1] c main_v77 : Vec Ideal S8x8208x4x96 .f32) =
      extf .f32 (extractStridedSlice S8x8208x4x96 ![0, 0, 0, 0] (shapeCast S8x8448x4x128 (AR_k m c) shapeCasts_S67584x512_S8x8448x4x128 : Vec Ideal S8x8448x4x128 .bf16) slices_S8x8448x4x128_S8x8208x4x96_0_0_0_0 : FVec Ideal S8x8208x4x96 .bf16) bitsLt_bf16_f32 := by
    unfold Pipeline.afterTail₀
    simp only [hostOps1, List.flatten_cons, List.flatten_nil, List.append_nil]
    after_results
    rw [arrs_k]
    rfl
  rw [h]
  funext i
  obtain ⟨b, p, h, e, rfl⟩ : ∃ (b : Fin 8) (p : Fin 8208) (h : Fin 4) (e : Fin 96), i = ix4 b p h e := ⟨i 0, i 1, i 2, i 3, eq_ix4 i⟩
  refine Eq.trans ?_ (arr_k m c b p h e)
  unfold AR_k
  generalize ((dats m 0 c).arrAt 13 cfg0.N : Vec Ideal S67584x512 .bf16) = X
  pointwise
  exact congrArg₂ (fun q s => X (ix2 q s)) (Fin.ext (by simp only []; omega)) (Fin.ext (by simp only []; omega))

theorem arr_v (b : Fin 8) (p : Fin 8208) (h : Fin 4) (e : Fin 64) :
    ((dats m 0 c).arrAt 14 cfg0.N : Vec Ideal S8x256x8448 .bf16) (ix3 b ⟨64 * h.val + e.val, by omega⟩ ⟨p.val, by omega⟩ : S8x256x8448.Idx) = GV m c b p h e := by
  have hN : cfg0.N = 88 := N_0
  let t : Fin cfg0.N := ⟨11 * b.val + p.val / 768, by omega⟩
  have hv : t.val = 11 * b.val + p.val / 768 := rfl
  have hf := (dats m 0 c).arrAt_emb_eq_flushed 14 ((cfg0.win 14).hdisj_of_index_inj idx_inj14) t (flush0_14 t)
    (ix3 0 ⟨64 * h.val + e.val, by omega⟩ ⟨p.val % 768, by omega⟩ : S1x256x768.Idx)
  have he : ((cfg0.win 14).blk t).view.emb (ix3 0 ⟨64 * h.val + e.val, by omega⟩ ⟨p.val % 768, by omega⟩ : S1x256x768.Idx) = (ix3 b ⟨64 * h.val + e.val, by omega⟩ ⟨p.val, by omega⟩ : S8x256x8448.Idx) := by
    obtain ⟨e12, e13, e14⟩ := idxo t
    blk_ext [e14]
  rw [he] at hf
  refine Eq.trans hf ?_
  blk_simp
  rw [after0_14, tile_v]
  exact v_at m c t b p ⟨p.val % 768, by omega⟩ rfl rfl h e
abbrev AR_v : Vec Ideal S8x256x8448 .bf16 := (dats m 0 c).arrAt 14 cfg0.N
theorem arrs_v : Pipeline.withArrays (cfgs 0).spec c (V0 m c) (fun w => (dats m 0 c).arrAt w (cfgs 0).N) (Proc.tc.devRef main_v71_2) = AR_v m c :=
  (dats m 0 c).withArrays_arrAt launch₀0.sharedIn (V0 m c) (A_eq m c) 14
/-- Result `v`. -/
def G_v : Vec Ideal S8x8208x4x64 .f32 := fun i => GV m c (i 0) (i 1) (i 2) (i 3)
theorem tail_v : (Pipeline.afterTail₀ cfgs (dats m) 0 (V0 m) [hostOps1] c main_v81 : Vec Ideal S8x8208x4x64 .f32) = G_v m c := by
  have h : (Pipeline.afterTail₀ cfgs (dats m) 0 (V0 m) [hostOps1] c main_v81 : Vec Ideal S8x8208x4x64 .f32) =
      extf .f32 (extractStridedSlice S8x8208x4x64 ![0, 0, 0, 0] (shapeCast S8x8448x4x64 (transpose S8x8448x256 [0, 2, 1] (AR_v m c) transposes_S8x256x8448_S8x8448x256_0_2_1 : Vec Ideal S8x8448x256 .bf16) shapeCasts_S8x8448x256_S8x8448x4x64 : Vec Ideal S8x8448x4x64 .bf16) slices_S8x8448x4x64_S8x8208x4x64_0_0_0_0 : FVec Ideal S8x8208x4x64 .bf16) bitsLt_bf16_f32 := by
    unfold Pipeline.afterTail₀
    simp only [hostOps1, List.flatten_cons, List.flatten_nil, List.append_nil]
    after_results
    rw [arrs_v]
    rfl
  rw [h]
  funext i
  obtain ⟨b, p, h, e, rfl⟩ : ∃ (b : Fin 8) (p : Fin 8208) (h : Fin 4) (e : Fin 64), i = ix4 b p h e := ⟨i 0, i 1, i 2, i 3, eq_ix4 i⟩
  refine Eq.trans ?_ (arr_v m c b p h e)
  unfold AR_v
  generalize ((dats m 0 c).arrAt 14 cfg0.N : Vec Ideal S8x256x8448 .bf16) = X
  pointwise
  exact congrArg (fun q => X (ix3 b q ⟨p.val, by omega⟩)) (Fin.ext (by simp only []; omega))

theorem run (H : ∀ c, Reals m c) : θ_run defs (onTc (τ := τ) (main (F := Ideal))) ⟨m, fun _ => 0, ρ⟩ (fun r => ∀ c : Dev nD,
      r.2.mem ((c.tc : Thread nD τ).loc main_v74) = G_q m c
      ∧ r.2.mem ((c.tc : Thread nD τ).loc main_v77) = G_k m c
      ∧ r.2.mem ((c.tc : Thread nD τ).loc main_v81) = G_v m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have h := θ_run_and (run_main m ρ) (unchanged m ρ)
  refine (θ_run defs _ _).mono (fun r hr c => ?_) h
  exact ⟨((hr.1 c).2 main_v74 (Pipeline.mem_restRefs_of main_v74 (by decide) (by decide))).trans (tail_q m c (H c)),
    ((hr.1 c).2 main_v77 (Pipeline.mem_restRefs_of main_v77 (by decide) (by decide))).trans (tail_k m c),
    ((hr.1 c).2 main_v81 (Pipeline.mem_restRefs_of main_v81 (by decide) (by decide))).trans (tail_v m c), hr.2 c⟩

end Cert.Kernel5Ideal.Value
end
-- ==== Proof.MlaRef.lean ====
module

public import proofs.«01_k».proof.Proof.Gen.Reference5Ideal.Run
public import proofs.«01_k».proof.Proof.Mla
/-!
The latent attention's projections' reference, stage by stage, at an index.
-/
@[expose] public section
set_option maxRecDepth 16384
noncomputable section
namespace Cert.Reference5Ideal.Value
open Cert.Reference5Ideal Cert.Reference5Ideal.Gen Idealize.ShloMosaic Idealize.ShloMosaic.TcCoe Idealize.SL.Sem

/-- The angles. -/
def rA : FVec Ideal S8208x16 .f32 := (mulf (broadcastInDim S8208x16 ![0, 1] bcast_S8208x1_S8208x16_0_1 (broadcastInDim S8208x1 ![0] bcast_S8208_S8208x1_0 (sitofp .f32 (iotaInDim S8208 32 0)))) (broadcastInDim S8208x16 ![0, 1] bcast_S1x16_S8208x16_0_1 (broadcastInDim S1x16 ![1] bcast_S16_S1x16_1 (Host.divf (broadcastInDim S16 ![] bcast_S_S16 (constant S_ .f32 0x3F800000#32)) (Host.powf (broadcastInDim S16 ![] bcast_S_S16 (constant S_ .f32 0x461C4000#32)) (Host.divf (addf (broadcastInDim S16 ![] bcast_S_S16 (constant S_ .f32 0x00000000#32)) (mulf (broadcastInDim S16 ![] bcast_S_S16 (constant S_ .f32 0x40000000#32)) (sitofp .f32 (iotaInDim S16 32 0)))) (broadcastInDim S16 ![] bcast_S_S16 (constant S_ .f32 0x42000000#32))))))))
theorem rA_apply (p : Fin 8208) (d : Fin 16) : rA (ix2 p d) = Mla.ang p.val d.val := by
  pointwise [rA]
  rfl
/-- The angles twice. -/
def rAng : FVec Ideal S8208x32 .f32 := (concatenate S8208x32 1 [⟨S8208x16, (rA : FVec Ideal S8208x16 .f32)⟩, ⟨S8208x16, (rA : FVec Ideal S8208x16 .f32)⟩] concatenates_S8208x16_S8208x16_S8208x32_d1)
theorem rAng_apply (p : Fin 8208) (d : Fin 32) : rAng (ix2 p d) = Mla.ang p.val (if d.val < 16 then d.val else d.val - 16) := by
  pointwise [rAng, rA_apply]
  split <;> rfl
/-- The normed input. -/
def rNq (a0 : FVec Ideal S8x8208x192 .f32) (a3 : FVec Ideal S192 .f32) : FVec Ideal S8x8208x192 .f32 :=
  (mulf (mulf a0 (broadcastInDim S8x8208x192 ![0, 1, 2] bcast_S8x8208x1_S8x8208x192_0_1_2 (Host.rsqrt (addf (Host.divf (broadcastInDim S8x8208x1 ![0, 1] bcast_S8x8208_S8x8208x1_0_1 (Host.reduceAdd (mulf a0 a0) (constant S_ .f32 0x00000000#32) reducesTo_S8x8208x192_S8x8208_d2 h_S_)) (broadcastInDim S8x8208x1 ![] bcast_S_S8x8208x1 (constant S_ .f32 0x43400000#32))) (broadcastInDim S8x8208x1 ![] bcast_S_S8x8208x1 (constant S_ .f32 0x358637BD#32)))))) (broadcastInDim S8x8208x192 ![0, 1, 2] bcast_S1x1x192_S8x8208x192_0_1_2 (broadcastInDim S1x1x192 ![2] bcast_S192_S1x1x192_2 a3)))
theorem rNq_apply (a0 : FVec Ideal S8x8208x192 .f32) (a3 : FVec Ideal S192 .f32) (b : Fin 8) (p : Fin 8208) (k : Fin 192) :
    rNq a0 a3 (ix3 b p k) = Rows.rms Mla.c192 (fun k => a0 (ix3 b p k)) (fun k => a3 (ix1 k)) k := by
  pointwise [rNq]
  rw [Mla.div192]
  rfl
/-- Its product with the weights. -/
def rDq (a0 : FVec Ideal S8x8208x192 .f32) (a3 : FVec Ideal S192 .f32) (a5 : FVec Ideal S192x384 .f32) : FVec Ideal S8x8208x384 .f32 :=
  (Host.dotGeneral (φ₁ := FTy.f32) (φ₂ := FTy.f32) dot_S8x8208x192_S192x384_S8x8208x384_2_0_01_1_n_n none (rNq a0 a3) a5)
theorem rDq_apply (a0 : FVec Ideal S8x8208x192 .f32) (a3 : FVec Ideal S192 .f32) (a5 : FVec Ideal S192x384 .f32) (b : Fin 8) (p : Fin 8208) (j : Fin 384) :
    rDq a0 a3 a5 (ix3 b p j) = ∑ k, Rows.rms Mla.c192 (fun k => a0 (ix3 b p k)) (fun k => a3 (ix1 k)) k * a5 (ix2 k j) := by
  pointwise [rDq, rNq_apply]
/-- The product by head. -/
def rUq (a0 : FVec Ideal S8x8208x192 .f32) (a3 : FVec Ideal S192 .f32) (a5 : FVec Ideal S192x384 .f32) : FVec Ideal S8x8208x4x96 .f32 := shapeCast S8x8208x4x96 (rDq a0 a3 a5) shapeCasts_S8x8208x384_S8x8208x4x96
theorem rUq_apply (a0 : FVec Ideal S8x8208x192 .f32) (a3 : FVec Ideal S192 .f32) (a5 : FVec Ideal S192x384 .f32) (b : Fin 8) (p : Fin 8208) (h : Fin 4) (e : Fin 96) :
    rUq a0 a3 a5 (ix4 b p h e) = ∑ k, Rows.rms Mla.c192 (fun k => a0 (ix3 b p k)) (fun k => a3 (ix1 k)) k * a5 (ix2 k ⟨96 * h.val + e.val, by omega⟩) := by
  refine Eq.trans ?_ (rDq_apply a0 a3 a5 b p ⟨96 * h.val + e.val, by omega⟩)
  unfold rUq
  generalize rDq a0 a3 a5 = X
  pointwise
  exact congrArg (fun q => X (ix3 b p q)) (Fin.ext (by simp only []; omega))
/-- The normed input. -/
def rNk (a1 : FVec Ideal S8x8208x128 .f32) (a4 : FVec Ideal S128 .f32) : FVec Ideal S8x8208x128 .f32 :=
  (mulf (mulf a1 (broadcastInDim S8x8208x128 ![0, 1, 2] bcast_S8x8208x1_S8x8208x128_0_1_2 (Host.rsqrt (addf (Host.divf (broadcastInDim S8x8208x1 ![0, 1] bcast_S8x8208_S8x8208x1_0_1 (Host.reduceAdd (mulf a1 a1) (constant S_ .f32 0x00000000#32) reducesTo_S8x8208x128_S8x8208_d2 h_S_)) (broadcastInDim S8x8208x1 ![] bcast_S_S8x8208x1 (constant S_ .f32 0x43000000#32))) (broadcastInDim S8x8208x1 ![] bcast_S_S8x8208x1 (constant S_ .f32 0x358637BD#32)))))) (broadcastInDim S8x8208x128 ![0, 1, 2] bcast_S1x1x128_S8x8208x128_0_1_2 (broadcastInDim S1x1x128 ![2] bcast_S128_S1x1x128_2 a4)))
theorem rNk_apply (a1 : FVec Ideal S8x8208x128 .f32) (a4 : FVec Ideal S128 .f32) (b : Fin 8) (p : Fin 8208) (k : Fin 128) :
    rNk a1 a4 (ix3 b p k) = Rows.rms Mla.c128 (fun k => a1 (ix3 b p k)) (fun k => a4 (ix1 k)) k := by
  pointwise [rNk]
  rw [Mla.div128]
  rfl
/-- Its product with the weights. -/
def rDk (a1 : FVec Ideal S8x8208x128 .f32) (a4 : FVec Ideal S128 .f32) (a6 : FVec Ideal S128x512 .f32) : FVec Ideal S8x8208x512 .f32 :=
  (Host.dotGeneral (φ₁ := FTy.f32) (φ₂ := FTy.f32) dot_S8x8208x128_S128x512_S8x8208x512_2_0_01_1_n_n none (rNk a1 a4) a6)
theorem rDk_apply (a1 : FVec Ideal S8x8208x128 .f32) (a4 : FVec Ideal S128 .f32) (a6 : FVec Ideal S128x512 .f32) (b : Fin 8) (p : Fin 8208) (j : Fin 512) :
    rDk a1 a4 a6 (ix3 b p j) = ∑ k, Rows.rms Mla.c128 (fun k => a1 (ix3 b p k)) (fun k => a4 (ix1 k)) k * a6 (ix2 k j) := by
  pointwise [rDk, rNk_apply]
/-- The product by head. -/
def rUk (a1 : FVec Ideal S8x8208x128 .f32) (a4 : FVec Ideal S128 .f32) (a6 : FVec Ideal S128x512 .f32) : FVec Ideal S8x8208x4x128 .f32 := shapeCast S8x8208x4x128 (rDk a1 a4 a6) shapeCasts_S8x8208x512_S8x8208x4x128
theorem rUk_apply (a1 : FVec Ideal S8x8208x128 .f32) (a4 : FVec Ideal S128 .f32) (a6 : FVec Ideal S128x512 .f32) (b : Fin 8) (p : Fin 8208) (h : Fin 4) (e : Fin 128) :
    rUk a1 a4 a6 (ix4 b p h e) = ∑ k, Rows.rms Mla.c128 (fun k => a1 (ix3 b p k)) (fun k => a4 (ix1 k)) k * a6 (ix2 k ⟨128 * h.val + e.val, by omega⟩) := by
  refine Eq.trans ?_ (rDk_apply a1 a4 a6 b p ⟨128 * h.val + e.val, by omega⟩)
  unfold rUk
  generalize rDk a1 a4 a6 = X
  pointwise
  exact congrArg (fun q => X (ix3 b p q)) (Fin.ext (by simp only []; omega))
/-- The halves exchanged, one negated. -/
def rot4 (X0 : FVec Ideal S8x8208x4x32 .f32) : FVec Ideal S8x8208x4x32 .f32 :=
  (concatenate S8x8208x4x32 3 [⟨S8x8208x4x16, ((Host.negf (extractStridedSlice S8x8208x4x16 ![0, 0, 0, 16] X0 slices_S8x8208x4x32_S8x8208x4x16_0_0_0_16)) : FVec Ideal S8x8208x4x16 .f32)⟩, ⟨S8x8208x4x16, ((extractStridedSlice S8x8208x4x16 ![0, 0, 0, 0] X0 slices_S8x8208x4x32_S8x8208x4x16_0_0_0_0) : FVec Ideal S8x8208x4x16 .f32)⟩] concatenates_S8x8208x4x16_S8x8208x4x16_S8x8208x4x32_d3)
theorem rot4_lo (X0 : FVec Ideal S8x8208x4x32 .f32) (b : Fin 8) (p : Fin 8208) (h : Fin 4) (e : Fin 16) : rot4 X0 (ix4 b p h ⟨e.val, by omega⟩) = -(X0 (ix4 b p h ⟨16 + e.val, by omega⟩)) := by
  pointwise [rot4]
theorem rot4_hi (X0 : FVec Ideal S8x8208x4x32 .f32) (b : Fin 8) (p : Fin 8208) (h : Fin 4) (e : Fin 16) : rot4 X0 (ix4 b p h ⟨16 + e.val, by omega⟩) = X0 (ix4 b p h ⟨e.val, by omega⟩) := by
  pointwise [rot4]
/-- The rotation. -/
def rope4 (X0 : FVec Ideal S8x8208x4x32 .f32) : FVec Ideal S8x8208x4x32 .f32 :=
  (addf (mulf X0 (broadcastInDim S8x8208x4x32 ![0, 1, 2, 3] bcast_S1x8208x1x32_S8x8208x4x32_0_1_2_3 (broadcastInDim S1x8208x1x32 ![1, 3] bcast_S8208x32_S1x8208x1x32_1_3 (Host.cos rAng)))) (mulf (rot4 X0) (broadcastInDim S8x8208x4x32 ![0, 1, 2, 3] bcast_S1x8208x1x32_S8x8208x4x32_0_1_2_3 (broadcastInDim S1x8208x1x32 ![1, 3] bcast_S8208x32_S1x8208x1x32_1_3 (Host.sin rAng)))))
theorem rope4_apply (X0 : FVec Ideal S8x8208x4x32 .f32) (b : Fin 8) (p : Fin 8208) (h : Fin 4) (e : Fin 32) : rope4 X0 (ix4 b p h e) =
    X0 (ix4 b p h e) * Mla.co p.val e.val + rot4 X0 (ix4 b p h e) * Mla.si p.val e.val := by
  unfold rope4
  generalize rot4 X0 = Y
  pointwise [rAng_apply]
  rfl
/-- The halves exchanged, one negated. -/
def rot1 (X1 : FVec Ideal S8x8208x1x32 .f32) : FVec Ideal S8x8208x1x32 .f32 :=
  (concatenate S8x8208x1x32 3 [⟨S8x8208x1x16, ((Host.negf (extractStridedSlice S8x8208x1x16 ![0, 0, 0, 16] X1 slices_S8x8208x1x32_S8x8208x1x16_0_0_0_16)) : FVec Ideal S8x8208x1x16 .f32)⟩, ⟨S8x8208x1x16, ((extractStridedSlice S8x8208x1x16 ![0, 0, 0, 0] X1 slices_S8x8208x1x32_S8x8208x1x16_0_0_0_0) : FVec Ideal S8x8208x1x16 .f32)⟩] concatenates_S8x8208x1x16_S8x8208x1x16_S8x8208x1x32_d3)
theorem rot1_lo (X1 : FVec Ideal S8x8208x1x32 .f32) (b : Fin 8) (p : Fin 8208) (e : Fin 16) : rot1 X1 (ix4 b p 0 ⟨e.val, by omega⟩) = -(X1 (ix4 b p 0 ⟨16 + e.val, by omega⟩)) := by
  pointwise [rot1]
theorem rot1_hi (X1 : FVec Ideal S8x8208x1x32 .f32) (b : Fin 8) (p : Fin 8208) (e : Fin 16) : rot1 X1 (ix4 b p 0 ⟨16 + e.val, by omega⟩) = X1 (ix4 b p 0 ⟨e.val, by omega⟩) := by
  pointwise [rot1]
/-- The rotation. -/
def rope1 (X1 : FVec Ideal S8x8208x1x32 .f32) : FVec Ideal S8x8208x1x32 .f32 :=
  (addf (mulf X1 (broadcastInDim S8x8208x1x32 ![0, 1, 2, 3] bcast_S1x8208x1x32_S8x8208x1x32_0_1_2_3 (broadcastInDim S1x8208x1x32 ![1, 3] bcast_S8208x32_S1x8208x1x32_1_3 (Host.cos rAng)))) (mulf (rot1 X1) (broadcastInDim S8x8208x1x32 ![0, 1, 2, 3] bcast_S1x8208x1x32_S8x8208x1x32_0_1_2_3 (broadcastInDim S1x8208x1x32 ![1, 3] bcast_S8208x32_S1x8208x1x32_1_3 (Host.sin rAng)))))
theorem rope1_apply (X1 : FVec Ideal S8x8208x1x32 .f32) (b : Fin 8) (p : Fin 8208) (e : Fin 32) : rope1 X1 (ix4 b p 0 e) =
    X1 (ix4 b p 0 e) * Mla.co p.val e.val + rot1 X1 (ix4 b p 0 e) * Mla.si p.val e.val := by
  unfold rope1
  generalize rot1 X1 = Y
  pointwise [rAng_apply]
  rfl
/-- The queries' rotary columns. -/
def rX (U0 : FVec Ideal S8x8208x4x96 .f32) : FVec Ideal S8x8208x4x32 .f32 := (extractStridedSlice S8x8208x4x32 ![0, 0, 0, 64] U0 slices_S8x8208x4x96_S8x8208x4x32_0_0_0_64)
theorem rX_apply (U0 : FVec Ideal S8x8208x4x96 .f32) (b : Fin 8) (p : Fin 8208) (h : Fin 4) (e : Fin 32) : rX U0 (ix4 b p h e) = U0 (ix4 b p h ⟨64 + e.val, by omega⟩) := by
  pointwise [rX]
/-- The queries. -/
def rQ (U0 : FVec Ideal S8x8208x4x96 .f32) : FVec Ideal S8x8208x4x96 .f32 :=
  mulf (concatenate S8x8208x4x96 3 [⟨S8x8208x4x64, ((extractStridedSlice S8x8208x4x64 ![0, 0, 0, 0] U0 slices_S8x8208x4x96_S8x8208x4x64_0_0_0_0) : FVec Ideal S8x8208x4x64 .f32)⟩, ⟨S8x8208x4x32, (rope4 (rX U0) : FVec Ideal S8x8208x4x32 .f32)⟩] concatenates_S8x8208x4x64_S8x8208x4x32_S8x8208x4x96_d3) (broadcastInDim S8x8208x4x96 ![] bcast_S_S8x8208x4x96 (constant S_ .f32 0x3E16C740#32))
theorem rQ_lo (U0 : FVec Ideal S8x8208x4x96 .f32) (b : Fin 8) (p : Fin 8208) (h : Fin 4) (e : Fin 64) : rQ U0 (ix4 b p h ⟨e.val, by omega⟩) = U0 (ix4 b p h ⟨e.val, by omega⟩) * Mla.scale := by
  pointwise [rQ]
  rfl
theorem rQ_hi (U0 : FVec Ideal S8x8208x4x96 .f32) (b : Fin 8) (p : Fin 8208) (h : Fin 4) (e : Fin 32) : rQ U0 (ix4 b p h ⟨64 + e.val, by omega⟩) = rope4 (rX U0) (ix4 b p h e) * Mla.scale := by
  pointwise [rQ]
  rfl
/-- The rotary key with an axis for the heads. -/
def rX1 (a2 : FVec Ideal S8x8208x32 .f32) : FVec Ideal S8x8208x1x32 .f32 := (broadcastInDim S8x8208x1x32 ![0, 1, 3] bcast_S8x8208x32_S8x8208x1x32_0_1_3 a2)
theorem rX1_apply (a2 : FVec Ideal S8x8208x32 .f32) (b : Fin 8) (p : Fin 8208) (e : Fin 32) : rX1 a2 (ix4 b p 0 e) = a2 (ix3 b p e) := by
  pointwise [rX1]
/-- The keys. -/
def rK (X1 : FVec Ideal S8x8208x1x32 .f32) (U1 : FVec Ideal S8x8208x4x128 .f32) : FVec Ideal S8x8208x4x96 .f32 :=
  concatenate S8x8208x4x96 3 [⟨S8x8208x4x64, ((extractStridedSlice S8x8208x4x64 ![0, 0, 0, 0] U1 slices_S8x8208x4x128_S8x8208x4x64_0_0_0_0) : FVec Ideal S8x8208x4x64 .f32)⟩, ⟨S8x8208x4x32, ((broadcastInDim S8x8208x4x32 ![0, 1, 2, 3] bcast_S8x8208x1x32_S8x8208x4x32_0_1_2_3 (rope1 X1)) : FVec Ideal S8x8208x4x32 .f32)⟩] concatenates_S8x8208x4x64_S8x8208x4x32_S8x8208x4x96_d3
theorem rK_lo (X1 : FVec Ideal S8x8208x1x32 .f32) (U1 : FVec Ideal S8x8208x4x128 .f32) (b : Fin 8) (p : Fin 8208) (h : Fin 4) (e : Fin 64) :
    rK X1 U1 (ix4 b p h ⟨e.val, by omega⟩) = U1 (ix4 b p h ⟨e.val, by omega⟩) := by
  pointwise [rK]
theorem rK_hi (X1 : FVec Ideal S8x8208x1x32 .f32) (U1 : FVec Ideal S8x8208x4x128 .f32) (b : Fin 8) (p : Fin 8208) (h : Fin 4) (e : Fin 32) :
    rK X1 U1 (ix4 b p h ⟨64 + e.val, by omega⟩) = rope1 X1 (ix4 b p 0 e) := by
  pointwise [rK]
/-- The values. -/
def rV (U1 : FVec Ideal S8x8208x4x128 .f32) : FVec Ideal S8x8208x4x64 .f32 := extractStridedSlice S8x8208x4x64 ![0, 0, 0, 64] U1 slices_S8x8208x4x128_S8x8208x4x64_0_0_0_64
theorem rV_apply (U1 : FVec Ideal S8x8208x4x128 .f32) (b : Fin 8) (p : Fin 8208) (h : Fin 4) (e : Fin 64) : rV U1 (ix4 b p h e) = U1 (ix4 b p h ⟨64 + e.val, by omega⟩) := by
  pointwise [rV]

theorem q_at (a0 : FVec Ideal S8x8208x192 .f32) (a3 : FVec Ideal S192 .f32) (a5 : FVec Ideal S192x384 .f32) (b : Fin 8) (p : Fin 8208) (h : Fin 4) (e : Fin 96) :
    rQ (rUq a0 a3 a5) (ix4 b p h e) = Mla.q (fun k => a0 (ix3 b p k)) (fun k => a3 (ix1 k)) (fun k j => a5 (ix2 k j)) p.val h e := by
  unfold Mla.q Mla.qp
  by_cases h1 : e.val < 64
  · rw [if_pos h1]
    exact (rQ_lo _ b p h ⟨e.val, h1⟩).trans (congrArg (· * Mla.scale) (rUq_apply a0 a3 a5 b p h e))
  · by_cases h2 : e.val < 80
    · obtain ⟨f, rfl⟩ := Mla.mid_of e h1 h2
      rw [if_neg h1, dif_pos h2]
      refine (rQ_hi _ b p h ⟨f.val, by omega⟩).trans ?_
      rw [rope4_apply, rot4_lo, rX_apply, rX_apply, rUq_apply, rUq_apply]
      simp only [show 64 + f.val - 64 = f.val by omega, show 64 + f.val + 16 = 64 + (16 + f.val) by omega]
    · obtain ⟨f, rfl⟩ := Mla.hi_of e h2
      rw [if_neg h1, dif_neg h2]
      refine (rQ_hi _ b p h ⟨16 + f.val, by omega⟩).trans ?_
      rw [rope4_apply, rot4_hi, rX_apply, rX_apply, rUq_apply, rUq_apply]
      simp only [show 64 + (16 + f.val) - 64 = 16 + f.val by omega, show 64 + (16 + f.val) - 16 = 64 + f.val by omega]
theorem k_at (a1 : FVec Ideal S8x8208x128 .f32) (a2 : FVec Ideal S8x8208x32 .f32) (a4 : FVec Ideal S128 .f32) (a6 : FVec Ideal S128x512 .f32) (b : Fin 8) (p : Fin 8208) (h : Fin 4) (e : Fin 96) :
    rK (rX1 a2) (rUk a1 a4 a6) (ix4 b p h e) = Mla.k (fun k => a1 (ix3 b p k)) (fun k => a2 (ix3 b p k)) (fun k => a4 (ix1 k)) (fun k j => a6 (ix2 k j)) p.val h e := by
  unfold Mla.k Mla.kro Mla.kv
  by_cases h1 : e.val < 64
  · rw [if_pos h1]
    exact (rK_lo _ _ b p h ⟨e.val, h1⟩).trans (rUk_apply a1 a4 a6 b p h ⟨e.val, by omega⟩)
  · by_cases h2 : e.val < 80
    · obtain ⟨f, rfl⟩ := Mla.mid_of e h1 h2
      rw [if_neg h1, dif_pos h2]
      refine (rK_hi _ _ b p h ⟨f.val, by omega⟩).trans ?_
      rw [rope1_apply, rot1_lo, rX1_apply, rX1_apply]
      simp only [show 64 + f.val - 64 = f.val by omega, show 64 + f.val + 16 - 64 = 16 + f.val by omega]
    · obtain ⟨f, rfl⟩ := Mla.hi_of e h2
      rw [if_neg h1, dif_neg h2]
      refine (rK_hi _ _ b p h ⟨16 + f.val, by omega⟩).trans ?_
      rw [rope1_apply, rot1_hi, rX1_apply, rX1_apply]
      simp only [show 64 + (16 + f.val) - 64 = 16 + f.val by omega, show 64 + (16 + f.val) - 16 - 64 = f.val by omega]
theorem v_at (a1 : FVec Ideal S8x8208x128 .f32) (a4 : FVec Ideal S128 .f32) (a6 : FVec Ideal S128x512 .f32) (b : Fin 8) (p : Fin 8208) (h : Fin 4) (e : Fin 64) :
    rV (rUk a1 a4 a6) (ix4 b p h e) = Mla.v (fun k => a1 (ix3 b p k)) (fun k => a4 (ix1 k)) (fun k j => a6 (ix2 k j)) h e := by
  rw [rV_apply, rUk_apply]
  rfl

section
variable (m : (ℓ : Loc nD τ sig) → Buf (Elt Ideal) ℓ) (c : Dev nD)
abbrev B0 : FVec Ideal S8x8208x192 .f32 := m ((c.tc : Thread nD τ).loc main_arg0)
abbrev B1 : FVec Ideal S8x8208x128 .f32 := m ((c.tc : Thread nD τ).loc main_arg1)
abbrev B2 : FVec Ideal S8x8208x32 .f32 := m ((c.tc : Thread nD τ).loc main_arg2)
abbrev B3 : FVec Ideal S192 .f32 := m ((c.tc : Thread nD τ).loc main_arg3)
abbrev B4 : FVec Ideal S128 .f32 := m ((c.tc : Thread nD τ).loc main_arg4)
abbrev B5 : FVec Ideal S192x384 .f32 := m ((c.tc : Thread nD τ).loc main_arg5)
abbrev B6 : FVec Ideal S128x512 .f32 := m ((c.tc : Thread nD τ).loc main_arg6)
theorem res_q : (res_main_v80 m c : Vec Ideal S8x8208x4x96 .f32) = rQ (rUq (B0 m c) (B3 m c) (B5 m c)) := by
  unfold res_main_v80 rQ rope4 rot4 rX rUq rDq rNq rAng rA
  rfl
theorem res_k : (res_main_v78 m c : Vec Ideal S8x8208x4x96 .f32) = rK (rX1 (B2 m c)) (rUk (B1 m c) (B4 m c) (B6 m c)) := by
  unfold res_main_v78 rK rope1 rot1 rX1 rUk rDk rNk rAng rA
  rfl
end

end Cert.Reference5Ideal.Value
end
-- ==== Proof.MlaClaim.lean ====
module

public import proofs.«01_k».proof.Defs
public import proofs.«01_k».proof.Proof.MlaFinal
public import proofs.«01_k».proof.Proof.MlaRef
public import proofs.«01_k».proof.Proof.SsdClaim
/-!
The latent attention's projections' claims: the reference's frame, the named constant and the value.
-/
@[expose] public section
set_option maxRecDepth 16384
noncomputable section
namespace Cert.Proof
open Idealize.ShloMosaic Idealize.ShloMosaic.TcCoe Idealize.SL.Sem

/-- The shapes the precondition's operations take. -/
theorem pre_facts_q : Cert.Pre_finite_q.Facts := ⟨by decide, by decide⟩

/-- The precondition says that the queries' gain and weights hold reals. -/
theorem reals_of_pre_q (m : (ℓ : Loc Cert.Kernel5Ideal.nD Cert.Kernel5Ideal.τ Cert.Kernel5Ideal.sig) → Buf (Elt Ideal) ℓ)
    (h : Cert.Pre_Kernel5Ideal_finite_q (hPre_finite_q := pre_facts_q) m) (c : Dev Cert.Kernel5Ideal.nD) : Cert.Kernel5Ideal.Value.Reals m c := by
  obtain ⟨h3, h5⟩ := h c
  exact ⟨fun k => reals_of_olt _ _ h3 (ix1 k), fun k j => reals_of_olt _ _ h5 (ix2 k j)⟩

/-- The reference runs, leaves its arguments as they were and has no counters. -/
theorem frame_ref5 : Cert.quiescent_Reference5Ideal (hReference5Ideal := Cert.Reference5Ideal.Gen.facts) := fun m ρ _ =>
  (θ_run Cert.Reference5Ideal.defs _ _).mono (fun r h => ⟨fun c => (h c).2.2.2, Idealize.ShloMosaic.sem_eq_zero_of_no_sems (by decide) r.2⟩)
    (Cert.Reference5Ideal.Value.run (F := Ideal) m ρ)

/-- The same under the precondition. -/
theorem frame_ref5_finite_q : Cert.quiescent_Reference5Ideal_pre_finite_q (hReference5Ideal := Cert.Reference5Ideal.Gen.facts) (hPre_finite_q := pre_facts_q) := fun m ρ _ =>
  (θ_run Cert.Reference5Ideal.defs _ _).mono (fun r h => ⟨fun c => (h c).2.2.2, Idealize.ShloMosaic.sem_eq_zero_of_no_sems (by decide) r.2⟩)
    (Cert.Reference5Ideal.Value.run (F := Ideal) m ρ)

/-- The named constant's pattern is the nearest one to its value. -/
theorem preserves5 : Cert.preserves_Kernel5_Kernel5Ideal :=
  IdealRules.named_const.statement Cert.Kernel5Ideal.κ "inv_192" .f32 0x3BAAAAAB#32 ((192⁻¹ : ℝ) : EReal) rfl

/-- On equal arguments, with reals in the queries' gain and weights, the projections and their reference give the same arrays. -/
theorem algebraic5 : Cert.algebraic_Kernel5Ideal_Reference5Ideal_pre_finite_q (hKernel5Ideal := Cert.Kernel5Ideal.Gen.facts)
    (hReference5Ideal := Cert.Reference5Ideal.Gen.facts) (hPre_finite_q := pre_facts_q) := by
  intro m ρ m' ρ' hpre hag
  have H := reals_of_pre_q m hpre
  refine ⟨fun c => Cert.Kernel5Ideal.Value.G_q m c, fun c => Cert.Kernel5Ideal.Value.G_k m c, fun c => Cert.Kernel5Ideal.Value.G_v m c, Cert.Kernel5Ideal.Value.run m ρ H,
    (θ_run Cert.Reference5Ideal.defs _ _).mono (fun r h c => ⟨(h c).1.trans ?_, (h c).2.1.trans ?_, (h c).2.2.1.trans ?_, (h c).2.2.2⟩) (Cert.Reference5Ideal.Value.run (F := Ideal) m' ρ')⟩
  · obtain ⟨h0, h1, h2, h3, h4, h5, h6⟩ := hag c
    refine (Cert.Reference5Ideal.Value.res_q m' c).trans ?_
    unfold Cert.Reference5Ideal.Value.B0 Cert.Reference5Ideal.Value.B3 Cert.Reference5Ideal.Value.B5
    rw [h0, h3, h5]
    funext i
    obtain ⟨b, p, h, e, rfl⟩ : ∃ (b : Fin 8) (p : Fin 8208) (h : Fin 4) (e : Fin 96), i = ix4 b p h e := ⟨i 0, i 1, i 2, i 3, eq_ix4 i⟩
    exact Cert.Reference5Ideal.Value.q_at _ _ _ b p h e
  · obtain ⟨h0, h1, h2, h3, h4, h5, h6⟩ := hag c
    refine (Cert.Reference5Ideal.Value.res_k m' c).trans ?_
    unfold Cert.Reference5Ideal.Value.B1 Cert.Reference5Ideal.Value.B2 Cert.Reference5Ideal.Value.B4 Cert.Reference5Ideal.Value.B6
    rw [h1, h2, h4, h6]
    funext i
    obtain ⟨b, p, h, e, rfl⟩ : ∃ (b : Fin 8) (p : Fin 8208) (h : Fin 4) (e : Fin 96), i = ix4 b p h e := ⟨i 0, i 1, i 2, i 3, eq_ix4 i⟩
    exact Cert.Reference5Ideal.Value.k_at _ _ _ _ b p h e
  · obtain ⟨h0, h1, h2, h3, h4, h5, h6⟩ := hag c
    refine Eq.trans (b := Cert.Reference5Ideal.Value.rV (Cert.Reference5Ideal.Value.rUk (Cert.Reference5Ideal.Value.B1 m' c) (Cert.Reference5Ideal.Value.B4 m' c) (Cert.Reference5Ideal.Value.B6 m' c))) rfl ?_
    unfold Cert.Reference5Ideal.Value.B1 Cert.Reference5Ideal.Value.B4 Cert.Reference5Ideal.Value.B6
    rw [h1, h4, h6]
    funext i
    obtain ⟨b, p, h, e, rfl⟩ : ∃ (b : Fin 8) (p : Fin 8208) (h : Fin 4) (e : Fin 64), i = ix4 b p h e := ⟨i 0, i 1, i 2, i 3, eq_ix4 i⟩
    exact Cert.Reference5Ideal.Value.v_at _ _ _ b p h e

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Ref
public import proofs.«01_k».proof.Proof.InRef
public import proofs.«01_k».proof.Proof.NormRef
public import proofs.«01_k».proof.Proof.SsdClaim
public import proofs.«01_k».proof.Proof.MlaClaim
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel3Ideal.Value
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import Idealize.ShloMosaic.Adequacy
public import Idealize.ShloMosaic.Init

@[expose] public section

noncomputable section

namespace Cert.Proof

open Idealize.ShloMosaic Idealize.SL.Sem Cert.Kernel

/-- The reference runs, leaves its arguments as they were and has no counters. -/
theorem frame_ref : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- On equal arguments the kernel's result and the reference's are the same array. -/
theorem algebraic : Cert.algebraic_KernelIdeal_ReferenceIdeal (hKernelIdeal := Cert.KernelIdeal.Gen.facts)
    (hReferenceIdeal := Cert.ReferenceIdeal.Gen.facts) := by
  intro m ρ m' ρ' _ hag
  refine ⟨fun c => Cert.KernelIdeal.Value.G m c, Cert.KernelIdeal.Value.run m ρ,
    (θ_run Cert.ReferenceIdeal.defs _ _).mono (fun r h c => ⟨(h c).1.trans ?_, (h c).2⟩) (Cert.ReferenceIdeal.Value.run (F := Ideal) m' ρ')⟩
  obtain ⟨h0, h1, h2, h3, h4, h5, h6, h7, h8, h9, h10, h11⟩ := hag c
  refine Eq.trans (b := ((Cert.ReferenceIdeal.Value.res_main_v72 m' c : Vec Ideal Cert.ReferenceIdeal.S8x8208x1024 .f32))) rfl ?_
  funext i
  obtain ⟨b, p, d, rfl⟩ : ∃ (b : Fin 8) (p : Fin 8208) (d : Fin 1024), i = ix3 b p d := ⟨i 0, i 1, i 2, eq_ix3 i⟩
  refine (Cert.ReferenceIdeal.Value.res_at m' c b p d).trans ?_
  have e0 : (m' ((c.tc : Thread Cert.ReferenceIdeal.nD Cert.ReferenceIdeal.τ).loc Cert.ReferenceIdeal.main_arg0) : Vec Ideal Cert.ReferenceIdeal.S8x8208x1024 .f32) = m ((c.tc : Thread Cert.KernelIdeal.nD Cert.KernelIdeal.τ).loc Cert.KernelIdeal.main_arg0) := h0
  have e1 : (m' ((c.tc : Thread Cert.ReferenceIdeal.nD Cert.ReferenceIdeal.τ).loc Cert.ReferenceIdeal.main_arg1) : Vec Ideal Cert.ReferenceIdeal.S8x8208x512 .f32) = m ((c.tc : Thread Cert.KernelIdeal.nD Cert.KernelIdeal.τ).loc Cert.KernelIdeal.main_arg1) := h1
  have e2 : (m' ((c.tc : Thread Cert.ReferenceIdeal.nD Cert.ReferenceIdeal.τ).loc Cert.ReferenceIdeal.main_arg2) : Vec Ideal Cert.ReferenceIdeal.S8x8208x256 .f32) = m ((c.tc : Thread Cert.KernelIdeal.nD Cert.KernelIdeal.τ).loc Cert.KernelIdeal.main_arg2) := h2
  have e3 : (m' ((c.tc : Thread Cert.ReferenceIdeal.nD Cert.ReferenceIdeal.τ).loc Cert.ReferenceIdeal.main_arg3) : Vec Ideal Cert.ReferenceIdeal.S8x8208x256 .f32) = m ((c.tc : Thread Cert.KernelIdeal.nD Cert.KernelIdeal.τ).loc Cert.KernelIdeal.main_arg3) := h3
  have e4 : (m' ((c.tc : Thread Cert.ReferenceIdeal.nD Cert.ReferenceIdeal.τ).loc Cert.ReferenceIdeal.main_arg4) : Vec Ideal Cert.ReferenceIdeal.S256 .f32) = m ((c.tc : Thread Cert.KernelIdeal.nD Cert.KernelIdeal.τ).loc Cert.KernelIdeal.main_arg4) := h4
  have e5 : (m' ((c.tc : Thread Cert.ReferenceIdeal.nD Cert.ReferenceIdeal.τ).loc Cert.ReferenceIdeal.main_arg5) : Vec Ideal Cert.ReferenceIdeal.S256 .f32) = m ((c.tc : Thread Cert.KernelIdeal.nD Cert.KernelIdeal.τ).loc Cert.KernelIdeal.main_arg5) := h5
  have e6 : (m' ((c.tc : Thread Cert.ReferenceIdeal.nD Cert.ReferenceIdeal.τ).loc Cert.ReferenceIdeal.main_arg6) : Vec Ideal Cert.ReferenceIdeal.S1024x1024 .f32) = m ((c.tc : Thread Cert.KernelIdeal.nD Cert.KernelIdeal.τ).loc Cert.KernelIdeal.main_arg6) := h6
  have e7 : (m' ((c.tc : Thread Cert.ReferenceIdeal.nD Cert.ReferenceIdeal.τ).loc Cert.ReferenceIdeal.main_arg7) : Vec Ideal Cert.ReferenceIdeal.S1024 .f32) = m ((c.tc : Thread Cert.KernelIdeal.nD Cert.KernelIdeal.τ).loc Cert.KernelIdeal.main_arg7) := h7
  have e8 : (m' ((c.tc : Thread Cert.ReferenceIdeal.nD Cert.ReferenceIdeal.τ).loc Cert.ReferenceIdeal.main_arg8) : Vec Ideal Cert.ReferenceIdeal.S1024x5632 .f32) = m ((c.tc : Thread Cert.KernelIdeal.nD Cert.KernelIdeal.τ).loc Cert.KernelIdeal.main_arg8) := h8
  have e9 : (m' ((c.tc : Thread Cert.ReferenceIdeal.nD Cert.ReferenceIdeal.τ).loc Cert.ReferenceIdeal.main_arg9) : Vec Ideal Cert.ReferenceIdeal.S3x5632 .f32) = m ((c.tc : Thread Cert.KernelIdeal.nD Cert.KernelIdeal.τ).loc Cert.KernelIdeal.main_arg9) := h9
  have e10 : (m' ((c.tc : Thread Cert.ReferenceIdeal.nD Cert.ReferenceIdeal.τ).loc Cert.ReferenceIdeal.main_arg10) : Vec Ideal Cert.ReferenceIdeal.S5632 .f32) = m ((c.tc : Thread Cert.KernelIdeal.nD Cert.KernelIdeal.τ).loc Cert.KernelIdeal.main_arg10) := h10
  have e11 : (m' ((c.tc : Thread Cert.ReferenceIdeal.nD Cert.ReferenceIdeal.τ).loc Cert.ReferenceIdeal.main_arg11) : Vec Ideal Cert.ReferenceIdeal.S2816x1024 .f32) = m ((c.tc : Thread Cert.KernelIdeal.nD Cert.KernelIdeal.τ).loc Cert.KernelIdeal.main_arg11) := h11
  unfold Cert.ReferenceIdeal.Value.F0 Cert.ReferenceIdeal.Value.A0 Cert.ReferenceIdeal.Value.F1 Cert.ReferenceIdeal.Value.A1 Cert.ReferenceIdeal.Value.F2 Cert.ReferenceIdeal.Value.A2 Cert.ReferenceIdeal.Value.F3 Cert.ReferenceIdeal.Value.A3 Cert.ReferenceIdeal.Value.F4 Cert.ReferenceIdeal.Value.A4 Cert.ReferenceIdeal.Value.F5 Cert.ReferenceIdeal.Value.A5 Cert.ReferenceIdeal.Value.F6 Cert.ReferenceIdeal.Value.A6 Cert.ReferenceIdeal.Value.F7 Cert.ReferenceIdeal.Value.A7 Cert.ReferenceIdeal.Value.F8 Cert.ReferenceIdeal.Value.A8 Cert.ReferenceIdeal.Value.F9 Cert.ReferenceIdeal.Value.A9 Cert.ReferenceIdeal.Value.F10 Cert.ReferenceIdeal.Value.A10 Cert.ReferenceIdeal.Value.F11 Cert.ReferenceIdeal.Value.A11
  rw [e0, e1, e2, e3, e4, e5, e6, e7, e8, e9, e10, e11]
  rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, pre_facts, pre_facts_q,
  fun m ρ _ => Cert.Kernel.Gen.frame m ρ, fun m ρ _ => Cert.KernelIdeal.Gen.frame m ρ, frame_ref,
  fun m ρ _ => Cert.Kernel2.Gen.frame m ρ, fun m ρ _ => Cert.Kernel2Ideal.Gen.frame m ρ, frame_ref2,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, fun m ρ _ => Cert.Kernel4Ideal.Gen.frame m ρ,
  frame_ref4, frame_ref4_finite,
  fun m ρ _ => Cert.Kernel5.Gen.frame m ρ, fun m ρ _ => Cert.Kernel5Ideal.Gen.frame m ρ, fun m ρ _ => Cert.Kernel5Ideal.Gen.frame m ρ,
  frame_ref5, frame_ref5_finite_q,
  trivial, algebraic, trivial, algebraic2, trivial, algebraic3, preserves4, algebraic4, preserves5, algebraic5⟩

end Cert.Proof

end
